-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_ProjRkv (m : (ℓ : Loc Cert.ProjRkv.nD Cert.ProjRkv.τ Cert.ProjRkv.sig) → Buf (Elt Bits) ℓ) : Prop :=
  True

def Pre_ProjRkvIdeal (m : (ℓ : Loc Cert.ProjRkvIdeal.nD Cert.ProjRkvIdeal.τ Cert.ProjRkvIdeal.sig) → Buf (Elt Ideal) ℓ) : Prop :=
  True

def Pre_ProjRkvRefIdeal (m : (ℓ : Loc Cert.ProjRkvRefIdeal.nD Cert.ProjRkvRefIdeal.τ Cert.ProjRkvRefIdeal.sig) → Buf (Elt Ideal) ℓ) : Prop :=
  True

def Pre_ProjKv (m : (ℓ : Loc Cert.ProjKv.nD Cert.ProjKv.τ Cert.ProjKv.sig) → Buf (Elt Bits) ℓ) : Prop :=
  True

def Pre_ProjKvIdeal (m : (ℓ : Loc Cert.ProjKvIdeal.nD Cert.ProjKvIdeal.τ Cert.ProjKvIdeal.sig) → Buf (Elt Ideal) ℓ) : Prop :=
  True

def Pre_ProjKvRefIdeal (m : (ℓ : Loc Cert.ProjKvRefIdeal.nD Cert.ProjKvRefIdeal.τ Cert.ProjKvRefIdeal.sig) → Buf (Elt Ideal) ℓ) : Prop :=
  True

def Pre_ProjGates (m : (ℓ : Loc Cert.ProjGates.nD Cert.ProjGates.τ Cert.ProjGates.sig) → Buf (Elt Bits) ℓ) : Prop :=
  True

def Pre_ProjGatesIdeal (m : (ℓ : Loc Cert.ProjGatesIdeal.nD Cert.ProjGatesIdeal.τ Cert.ProjGatesIdeal.sig) → Buf (Elt Ideal) ℓ) : Prop :=
  True

def Pre_ProjGatesRefIdeal (m : (ℓ : Loc Cert.ProjGatesRefIdeal.nD Cert.ProjGatesRefIdeal.τ Cert.ProjGatesRefIdeal.sig) → Buf (Elt Ideal) ℓ) : Prop :=
  True

def Pre_ProjQ (m : (ℓ : Loc Cert.ProjQ.nD Cert.ProjQ.τ Cert.ProjQ.sig) → Buf (Elt Bits) ℓ) : Prop :=
  True

def Pre_ProjQIdeal (m : (ℓ : Loc Cert.ProjQIdeal.nD Cert.ProjQIdeal.τ Cert.ProjQIdeal.sig) → Buf (Elt Ideal) ℓ) : Prop :=
  True

def Pre_ProjQRefIdeal (m : (ℓ : Loc Cert.ProjQRefIdeal.nD Cert.ProjQRefIdeal.τ Cert.ProjQRefIdeal.sig) → Buf (Elt Ideal) ℓ) : Prop :=
  True

def Pre_ProjQi (m : (ℓ : Loc Cert.ProjQi.nD Cert.ProjQi.τ Cert.ProjQi.sig) → Buf (Elt Bits) ℓ) : Prop :=
  True

def Pre_ProjQiIdeal (m : (ℓ : Loc Cert.ProjQiIdeal.nD Cert.ProjQiIdeal.τ Cert.ProjQiIdeal.sig) → Buf (Elt Ideal) ℓ) : Prop :=
  True

def Pre_ProjQiRefIdeal (m : (ℓ : Loc Cert.ProjQiRefIdeal.nD Cert.ProjQiRefIdeal.τ Cert.ProjQiRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_NormP (m : (ℓ : Loc Cert.NormP.nD Cert.NormP.τ Cert.NormP.sig) → Buf (Elt Bits) ℓ) : Prop :=
  True

def Pre_NormPIdeal (m : (ℓ : Loc Cert.NormPIdeal.nD Cert.NormPIdeal.τ Cert.NormPIdeal.sig) → Buf (Elt Ideal) ℓ) : Prop :=
  True

def Pre_NormPRefIdeal (m : (ℓ : Loc Cert.NormPRefIdeal.nD Cert.NormPRefIdeal.τ Cert.NormPRefIdeal.sig) → Buf (Elt Ideal) ℓ) : Prop :=
  True

def Pre_NormS (m : (ℓ : Loc Cert.NormS.nD Cert.NormS.τ Cert.NormS.sig) → Buf (Elt Bits) ℓ) : Prop :=
  True

def Pre_NormSIdeal (m : (ℓ : Loc Cert.NormSIdeal.nD Cert.NormSIdeal.τ Cert.NormSIdeal.sig) → Buf (Elt Ideal) ℓ) : Prop :=
  True

def Pre_NormSRefIdeal (m : (ℓ : Loc Cert.NormSRefIdeal.nD Cert.NormSRefIdeal.τ Cert.NormSRefIdeal.sig) → Buf (Elt Ideal) ℓ) : Prop :=
  True

def Pre_NormIn (m : (ℓ : Loc Cert.NormIn.nD Cert.NormIn.τ Cert.NormIn.sig) → Buf (Elt Bits) ℓ) : Prop :=
  True

def Pre_NormInIdeal (m : (ℓ : Loc Cert.NormInIdeal.nD Cert.NormInIdeal.τ Cert.NormInIdeal.sig) → Buf (Elt Ideal) ℓ) : Prop :=
  True

def Pre_NormInRefIdeal (m : (ℓ : Loc Cert.NormInRefIdeal.nD Cert.NormInRefIdeal.τ Cert.NormInRefIdeal.sig) → Buf (Elt Ideal) ℓ) : Prop :=
  True

def Pre_NormMid (m : (ℓ : Loc Cert.NormMid.nD Cert.NormMid.τ Cert.NormMid.sig) → Buf (Elt Bits) ℓ) : Prop :=
  True

def Pre_NormMidIdeal (m : (ℓ : Loc Cert.NormMidIdeal.nD Cert.NormMidIdeal.τ Cert.NormMidIdeal.sig) → Buf (Elt Ideal) ℓ) : Prop :=
  True

def Pre_NormMidRefIdeal (m : (ℓ : Loc Cert.NormMidRefIdeal.nD Cert.NormMidRefIdeal.τ Cert.NormMidRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_Dsa (m : (ℓ : Loc Cert.Dsa.nD Cert.Dsa.τ Cert.Dsa.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_ProjRkv [hProjRkv : Cert.ProjRkv.Facts] : Prop :=
  ∀ (m : (ℓ : Loc Cert.ProjRkv.nD Cert.ProjRkv.τ Cert.ProjRkv.sig) → Buf (Elt Bits) ℓ) (g : Dev Cert.ProjRkv.nD → PrngReg), Pre_ProjRkv m →
    θ_run (Cert.ProjRkv.defs (F := Bits)) (onTc (τ := Cert.ProjRkv.τ) (Cert.ProjRkv.main (F := Bits))) ⟨m, fun _ => 0, g⟩ (fun r => (∀ c : Dev Cert.ProjRkv.nD,
      r.2.mem ((c.tc : Thread Cert.ProjRkv.nD Cert.ProjRkv.τ).loc Cert.ProjRkv.main_arg0) = m ((c.tc : Thread Cert.ProjRkv.nD Cert.ProjRkv.τ).loc Cert.ProjRkv.main_arg0)
      ∧ r.2.mem ((c.tc : Thread Cert.ProjRkv.nD Cert.ProjRkv.τ).loc Cert.ProjRkv.main_arg1) = m ((c.tc : Thread Cert.ProjRkv.nD Cert.ProjRkv.τ).loc Cert.ProjRkv.main_arg1))
      ∧ r.2.sem = fun _ => 0)

def quiescent_ProjRkvIdeal [hProjRkvIdeal : Cert.ProjRkvIdeal.Facts] : Prop :=
  ∀ (m : (ℓ : Loc Cert.ProjRkvIdeal.nD Cert.ProjRkvIdeal.τ Cert.ProjRkvIdeal.sig) → Buf (Elt Ideal) ℓ) (g : Dev Cert.ProjRkvIdeal.nD → PrngReg), Pre_ProjRkvIdeal m →
    θ_run (Cert.ProjRkvIdeal.defs (F := Ideal)) (onTc (τ := Cert.ProjRkvIdeal.τ) (Cert.ProjRkvIdeal.main (F := Ideal))) ⟨m, fun _ => 0, g⟩ (fun r => (∀ c : Dev Cert.ProjRkvIdeal.nD,
      r.2.mem ((c.tc : Thread Cert.ProjRkvIdeal.nD Cert.ProjRkvIdeal.τ).loc Cert.ProjRkvIdeal.main_arg0) = m ((c.tc : Thread Cert.ProjRkvIdeal.nD Cert.ProjRkvIdeal.τ).loc Cert.ProjRkvIdeal.main_arg0)
      ∧ r.2.mem ((c.tc : Thread Cert.ProjRkvIdeal.nD Cert.ProjRkvIdeal.τ).loc Cert.ProjRkvIdeal.main_arg1) = m ((c.tc : Thread Cert.ProjRkvIdeal.nD Cert.ProjRkvIdeal.τ).loc Cert.ProjRkvIdeal.main_arg1))
      ∧ r.2.sem = fun _ => 0)

def quiescent_ProjRkvRefIdeal [hProjRkvRefIdeal : Cert.ProjRkvRefIdeal.Facts] : Prop :=
  ∀ (m : (ℓ : Loc Cert.ProjRkvRefIdeal.nD Cert.ProjRkvRefIdeal.τ Cert.ProjRkvRefIdeal.sig) → Buf (Elt Ideal) ℓ) (g : Dev Cert.ProjRkvRefIdeal.nD → PrngReg), Pre_ProjRkvRefIdeal m →
    θ_run (Cert.ProjRkvRefIdeal.defs (F := Ideal)) (onTc (τ := Cert.ProjRkvRefIdeal.τ) (Cert.ProjRkvRefIdeal.main (F := Ideal))) ⟨m, fun _ => 0, g⟩ (fun r => (∀ c : Dev Cert.ProjRkvRefIdeal.nD,
      r.2.mem ((c.tc : Thread Cert.ProjRkvRefIdeal.nD Cert.ProjRkvRefIdeal.τ).loc Cert.ProjRkvRefIdeal.main_arg0) = m ((c.tc : Thread Cert.ProjRkvRefIdeal.nD Cert.ProjRkvRefIdeal.τ).loc Cert.ProjRkvRefIdeal.main_arg0)
      ∧ r.2.mem ((c.tc : Thread Cert.ProjRkvRefIdeal.nD Cert.ProjRkvRefIdeal.τ).loc Cert.ProjRkvRefIdeal.main_arg1) = m ((c.tc : Thread Cert.ProjRkvRefIdeal.nD Cert.ProjRkvRefIdeal.τ).loc Cert.ProjRkvRefIdeal.main_arg1))
      ∧ r.2.sem = fun _ => 0)

def quiescent_ProjKv [hProjKv : Cert.ProjKv.Facts] : Prop :=
  ∀ (m : (ℓ : Loc Cert.ProjKv.nD Cert.ProjKv.τ Cert.ProjKv.sig) → Buf (Elt Bits) ℓ) (g : Dev Cert.ProjKv.nD → PrngReg), Pre_ProjKv m →
    θ_run (Cert.ProjKv.defs (F := Bits)) (onTc (τ := Cert.ProjKv.τ) (Cert.ProjKv.main (F := Bits))) ⟨m, fun _ => 0, g⟩ (fun r => (∀ c : Dev Cert.ProjKv.nD,
      r.2.mem ((c.tc : Thread Cert.ProjKv.nD Cert.ProjKv.τ).loc Cert.ProjKv.main_arg0) = m ((c.tc : Thread Cert.ProjKv.nD Cert.ProjKv.τ).loc Cert.ProjKv.main_arg0)
      ∧ r.2.mem ((c.tc : Thread Cert.ProjKv.nD Cert.ProjKv.τ).loc Cert.ProjKv.main_arg1) = m ((c.tc : Thread Cert.ProjKv.nD Cert.ProjKv.τ).loc Cert.ProjKv.main_arg1))
      ∧ r.2.sem = fun _ => 0)

def quiescent_ProjKvIdeal [hProjKvIdeal : Cert.ProjKvIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg), Pre_ProjKvIdeal m →
    θ_run (Cert.ProjKvIdeal.defs (F := Ideal)) (onTc (τ := Cert.ProjKvIdeal.τ) (Cert.ProjKvIdeal.main (F := Ideal))) ⟨m, fun _ => 0, g⟩ (fun r => (∀ c : Dev Cert.ProjKvIdeal.nD,
      r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
      ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ r.2.sem = fun _ => 0)

def quiescent_ProjKvRefIdeal [hProjKvRefIdeal : Cert.ProjKvRefIdeal.Facts] : Prop :=
  ∀ (m : (ℓ : Loc Cert.ProjKvRefIdeal.nD Cert.ProjKvRefIdeal.τ Cert.ProjKvRefIdeal.sig) → Buf (Elt Ideal) ℓ) (g : Dev Cert.ProjKvRefIdeal.nD → PrngReg), Pre_ProjKvRefIdeal m →
    θ_run (Cert.ProjKvRefIdeal.defs (F := Ideal)) (onTc (τ := Cert.ProjKvRefIdeal.τ) (Cert.ProjKvRefIdeal.main (F := Ideal))) ⟨m, fun _ => 0, g⟩ (fun r => (∀ c : Dev Cert.ProjKvRefIdeal.nD,
      r.2.mem ((c.tc : Thread Cert.ProjKvRefIdeal.nD Cert.ProjKvRefIdeal.τ).loc Cert.ProjKvRefIdeal.main_arg0) = m ((c.tc : Thread Cert.ProjKvRefIdeal.nD Cert.ProjKvRefIdeal.τ).loc Cert.ProjKvRefIdeal.main_arg0)
      ∧ r.2.mem ((c.tc : Thread Cert.ProjKvRefIdeal.nD Cert.ProjKvRefIdeal.τ).loc Cert.ProjKvRefIdeal.main_arg1) = m ((c.tc : Thread Cert.ProjKvRefIdeal.nD Cert.ProjKvRefIdeal.τ).loc Cert.ProjKvRefIdeal.main_arg1))
      ∧ r.2.sem = fun _ => 0)

def quiescent_ProjGates [hProjGates : Cert.ProjGates.Facts] : Prop :=
  ∀ (m : (ℓ : Loc Cert.ProjGates.nD Cert.ProjGates.τ Cert.ProjGates.sig) → Buf (Elt Bits) ℓ) (g : Dev Cert.ProjGates.nD → PrngReg), Pre_ProjGates m →
    θ_run (Cert.ProjGates.defs (F := Bits)) (onTc (τ := Cert.ProjGates.τ) (Cert.ProjGates.main (F := Bits))) ⟨m, fun _ => 0, g⟩ (fun r => (∀ c : Dev Cert.ProjGates.nD,
      r.2.mem ((c.tc : Thread Cert.ProjGates.nD Cert.ProjGates.τ).loc Cert.ProjGates.main_arg0) = m ((c.tc : Thread Cert.ProjGates.nD Cert.ProjGates.τ).loc Cert.ProjGates.main_arg0)
      ∧ r.2.mem ((c.tc : Thread Cert.ProjGates.nD Cert.ProjGates.τ).loc Cert.ProjGates.main_arg1) = m ((c.tc : Thread Cert.ProjGates.nD Cert.ProjGates.τ).loc Cert.ProjGates.main_arg1))
      ∧ r.2.sem = fun _ => 0)

def quiescent_ProjGatesIdeal [hProjGatesIdeal : Cert.ProjGatesIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg), Pre_ProjGatesIdeal m →
    θ_run (Cert.ProjGatesIdeal.defs (F := Ideal)) (onTc (τ := Cert.ProjGatesIdeal.τ) (Cert.ProjGatesIdeal.main (F := Ideal))) ⟨m, fun _ => 0, g⟩ (fun r => (∀ c : Dev Cert.ProjGatesIdeal.nD,
      r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
      ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ r.2.sem = fun _ => 0)

def quiescent_ProjGatesRefIdeal [hProjGatesRefIdeal : Cert.ProjGatesRefIdeal.Facts] : Prop :=
  ∀ (m : (ℓ : Loc Cert.ProjGatesRefIdeal.nD Cert.ProjGatesRefIdeal.τ Cert.ProjGatesRefIdeal.sig) → Buf (Elt Ideal) ℓ) (g : Dev Cert.ProjGatesRefIdeal.nD → PrngReg), Pre_ProjGatesRefIdeal m →
    θ_run (Cert.ProjGatesRefIdeal.defs (F := Ideal)) (onTc (τ := Cert.ProjGatesRefIdeal.τ) (Cert.ProjGatesRefIdeal.main (F := Ideal))) ⟨m, fun _ => 0, g⟩ (fun r => (∀ c : Dev Cert.ProjGatesRefIdeal.nD,
      r.2.mem ((c.tc : Thread Cert.ProjGatesRefIdeal.nD Cert.ProjGatesRefIdeal.τ).loc Cert.ProjGatesRefIdeal.main_arg0) = m ((c.tc : Thread Cert.ProjGatesRefIdeal.nD Cert.ProjGatesRefIdeal.τ).loc Cert.ProjGatesRefIdeal.main_arg0)
      ∧ r.2.mem ((c.tc : Thread Cert.ProjGatesRefIdeal.nD Cert.ProjGatesRefIdeal.τ).loc Cert.ProjGatesRefIdeal.main_arg1) = m ((c.tc : Thread Cert.ProjGatesRefIdeal.nD Cert.ProjGatesRefIdeal.τ).loc Cert.ProjGatesRefIdeal.main_arg1))
      ∧ r.2.sem = fun _ => 0)

def quiescent_ProjQ [hProjQ : Cert.ProjQ.Facts] : Prop :=
  ∀ (m : (ℓ : Loc Cert.ProjQ.nD Cert.ProjQ.τ Cert.ProjQ.sig) → Buf (Elt Bits) ℓ) (g : Dev Cert.ProjQ.nD → PrngReg), Pre_ProjQ m →
    θ_run (Cert.ProjQ.defs (F := Bits)) (onTc (τ := Cert.ProjQ.τ) (Cert.ProjQ.main (F := Bits))) ⟨m, fun _ => 0, g⟩ (fun r => (∀ c : Dev Cert.ProjQ.nD,
      r.2.mem ((c.tc : Thread Cert.ProjQ.nD Cert.ProjQ.τ).loc Cert.ProjQ.main_arg0) = m ((c.tc : Thread Cert.ProjQ.nD Cert.ProjQ.τ).loc Cert.ProjQ.main_arg0)
      ∧ r.2.mem ((c.tc : Thread Cert.ProjQ.nD Cert.ProjQ.τ).loc Cert.ProjQ.main_arg1) = m ((c.tc : Thread Cert.ProjQ.nD Cert.ProjQ.τ).loc Cert.ProjQ.main_arg1))
      ∧ r.2.sem = fun _ => 0)

def quiescent_ProjQIdeal [hProjQIdeal : Cert.ProjQIdeal.Facts] : Prop :=
  ∀ (m : (ℓ : Loc Cert.ProjQIdeal.nD Cert.ProjQIdeal.τ Cert.ProjQIdeal.sig) → Buf (Elt Ideal) ℓ) (g : Dev Cert.ProjQIdeal.nD → PrngReg), Pre_ProjQIdeal m →
    θ_run (Cert.ProjQIdeal.defs (F := Ideal)) (onTc (τ := Cert.ProjQIdeal.τ) (Cert.ProjQIdeal.main (F := Ideal))) ⟨m, fun _ => 0, g⟩ (fun r => (∀ c : Dev Cert.ProjQIdeal.nD,
      r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
      ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ r.2.sem = fun _ => 0)

def quiescent_ProjQRefIdeal [hProjQRefIdeal : Cert.ProjQRefIdeal.Facts] : Prop :=
  ∀ (m : (ℓ : Loc Cert.ProjQRefIdeal.nD Cert.ProjQRefIdeal.τ Cert.ProjQRefIdeal.sig) → Buf (Elt Ideal) ℓ) (g : Dev Cert.ProjQRefIdeal.nD → PrngReg), Pre_ProjQRefIdeal m →
    θ_run (Cert.ProjQRefIdeal.defs (F := Ideal)) (onTc (τ := Cert.ProjQRefIdeal.τ) (Cert.ProjQRefIdeal.main (F := Ideal))) ⟨m, fun _ => 0, g⟩ (fun r => (∀ c : Dev Cert.ProjQRefIdeal.nD,
      r.2.mem ((c.tc : Thread Cert.ProjQRefIdeal.nD Cert.ProjQRefIdeal.τ).loc Cert.ProjQRefIdeal.main_arg0) = m ((c.tc : Thread Cert.ProjQRefIdeal.nD Cert.ProjQRefIdeal.τ).loc Cert.ProjQRefIdeal.main_arg0)
      ∧ r.2.mem ((c.tc : Thread Cert.ProjQRefIdeal.nD Cert.ProjQRefIdeal.τ).loc Cert.ProjQRefIdeal.main_arg1) = m ((c.tc : Thread Cert.ProjQRefIdeal.nD Cert.ProjQRefIdeal.τ).loc Cert.ProjQRefIdeal.main_arg1))
      ∧ r.2.sem = fun _ => 0)

def quiescent_ProjQi [hProjQi : Cert.ProjQi.Facts] : Prop :=
  ∀ (m : (ℓ : Loc Cert.ProjQi.nD Cert.ProjQi.τ Cert.ProjQi.sig) → Buf (Elt Bits) ℓ) (g : Dev Cert.ProjQi.nD → PrngReg), Pre_ProjQi m →
    θ_run (Cert.ProjQi.defs (F := Bits)) (onTc (τ := Cert.ProjQi.τ) (Cert.ProjQi.main (F := Bits))) ⟨m, fun _ => 0, g⟩ (fun r => (∀ c : Dev Cert.ProjQi.nD,
      r.2.mem ((c.tc : Thread Cert.ProjQi.nD Cert.ProjQi.τ).loc Cert.ProjQi.main_arg0) = m ((c.tc : Thread Cert.ProjQi.nD Cert.ProjQi.τ).loc Cert.ProjQi.main_arg0)
      ∧ r.2.mem ((c.tc : Thread Cert.ProjQi.nD Cert.ProjQi.τ).loc Cert.ProjQi.main_arg1) = m ((c.tc : Thread Cert.ProjQi.nD Cert.ProjQi.τ).loc Cert.ProjQi.main_arg1))
      ∧ r.2.sem = fun _ => 0)

def quiescent_ProjQiIdeal [hProjQiIdeal : Cert.ProjQiIdeal.Facts] : Prop :=
  ∀ (m : (ℓ : Loc Cert.ProjQiIdeal.nD Cert.ProjQiIdeal.τ Cert.ProjQiIdeal.sig) → Buf (Elt Ideal) ℓ) (g : Dev Cert.ProjQiIdeal.nD → PrngReg), Pre_ProjQiIdeal m →
    θ_run (Cert.ProjQiIdeal.defs (F := Ideal)) (onTc (τ := Cert.ProjQiIdeal.τ) (Cert.ProjQiIdeal.main (F := Ideal))) ⟨m, fun _ => 0, g⟩ (fun r => (∀ c : Dev Cert.ProjQiIdeal.nD,
      r.2.mem ((c.tc : Thread Cert.ProjQiIdeal.nD Cert.ProjQiIdeal.τ).loc Cert.ProjQiIdeal.main_arg0) = m ((c.tc : Thread Cert.ProjQiIdeal.nD Cert.ProjQiIdeal.τ).loc Cert.ProjQiIdeal.main_arg0)
      ∧ r.2.mem ((c.tc : Thread Cert.ProjQiIdeal.nD Cert.ProjQiIdeal.τ).loc Cert.ProjQiIdeal.main_arg1) = m ((c.tc : Thread Cert.ProjQiIdeal.nD Cert.ProjQiIdeal.τ).loc Cert.ProjQiIdeal.main_arg1))
      ∧ r.2.sem = fun _ => 0)

def quiescent_ProjQiRefIdeal [hProjQiRefIdeal : Cert.ProjQiRefIdeal.Facts] : Prop :=
  ∀ (m : (ℓ : Loc Cert.ProjQiRefIdeal.nD Cert.ProjQiRefIdeal.τ Cert.ProjQiRefIdeal.sig) → Buf (Elt Ideal) ℓ) (g : Dev Cert.ProjQiRefIdeal.nD → PrngReg), Pre_ProjQiRefIdeal m →
    θ_run (Cert.ProjQiRefIdeal.defs (F := Ideal)) (onTc (τ := Cert.ProjQiRefIdeal.τ) (Cert.ProjQiRefIdeal.main (F := Ideal))) ⟨m, fun _ => 0, g⟩ (fun r => (∀ c : Dev Cert.ProjQiRefIdeal.nD,
      r.2.mem ((c.tc : Thread Cert.ProjQiRefIdeal.nD Cert.ProjQiRefIdeal.τ).loc Cert.ProjQiRefIdeal.main_arg0) = m ((c.tc : Thread Cert.ProjQiRefIdeal.nD Cert.ProjQiRefIdeal.τ).loc Cert.ProjQiRefIdeal.main_arg0)
      ∧ r.2.mem ((c.tc : Thread Cert.ProjQiRefIdeal.nD Cert.ProjQiRefIdeal.τ).loc Cert.ProjQiRefIdeal.main_arg1) = m ((c.tc : Thread Cert.ProjQiRefIdeal.nD Cert.ProjQiRefIdeal.τ).loc Cert.ProjQiRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_NormP [hNormP : Cert.NormP.Facts] : Prop :=
  ∀ (m : (ℓ : Loc Cert.NormP.nD Cert.NormP.τ Cert.NormP.sig) → Buf (Elt Bits) ℓ) (g : Dev Cert.NormP.nD → PrngReg), Pre_NormP m →
    θ_run (Cert.NormP.defs (F := Bits)) (onTc (τ := Cert.NormP.τ) (Cert.NormP.main (F := Bits))) ⟨m, fun _ => 0, g⟩ (fun r => (∀ c : Dev Cert.NormP.nD,
      r.2.mem ((c.tc : Thread Cert.NormP.nD Cert.NormP.τ).loc Cert.NormP.main_arg0) = m ((c.tc : Thread Cert.NormP.nD Cert.NormP.τ).loc Cert.NormP.main_arg0)
      ∧ r.2.mem ((c.tc : Thread Cert.NormP.nD Cert.NormP.τ).loc Cert.NormP.main_arg1) = m ((c.tc : Thread Cert.NormP.nD Cert.NormP.τ).loc Cert.NormP.main_arg1))
      ∧ r.2.sem = fun _ => 0)

def quiescent_NormPIdeal [hNormPIdeal : Cert.NormPIdeal.Facts] : Prop :=
  ∀ (m : (ℓ : Loc Cert.NormPIdeal.nD Cert.NormPIdeal.τ Cert.NormPIdeal.sig) → Buf (Elt Ideal) ℓ) (g : Dev Cert.NormPIdeal.nD → PrngReg), Pre_NormPIdeal m →
    θ_run (Cert.NormPIdeal.defs (F := Ideal)) (onTc (τ := Cert.NormPIdeal.τ) (Cert.NormPIdeal.main (F := Ideal))) ⟨m, fun _ => 0, g⟩ (fun r => (∀ c : Dev Cert.NormPIdeal.nD,
      r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
      ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ r.2.sem = fun _ => 0)

def quiescent_NormPRefIdeal [hNormPRefIdeal : Cert.NormPRefIdeal.Facts] : Prop :=
  ∀ (m : (ℓ : Loc Cert.NormPRefIdeal.nD Cert.NormPRefIdeal.τ Cert.NormPRefIdeal.sig) → Buf (Elt Ideal) ℓ) (g : Dev Cert.NormPRefIdeal.nD → PrngReg), Pre_NormPRefIdeal m →
    θ_run (Cert.NormPRefIdeal.defs (F := Ideal)) (onTc (τ := Cert.NormPRefIdeal.τ) (Cert.NormPRefIdeal.main (F := Ideal))) ⟨m, fun _ => 0, g⟩ (fun r => (∀ c : Dev Cert.NormPRefIdeal.nD,
      r.2.mem ((c.tc : Thread Cert.NormPRefIdeal.nD Cert.NormPRefIdeal.τ).loc Cert.NormPRefIdeal.main_arg0) = m ((c.tc : Thread Cert.NormPRefIdeal.nD Cert.NormPRefIdeal.τ).loc Cert.NormPRefIdeal.main_arg0)
      ∧ r.2.mem ((c.tc : Thread Cert.NormPRefIdeal.nD Cert.NormPRefIdeal.τ).loc Cert.NormPRefIdeal.main_arg1) = m ((c.tc : Thread Cert.NormPRefIdeal.nD Cert.NormPRefIdeal.τ).loc Cert.NormPRefIdeal.main_arg1))
      ∧ r.2.sem = fun _ => 0)

def quiescent_NormS [hNormS : Cert.NormS.Facts] : Prop :=
  ∀ (m : (ℓ : Loc Cert.NormS.nD Cert.NormS.τ Cert.NormS.sig) → Buf (Elt Bits) ℓ) (g : Dev Cert.NormS.nD → PrngReg), Pre_NormS m →
    θ_run (Cert.NormS.defs (F := Bits)) (onTc (τ := Cert.NormS.τ) (Cert.NormS.main (F := Bits))) ⟨m, fun _ => 0, g⟩ (fun r => (∀ c : Dev Cert.NormS.nD,
      r.2.mem ((c.tc : Thread Cert.NormS.nD Cert.NormS.τ).loc Cert.NormS.main_arg0) = m ((c.tc : Thread Cert.NormS.nD Cert.NormS.τ).loc Cert.NormS.main_arg0)
      ∧ r.2.mem ((c.tc : Thread Cert.NormS.nD Cert.NormS.τ).loc Cert.NormS.main_arg1) = m ((c.tc : Thread Cert.NormS.nD Cert.NormS.τ).loc Cert.NormS.main_arg1))
      ∧ r.2.sem = fun _ => 0)

def quiescent_NormSIdeal [hNormSIdeal : Cert.NormSIdeal.Facts] : Prop :=
  ∀ (m : (ℓ : Loc Cert.NormSIdeal.nD Cert.NormSIdeal.τ Cert.NormSIdeal.sig) → Buf (Elt Ideal) ℓ) (g : Dev Cert.NormSIdeal.nD → PrngReg), Pre_NormSIdeal m →
    θ_run (Cert.NormSIdeal.defs (F := Ideal)) (onTc (τ := Cert.NormSIdeal.τ) (Cert.NormSIdeal.main (F := Ideal))) ⟨m, fun _ => 0, g⟩ (fun r => (∀ c : Dev Cert.NormSIdeal.nD,
      r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
      ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ r.2.sem = fun _ => 0)

def quiescent_NormSRefIdeal [hNormSRefIdeal : Cert.NormSRefIdeal.Facts] : Prop :=
  ∀ (m : (ℓ : Loc Cert.NormSRefIdeal.nD Cert.NormSRefIdeal.τ Cert.NormSRefIdeal.sig) → Buf (Elt Ideal) ℓ) (g : Dev Cert.NormSRefIdeal.nD → PrngReg), Pre_NormSRefIdeal m →
    θ_run (Cert.NormSRefIdeal.defs (F := Ideal)) (onTc (τ := Cert.NormSRefIdeal.τ) (Cert.NormSRefIdeal.main (F := Ideal))) ⟨m, fun _ => 0, g⟩ (fun r => (∀ c : Dev Cert.NormSRefIdeal.nD,
      r.2.mem ((c.tc : Thread Cert.NormSRefIdeal.nD Cert.NormSRefIdeal.τ).loc Cert.NormSRefIdeal.main_arg0) = m ((c.tc : Thread Cert.NormSRefIdeal.nD Cert.NormSRefIdeal.τ).loc Cert.NormSRefIdeal.main_arg0)
      ∧ r.2.mem ((c.tc : Thread Cert.NormSRefIdeal.nD Cert.NormSRefIdeal.τ).loc Cert.NormSRefIdeal.main_arg1) = m ((c.tc : Thread Cert.NormSRefIdeal.nD Cert.NormSRefIdeal.τ).loc Cert.NormSRefIdeal.main_arg1))
      ∧ r.2.sem = fun _ => 0)

def quiescent_NormIn [hNormIn : Cert.NormIn.Facts] : Prop :=
  ∀ (m : (ℓ : Loc Cert.NormIn.nD Cert.NormIn.τ Cert.NormIn.sig) → Buf (Elt Bits) ℓ) (g : Dev Cert.NormIn.nD → PrngReg), Pre_NormIn m →
    θ_run (Cert.NormIn.defs (F := Bits)) (onTc (τ := Cert.NormIn.τ) (Cert.NormIn.main (F := Bits))) ⟨m, fun _ => 0, g⟩ (fun r => (∀ c : Dev Cert.NormIn.nD,
      r.2.mem ((c.tc : Thread Cert.NormIn.nD Cert.NormIn.τ).loc Cert.NormIn.main_arg0) = m ((c.tc : Thread Cert.NormIn.nD Cert.NormIn.τ).loc Cert.NormIn.main_arg0)
      ∧ r.2.mem ((c.tc : Thread Cert.NormIn.nD Cert.NormIn.τ).loc Cert.NormIn.main_arg1) = m ((c.tc : Thread Cert.NormIn.nD Cert.NormIn.τ).loc Cert.NormIn.main_arg1)
      ∧ r.2.mem ((c.tc : Thread Cert.NormIn.nD Cert.NormIn.τ).loc Cert.NormIn.main_arg2) = m ((c.tc : Thread Cert.NormIn.nD Cert.NormIn.τ).loc Cert.NormIn.main_arg2))
      ∧ r.2.sem = fun _ => 0)

def quiescent_NormInIdeal [hNormInIdeal : Cert.NormInIdeal.Facts] : Prop :=
  ∀ (m : (ℓ : Loc Cert.NormInIdeal.nD Cert.NormInIdeal.τ Cert.NormInIdeal.sig) → Buf (Elt Ideal) ℓ) (g : Dev Cert.NormInIdeal.nD → PrngReg), Pre_NormInIdeal m →
    θ_run (Cert.NormInIdeal.defs (F := Ideal)) (onTc (τ := Cert.NormInIdeal.τ) (Cert.NormInIdeal.main (F := Ideal))) ⟨m, fun _ => 0, g⟩ (fun r => (∀ c : Dev Cert.NormInIdeal.nD,
      r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
      ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
      ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ r.2.sem = fun _ => 0)

def quiescent_NormInRefIdeal [hNormInRefIdeal : Cert.NormInRefIdeal.Facts] : Prop :=
  ∀ (m : (ℓ : Loc Cert.NormInRefIdeal.nD Cert.NormInRefIdeal.τ Cert.NormInRefIdeal.sig) → Buf (Elt Ideal) ℓ) (g : Dev Cert.NormInRefIdeal.nD → PrngReg), Pre_NormInRefIdeal m →
    θ_run (Cert.NormInRefIdeal.defs (F := Ideal)) (onTc (τ := Cert.NormInRefIdeal.τ) (Cert.NormInRefIdeal.main (F := Ideal))) ⟨m, fun _ => 0, g⟩ (fun r => (∀ c : Dev Cert.NormInRefIdeal.nD,
      r.2.mem ((c.tc : Thread Cert.NormInRefIdeal.nD Cert.NormInRefIdeal.τ).loc Cert.NormInRefIdeal.main_arg0) = m ((c.tc : Thread Cert.NormInRefIdeal.nD Cert.NormInRefIdeal.τ).loc Cert.NormInRefIdeal.main_arg0)
      ∧ r.2.mem ((c.tc : Thread Cert.NormInRefIdeal.nD Cert.NormInRefIdeal.τ).loc Cert.NormInRefIdeal.main_arg1) = m ((c.tc : Thread Cert.NormInRefIdeal.nD Cert.NormInRefIdeal.τ).loc Cert.NormInRefIdeal.main_arg1)
      ∧ r.2.mem ((c.tc : Thread Cert.NormInRefIdeal.nD Cert.NormInRefIdeal.τ).loc Cert.NormInRefIdeal.main_arg2) = m ((c.tc : Thread Cert.NormInRefIdeal.nD Cert.NormInRefIdeal.τ).loc Cert.NormInRefIdeal.main_arg2))
      ∧ r.2.sem = fun _ => 0)

def quiescent_NormMid [hNormMid : Cert.NormMid.Facts] : Prop :=
  ∀ (m : (ℓ : Loc Cert.NormMid.nD Cert.NormMid.τ Cert.NormMid.sig) → Buf (Elt Bits) ℓ) (g : Dev Cert.NormMid.nD → PrngReg), Pre_NormMid m →
    θ_run (Cert.NormMid.defs (F := Bits)) (onTc (τ := Cert.NormMid.τ) (Cert.NormMid.main (F := Bits))) ⟨m, fun _ => 0, g⟩ (fun r => (∀ c : Dev Cert.NormMid.nD,
      r.2.mem ((c.tc : Thread Cert.NormMid.nD Cert.NormMid.τ).loc Cert.NormMid.main_arg0) = m ((c.tc : Thread Cert.NormMid.nD Cert.NormMid.τ).loc Cert.NormMid.main_arg0)
      ∧ r.2.mem ((c.tc : Thread Cert.NormMid.nD Cert.NormMid.τ).loc Cert.NormMid.main_arg1) = m ((c.tc : Thread Cert.NormMid.nD Cert.NormMid.τ).loc Cert.NormMid.main_arg1))
      ∧ r.2.sem = fun _ => 0)

def quiescent_NormMidIdeal [hNormMidIdeal : Cert.NormMidIdeal.Facts] : Prop :=
  ∀ (m : (ℓ : Loc Cert.NormMidIdeal.nD Cert.NormMidIdeal.τ Cert.NormMidIdeal.sig) → Buf (Elt Ideal) ℓ) (g : Dev Cert.NormMidIdeal.nD → PrngReg), Pre_NormMidIdeal m →
    θ_run (Cert.NormMidIdeal.defs (F := Ideal)) (onTc (τ := Cert.NormMidIdeal.τ) (Cert.NormMidIdeal.main (F := Ideal))) ⟨m, fun _ => 0, g⟩ (fun r => (∀ c : Dev Cert.NormMidIdeal.nD,
      r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
      ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1))
      ∧ r.2.sem = fun _ => 0)

def quiescent_NormMidRefIdeal [hNormMidRefIdeal : Cert.NormMidRefIdeal.Facts] : Prop :=
  ∀ (m : (ℓ : Loc Cert.NormMidRefIdeal.nD Cert.NormMidRefIdeal.τ Cert.NormMidRefIdeal.sig) → Buf (Elt Ideal) ℓ) (g : Dev Cert.NormMidRefIdeal.nD → PrngReg), Pre_NormMidRefIdeal m →
    θ_run (Cert.NormMidRefIdeal.defs (F := Ideal)) (onTc (τ := Cert.NormMidRefIdeal.τ) (Cert.NormMidRefIdeal.main (F := Ideal))) ⟨m, fun _ => 0, g⟩ (fun r => (∀ c : Dev Cert.NormMidRefIdeal.nD,
      r.2.mem ((c.tc : Thread Cert.NormMidRefIdeal.nD Cert.NormMidRefIdeal.τ).loc Cert.NormMidRefIdeal.main_arg0) = m ((c.tc : Thread Cert.NormMidRefIdeal.nD Cert.NormMidRefIdeal.τ).loc Cert.NormMidRefIdeal.main_arg0)
      ∧ r.2.mem ((c.tc : Thread Cert.NormMidRefIdeal.nD Cert.NormMidRefIdeal.τ).loc Cert.NormMidRefIdeal.main_arg1) = m ((c.tc : Thread Cert.NormMidRefIdeal.nD Cert.NormMidRefIdeal.τ).loc Cert.NormMidRefIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5))
      ∧ r.2.sem = fun _ => 0)

def preserves_Kernel_KernelIdeal : Prop :=
  True

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v7)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v7) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_ProjRkv_ProjRkvIdeal : Prop :=
  True

def algebraic_ProjRkvIdeal_ProjRkvRefIdeal [hProjRkvIdeal : Cert.ProjRkvIdeal.Facts] [hProjRkvRefIdeal : Cert.ProjRkvRefIdeal.Facts] : Prop :=
  ∀ (m : (ℓ : Loc Cert.ProjRkvIdeal.nD Cert.ProjRkvIdeal.τ Cert.ProjRkvIdeal.sig) → Buf (Elt Ideal) ℓ) (g : Dev Cert.ProjRkvIdeal.nD → PrngReg)
    (m' : (ℓ : Loc Cert.ProjRkvRefIdeal.nD Cert.ProjRkvRefIdeal.τ Cert.ProjRkvRefIdeal.sig) → Buf (Elt Ideal) ℓ) (g' : Dev Cert.ProjRkvRefIdeal.nD → PrngReg), Pre_ProjRkvIdeal m →
    (∀ c : Dev Cert.ProjRkvIdeal.nD,
      m' ((c.tc : Thread Cert.ProjRkvRefIdeal.nD Cert.ProjRkvRefIdeal.τ).loc Cert.ProjRkvRefIdeal.main_arg0) = m ((c.tc : Thread Cert.ProjRkvIdeal.nD Cert.ProjRkvIdeal.τ).loc Cert.ProjRkvIdeal.main_arg0)
      ∧ m' ((c.tc : Thread Cert.ProjRkvRefIdeal.nD Cert.ProjRkvRefIdeal.τ).loc Cert.ProjRkvRefIdeal.main_arg1) = m ((c.tc : Thread Cert.ProjRkvIdeal.nD Cert.ProjRkvIdeal.τ).loc Cert.ProjRkvIdeal.main_arg1)) →
    ∃ (v0 : (c : Dev Cert.ProjRkvIdeal.nD) → Buf (Elt Ideal) ((c.tc : Thread Cert.ProjRkvIdeal.nD Cert.ProjRkvIdeal.τ).loc Cert.ProjRkvIdeal.main_v10)),
      θ_run (Cert.ProjRkvIdeal.defs (F := Ideal)) (onTc (τ := Cert.ProjRkvIdeal.τ) (Cert.ProjRkvIdeal.main (F := Ideal))) ⟨m, fun _ => 0, g⟩ (fun r => ∀ c : Dev Cert.ProjRkvIdeal.nD,
          r.2.mem ((c.tc : Thread Cert.ProjRkvIdeal.nD Cert.ProjRkvIdeal.τ).loc Cert.ProjRkvIdeal.main_v10) = v0 c
          ∧ r.2.mem ((c.tc : Thread Cert.ProjRkvIdeal.nD Cert.ProjRkvIdeal.τ).loc Cert.ProjRkvIdeal.main_arg0) = m ((c.tc : Thread Cert.ProjRkvIdeal.nD Cert.ProjRkvIdeal.τ).loc Cert.ProjRkvIdeal.main_arg0)
          ∧ r.2.mem ((c.tc : Thread Cert.ProjRkvIdeal.nD Cert.ProjRkvIdeal.τ).loc Cert.ProjRkvIdeal.main_arg1) = m ((c.tc : Thread Cert.ProjRkvIdeal.nD Cert.ProjRkvIdeal.τ).loc Cert.ProjRkvIdeal.main_arg1))
      ∧ θ_run (Cert.ProjRkvRefIdeal.defs (F := Ideal)) (onTc (τ := Cert.ProjRkvRefIdeal.τ) (Cert.ProjRkvRefIdeal.main (F := Ideal))) ⟨m', fun _ => 0, g'⟩ (fun r => ∀ c : Dev Cert.ProjRkvRefIdeal.nD,
          r.2.mem ((c.tc : Thread Cert.ProjRkvRefIdeal.nD Cert.ProjRkvRefIdeal.τ).loc Cert.ProjRkvRefIdeal.main_v8) = v0 c
          ∧ r.2.mem ((c.tc : Thread Cert.ProjRkvRefIdeal.nD Cert.ProjRkvRefIdeal.τ).loc Cert.ProjRkvRefIdeal.main_arg0) = m' ((c.tc : Thread Cert.ProjRkvRefIdeal.nD Cert.ProjRkvRefIdeal.τ).loc Cert.ProjRkvRefIdeal.main_arg0)
          ∧ r.2.mem ((c.tc : Thread Cert.ProjRkvRefIdeal.nD Cert.ProjRkvRefIdeal.τ).loc Cert.ProjRkvRefIdeal.main_arg1) = m' ((c.tc : Thread Cert.ProjRkvRefIdeal.nD Cert.ProjRkvRefIdeal.τ).loc Cert.ProjRkvRefIdeal.main_arg1))

def preserves_ProjKv_ProjKvIdeal : Prop :=
  True

def algebraic_ProjKvIdeal_ProjKvRefIdeal [hProjKvIdeal : Cert.ProjKvIdeal.Facts] [hProjKvRefIdeal : Cert.ProjKvRefIdeal.Facts] : Prop :=
  ∀ (m : (ℓ : Loc Cert.ProjKvIdeal.nD Cert.ProjKvIdeal.τ Cert.ProjKvIdeal.sig) → Buf (Elt Ideal) ℓ) (g : Dev Cert.ProjKvIdeal.nD → PrngReg)
    (m' : (ℓ : Loc Cert.ProjKvRefIdeal.nD Cert.ProjKvRefIdeal.τ Cert.ProjKvRefIdeal.sig) → Buf (Elt Ideal) ℓ) (g' : Dev Cert.ProjKvRefIdeal.nD → PrngReg), Pre_ProjKvIdeal m →
    (∀ c : Dev Cert.ProjKvIdeal.nD,
      m' ((c.tc : Thread Cert.ProjKvRefIdeal.nD Cert.ProjKvRefIdeal.τ).loc Cert.ProjKvRefIdeal.main_arg0) = m ((c.tc : Thread Cert.ProjKvIdeal.nD Cert.ProjKvIdeal.τ).loc Cert.ProjKvIdeal.main_arg0)
      ∧ m' ((c.tc : Thread Cert.ProjKvRefIdeal.nD Cert.ProjKvRefIdeal.τ).loc Cert.ProjKvRefIdeal.main_arg1) = m ((c.tc : Thread Cert.ProjKvIdeal.nD Cert.ProjKvIdeal.τ).loc Cert.ProjKvIdeal.main_arg1)) →
    ∃ (v0 : (c : Dev Cert.ProjKvIdeal.nD) → Buf (Elt Ideal) ((c.tc : Thread Cert.ProjKvIdeal.nD Cert.ProjKvIdeal.τ).loc Cert.ProjKvIdeal.main_v10_0)) (v1 : (c : Dev Cert.ProjKvIdeal.nD) → Buf (Elt Ideal) ((c.tc : Thread Cert.ProjKvIdeal.nD Cert.ProjKvIdeal.τ).loc Cert.ProjKvIdeal.main_v10_1)) (v2 : (c : Dev Cert.ProjKvIdeal.nD) → Buf (Elt Ideal) ((c.tc : Thread Cert.ProjKvIdeal.nD Cert.ProjKvIdeal.τ).loc Cert.ProjKvIdeal.main_v10_2)),
      θ_run (Cert.ProjKvIdeal.defs (F := Ideal)) (onTc (τ := Cert.ProjKvIdeal.τ) (Cert.ProjKvIdeal.main (F := Ideal))) ⟨m, fun _ => 0, g⟩ (fun r => ∀ c : Dev Cert.ProjKvIdeal.nD,
          r.2.mem ((c.tc : Thread Cert.ProjKvIdeal.nD Cert.ProjKvIdeal.τ).loc Cert.ProjKvIdeal.main_v10_0) = v0 c
          ∧ r.2.mem ((c.tc : Thread Cert.ProjKvIdeal.nD Cert.ProjKvIdeal.τ).loc Cert.ProjKvIdeal.main_v10_1) = v1 c
          ∧ r.2.mem ((c.tc : Thread Cert.ProjKvIdeal.nD Cert.ProjKvIdeal.τ).loc Cert.ProjKvIdeal.main_v10_2) = v2 c
          ∧ r.2.mem ((c.tc : Thread Cert.ProjKvIdeal.nD Cert.ProjKvIdeal.τ).loc Cert.ProjKvIdeal.main_arg0) = m ((c.tc : Thread Cert.ProjKvIdeal.nD Cert.ProjKvIdeal.τ).loc Cert.ProjKvIdeal.main_arg0)
          ∧ r.2.mem ((c.tc : Thread Cert.ProjKvIdeal.nD Cert.ProjKvIdeal.τ).loc Cert.ProjKvIdeal.main_arg1) = m ((c.tc : Thread Cert.ProjKvIdeal.nD Cert.ProjKvIdeal.τ).loc Cert.ProjKvIdeal.main_arg1))
      ∧ θ_run (Cert.ProjKvRefIdeal.defs (F := Ideal)) (onTc (τ := Cert.ProjKvRefIdeal.τ) (Cert.ProjKvRefIdeal.main (F := Ideal))) ⟨m', fun _ => 0, g'⟩ (fun r => ∀ c : Dev Cert.ProjKvRefIdeal.nD,
          r.2.mem ((c.tc : Thread Cert.ProjKvRefIdeal.nD Cert.ProjKvRefIdeal.τ).loc Cert.ProjKvRefIdeal.main_v9) = v0 c
          ∧ r.2.mem ((c.tc : Thread Cert.ProjKvRefIdeal.nD Cert.ProjKvRefIdeal.τ).loc Cert.ProjKvRefIdeal.main_v12) = v1 c
          ∧ r.2.mem ((c.tc : Thread Cert.ProjKvRefIdeal.nD Cert.ProjKvRefIdeal.τ).loc Cert.ProjKvRefIdeal.main_v15) = v2 c
          ∧ r.2.mem ((c.tc : Thread Cert.ProjKvRefIdeal.nD Cert.ProjKvRefIdeal.τ).loc Cert.ProjKvRefIdeal.main_arg0) = m' ((c.tc : Thread Cert.ProjKvRefIdeal.nD Cert.ProjKvRefIdeal.τ).loc Cert.ProjKvRefIdeal.main_arg0)
          ∧ r.2.mem ((c.tc : Thread Cert.ProjKvRefIdeal.nD Cert.ProjKvRefIdeal.τ).loc Cert.ProjKvRefIdeal.main_arg1) = m' ((c.tc : Thread Cert.ProjKvRefIdeal.nD Cert.ProjKvRefIdeal.τ).loc Cert.ProjKvRefIdeal.main_arg1))

def preserves_ProjGates_ProjGatesIdeal : Prop :=
  True

def algebraic_ProjGatesIdeal_ProjGatesRefIdeal [hProjGatesIdeal : Cert.ProjGatesIdeal.Facts] [hProjGatesRefIdeal : Cert.ProjGatesRefIdeal.Facts] : Prop :=
  ∀ (m : (ℓ : Loc Cert.ProjGatesIdeal.nD Cert.ProjGatesIdeal.τ Cert.ProjGatesIdeal.sig) → Buf (Elt Ideal) ℓ) (g : Dev Cert.ProjGatesIdeal.nD → PrngReg)
    (m' : (ℓ : Loc Cert.ProjGatesRefIdeal.nD Cert.ProjGatesRefIdeal.τ Cert.ProjGatesRefIdeal.sig) → Buf (Elt Ideal) ℓ) (g' : Dev Cert.ProjGatesRefIdeal.nD → PrngReg), Pre_ProjGatesIdeal m →
    (∀ c : Dev Cert.ProjGatesIdeal.nD,
      m' ((c.tc : Thread Cert.ProjGatesRefIdeal.nD Cert.ProjGatesRefIdeal.τ).loc Cert.ProjGatesRefIdeal.main_arg0) = m ((c.tc : Thread Cert.ProjGatesIdeal.nD Cert.ProjGatesIdeal.τ).loc Cert.ProjGatesIdeal.main_arg0)
      ∧ m' ((c.tc : Thread Cert.ProjGatesRefIdeal.nD Cert.ProjGatesRefIdeal.τ).loc Cert.ProjGatesRefIdeal.main_arg1) = m ((c.tc : Thread Cert.ProjGatesIdeal.nD Cert.ProjGatesIdeal.τ).loc Cert.ProjGatesIdeal.main_arg1)) →
    ∃ (v0 : (c : Dev Cert.ProjGatesIdeal.nD) → Buf (Elt Ideal) ((c.tc : Thread Cert.ProjGatesIdeal.nD Cert.ProjGatesIdeal.τ).loc Cert.ProjGatesIdeal.main_v5)),
      θ_run (Cert.ProjGatesIdeal.defs (F := Ideal)) (onTc (τ := Cert.ProjGatesIdeal.τ) (Cert.ProjGatesIdeal.main (F := Ideal))) ⟨m, fun _ => 0, g⟩ (fun r => ∀ c : Dev Cert.ProjGatesIdeal.nD,
          r.2.mem ((c.tc : Thread Cert.ProjGatesIdeal.nD Cert.ProjGatesIdeal.τ).loc Cert.ProjGatesIdeal.main_v5) = v0 c
          ∧ r.2.mem ((c.tc : Thread Cert.ProjGatesIdeal.nD Cert.ProjGatesIdeal.τ).loc Cert.ProjGatesIdeal.main_arg0) = m ((c.tc : Thread Cert.ProjGatesIdeal.nD Cert.ProjGatesIdeal.τ).loc Cert.ProjGatesIdeal.main_arg0)
          ∧ r.2.mem ((c.tc : Thread Cert.ProjGatesIdeal.nD Cert.ProjGatesIdeal.τ).loc Cert.ProjGatesIdeal.main_arg1) = m ((c.tc : Thread Cert.ProjGatesIdeal.nD Cert.ProjGatesIdeal.τ).loc Cert.ProjGatesIdeal.main_arg1))
      ∧ θ_run (Cert.ProjGatesRefIdeal.defs (F := Ideal)) (onTc (τ := Cert.ProjGatesRefIdeal.τ) (Cert.ProjGatesRefIdeal.main (F := Ideal))) ⟨m', fun _ => 0, g'⟩ (fun r => ∀ c : Dev Cert.ProjGatesRefIdeal.nD,
          r.2.mem ((c.tc : Thread Cert.ProjGatesRefIdeal.nD Cert.ProjGatesRefIdeal.τ).loc Cert.ProjGatesRefIdeal.main_v4) = v0 c
          ∧ r.2.mem ((c.tc : Thread Cert.ProjGatesRefIdeal.nD Cert.ProjGatesRefIdeal.τ).loc Cert.ProjGatesRefIdeal.main_arg0) = m' ((c.tc : Thread Cert.ProjGatesRefIdeal.nD Cert.ProjGatesRefIdeal.τ).loc Cert.ProjGatesRefIdeal.main_arg0)
          ∧ r.2.mem ((c.tc : Thread Cert.ProjGatesRefIdeal.nD Cert.ProjGatesRefIdeal.τ).loc Cert.ProjGatesRefIdeal.main_arg1) = m' ((c.tc : Thread Cert.ProjGatesRefIdeal.nD Cert.ProjGatesRefIdeal.τ).loc Cert.ProjGatesRefIdeal.main_arg1))

def preserves_ProjQ_ProjQIdeal : Prop :=
  True

def algebraic_ProjQIdeal_ProjQRefIdeal [hProjQIdeal : Cert.ProjQIdeal.Facts] [hProjQRefIdeal : Cert.ProjQRefIdeal.Facts] : Prop :=
  ∀ (m : (ℓ : Loc Cert.ProjQIdeal.nD Cert.ProjQIdeal.τ Cert.ProjQIdeal.sig) → Buf (Elt Ideal) ℓ) (g : Dev Cert.ProjQIdeal.nD → PrngReg)
    (m' : (ℓ : Loc Cert.ProjQRefIdeal.nD Cert.ProjQRefIdeal.τ Cert.ProjQRefIdeal.sig) → Buf (Elt Ideal) ℓ) (g' : Dev Cert.ProjQRefIdeal.nD → PrngReg), Pre_ProjQIdeal m →
    (∀ c : Dev Cert.ProjQIdeal.nD,
      m' ((c.tc : Thread Cert.ProjQRefIdeal.nD Cert.ProjQRefIdeal.τ).loc Cert.ProjQRefIdeal.main_arg0) = m ((c.tc : Thread Cert.ProjQIdeal.nD Cert.ProjQIdeal.τ).loc Cert.ProjQIdeal.main_arg0)
      ∧ m' ((c.tc : Thread Cert.ProjQRefIdeal.nD Cert.ProjQRefIdeal.τ).loc Cert.ProjQRefIdeal.main_arg1) = m ((c.tc : Thread Cert.ProjQIdeal.nD Cert.ProjQIdeal.τ).loc Cert.ProjQIdeal.main_arg1)) →
    ∃ (v0 : (c : Dev Cert.ProjQIdeal.nD) → Buf (Elt Ideal) ((c.tc : Thread Cert.ProjQIdeal.nD Cert.ProjQIdeal.τ).loc Cert.ProjQIdeal.main_v3)),
      θ_run (Cert.ProjQIdeal.defs (F := Ideal)) (onTc (τ := Cert.ProjQIdeal.τ) (Cert.ProjQIdeal.main (F := Ideal))) ⟨m, fun _ => 0, g⟩ (fun r => ∀ c : Dev Cert.ProjQIdeal.nD,
          r.2.mem ((c.tc : Thread Cert.ProjQIdeal.nD Cert.ProjQIdeal.τ).loc Cert.ProjQIdeal.main_v3) = v0 c
          ∧ r.2.mem ((c.tc : Thread Cert.ProjQIdeal.nD Cert.ProjQIdeal.τ).loc Cert.ProjQIdeal.main_arg0) = m ((c.tc : Thread Cert.ProjQIdeal.nD Cert.ProjQIdeal.τ).loc Cert.ProjQIdeal.main_arg0)
          ∧ r.2.mem ((c.tc : Thread Cert.ProjQIdeal.nD Cert.ProjQIdeal.τ).loc Cert.ProjQIdeal.main_arg1) = m ((c.tc : Thread Cert.ProjQIdeal.nD Cert.ProjQIdeal.τ).loc Cert.ProjQIdeal.main_arg1))
      ∧ θ_run (Cert.ProjQRefIdeal.defs (F := Ideal)) (onTc (τ := Cert.ProjQRefIdeal.τ) (Cert.ProjQRefIdeal.main (F := Ideal))) ⟨m', fun _ => 0, g'⟩ (fun r => ∀ c : Dev Cert.ProjQRefIdeal.nD,
          r.2.mem ((c.tc : Thread Cert.ProjQRefIdeal.nD Cert.ProjQRefIdeal.τ).loc Cert.ProjQRefIdeal.main_v8) = v0 c
          ∧ r.2.mem ((c.tc : Thread Cert.ProjQRefIdeal.nD Cert.ProjQRefIdeal.τ).loc Cert.ProjQRefIdeal.main_arg0) = m' ((c.tc : Thread Cert.ProjQRefIdeal.nD Cert.ProjQRefIdeal.τ).loc Cert.ProjQRefIdeal.main_arg0)
          ∧ r.2.mem ((c.tc : Thread Cert.ProjQRefIdeal.nD Cert.ProjQRefIdeal.τ).loc Cert.ProjQRefIdeal.main_arg1) = m' ((c.tc : Thread Cert.ProjQRefIdeal.nD Cert.ProjQRefIdeal.τ).loc Cert.ProjQRefIdeal.main_arg1))

def preserves_ProjQi_ProjQiIdeal : Prop :=
  True

def algebraic_ProjQiIdeal_ProjQiRefIdeal [hProjQiIdeal : Cert.ProjQiIdeal.Facts] [hProjQiRefIdeal : Cert.ProjQiRefIdeal.Facts] : Prop :=
  ∀ (m : (ℓ : Loc Cert.ProjQiIdeal.nD Cert.ProjQiIdeal.τ Cert.ProjQiIdeal.sig) → Buf (Elt Ideal) ℓ) (g : Dev Cert.ProjQiIdeal.nD → PrngReg)
    (m' : (ℓ : Loc Cert.ProjQiRefIdeal.nD Cert.ProjQiRefIdeal.τ Cert.ProjQiRefIdeal.sig) → Buf (Elt Ideal) ℓ) (g' : Dev Cert.ProjQiRefIdeal.nD → PrngReg), Pre_ProjQiIdeal m →
    (∀ c : Dev Cert.ProjQiIdeal.nD,
      m' ((c.tc : Thread Cert.ProjQiRefIdeal.nD Cert.ProjQiRefIdeal.τ).loc Cert.ProjQiRefIdeal.main_arg0) = m ((c.tc : Thread Cert.ProjQiIdeal.nD Cert.ProjQiIdeal.τ).loc Cert.ProjQiIdeal.main_arg0)
      ∧ m' ((c.tc : Thread Cert.ProjQiRefIdeal.nD Cert.ProjQiRefIdeal.τ).loc Cert.ProjQiRefIdeal.main_arg1) = m ((c.tc : Thread Cert.ProjQiIdeal.nD Cert.ProjQiIdeal.τ).loc Cert.ProjQiIdeal.main_arg1)) →
    ∃ (v0 : (c : Dev Cert.ProjQiIdeal.nD) → Buf (Elt Ideal) ((c.tc : Thread Cert.ProjQiIdeal.nD Cert.ProjQiIdeal.τ).loc Cert.ProjQiIdeal.main_v3)),
      θ_run (Cert.ProjQiIdeal.defs (F := Ideal)) (onTc (τ := Cert.ProjQiIdeal.τ) (Cert.ProjQiIdeal.main (F := Ideal))) ⟨m, fun _ => 0, g⟩ (fun r => ∀ c : Dev Cert.ProjQiIdeal.nD,
          r.2.mem ((c.tc : Thread Cert.ProjQiIdeal.nD Cert.ProjQiIdeal.τ).loc Cert.ProjQiIdeal.main_v3) = v0 c
          ∧ r.2.mem ((c.tc : Thread Cert.ProjQiIdeal.nD Cert.ProjQiIdeal.τ).loc Cert.ProjQiIdeal.main_arg0) = m ((c.tc : Thread Cert.ProjQiIdeal.nD Cert.ProjQiIdeal.τ).loc Cert.ProjQiIdeal.main_arg0)
          ∧ r.2.mem ((c.tc : Thread Cert.ProjQiIdeal.nD Cert.ProjQiIdeal.τ).loc Cert.ProjQiIdeal.main_arg1) = m ((c.tc : Thread Cert.ProjQiIdeal.nD Cert.ProjQiIdeal.τ).loc Cert.ProjQiIdeal.main_arg1))
      ∧ θ_run (Cert.ProjQiRefIdeal.defs (F := Ideal)) (onTc (τ := Cert.ProjQiRefIdeal.τ) (Cert.ProjQiRefIdeal.main (F := Ideal))) ⟨m', fun _ => 0, g'⟩ (fun r => ∀ c : Dev Cert.ProjQiRefIdeal.nD,
          r.2.mem ((c.tc : Thread Cert.ProjQiRefIdeal.nD Cert.ProjQiRefIdeal.τ).loc Cert.ProjQiRefIdeal.main_v6) = v0 c
          ∧ r.2.mem ((c.tc : Thread Cert.ProjQiRefIdeal.nD Cert.ProjQiRefIdeal.τ).loc Cert.ProjQiRefIdeal.main_arg0) = m' ((c.tc : Thread Cert.ProjQiRefIdeal.nD Cert.ProjQiRefIdeal.τ).loc Cert.ProjQiRefIdeal.main_arg0)
          ∧ r.2.mem ((c.tc : Thread Cert.ProjQiRefIdeal.nD Cert.ProjQiRefIdeal.τ).loc Cert.ProjQiRefIdeal.main_arg1) = m' ((c.tc : Thread Cert.ProjQiRefIdeal.nD Cert.ProjQiRefIdeal.τ).loc Cert.ProjQiRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v4) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v27) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v4)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v4) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v6) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_NormP_NormPIdeal : Prop :=
  True

def algebraic_NormPIdeal_NormPRefIdeal [hNormPIdeal : Cert.NormPIdeal.Facts] [hNormPRefIdeal : Cert.NormPRefIdeal.Facts] : Prop :=
  ∀ (m : (ℓ : Loc Cert.NormPIdeal.nD Cert.NormPIdeal.τ Cert.NormPIdeal.sig) → Buf (Elt Ideal) ℓ) (g : Dev Cert.NormPIdeal.nD → PrngReg)
    (m' : (ℓ : Loc Cert.NormPRefIdeal.nD Cert.NormPRefIdeal.τ Cert.NormPRefIdeal.sig) → Buf (Elt Ideal) ℓ) (g' : Dev Cert.NormPRefIdeal.nD → PrngReg), Pre_NormPIdeal m →
    (∀ c : Dev Cert.NormPIdeal.nD,
      m' ((c.tc : Thread Cert.NormPRefIdeal.nD Cert.NormPRefIdeal.τ).loc Cert.NormPRefIdeal.main_arg0) = m ((c.tc : Thread Cert.NormPIdeal.nD Cert.NormPIdeal.τ).loc Cert.NormPIdeal.main_arg0)
      ∧ m' ((c.tc : Thread Cert.NormPRefIdeal.nD Cert.NormPRefIdeal.τ).loc Cert.NormPRefIdeal.main_arg1) = m ((c.tc : Thread Cert.NormPIdeal.nD Cert.NormPIdeal.τ).loc Cert.NormPIdeal.main_arg1)) →
    ∃ (v0 : (c : Dev Cert.NormPIdeal.nD) → Buf (Elt Ideal) ((c.tc : Thread Cert.NormPIdeal.nD Cert.NormPIdeal.τ).loc Cert.NormPIdeal.main_v1)),
      θ_run (Cert.NormPIdeal.defs (F := Ideal)) (onTc (τ := Cert.NormPIdeal.τ) (Cert.NormPIdeal.main (F := Ideal))) ⟨m, fun _ => 0, g⟩ (fun r => ∀ c : Dev Cert.NormPIdeal.nD,
          r.2.mem ((c.tc : Thread Cert.NormPIdeal.nD Cert.NormPIdeal.τ).loc Cert.NormPIdeal.main_v1) = v0 c
          ∧ r.2.mem ((c.tc : Thread Cert.NormPIdeal.nD Cert.NormPIdeal.τ).loc Cert.NormPIdeal.main_arg0) = m ((c.tc : Thread Cert.NormPIdeal.nD Cert.NormPIdeal.τ).loc Cert.NormPIdeal.main_arg0)
          ∧ r.2.mem ((c.tc : Thread Cert.NormPIdeal.nD Cert.NormPIdeal.τ).loc Cert.NormPIdeal.main_arg1) = m ((c.tc : Thread Cert.NormPIdeal.nD Cert.NormPIdeal.τ).loc Cert.NormPIdeal.main_arg1))
      ∧ θ_run (Cert.NormPRefIdeal.defs (F := Ideal)) (onTc (τ := Cert.NormPRefIdeal.τ) (Cert.NormPRefIdeal.main (F := Ideal))) ⟨m', fun _ => 0, g'⟩ (fun r => ∀ c : Dev Cert.NormPRefIdeal.nD,
          r.2.mem ((c.tc : Thread Cert.NormPRefIdeal.nD Cert.NormPRefIdeal.τ).loc Cert.NormPRefIdeal.main_v13) = v0 c
          ∧ r.2.mem ((c.tc : Thread Cert.NormPRefIdeal.nD Cert.NormPRefIdeal.τ).loc Cert.NormPRefIdeal.main_arg0) = m' ((c.tc : Thread Cert.NormPRefIdeal.nD Cert.NormPRefIdeal.τ).loc Cert.NormPRefIdeal.main_arg0)
          ∧ r.2.mem ((c.tc : Thread Cert.NormPRefIdeal.nD Cert.NormPRefIdeal.τ).loc Cert.NormPRefIdeal.main_arg1) = m' ((c.tc : Thread Cert.NormPRefIdeal.nD Cert.NormPRefIdeal.τ).loc Cert.NormPRefIdeal.main_arg1))

def preserves_NormS_NormSIdeal : Prop :=
  True

def algebraic_NormSIdeal_NormSRefIdeal [hNormSIdeal : Cert.NormSIdeal.Facts] [hNormSRefIdeal : Cert.NormSRefIdeal.Facts] : Prop :=
  ∀ (m : (ℓ : Loc Cert.NormSIdeal.nD Cert.NormSIdeal.τ Cert.NormSIdeal.sig) → Buf (Elt Ideal) ℓ) (g : Dev Cert.NormSIdeal.nD → PrngReg)
    (m' : (ℓ : Loc Cert.NormSRefIdeal.nD Cert.NormSRefIdeal.τ Cert.NormSRefIdeal.sig) → Buf (Elt Ideal) ℓ) (g' : Dev Cert.NormSRefIdeal.nD → PrngReg), Pre_NormSIdeal m →
    (∀ c : Dev Cert.NormSIdeal.nD,
      m' ((c.tc : Thread Cert.NormSRefIdeal.nD Cert.NormSRefIdeal.τ).loc Cert.NormSRefIdeal.main_arg0) = m ((c.tc : Thread Cert.NormSIdeal.nD Cert.NormSIdeal.τ).loc Cert.NormSIdeal.main_arg0)
      ∧ m' ((c.tc : Thread Cert.NormSRefIdeal.nD Cert.NormSRefIdeal.τ).loc Cert.NormSRefIdeal.main_arg1) = m ((c.tc : Thread Cert.NormSIdeal.nD Cert.NormSIdeal.τ).loc Cert.NormSIdeal.main_arg1)) →
    ∃ (v0 : (c : Dev Cert.NormSIdeal.nD) → Buf (Elt Ideal) ((c.tc : Thread Cert.NormSIdeal.nD Cert.NormSIdeal.τ).loc Cert.NormSIdeal.main_v1)),
      θ_run (Cert.NormSIdeal.defs (F := Ideal)) (onTc (τ := Cert.NormSIdeal.τ) (Cert.NormSIdeal.main (F := Ideal))) ⟨m, fun _ => 0, g⟩ (fun r => ∀ c : Dev Cert.NormSIdeal.nD,
          r.2.mem ((c.tc : Thread Cert.NormSIdeal.nD Cert.NormSIdeal.τ).loc Cert.NormSIdeal.main_v1) = v0 c
          ∧ r.2.mem ((c.tc : Thread Cert.NormSIdeal.nD Cert.NormSIdeal.τ).loc Cert.NormSIdeal.main_arg0) = m ((c.tc : Thread Cert.NormSIdeal.nD Cert.NormSIdeal.τ).loc Cert.NormSIdeal.main_arg0)
          ∧ r.2.mem ((c.tc : Thread Cert.NormSIdeal.nD Cert.NormSIdeal.τ).loc Cert.NormSIdeal.main_arg1) = m ((c.tc : Thread Cert.NormSIdeal.nD Cert.NormSIdeal.τ).loc Cert.NormSIdeal.main_arg1))
      ∧ θ_run (Cert.NormSRefIdeal.defs (F := Ideal)) (onTc (τ := Cert.NormSRefIdeal.τ) (Cert.NormSRefIdeal.main (F := Ideal))) ⟨m', fun _ => 0, g'⟩ (fun r => ∀ c : Dev Cert.NormSRefIdeal.nD,
          r.2.mem ((c.tc : Thread Cert.NormSRefIdeal.nD Cert.NormSRefIdeal.τ).loc Cert.NormSRefIdeal.main_v13) = v0 c
          ∧ r.2.mem ((c.tc : Thread Cert.NormSRefIdeal.nD Cert.NormSRefIdeal.τ).loc Cert.NormSRefIdeal.main_arg0) = m' ((c.tc : Thread Cert.NormSRefIdeal.nD Cert.NormSRefIdeal.τ).loc Cert.NormSRefIdeal.main_arg0)
          ∧ r.2.mem ((c.tc : Thread Cert.NormSRefIdeal.nD Cert.NormSRefIdeal.τ).loc Cert.NormSRefIdeal.main_arg1) = m' ((c.tc : Thread Cert.NormSRefIdeal.nD Cert.NormSRefIdeal.τ).loc Cert.NormSRefIdeal.main_arg1))

def preserves_NormIn_NormInIdeal : Prop :=
  True

def algebraic_NormInIdeal_NormInRefIdeal [hNormInIdeal : Cert.NormInIdeal.Facts] [hNormInRefIdeal : Cert.NormInRefIdeal.Facts] : Prop :=
  ∀ (m : (ℓ : Loc Cert.NormInIdeal.nD Cert.NormInIdeal.τ Cert.NormInIdeal.sig) → Buf (Elt Ideal) ℓ) (g : Dev Cert.NormInIdeal.nD → PrngReg)
    (m' : (ℓ : Loc Cert.NormInRefIdeal.nD Cert.NormInRefIdeal.τ Cert.NormInRefIdeal.sig) → Buf (Elt Ideal) ℓ) (g' : Dev Cert.NormInRefIdeal.nD → PrngReg), Pre_NormInIdeal m →
    (∀ c : Dev Cert.NormInIdeal.nD,
      m' ((c.tc : Thread Cert.NormInRefIdeal.nD Cert.NormInRefIdeal.τ).loc Cert.NormInRefIdeal.main_arg0) = m ((c.tc : Thread Cert.NormInIdeal.nD Cert.NormInIdeal.τ).loc Cert.NormInIdeal.main_arg0)
      ∧ m' ((c.tc : Thread Cert.NormInRefIdeal.nD Cert.NormInRefIdeal.τ).loc Cert.NormInRefIdeal.main_arg1) = m ((c.tc : Thread Cert.NormInIdeal.nD Cert.NormInIdeal.τ).loc Cert.NormInIdeal.main_arg1)
      ∧ m' ((c.tc : Thread Cert.NormInRefIdeal.nD Cert.NormInRefIdeal.τ).loc Cert.NormInRefIdeal.main_arg2) = m ((c.tc : Thread Cert.NormInIdeal.nD Cert.NormInIdeal.τ).loc Cert.NormInIdeal.main_arg2)) →
    ∃ (v0 : (c : Dev Cert.NormInIdeal.nD) → Buf (Elt Ideal) ((c.tc : Thread Cert.NormInIdeal.nD Cert.NormInIdeal.τ).loc Cert.NormInIdeal.main_v4)),
      θ_run (Cert.NormInIdeal.defs (F := Ideal)) (onTc (τ := Cert.NormInIdeal.τ) (Cert.NormInIdeal.main (F := Ideal))) ⟨m, fun _ => 0, g⟩ (fun r => ∀ c : Dev Cert.NormInIdeal.nD,
          r.2.mem ((c.tc : Thread Cert.NormInIdeal.nD Cert.NormInIdeal.τ).loc Cert.NormInIdeal.main_v4) = v0 c
          ∧ r.2.mem ((c.tc : Thread Cert.NormInIdeal.nD Cert.NormInIdeal.τ).loc Cert.NormInIdeal.main_arg0) = m ((c.tc : Thread Cert.NormInIdeal.nD Cert.NormInIdeal.τ).loc Cert.NormInIdeal.main_arg0)
          ∧ r.2.mem ((c.tc : Thread Cert.NormInIdeal.nD Cert.NormInIdeal.τ).loc Cert.NormInIdeal.main_arg1) = m ((c.tc : Thread Cert.NormInIdeal.nD Cert.NormInIdeal.τ).loc Cert.NormInIdeal.main_arg1)
          ∧ r.2.mem ((c.tc : Thread Cert.NormInIdeal.nD Cert.NormInIdeal.τ).loc Cert.NormInIdeal.main_arg2) = m ((c.tc : Thread Cert.NormInIdeal.nD Cert.NormInIdeal.τ).loc Cert.NormInIdeal.main_arg2))
      ∧ θ_run (Cert.NormInRefIdeal.defs (F := Ideal)) (onTc (τ := Cert.NormInRefIdeal.τ) (Cert.NormInRefIdeal.main (F := Ideal))) ⟨m', fun _ => 0, g'⟩ (fun r => ∀ c : Dev Cert.NormInRefIdeal.nD,
          r.2.mem ((c.tc : Thread Cert.NormInRefIdeal.nD Cert.NormInRefIdeal.τ).loc Cert.NormInRefIdeal.main_v17) = v0 c
          ∧ r.2.mem ((c.tc : Thread Cert.NormInRefIdeal.nD Cert.NormInRefIdeal.τ).loc Cert.NormInRefIdeal.main_arg0) = m' ((c.tc : Thread Cert.NormInRefIdeal.nD Cert.NormInRefIdeal.τ).loc Cert.NormInRefIdeal.main_arg0)
          ∧ r.2.mem ((c.tc : Thread Cert.NormInRefIdeal.nD Cert.NormInRefIdeal.τ).loc Cert.NormInRefIdeal.main_arg1) = m' ((c.tc : Thread Cert.NormInRefIdeal.nD Cert.NormInRefIdeal.τ).loc Cert.NormInRefIdeal.main_arg1)
          ∧ r.2.mem ((c.tc : Thread Cert.NormInRefIdeal.nD Cert.NormInRefIdeal.τ).loc Cert.NormInRefIdeal.main_arg2) = m' ((c.tc : Thread Cert.NormInRefIdeal.nD Cert.NormInRefIdeal.τ).loc Cert.NormInRefIdeal.main_arg2))

def preserves_NormMid_NormMidIdeal : Prop :=
  True

def algebraic_NormMidIdeal_NormMidRefIdeal [hNormMidIdeal : Cert.NormMidIdeal.Facts] [hNormMidRefIdeal : Cert.NormMidRefIdeal.Facts] : Prop :=
  ∀ (m : (ℓ : Loc Cert.NormMidIdeal.nD Cert.NormMidIdeal.τ Cert.NormMidIdeal.sig) → Buf (Elt Ideal) ℓ) (g : Dev Cert.NormMidIdeal.nD → PrngReg)
    (m' : (ℓ : Loc Cert.NormMidRefIdeal.nD Cert.NormMidRefIdeal.τ Cert.NormMidRefIdeal.sig) → Buf (Elt Ideal) ℓ) (g' : Dev Cert.NormMidRefIdeal.nD → PrngReg), Pre_NormMidIdeal m →
    (∀ c : Dev Cert.NormMidIdeal.nD,
      m' ((c.tc : Thread Cert.NormMidRefIdeal.nD Cert.NormMidRefIdeal.τ).loc Cert.NormMidRefIdeal.main_arg0) = m ((c.tc : Thread Cert.NormMidIdeal.nD Cert.NormMidIdeal.τ).loc Cert.NormMidIdeal.main_arg0)
      ∧ m' ((c.tc : Thread Cert.NormMidRefIdeal.nD Cert.NormMidRefIdeal.τ).loc Cert.NormMidRefIdeal.main_arg1) = m ((c.tc : Thread Cert.NormMidIdeal.nD Cert.NormMidIdeal.τ).loc Cert.NormMidIdeal.main_arg1)) →
    ∃ (v0 : (c : Dev Cert.NormMidIdeal.nD) → Buf (Elt Ideal) ((c.tc : Thread Cert.NormMidIdeal.nD Cert.NormMidIdeal.τ).loc Cert.NormMidIdeal.main_v2)),
      θ_run (Cert.NormMidIdeal.defs (F := Ideal)) (onTc (τ := Cert.NormMidIdeal.τ) (Cert.NormMidIdeal.main (F := Ideal))) ⟨m, fun _ => 0, g⟩ (fun r => ∀ c : Dev Cert.NormMidIdeal.nD,
          r.2.mem ((c.tc : Thread Cert.NormMidIdeal.nD Cert.NormMidIdeal.τ).loc Cert.NormMidIdeal.main_v2) = v0 c
          ∧ r.2.mem ((c.tc : Thread Cert.NormMidIdeal.nD Cert.NormMidIdeal.τ).loc Cert.NormMidIdeal.main_arg0) = m ((c.tc : Thread Cert.NormMidIdeal.nD Cert.NormMidIdeal.τ).loc Cert.NormMidIdeal.main_arg0)
          ∧ r.2.mem ((c.tc : Thread Cert.NormMidIdeal.nD Cert.NormMidIdeal.τ).loc Cert.NormMidIdeal.main_arg1) = m ((c.tc : Thread Cert.NormMidIdeal.nD Cert.NormMidIdeal.τ).loc Cert.NormMidIdeal.main_arg1))
      ∧ θ_run (Cert.NormMidRefIdeal.defs (F := Ideal)) (onTc (τ := Cert.NormMidRefIdeal.τ) (Cert.NormMidRefIdeal.main (F := Ideal))) ⟨m', fun _ => 0, g'⟩ (fun r => ∀ c : Dev Cert.NormMidRefIdeal.nD,
          r.2.mem ((c.tc : Thread Cert.NormMidRefIdeal.nD Cert.NormMidRefIdeal.τ).loc Cert.NormMidRefIdeal.main_v14) = v0 c
          ∧ r.2.mem ((c.tc : Thread Cert.NormMidRefIdeal.nD Cert.NormMidRefIdeal.τ).loc Cert.NormMidRefIdeal.main_arg0) = m' ((c.tc : Thread Cert.NormMidRefIdeal.nD Cert.NormMidRefIdeal.τ).loc Cert.NormMidRefIdeal.main_arg0)
          ∧ r.2.mem ((c.tc : Thread Cert.NormMidRefIdeal.nD Cert.NormMidRefIdeal.τ).loc Cert.NormMidRefIdeal.main_arg1) = m' ((c.tc : Thread Cert.NormMidRefIdeal.nD Cert.NormMidRefIdeal.τ).loc Cert.NormMidRefIdeal.main_arg1))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v4)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def Claim : Prop :=
  ∃ (hKernel : Cert.Kernel.Facts) (hKernelIdeal : Cert.KernelIdeal.Facts) (hReferenceIdeal : Cert.ReferenceIdeal.Facts) (hFfnUp : Cert.FfnUp.Facts) (hFfnUpIdeal : Cert.FfnUpIdeal.Facts) (hFfnUpRefIdeal : Cert.FfnUpRefIdeal.Facts) (hProjRkv : Cert.ProjRkv.Facts) (hProjRkvIdeal : Cert.ProjRkvIdeal.Facts) (hProjRkvRefIdeal : Cert.ProjRkvRefIdeal.Facts) (hProjKv : Cert.ProjKv.Facts) (hProjKvIdeal : Cert.ProjKvIdeal.Facts) (hProjKvRefIdeal : Cert.ProjKvRefIdeal.Facts) (hProjGates : Cert.ProjGates.Facts) (hProjGatesIdeal : Cert.ProjGatesIdeal.Facts) (hProjGatesRefIdeal : Cert.ProjGatesRefIdeal.Facts) (hProjQ : Cert.ProjQ.Facts) (hProjQIdeal : Cert.ProjQIdeal.Facts) (hProjQRefIdeal : Cert.ProjQRefIdeal.Facts) (hProjQi : Cert.ProjQi.Facts) (hProjQiIdeal : Cert.ProjQiIdeal.Facts) (hProjQiRefIdeal : Cert.ProjQiRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hNormP : Cert.NormP.Facts) (hNormPIdeal : Cert.NormPIdeal.Facts) (hNormPRefIdeal : Cert.NormPRefIdeal.Facts) (hNormS : Cert.NormS.Facts) (hNormSIdeal : Cert.NormSIdeal.Facts) (hNormSRefIdeal : Cert.NormSRefIdeal.Facts) (hNormIn : Cert.NormIn.Facts) (hNormInIdeal : Cert.NormInIdeal.Facts) (hNormInRefIdeal : Cert.NormInRefIdeal.Facts) (hNormMid : Cert.NormMid.Facts) (hNormMidIdeal : Cert.NormMidIdeal.Facts) (hNormMidRefIdeal : Cert.NormMidRefIdeal.Facts) (hFfnDown : Cert.FfnDown.Facts) (hFfnDownIdeal : Cert.FfnDownIdeal.Facts) (hFfnDownRefIdeal : Cert.FfnDownRefIdeal.Facts) (hDsa : Cert.Dsa.Facts),
    quiescent_Kernel (hKernel := hKernel)
    ∧ quiescent_KernelIdeal (hKernelIdeal := hKernelIdeal)
    ∧ quiescent_ReferenceIdeal (hReferenceIdeal := hReferenceIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_ProjRkv (hProjRkv := hProjRkv)
    ∧ quiescent_ProjRkvIdeal (hProjRkvIdeal := hProjRkvIdeal)
    ∧ quiescent_ProjRkvRefIdeal (hProjRkvRefIdeal := hProjRkvRefIdeal)
    ∧ quiescent_ProjKv (hProjKv := hProjKv)
    ∧ quiescent_ProjKvIdeal (hProjKvIdeal := hProjKvIdeal)
    ∧ quiescent_ProjKvRefIdeal (hProjKvRefIdeal := hProjKvRefIdeal)
    ∧ quiescent_ProjGates (hProjGates := hProjGates)
    ∧ quiescent_ProjGatesIdeal (hProjGatesIdeal := hProjGatesIdeal)
    ∧ quiescent_ProjGatesRefIdeal (hProjGatesRefIdeal := hProjGatesRefIdeal)
    ∧ quiescent_ProjQ (hProjQ := hProjQ)
    ∧ quiescent_ProjQIdeal (hProjQIdeal := hProjQIdeal)
    ∧ quiescent_ProjQRefIdeal (hProjQRefIdeal := hProjQRefIdeal)
    ∧ quiescent_ProjQi (hProjQi := hProjQi)
    ∧ quiescent_ProjQiIdeal (hProjQiIdeal := hProjQiIdeal)
    ∧ quiescent_ProjQiRefIdeal (hProjQiRefIdeal := hProjQiRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_NormP (hNormP := hNormP)
    ∧ quiescent_NormPIdeal (hNormPIdeal := hNormPIdeal)
    ∧ quiescent_NormPRefIdeal (hNormPRefIdeal := hNormPRefIdeal)
    ∧ quiescent_NormS (hNormS := hNormS)
    ∧ quiescent_NormSIdeal (hNormSIdeal := hNormSIdeal)
    ∧ quiescent_NormSRefIdeal (hNormSRefIdeal := hNormSRefIdeal)
    ∧ quiescent_NormIn (hNormIn := hNormIn)
    ∧ quiescent_NormInIdeal (hNormInIdeal := hNormInIdeal)
    ∧ quiescent_NormInRefIdeal (hNormInRefIdeal := hNormInRefIdeal)
    ∧ quiescent_NormMid (hNormMid := hNormMid)
    ∧ quiescent_NormMidIdeal (hNormMidIdeal := hNormMidIdeal)
    ∧ quiescent_NormMidRefIdeal (hNormMidRefIdeal := hNormMidRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_Dsa (hDsa := hDsa)
    ∧ preserves_Kernel_KernelIdeal
    ∧ preserves_FfnUp_FfnUpIdeal
    ∧ algebraic_FfnUpIdeal_FfnUpRefIdeal (hFfnUpIdeal := hFfnUpIdeal) (hFfnUpRefIdeal := hFfnUpRefIdeal)
    ∧ preserves_ProjRkv_ProjRkvIdeal
    ∧ algebraic_ProjRkvIdeal_ProjRkvRefIdeal (hProjRkvIdeal := hProjRkvIdeal) (hProjRkvRefIdeal := hProjRkvRefIdeal)
    ∧ preserves_ProjKv_ProjKvIdeal
    ∧ algebraic_ProjKvIdeal_ProjKvRefIdeal (hProjKvIdeal := hProjKvIdeal) (hProjKvRefIdeal := hProjKvRefIdeal)
    ∧ preserves_ProjGates_ProjGatesIdeal
    ∧ algebraic_ProjGatesIdeal_ProjGatesRefIdeal (hProjGatesIdeal := hProjGatesIdeal) (hProjGatesRefIdeal := hProjGatesRefIdeal)
    ∧ preserves_ProjQ_ProjQIdeal
    ∧ algebraic_ProjQIdeal_ProjQRefIdeal (hProjQIdeal := hProjQIdeal) (hProjQRefIdeal := hProjQRefIdeal)
    ∧ preserves_ProjQi_ProjQiIdeal
    ∧ algebraic_ProjQiIdeal_ProjQiRefIdeal (hProjQiIdeal := hProjQiIdeal) (hProjQiRefIdeal := hProjQiRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_NormP_NormPIdeal
    ∧ algebraic_NormPIdeal_NormPRefIdeal (hNormPIdeal := hNormPIdeal) (hNormPRefIdeal := hNormPRefIdeal)
    ∧ preserves_NormS_NormSIdeal
    ∧ algebraic_NormSIdeal_NormSRefIdeal (hNormSIdeal := hNormSIdeal) (hNormSRefIdeal := hNormSRefIdeal)
    ∧ preserves_NormIn_NormInIdeal
    ∧ algebraic_NormInIdeal_NormInRefIdeal (hNormInIdeal := hNormInIdeal) (hNormInRefIdeal := hNormInRefIdeal)
    ∧ preserves_NormMid_NormMidIdeal
    ∧ algebraic_NormMidIdeal_NormMidRefIdeal (hNormMidIdeal := hNormMidIdeal) (hNormMidRefIdeal := hNormMidRefIdeal)
    ∧ preserves_FfnDown_FfnDownIdeal
    ∧ algebraic_FfnDownIdeal_FfnDownRefIdeal (hFfnDownIdeal := hFfnDownIdeal) (hFfnDownRefIdeal := hFfnDownRefIdeal)
-- ==== Kernel.lean ====
abbrev S16896x6592 : Shape := ⟨2, ![16896, 6592]⟩
abbrev S1x8x1x6592 : Shape := ⟨4, ![1, 8, 1, 6592]⟩
abbrev S1x8x32x64x64 : Shape := ⟨5, ![1, 8, 32, 64, 64]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S1x32x64 : Shape := ⟨3, ![1, 32, 64]⟩
abbrev S16896x2048 : Shape := ⟨2, ![16896, 2048]⟩
abbrev S16896x6240 : Shape := ⟨2, ![16896, 6240]⟩
abbrev S_ : Shape := ⟨0, ![]⟩
abbrev S16896x32 : Shape := ⟨2, ![16896, 32]⟩
abbrev S16896x96 : Shape := ⟨2, ![16896, 96]⟩
abbrev S16896x256 : Shape := ⟨2, ![16896, 256]⟩
abbrev S16896x6656 : Shape := ⟨2, ![16896, 6656]⟩
abbrev S6592 : Shape := ⟨1, ![6592]⟩
abbrev S6144 : Shape := ⟨1, ![6144]⟩
abbrev S3x2x1024 : Shape := ⟨3, ![3, 2, 1024]⟩
abbrev S2x3x1024 : Shape := ⟨3, ![2, 3, 1024]⟩
abbrev S2x8x1024 : Shape := ⟨3, ![2, 8, 1024]⟩
abbrev S16x1024 : Shape := ⟨2, ![16, 1024]⟩
abbrev S96 : Shape := ⟨1, ![96]⟩
abbrev S128 : Shape := ⟨1, ![128]⟩
abbrev S256 : Shape := ⟨1, ![256]⟩
abbrev S512 : Shape := ⟨1, ![512]⟩
abbrev S1x512 : Shape := ⟨2, ![1, 512]⟩
abbrev S2048 : Shape := ⟨1, ![2048]⟩
abbrev S32x64 : Shape := ⟨2, ![32, 64]⟩
abbrev S96x2048 : Shape := ⟨2, ![96, 2048]⟩
abbrev S128x2048 : Shape := ⟨2, ![128, 2048]⟩
abbrev S256x2048 : Shape := ⟨2, ![256, 2048]⟩
abbrev S8x1x6592 : Shape := ⟨3, ![8, 1, 6592]⟩
abbrev S8x6592 : Shape := ⟨2, ![8, 6592]⟩
abbrev S8x6144 : Shape := ⟨2, ![8, 6144]⟩
abbrev S8x3x2x1024 : Shape := ⟨4, ![8, 3, 2, 1024]⟩
abbrev S8x2x3x1024 : Shape := ⟨4, ![8, 2, 3, 1024]⟩
abbrev S8x2x8x1024 : Shape := ⟨4, ![8, 2, 8, 1024]⟩
abbrev S8x96 : Shape := ⟨2, ![8, 96]⟩
abbrev S8x128 : Shape := ⟨2, ![8, 128]⟩
abbrev S8x256 : Shape := ⟨2, ![8, 256]⟩
abbrev S8x512 : Shape := ⟨2, ![8, 512]⟩
abbrev S8x1x512 : Shape := ⟨3, ![8, 1, 512]⟩
abbrev S8x32x64x64 : Shape := ⟨4, ![8, 32, 64, 64]⟩
abbrev S8x16x2x64x64 : Shape := ⟨5, ![8, 16, 2, 64, 64]⟩
abbrev S8x16x1x64x64 : Shape := ⟨5, ![8, 16, 1, 64, 64]⟩
abbrev S8x16x64x64 : Shape := ⟨4, ![8, 16, 64, 64]⟩
abbrev S8x16x64x128 : Shape := ⟨4, ![8, 16, 64, 128]⟩
abbrev S8x16x128x128 : Shape := ⟨4, ![8, 16, 128, 128]⟩
abbrev S64x1024 : Shape := ⟨2, ![64, 1024]⟩
abbrev S64x512 : Shape := ⟨2, ![64, 512]⟩
abbrev S1x1x8x1024 : Shape := ⟨4, ![1, 1, 8, 1024]⟩
abbrev S1x1x512 : Shape := ⟨3, ![1, 1, 512]⟩
abbrev S1x8x128x128 : Shape := ⟨4, ![1, 8, 128, 128]⟩
abbrev S8x1024 : Shape := ⟨2, ![8, 1024]⟩
abbrev S1x1024 : Shape := ⟨2, ![1, 1024]⟩
abbrev S128x1024 : Shape := ⟨2, ![128, 1024]⟩
abbrev S256x1024 : Shape := ⟨2, ![256, 1024]⟩
abbrev S8x128x128 : Shape := ⟨3, ![8, 128, 128]⟩
abbrev S1x128 : Shape := ⟨2, ![1, 128]⟩
abbrev S128x128 : Shape := ⟨2, ![128, 128]⟩
abbrev S64x128 : Shape := ⟨2, ![64, 128]⟩
abbrev S64x256 : Shape := ⟨2, ![64, 256]⟩
abbrev S256x128 : Shape := ⟨2, ![256, 128]⟩
abbrev S64 : Shape := ⟨1, ![64]⟩
abbrev S64x1 : Shape := ⟨2, ![64, 1]⟩
abbrev S1x128x128 : Shape := ⟨3, ![1, 128, 128]⟩
abbrev S128x1 : Shape := ⟨2, ![128, 1]⟩
abbrev S256x256 : Shape := ⟨2, ![256, 256]⟩
abbrev S128x256 : Shape := ⟨2, ![128, 256]⟩

abbrev nBuf : Space → Nat
  | .hbm => 112
  | .vmem => 44
  | .smem => 0
  | _ => 0

abbrev bufTy : (tb : Table) → Fin (tcTables nBuf tb) → BufTy
  | .hbm, ⟨0, _⟩ => ⟨S16896x6592, .f32⟩
  | .hbm, ⟨1, _⟩ => ⟨S1x8x1x6592, .f32⟩
  | .hbm, ⟨2, _⟩ => ⟨S1x8x32x64x64, .f32⟩
  | .hbm, ⟨3, _⟩ => ⟨S1x6592, .f32⟩
  | .hbm, ⟨4, _⟩ => ⟨S1x2048, .f32⟩
  | .hbm, ⟨5, _⟩ => ⟨S1x96x2048, .f32⟩
  | .hbm, ⟨6, _⟩ => ⟨S1x2048, .f32⟩
  | .hbm, ⟨7, _⟩ => ⟨S1x96x2048, .f32⟩
  | .hbm, ⟨8, _⟩ => ⟨S1x256x2048, .f32⟩
  | .hbm, ⟨9, _⟩ => ⟨S1x2048, .f32⟩
  | .hbm, ⟨10, _⟩ => ⟨S1x2048, .f32⟩
  | .hbm, ⟨11, _⟩ => ⟨S1x32x64, .f32⟩
  | .hbm, ⟨12, _⟩ => ⟨S1x2048, .f32⟩
  | .hbm, ⟨13, _⟩ => ⟨S1x2048, .f32⟩
  | .hbm, ⟨14, _⟩ => ⟨S16896x2048, .bf16⟩
  | .hbm, ⟨15, _⟩ => ⟨S16896x6240, .f32⟩
  | .hbm, ⟨16, _⟩ => ⟨S_, .f32⟩
  | .hbm, ⟨17, _⟩ => ⟨S16896x32, .f32⟩
  | .hbm, ⟨18, _⟩ => ⟨S16896x96, .f32⟩
  | .hbm, ⟨19, _⟩ => ⟨S_, .f32⟩
  | .hbm, ⟨20, _⟩ => ⟨S16896x32, .f32⟩
  | .hbm, ⟨21, _⟩ => ⟨S16896x256, .f32⟩
  | .hbm, ⟨22, _⟩ => ⟨S16896x6656, .f32⟩
  | .hbm, ⟨23, _⟩ => ⟨S6592, .f32⟩
  | .hbm, ⟨24, _⟩ => ⟨S6144, .f32⟩
  | .hbm, ⟨25, _⟩ => ⟨S3x2x1024, .f32⟩
  | .hbm, ⟨26, _⟩ => ⟨S2x3x1024, .f32⟩
  | .hbm, ⟨27, _⟩ => ⟨S_, .i32⟩
  | .hbm, ⟨28, _⟩ => ⟨S_, .f32⟩
  | .hbm, ⟨29, _⟩ => ⟨S2x8x1024, .f32⟩
  | .hbm, ⟨30, _⟩ => ⟨S16x1024, .f32⟩
  | .hbm, ⟨31, _⟩ => ⟨S96, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S96, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S256, .f32⟩
  | .hbm, ⟨40, _⟩ => ⟨S_, .i32⟩
  | .hbm, ⟨41, _⟩ => ⟨S_, .f32⟩
  | .hbm, ⟨42, _⟩ => ⟨S256, .f32⟩
  | .hbm, ⟨43, _⟩ => ⟨S512, .f32⟩
  | .hbm, ⟨44, _⟩ => ⟨S1x512, .f32⟩
  | .hbm, ⟨45, _⟩ => ⟨S2048, .f32⟩
  | .hbm, ⟨46, _⟩ => ⟨S1x2048, .f32⟩
  | .hbm, ⟨47, _⟩ => ⟨S2048, .f32⟩
  | .hbm, ⟨48, _⟩ => ⟨S1x2048, .f32⟩
  | .hbm, ⟨49, _⟩ => ⟨S2048, .f32⟩
  | .hbm, ⟨50, _⟩ => ⟨S1x2048, .f32⟩
  | .hbm, ⟨51, _⟩ => ⟨S2048, .f32⟩
  | .hbm, ⟨52, _⟩ => ⟨S1x2048, .f32⟩
  | .hbm, ⟨53, _⟩ => ⟨S32x64, .f32⟩
  | .hbm, ⟨54, _⟩ => ⟨S1x2048, .f32⟩
  | .hbm, ⟨55, _⟩ => ⟨S2048, .f32⟩
  | .hbm, ⟨56, _⟩ => ⟨S1x2048, .f32⟩
  | .hbm, ⟨57, _⟩ => ⟨S2048, .f32⟩
  | .hbm, ⟨58, _⟩ => ⟨S1x2048, .f32⟩
  | .hbm, ⟨59, _⟩ => ⟨S96x2048, .f32⟩
  | .hbm, ⟨60, _⟩ => ⟨S_, .i32⟩
  | .hbm, ⟨61, _⟩ => ⟨S_, .f32⟩
  | .hbm, ⟨62, _⟩ => ⟨S128x2048, .f32⟩
  | .hbm, ⟨63, _⟩ => ⟨S128x2048, .bf16⟩
  | .hbm, ⟨64, _⟩ => ⟨S96x2048, .f32⟩
  | .hbm, ⟨65, _⟩ => ⟨S_, .i32⟩
  | .hbm, ⟨66, _⟩ => ⟨S_, .f32⟩
  | .hbm, ⟨67, _⟩ => ⟨S128x2048, .f32⟩
  | .hbm, ⟨68, _⟩ => ⟨S128x2048, .bf16⟩
  | .hbm, ⟨69, _⟩ => ⟨S256x2048, .f32⟩
  | .hbm, ⟨70, _⟩ => ⟨S_, .i32⟩
  | .hbm, ⟨71, _⟩ => ⟨S_, .f32⟩
  | .hbm, ⟨72, _⟩ => ⟨S256x2048, .f32⟩
  | .hbm, ⟨73, _⟩ => ⟨S256x2048, .bf16⟩
  | .hbm, ⟨74, _⟩ => ⟨S8x1x6592, .f32⟩
  | .hbm, ⟨75, _⟩ => ⟨S8x6592, .f32⟩
  | .hbm, ⟨76, _⟩ => ⟨S8x6144, .f32⟩
  | .hbm, ⟨77, _⟩ => ⟨S8x3x2x1024, .f32⟩
  | .hbm, ⟨78, _⟩ => ⟨S8x2x3x1024, .f32⟩
  | .hbm, ⟨79, _⟩ => ⟨S_, .i32⟩
  | .hbm, ⟨80, _⟩ => ⟨S_, .f32⟩
  | .hbm, ⟨81, _⟩ => ⟨S8x2x8x1024, .f32⟩
  | .hbm, ⟨82, _⟩ => ⟨S8x96, .f32⟩
  | .hbm, ⟨83, _⟩ => ⟨S_, .i32⟩
  | .hbm, ⟨84, _⟩ => ⟨S_, .f32⟩
  | .hbm, ⟨85, _⟩ => ⟨S8x128, .f32⟩
  | .hbm, ⟨86, _⟩ => ⟨S8x96, .f32⟩
  | .hbm, ⟨87, _⟩ => ⟨S_, .i32⟩
  | .hbm, ⟨88, _⟩ => ⟨S_, .f32⟩
  | .hbm, ⟨89, _⟩ => ⟨S8x128, .f32⟩
  | .hbm, ⟨90, _⟩ => ⟨S8x256, .f32⟩
  | .hbm, ⟨91, _⟩ => ⟨S_, .i32⟩
  | .hbm, ⟨92, _⟩ => ⟨S_, .f32⟩
  | .hbm, ⟨93, _⟩ => ⟨S8x256, .f32⟩
  | .hbm, ⟨94, _⟩ => ⟨S8x512, .f32⟩
  | .hbm, ⟨95, _⟩ => ⟨S8x1x512, .f32⟩
  | .hbm, ⟨96, _⟩ => ⟨S8x32x64x64, .f32⟩
  | .hbm, ⟨97, _⟩ => ⟨S8x32x64x64, .f32⟩
  | .hbm, ⟨98, _⟩ => ⟨S8x16x2x64x64, .f32⟩
  | .hbm, ⟨99, _⟩ => ⟨S8x16x1x64x64, .f32⟩
  | .hbm, ⟨100, _⟩ => ⟨S8x16x64x64, .f32⟩
  | .hbm, ⟨101, _⟩ => ⟨S_, .f32⟩
  | .hbm, ⟨102, _⟩ => ⟨S8x16x64x64, .f32⟩
  | .hbm, ⟨103, _⟩ => ⟨S8x16x1x64x64, .f32⟩
  | .hbm, ⟨104, _⟩ => ⟨S8x16x64x64, .f32⟩
  | .hbm, ⟨105, _⟩ => ⟨S8x16x64x128, .f32⟩
  | .hbm, ⟨106, _⟩ => ⟨S8x16x1x64x64, .f32⟩
  | .hbm, ⟨107, _⟩ => ⟨S8x16x64x64, .f32⟩
  | .hbm, ⟨108, _⟩ => ⟨S8x16x64x128, .f32⟩
  | .hbm, ⟨109, _⟩ => ⟨S8x16x128x128, .f32⟩
  | .hbm, ⟨110, _⟩ => ⟨S16896x2048, .bf16⟩
  | .hbm, ⟨111, _⟩ => ⟨S8x16x128x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x512, .f32⟩
  | .local _ .vmem, ⟨7, _⟩ => ⟨S64x512, .f32⟩
  | .local _ .vmem, ⟨8, _⟩ => ⟨S1x1x8x1024, .f32⟩
  | .local _ .vmem, ⟨9, _⟩ => ⟨S1x1x8x1024, .f32⟩
  | .local _ .vmem, ⟨10, _⟩ => ⟨S1x1x512, .f32⟩
  | .local _ .vmem, ⟨11, _⟩ => ⟨S1x1x512, .f32⟩
  | .local _ .vmem, ⟨12, _⟩ => ⟨S1x8x128x128, .f32⟩
  | .local _ .vmem, ⟨13, _⟩ => ⟨S1x8x128x128, .f32⟩
  | .local _ .vmem, ⟨14, _⟩ => ⟨S8x1024, .f32⟩
  | .local _ .vmem, ⟨15, _⟩ => ⟨S8x1024, .f32⟩
  | .local _ .vmem, ⟨16, _⟩ => ⟨S1x512, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x1024, .f32⟩
  | .local _ .vmem, ⟨30, _⟩ => ⟨S1x1024, .f32⟩
  | .local _ .vmem, ⟨31, _⟩ => ⟨S128x1024, .bf16⟩
  | .local _ .vmem, ⟨32, _⟩ => ⟨S128x1024, .bf16⟩
  | .local _ .vmem, ⟨33, _⟩ => ⟨S128x1024, .bf16⟩
  | .local _ .vmem, ⟨34, _⟩ => ⟨S128x1024, .bf16⟩
  | .local _ .vmem, ⟨35, _⟩ => ⟨S256x1024, .bf16⟩
  | .local _ .vmem, ⟨36, _⟩ => ⟨S256x1024, .bf16⟩
  | .local _ .vmem, ⟨37, _⟩ => ⟨S64x1024, .bf16⟩
  | .local _ .vmem, ⟨38, _⟩ => ⟨S64x1024, .bf16⟩
  | .local _ .vmem, ⟨39, _⟩ => ⟨S1x8x128x128, .f32⟩
  | .local _ .vmem, ⟨40, _⟩ => ⟨S1x8x128x128, .f32⟩
  | .local _ .vmem, ⟨41, _⟩ => ⟨S8x128x128, .f32⟩
  | .local _ .vmem, ⟨42, _⟩ => ⟨S8x1024, .f32⟩
  | .local _ .vmem, ⟨43, _⟩ => ⟨S1x512, .f32⟩
  | _, _ => ⟨S16896x6592, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_call0_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_1 : Ref sig .tc := ⟨.hbm, 32, rfl⟩
abbrev main_call1_v0 : Ref sig .tc := ⟨.hbm, 33, rfl⟩
abbrev main_v13 : Ref sig .tc := ⟨.hbm, 34, rfl⟩
abbrev main_v14 : Ref sig .tc := ⟨.hbm, 35, rfl⟩
abbrev main_c_2 : Ref sig .tc := ⟨.hbm, 36, rfl⟩
abbrev main_call2_v0 : Ref sig .tc := ⟨.hbm, 37, rfl⟩
abbrev main_v15 : Ref sig .tc := ⟨.hbm, 38, rfl⟩
abbrev main_v16 : Ref sig .tc := ⟨.hbm, 39, rfl⟩
abbrev main_c_3 : Ref sig .tc := ⟨.hbm, 40, rfl⟩
abbrev main_call3_v0 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_4 : Ref sig .tc := ⟨.hbm, 60, rfl⟩
abbrev main_call4_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_5 : Ref sig .tc := ⟨.hbm, 65, rfl⟩
abbrev main_call5_v0 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_6 : Ref sig .tc := ⟨.hbm, 70, rfl⟩
abbrev main_call6_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_c_7 : Ref sig .tc := ⟨.hbm, 79, rfl⟩
abbrev main_call7_v0 : Ref sig .tc := ⟨.hbm, 80, rfl⟩
abbrev main_v48 : Ref sig .tc := ⟨.hbm, 81, rfl⟩
abbrev main_v49 : Ref sig .tc := ⟨.hbm, 82, rfl⟩
abbrev main_c_8 : Ref sig .tc := ⟨.hbm, 83, rfl⟩
abbrev main_call8_v0 : Ref sig .tc := ⟨.hbm, 84, rfl⟩
abbrev main_v50 : Ref sig .tc := ⟨.hbm, 85, rfl⟩
abbrev main_v51 : Ref sig .tc := ⟨.hbm, 86, rfl⟩
abbrev main_c_9 : Ref sig .tc := ⟨.hbm, 87, rfl⟩
abbrev main_call9_v0 : Ref sig .tc := ⟨.hbm, 88, rfl⟩
abbrev main_v52 : Ref sig .tc := ⟨.hbm, 89, rfl⟩
abbrev main_v53 : Ref sig .tc := ⟨.hbm, 90, rfl⟩
abbrev main_c_10 : Ref sig .tc := ⟨.hbm, 91, rfl⟩
abbrev main_call10_v0 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_11 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70_0 : Ref sig .tc := ⟨.hbm, 110, rfl⟩
abbrev main_v70_1 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg16_1 : Ref sig .tc := ⟨.vmem, 32, rfl⟩
abbrev cc0_stg17_0 : Ref sig .tc := ⟨.vmem, 33, rfl⟩
abbrev cc0_stg17_1 : Ref sig .tc := ⟨.vmem, 34, rfl⟩
abbrev cc0_stg18_0 : Ref sig .tc := ⟨.vmem, 35, rfl⟩
abbrev cc0_stg18_1 : Ref sig .tc := ⟨.vmem, 36, rfl⟩
abbrev cc0_stg19_0 : Ref sig .tc := ⟨.vmem, 37, rfl⟩
abbrev cc0_stg19_1 : Ref sig .tc := ⟨.vmem, 38, rfl⟩
abbrev cc0_stg20_0 : Ref sig .tc := ⟨.vmem, 39, rfl⟩
abbrev cc0_stg20_1 : Ref sig .tc := ⟨.vmem, 40, rfl⟩
abbrev cc0_scratch0 : Ref sig .tc := ⟨.vmem, 41, rfl⟩
abbrev cc0_scratch1 : Ref sig .tc := ⟨.vmem, 42, rfl⟩
abbrev cc0_scratch2 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_981 : BitVec 32 := 0#32
  let v3301 : BitVec 1 := Scalar.cmpi .eq arg2 c0_i32_981
  let v3302 : BitVec 32 := Scalar.extui v3301
  let c0_i32_982 : BitVec 32 := 0#32
  let v3303 : BitVec 1 := Scalar.cmpi .ne v3302 c0_i32_982
  v3303

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c2_i32 : BitVec 32 := 2#32
  let v3 : BitVec 32 := Scalar.addi c2_i32 arg1
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c4_i32 : BitVec 32 := 4#32
  let v3 : BitVec 32 := Scalar.addi c4_i32 arg1
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c12_i32 : BitVec 32 := 12#32
  let c0_i32 : BitVec 32 := 0#32
  ![v2.toNat, c12_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_20 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg2
  let c0_i32 : BitVec 32 := 0#32
  ![v2.toNat, arg1.toNat]

def cc0_transform_21 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true, false]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true, false]

abbrev stage0_17 : Fin 2 → Memref sig .tc .vmem S128x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true, false]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true, false]

abbrev stage0_19 : Fin 2 → Memref sig .tc .vmem S64x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x8x128x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, false]
-- ==== ReferenceIdeal.lean ====
abbrev S16896x6592 : Shape := ⟨2, ![16896, 6592]⟩
abbrev S1x8x1x6592 : Shape := ⟨4, ![1, 8, 1, 6592]⟩
abbrev S1x8x32x64x64 : Shape := ⟨5, ![1, 8, 32, 64, 64]⟩
abbrev S1x6592 : Shape := ⟨2, ![1, 6592]⟩
abbrev S1x2048 : Shape := ⟨2, ![1, 2048]⟩
abbrev S1x96x2048 : Shape := ⟨3, ![1, 96, 2048]⟩
abbrev S1x256x2048 : Shape := ⟨3, ![1, 256, 2048]⟩
abbrev S1x32x64 : Shape := ⟨3, ![1, 32, 64]⟩
abbrev S16896x2048 : Shape := ⟨2, ![16896, 2048]⟩
abbrev S512x6592 : Shape := ⟨2, ![512, 6592]⟩
abbrev S8x64x6592 : Shape := ⟨3, ![8, 64, 6592]⟩
abbrev S8x1x6592 : Shape := ⟨3, ![8, 1, 6592]⟩
abbrev S8x63x6592 : Shape := ⟨3, ![8, 63, 6592]⟩
abbrev S6592 : Shape := ⟨1, ![6592]⟩
abbrev S1x1x6592 : Shape := ⟨3, ![1, 1, 6592]⟩
abbrev S8x64x2048 : Shape := ⟨3, ![8, 64, 2048]⟩
abbrev S8x64x96 : Shape := ⟨3, ![8, 64, 96]⟩
abbrev S8x64x256 : Shape := ⟨3, ![8, 64, 256]⟩
abbrev S2048 : Shape := ⟨1, ![2048]⟩
abbrev S96x2048 : Shape := ⟨2, ![96, 2048]⟩
abbrev S1x1x2048 : Shape := ⟨3, ![1, 1, 2048]⟩
abbrev S_ : Shape := ⟨0, ![]⟩
abbrev S256x2048 : Shape := ⟨2, ![256, 2048]⟩
abbrev S8x64x32x64 : Shape := ⟨4, ![8, 64, 32, 64]⟩
abbrev S8x64x32 : Shape := ⟨3, ![8, 64, 32]⟩
abbrev S8x64x32x1 : Shape := ⟨4, ![8, 64, 32, 1]⟩
abbrev S64x8x32x64 : Shape := ⟨4, ![64, 8, 32, 64]⟩
abbrev S8x32x64x64 : Shape := ⟨4, ![8, 32, 64, 64]⟩
abbrev S1x8x32x64 : Shape := ⟨4, ![1, 8, 32, 64]⟩
abbrev S8x32x64 : Shape := ⟨3, ![8, 32, 64]⟩
abbrev S8x32x1x64 : Shape := ⟨4, ![8, 32, 1, 64]⟩
abbrev S8x32x64x1 : Shape := ⟨4, ![8, 32, 64, 1]⟩
abbrev S32x64 : Shape := ⟨2, ![32, 64]⟩
abbrev S1x1x32x64 : Shape := ⟨4, ![1, 1, 32, 64]⟩
abbrev S16384x2048 : Shape := ⟨2, ![16384, 2048]⟩
abbrev S512x2048 : Shape := ⟨2, ![512, 2048]⟩
abbrev S8x16x2x64x64 : Shape := ⟨5, ![8, 16, 2, 64, 64]⟩
abbrev S8x16x1x64x64 : Shape := ⟨5, ![8, 16, 1, 64, 64]⟩
abbrev S8x16x64x64 : Shape := ⟨4, ![8, 16, 64, 64]⟩
abbrev S8x16x64x128 : Shape := ⟨4, ![8, 16, 64, 128]⟩
abbrev S8x16x128x128 : Shape := ⟨4, ![8, 16, 128, 128]⟩

abbrev nBuf : Space → Nat
  | .hbm => 256
  | .vmem => 0
  | .smem => 0
  | _ => 0

abbrev hbmTy0_0 (i : Nat) : BufTy := match i % 128 with
  | 0 => ⟨S16896x6592, .f32⟩
  | 1 => ⟨S1x8x1x6592, .f32⟩
  | 2 => ⟨S1x8x32x64x64, .f32⟩
  | 3 => ⟨S1x6592, .f32⟩
  | 4 => ⟨S1x2048, .f32⟩
  | 5 => ⟨S1x96x2048, .f32⟩
  | 6 => ⟨S1x2048, .f32⟩
  | 7 => ⟨S1x96x2048, .f32⟩
  | 8 => ⟨S1x256x2048, .f32⟩
  | 9 => ⟨S1x2048, .f32⟩
  | 10 => ⟨S1x2048, .f32⟩
  | 11 => ⟨S1x32x64, .f32⟩
  | 12 => ⟨S1x2048, .f32⟩
  | 13 => ⟨S1x2048, .f32⟩
  | 14 => ⟨S16896x2048, .bf16⟩
  | 15 => ⟨S512x6592, .f32⟩
  | 16 => ⟨S8x64x6592, .f32⟩
  | 17 => ⟨S8x1x6592, .f32⟩
  | 18 => ⟨S8x63x6592, .f32⟩
  | 19 => ⟨S8x64x6592, .f32⟩
  | 20 => ⟨S8x64x6592, .f32⟩
  | 21 => ⟨S6592, .f32⟩
  | 22 => ⟨S1x1x6592, .f32⟩
  | 23 => ⟨S8x64x6592, .f32⟩
  | 24 => ⟨S8x64x6592, .f32⟩
  | 25 => ⟨S8x64x6592, .f32⟩
  | 26 => ⟨S8x64x2048, .f32⟩
  | 27 => ⟨S8x64x2048, .f32⟩
  | 28 => ⟨S8x64x2048, .f32⟩
  | 29 => ⟨S8x64x96, .f32⟩
  | 30 => ⟨S8x64x96, .f32⟩
  | 31 => ⟨S8x64x256, .f32⟩
  | 32 => ⟨S2048, .f32⟩
  | 33 => ⟨S8x64x96, .f32⟩
  | 34 => ⟨S96x2048, .f32⟩
  | 35 => ⟨S8x64x2048, .f32⟩
  | 36 => ⟨S1x1x2048, .f32⟩
  | 37 => ⟨S8x64x2048, .f32⟩
  | 38 => ⟨S8x64x2048, .f32⟩
  | 39 => ⟨S8x64x2048, .f32⟩
  | 40 => ⟨S_, .f32⟩
  | 41 => ⟨S8x64x2048, .f32⟩
  | 42 => ⟨S8x64x2048, .f32⟩
  | 43 => ⟨S8x64x2048, .f32⟩
  | 44 => ⟨S8x64x2048, .f32⟩
  | 45 => ⟨S8x64x2048, .i1⟩
  | 46 => ⟨S8x64x2048, .f32⟩
  | 47 => ⟨S8x64x2048, .f32⟩
  | 48 => ⟨S8x64x2048, .f32⟩
  | 49 => ⟨S8x64x2048, .f32⟩
  | 50 => ⟨S8x64x2048, .f32⟩
  | 51 => ⟨S8x64x2048, .f32⟩
  | 52 => ⟨S8x64x2048, .f32⟩
  | 53 => ⟨S8x64x2048, .f32⟩
  | 54 => ⟨S8x64x2048, .f32⟩
  | 55 => ⟨S_, .f32⟩
  | 56 => ⟨S8x64x2048, .f32⟩
  | 57 => ⟨S8x64x2048, .f32⟩
  | 58 => ⟨S8x64x2048, .f32⟩
  | 59 => ⟨S8x64x2048, .f32⟩
  | 60 => ⟨S8x64x2048, .f32⟩
  | 61 => ⟨S2048, .f32⟩
  | 62 => ⟨S96x2048, .f32⟩
  | 63 => ⟨S8x64x2048, .f32⟩
  | 64 => ⟨S1x1x2048, .f32⟩
  | 65 => ⟨S8x64x2048, .f32⟩
  | 66 => ⟨S8x64x2048, .f32⟩
  | 67 => ⟨S8x64x2048, .f32⟩
  | 68 => ⟨S8x64x2048, .f32⟩
  | 69 => ⟨S_, .f32⟩
  | 70 => ⟨S8x64x2048, .f32⟩
  | 71 => ⟨S8x64x2048, .f32⟩
  | 72 => ⟨S_, .f32⟩
  | 73 => ⟨S8x64x2048, .f32⟩
  | 74 => ⟨S8x64x2048, .f32⟩
  | 75 => ⟨S8x64x256, .f32⟩
  | 76 => ⟨S8x64x256, .f32⟩
  | 77 => ⟨S_, .f32⟩
  | 78 => ⟨S8x64x256, .f32⟩
  | 79 => ⟨S8x64x256, .f32⟩
  | 80 => ⟨S_, .f32⟩
  | 81 => ⟨S8x64x256, .f32⟩
  | 82 => ⟨S8x64x256, .f32⟩
  | 83 => ⟨S256x2048, .f32⟩
  | 84 => ⟨S8x64x2048, .f32⟩
  | 85 => ⟨S2048, .f32⟩
  | 86 => ⟨S1x1x2048, .f32⟩
  | 87 => ⟨S8x64x2048, .f32⟩
  | 88 => ⟨S8x64x2048, .f32⟩
  | 89 => ⟨S8x64x32x64, .f32⟩
  | 90 => ⟨S8x64x32x64, .f32⟩
  | 91 => ⟨S_, .f32⟩
  | 92 => ⟨S8x64x32, .f32⟩
  | 93 => ⟨S8x64x32x1, .f32⟩
  | 94 => ⟨S8x64x32x1, .f32⟩
  | 95 => ⟨S_, .f32⟩
  | 96 => ⟨S8x64x32x1, .f32⟩
  | 97 => ⟨S8x64x32x1, .f32⟩
  | 98 => ⟨S8x64x32x64, .f32⟩
  | 99 => ⟨S8x64x32x64, .f32⟩
  | 100 => ⟨S_, .f32⟩
  | 101 => ⟨S8x64x2048, .f32⟩
  | 102 => ⟨S8x64x2048, .f32⟩
  | 103 => ⟨S2048, .f32⟩
  | 104 => ⟨S1x1x2048, .f32⟩
  | 105 => ⟨S8x64x2048, .f32⟩
  | 106 => ⟨S8x64x2048, .f32⟩
  | 107 => ⟨S_, .f32⟩
  | 108 => ⟨S8x64x2048, .f32⟩
  | 109 => ⟨S8x64x2048, .f32⟩
  | 110 => ⟨S8x64x2048, .f32⟩
  | 111 => ⟨S8x64x32x64, .f32⟩
  | 112 => ⟨S8x64x32x64, .f32⟩
  | 113 => ⟨S8x64x32x64, .f32⟩
  | 114 => ⟨S8x64x32x64, .f32⟩
  | 115 => ⟨S8x64x32x64, .f32⟩
  | 116 => ⟨S64x8x32x64, .f32⟩
  | 117 => ⟨S64x8x32x64, .f32⟩
  | 118 => ⟨S64x8x32x64, .f32⟩
  | 119 => ⟨S64x8x32x64, .f32⟩
  | 120 => ⟨S64x8x32x64, .f32⟩
  | 121 => ⟨S64x8x32x64, .f32⟩
  | 122 => ⟨S8x32x64x64, .f32⟩
  | 123 => ⟨S_, .f32⟩
  | 124 => ⟨S64x8x32x64, .f32⟩
  | 125 => ⟨S_, .i32⟩
  | 126 => ⟨S64x8x32x64, .f32⟩
  | 127 => ⟨S64x8x32x64, .f32⟩
  | _ => ⟨S16896x6592, .f32⟩

abbrev hbmTy0_1 (i : Nat) : BufTy := match i % 128 with
  | 0 => ⟨S64x8x32x64, .f32⟩
  | 1 => ⟨S64x8x32x64, .f32⟩
  | 2 => ⟨S64x8x32x64, .f32⟩
  | 3 => ⟨S64x8x32x64, .f32⟩
  | 4 => ⟨S_, .i32⟩
  | 5 => ⟨S8x32x64x64, .f32⟩
  | 6 => ⟨S64x8x32x64, .f32⟩
  | 7 => ⟨S_, .i32⟩
  | 8 => ⟨S_, .i1⟩
  | 9 => ⟨S_, .i32⟩
  | 10 => ⟨S_, .i32⟩
  | 11 => ⟨S_, .i32⟩
  | 12 => ⟨S1x8x32x64, .f32⟩
  | 13 => ⟨S8x32x64, .f32⟩
  | 14 => ⟨S_, .i32⟩
  | 15 => ⟨S_, .i32⟩
  | 16 => ⟨S_, .i32⟩
  | 17 => ⟨S1x8x32x64, .f32⟩
  | 18 => ⟨S8x32x64, .f32⟩
  | 19 => ⟨S_, .i32⟩
  | 20 => ⟨S_, .i32⟩
  | 21 => ⟨S_, .i32⟩
  | 22 => ⟨S1x8x32x64, .f32⟩
  | 23 => ⟨S8x32x64, .f32⟩
  | 24 => ⟨S_, .i32⟩
  | 25 => ⟨S_, .i32⟩
  | 26 => ⟨S_, .i32⟩
  | 27 => ⟨S1x8x32x64, .f32⟩
  | 28 => ⟨S8x32x64, .f32⟩
  | 29 => ⟨S_, .i32⟩
  | 30 => ⟨S_, .i32⟩
  | 31 => ⟨S_, .i32⟩
  | 32 => ⟨S1x8x32x64, .f32⟩
  | 33 => ⟨S8x32x64, .f32⟩
  | 34 => ⟨S_, .i32⟩
  | 35 => ⟨S_, .i32⟩
  | 36 => ⟨S_, .i32⟩
  | 37 => ⟨S1x8x32x64, .f32⟩
  | 38 => ⟨S8x32x64, .f32⟩
  | 39 => ⟨S8x32x64, .f32⟩
  | 40 => ⟨S8x32x64, .f32⟩
  | 41 => ⟨S8x32x1x64, .f32⟩
  | 42 => ⟨S8x32x64x64, .f32⟩
  | 43 => ⟨S8x32x64x64, .f32⟩
  | 44 => ⟨S8x32x64x1, .f32⟩
  | 45 => ⟨S8x32x64, .f32⟩
  | 46 => ⟨S8x32x1x64, .f32⟩
  | 47 => ⟨S8x32x64x64, .f32⟩
  | 48 => ⟨S8x32x64x64, .f32⟩
  | 49 => ⟨S8x32x64x64, .f32⟩
  | 50 => ⟨S8x32x64x64, .f32⟩
  | 51 => ⟨S8x32x64x1, .f32⟩
  | 52 => ⟨S8x32x1x64, .f32⟩
  | 53 => ⟨S8x32x64x64, .f32⟩
  | 54 => ⟨S8x32x64x64, .f32⟩
  | 55 => ⟨S8x32x64x64, .f32⟩
  | 56 => ⟨S8x32x64x64, .f32⟩
  | 57 => ⟨S8x32x64, .f32⟩
  | 58 => ⟨S1x8x32x64, .f32⟩
  | 59 => ⟨S_, .i32⟩
  | 60 => ⟨S_, .i32⟩
  | 61 => ⟨S_, .i32⟩
  | 62 => ⟨S64x8x32x64, .f32⟩
  | 63 => ⟨S_, .i32⟩
  | 64 => ⟨S_, .i32⟩
  | 65 => ⟨S8x64x32x64, .f32⟩
  | 66 => ⟨S_, .f32⟩
  | 67 => ⟨S8x64x32, .f32⟩
  | 68 => ⟨S8x64x32x1, .f32⟩
  | 69 => ⟨S_, .f32⟩
  | 70 => ⟨S8x64x32x1, .f32⟩
  | 71 => ⟨S8x64x32x1, .f32⟩
  | 72 => ⟨S8x64x32x64, .f32⟩
  | 73 => ⟨S8x64x32x64, .f32⟩
  | 74 => ⟨S8x64x32x64, .f32⟩
  | 75 => ⟨S_, .f32⟩
  | 76 => ⟨S8x64x32, .f32⟩
  | 77 => ⟨S8x64x32x1, .f32⟩
  | 78 => ⟨S_, .f32⟩
  | 79 => ⟨S8x64x32x1, .f32⟩
  | 80 => ⟨S8x64x32x1, .f32⟩
  | 81 => ⟨S8x64x32x64, .f32⟩
  | 82 => ⟨S8x64x32x64, .f32⟩
  | 83 => ⟨S_, .f32⟩
  | 84 => ⟨S8x64x32x1, .f32⟩
  | 85 => ⟨S8x64x32x1, .f32⟩
  | 86 => ⟨S8x64x32x1, .f32⟩
  | 87 => ⟨S8x64x32x64, .f32⟩
  | 88 => ⟨S8x64x32x64, .f32⟩
  | 89 => ⟨S8x64x2048, .f32⟩
  | 90 => ⟨S2048, .f32⟩
  | 91 => ⟨S1x1x2048, .f32⟩
  | 92 => ⟨S8x64x2048, .f32⟩
  | 93 => ⟨S8x64x2048, .f32⟩
  | 94 => ⟨S2048, .f32⟩
  | 95 => ⟨S1x1x2048, .f32⟩
  | 96 => ⟨S8x64x2048, .f32⟩
  | 97 => ⟨S8x64x2048, .f32⟩
  | 98 => ⟨S8x64x32x64, .f32⟩
  | 99 => ⟨S32x64, .f32⟩
  | 100 => ⟨S1x1x32x64, .f32⟩
  | 101 => ⟨S8x64x32x64, .f32⟩
  | 102 => ⟨S8x64x32x64, .f32⟩
  | 103 => ⟨S_, .f32⟩
  | 104 => ⟨S8x64x32, .f32⟩
  | 105 => ⟨S8x64x32x1, .f32⟩
  | 106 => ⟨S8x64x32x64, .f32⟩
  | 107 => ⟨S8x64x32x64, .f32⟩
  | 108 => ⟨S8x64x2048, .f32⟩
  | 109 => ⟨S8x64x2048, .f32⟩
  | 110 => ⟨S8x64x2048, .f32⟩
  | 111 => ⟨S16384x2048, .bf16⟩
  | 112 => ⟨S512x2048, .f32⟩
  | 113 => ⟨S512x2048, .bf16⟩
  | 114 => ⟨S16896x2048, .bf16⟩
  | 115 => ⟨S8x32x64x64, .f32⟩
  | 116 => ⟨S8x16x2x64x64, .f32⟩
  | 117 => ⟨S8x16x1x64x64, .f32⟩
  | 118 => ⟨S8x16x64x64, .f32⟩
  | 119 => ⟨S_, .i32⟩
  | 120 => ⟨S_, .f32⟩
  | 121 => ⟨S8x16x64x128, .f32⟩
  | 122 => ⟨S8x16x1x64x64, .f32⟩
  | 123 => ⟨S8x16x64x64, .f32⟩
  | 124 => ⟨S_, .i32⟩
  | 125 => ⟨S_, .f32⟩
  | 126 => ⟨S8x16x64x128, .f32⟩
  | 127 => ⟨S8x16x128x128, .f32⟩
  | _ => ⟨S16896x6592, .f32⟩

abbrev hbmTy (i : Nat) : BufTy := match i / 128 with
  | 0 => hbmTy0_0 i
  | 1 => hbmTy0_1 i
  | _ => ⟨S16896x6592, .f32⟩

abbrev bufTy : (tb : Table) → Fin (tcTables nBuf tb) → BufTy
  | .hbm, ⟨i, _⟩ => hbmTy i
  | _, _ => ⟨S16896x6592, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v25 : Ref sig .tc := ⟨.hbm, 53, rfl⟩
abbrev main_v26 : Ref sig .tc := ⟨.hbm, 54, rfl⟩
abbrev main_cst : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_0 : Ref sig .tc := ⟨.hbm, 69, rfl⟩
abbrev main_v40 : Ref sig .tc := ⟨.hbm, 70, rfl⟩
abbrev main_v41 : Ref sig .tc := ⟨.hbm, 71, rfl⟩
abbrev main_cst_1 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_2 : Ref sig .tc := ⟨.hbm, 77, rfl⟩
abbrev main_v46 : Ref sig .tc := ⟨.hbm, 78, rfl⟩
abbrev main_v47 : Ref sig .tc := ⟨.hbm, 79, rfl⟩
abbrev main_cst_3 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_4 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_5 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_cst_6 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_7 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_8 : Ref sig .tc := ⟨.hbm, 123, rfl⟩
abbrev main_v86 : Ref sig .tc := ⟨.hbm, 124, rfl⟩
abbrev main_c : Ref sig .tc := ⟨.hbm, 125, rfl⟩
abbrev main_v87_0 : Ref sig .tc := ⟨.hbm, 126, rfl⟩
abbrev main_v87_1 : Ref sig .tc := ⟨.hbm, 127, rfl⟩
abbrev main_v87_2 : Ref sig .tc := ⟨.hbm, 128, rfl⟩
abbrev main_v87_3 : Ref sig .tc := ⟨.hbm, 129, rfl⟩
abbrev main_v87_4 : Ref sig .tc := ⟨.hbm, 130, rfl⟩
abbrev main_v87_5 : Ref sig .tc := ⟨.hbm, 131, rfl⟩
abbrev main_v87_6 : Ref sig .tc := ⟨.hbm, 132, rfl⟩
abbrev main_v87_7 : Ref sig .tc := ⟨.hbm, 133, rfl⟩
abbrev main_v87_8 : Ref sig .tc := ⟨.hbm, 134, rfl⟩
abbrev main_while0c_c_25 : Ref sig .tc := ⟨.hbm, 135, rfl⟩
abbrev main_while0c_v141 : Ref sig .tc := ⟨.hbm, 136, rfl⟩
abbrev main_while0b_call1_c : Ref sig .tc := ⟨.hbm, 137, rfl⟩
abbrev main_while0b_call1_c_0 : Ref sig .tc := ⟨.hbm, 138, rfl⟩
abbrev main_while0b_call1_c_1 : Ref sig .tc := ⟨.hbm, 139, rfl⟩
abbrev main_while0b_call1_v0 : Ref sig .tc := ⟨.hbm, 140, rfl⟩
abbrev main_while0b_v141 : Ref sig .tc := ⟨.hbm, 141, rfl⟩
abbrev main_while0b_call2_c : Ref sig .tc := ⟨.hbm, 142, rfl⟩
abbrev main_while0b_call2_c_0 : Ref sig .tc := ⟨.hbm, 143, rfl⟩
abbrev main_while0b_call2_c_1 : Ref sig .tc := ⟨.hbm, 144, rfl⟩
abbrev main_while0b_call2_v0 : Ref sig .tc := ⟨.hbm, 145, rfl⟩
abbrev main_while0b_v142 : Ref sig .tc := ⟨.hbm, 146, rfl⟩
abbrev main_while0b_call3_c : Ref sig .tc := ⟨.hbm, 147, rfl⟩
abbrev main_while0b_call3_c_0 : Ref sig .tc := ⟨.hbm, 148, rfl⟩
abbrev main_while0b_call3_c_1 : Ref sig .tc := ⟨.hbm, 149, rfl⟩
abbrev main_while0b_call3_v0 : Ref sig .tc := ⟨.hbm, 150, rfl⟩
abbrev main_while0b_v143 : Ref sig .tc := ⟨.hbm, 151, rfl⟩
abbrev main_while0b_call4_c : Ref sig .tc := ⟨.hbm, 152, rfl⟩
abbrev main_while0b_call4_c_0 : Ref sig .tc := ⟨.hbm, 153, rfl⟩
abbrev main_while0b_call4_c_1 : Ref sig .tc := ⟨.hbm, 154, rfl⟩
abbrev main_while0b_call4_v0 : Ref sig .tc := ⟨.hbm, 155, rfl⟩
abbrev main_while0b_v144 : Ref sig .tc := ⟨.hbm, 156, rfl⟩
abbrev main_while0b_call5_c : Ref sig .tc := ⟨.hbm, 157, rfl⟩
abbrev main_while0b_call5_c_0 : Ref sig .tc := ⟨.hbm, 158, rfl⟩
abbrev main_while0b_call5_c_1 : Ref sig .tc := ⟨.hbm, 159, rfl⟩
abbrev main_while0b_call5_v0 : Ref sig .tc := ⟨.hbm, 160, rfl⟩
abbrev main_while0b_v145 : Ref sig .tc := ⟨.hbm, 161, rfl⟩
abbrev main_while0b_call6_c : Ref sig .tc := ⟨.hbm, 162, rfl⟩
abbrev main_while0b_call6_c_0 : Ref sig .tc := ⟨.hbm, 163, rfl⟩
abbrev main_while0b_call6_c_1 : Ref sig .tc := ⟨.hbm, 164, rfl⟩
abbrev main_while0b_call6_v0 : Ref sig .tc := ⟨.hbm, 165, rfl⟩
abbrev main_while0b_v146 : Ref sig .tc := ⟨.hbm, 166, rfl⟩
abbrev main_while0b_v147 : Ref sig .tc := ⟨.hbm, 167, rfl⟩
abbrev main_while0b_v148 : Ref sig .tc := ⟨.hbm, 168, rfl⟩
abbrev main_while0b_v149 : Ref sig .tc := ⟨.hbm, 169, rfl⟩
abbrev main_while0b_v150 : Ref sig .tc := ⟨.hbm, 170, rfl⟩
abbrev main_while0b_v151 : Ref sig .tc := ⟨.hbm, 171, rfl⟩
abbrev main_while0b_v152 : Ref sig .tc := ⟨.hbm, 172, rfl⟩
abbrev main_while0b_v153 : Ref sig .tc := ⟨.hbm, 173, rfl⟩
abbrev main_while0b_v154 : Ref sig .tc := ⟨.hbm, 174, rfl⟩
abbrev main_while0b_v155 : Ref sig .tc := ⟨.hbm, 175, rfl⟩
abbrev main_while0b_v156 : Ref sig .tc := ⟨.hbm, 176, rfl⟩
abbrev main_while0b_v157 : Ref sig .tc := ⟨.hbm, 177, rfl⟩
abbrev main_while0b_v158 : Ref sig .tc := ⟨.hbm, 178, rfl⟩
abbrev main_while0b_v159 : Ref sig .tc := ⟨.hbm, 179, rfl⟩
abbrev main_while0b_v160 : Ref sig .tc := ⟨.hbm, 180, rfl⟩
abbrev main_while0b_v161 : Ref sig .tc := ⟨.hbm, 181, rfl⟩
abbrev main_while0b_v162 : Ref sig .tc := ⟨.hbm, 182, rfl⟩
abbrev main_while0b_v163 : Ref sig .tc := ⟨.hbm, 183, rfl⟩
abbrev main_while0b_v164 : Ref sig .tc := ⟨.hbm, 184, rfl⟩
abbrev main_while0b_v165 : Ref sig .tc := ⟨.hbm, 185, rfl⟩
abbrev main_while0b_call7_v0 : Ref sig .tc := ⟨.hbm, 186, rfl⟩
abbrev main_while0b_call7_c : Ref sig .tc := ⟨.hbm, 187, rfl⟩
abbrev main_while0b_call7_c_0 : Ref sig .tc := ⟨.hbm, 188, rfl⟩
abbrev main_while0b_call7_c_1 : Ref sig .tc := ⟨.hbm, 189, rfl⟩
abbrev main_while0b_v166 : Ref sig .tc := ⟨.hbm, 190, rfl⟩
abbrev main_while0b_c_25 : Ref sig .tc := ⟨.hbm, 191, rfl⟩
abbrev main_while0b_v167 : Ref sig .tc := ⟨.hbm, 192, rfl⟩
abbrev main_v88 : Ref sig .tc := ⟨.hbm, 193, rfl⟩
abbrev main_cst_9 : Ref sig .tc := ⟨.hbm, 194, rfl⟩
abbrev main_v89 : Ref sig .tc := ⟨.hbm, 195, rfl⟩
abbrev main_v90 : Ref sig .tc := ⟨.hbm, 196, rfl⟩
abbrev main_cst_10 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_v95 : Ref sig .tc := ⟨.hbm, 202, rfl⟩
abbrev main_cst_11 : Ref sig .tc := ⟨.hbm, 203, rfl⟩
abbrev main_v96 : Ref sig .tc := ⟨.hbm, 204, rfl⟩
abbrev main_v97 : Ref sig .tc := ⟨.hbm, 205, rfl⟩
abbrev main_cst_12 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩
abbrev main_v101 : Ref sig .tc := ⟨.hbm, 210, rfl⟩
abbrev main_cst_13 : Ref sig .tc := ⟨.hbm, 211, rfl⟩
abbrev main_v102 : Ref sig .tc := ⟨.hbm, 212, rfl⟩
abbrev main_v103 : Ref sig .tc := ⟨.hbm, 213, rfl⟩
abbrev main_v104 : Ref sig .tc := ⟨.hbm, 214, rfl⟩
abbrev main_v105 : Ref sig .tc := ⟨.hbm, 215, rfl⟩
abbrev main_v106 : Ref sig .tc := ⟨.hbm, 216, rfl⟩
abbrev main_v107 : Ref sig .tc := ⟨.hbm, 217, rfl⟩
abbrev main_v108 : Ref sig .tc := ⟨.hbm, 218, rfl⟩
abbrev main_v109 : Ref sig .tc := ⟨.hbm, 219, rfl⟩
abbrev main_v110 : Ref sig .tc := ⟨.hbm, 220, rfl⟩
abbrev main_v111 : Ref sig .tc := ⟨.hbm, 221, rfl⟩
abbrev main_v112 : Ref sig .tc := ⟨.hbm, 222, rfl⟩
abbrev main_v113 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_v120 : Ref sig .tc := ⟨.hbm, 230, rfl⟩
abbrev main_cst_14 : Ref sig .tc := ⟨.hbm, 231, rfl⟩
abbrev main_v121 : Ref sig .tc := ⟨.hbm, 232, rfl⟩
abbrev main_v122 : Ref sig .tc := ⟨.hbm, 233, rfl⟩
abbrev main_v123 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_c_15 : Ref sig .tc := ⟨.hbm, 247, rfl⟩
abbrev main_call8_v0 : Ref sig .tc := ⟨.hbm, 248, rfl⟩
abbrev main_v136 : Ref sig .tc := ⟨.hbm, 249, rfl⟩
abbrev main_v137 : Ref sig .tc := ⟨.hbm, 250, rfl⟩
abbrev main_v138 : Ref sig .tc := ⟨.hbm, 251, rfl⟩
abbrev main_c_16 : Ref sig .tc := ⟨.hbm, 252, rfl⟩
abbrev main_call9_v0 : Ref sig .tc := ⟨.hbm, 253, rfl⟩
abbrev main_v139 : Ref sig .tc := ⟨.hbm, 254, rfl⟩
abbrev main_v140 : Ref sig .tc := ⟨.hbm, 255, rfl⟩

abbrev nD : Nat := 1
abbrev τ : Topo := Topo.v7x

variable {F : FTy → Type} [FloatOps F]

abbrev main_while0_count : Scf.Loop 32 := ⟨0#32, 64#32, 1#32⟩
-- ==== FfnUp.lean ====
abbrev S16896x4096 : Shape := ⟨2, ![16896, 4096]⟩
abbrev S1x4096x11008 : Shape := ⟨3, ![1, 4096, 11008]⟩
abbrev S_ : Shape := ⟨0, ![]⟩
abbrev S4096x0 : Shape := ⟨2, ![4096, 0]⟩
abbrev S4096x11008 : Shape := ⟨2, ![4096, 11008]⟩
abbrev S16896x11008 : Shape := ⟨2, ![16896, 11008]⟩
abbrev S1536x4096 : Shape := ⟨2, ![1536, 4096]⟩
abbrev S4096x256 : Shape := ⟨2, ![4096, 256]⟩
abbrev S1536x256 : Shape := ⟨2, ![1536, 256]⟩

abbrev nBuf : Space → Nat
  | .hbm => 12
  | .vmem => 8
  | .smem => 0
  | _ => 0

abbrev bufTy : (tb : Table) → Fin (tcTables nBuf tb) → BufTy
  | .hbm, ⟨0, _⟩ => ⟨S16896x4096, .bf16⟩
  | .hbm, ⟨1, _⟩ => ⟨S1x4096x11008, .f32⟩
  | .hbm, ⟨2, _⟩ => ⟨S1x4096x11008, .f32⟩
  | .hbm, ⟨3, _⟩ => ⟨S_, .bf16⟩
  | .hbm, ⟨4, _⟩ => ⟨S4096x0, .bf16⟩
  | .hbm, ⟨5, _⟩ => ⟨S4096x11008, .f32⟩
  | .hbm, ⟨6, _⟩ => ⟨S4096x11008, .bf16⟩
  | .hbm, ⟨7, _⟩ => ⟨S4096x11008, .bf16⟩
  | .hbm, ⟨8, _⟩ => ⟨S4096x11008, .f32⟩
  | .hbm, ⟨9, _⟩ => ⟨S4096x11008, .bf16⟩
  | .hbm, ⟨10, _⟩ => ⟨S4096x11008, .bf16⟩
  | .hbm, ⟨11, _⟩ => ⟨S16896x11008, .bf16⟩
  | .local _ .vmem, ⟨0, _⟩ => ⟨S1536x4096, .bf16⟩
  | .local _ .vmem, ⟨1, _⟩ => ⟨S1536x4096, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1536x256, .bf16⟩
  | .local _ .vmem, ⟨7, _⟩ => ⟨S1536x256, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![11, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1536x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1536x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnUpRefIdeal.lean ====
abbrev S16896x4096 : Shape := ⟨2, ![16896, 4096]⟩
abbrev S1x4096x11008 : Shape := ⟨3, ![1, 4096, 11008]⟩
abbrev S4096x11008 : Shape := ⟨2, ![4096, 11008]⟩
abbrev S16896x11008 : Shape := ⟨2, ![16896, 11008]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x11008, .f32⟩
  | .hbm, ⟨2, _⟩ => ⟨S1x4096x11008, .f32⟩
  | .hbm, ⟨3, _⟩ => ⟨S16896x4096, .f32⟩
  | .hbm, ⟨4, _⟩ => ⟨S4096x11008, .f32⟩
  | .hbm, ⟨5, _⟩ => ⟨S16896x11008, .f32⟩
  | .hbm, ⟨6, _⟩ => ⟨S16896x11008, .f32⟩
  | .hbm, ⟨7, _⟩ => ⟨S16896x11008, .f32⟩
  | .hbm, ⟨8, _⟩ => ⟨S_, .f32⟩
  | .hbm, ⟨9, _⟩ => ⟨S16896x11008, .f32⟩
  | .hbm, ⟨10, _⟩ => ⟨S16896x11008, .f32⟩
  | .hbm, ⟨11, _⟩ => ⟨S_, .f32⟩
  | .hbm, ⟨12, _⟩ => ⟨S16896x11008, .f32⟩
  | .hbm, ⟨13, _⟩ => ⟨S16896x11008, .f32⟩
  | .hbm, ⟨14, _⟩ => ⟨S16896x11008, .f32⟩
  | .hbm, ⟨15, _⟩ => ⟨S4096x11008, .f32⟩
  | .hbm, ⟨16, _⟩ => ⟨S16896x11008, .f32⟩
  | .hbm, ⟨17, _⟩ => ⟨S16896x11008, .f32⟩
  | .hbm, ⟨18, _⟩ => ⟨S16896x11008, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== ProjRkv.lean ====
abbrev S16896x4096 : Shape := ⟨2, ![16896, 4096]⟩
abbrev S1x4096x18960 : Shape := ⟨3, ![1, 4096, 18960]⟩
abbrev S4096x18960 : Shape := ⟨2, ![4096, 18960]⟩
abbrev S4096x6144 : Shape := ⟨2, ![4096, 6144]⟩
abbrev S4096x96 : Shape := ⟨2, ![4096, 96]⟩
abbrev S4096x256 : Shape := ⟨2, ![4096, 256]⟩
abbrev S_ : Shape := ⟨0, ![]⟩
abbrev S4096x128 : Shape := ⟨2, ![4096, 128]⟩
abbrev S4096x6656 : Shape := ⟨2, ![4096, 6656]⟩
abbrev S16896x6656 : Shape := ⟨2, ![16896, 6656]⟩
abbrev S768x4096 : Shape := ⟨2, ![768, 4096]⟩
abbrev S4096x512 : Shape := ⟨2, ![4096, 512]⟩
abbrev S768x512 : Shape := ⟨2, ![768, 512]⟩

abbrev nBuf : Space → Nat
  | .hbm => 19
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S4096x18960, .f32⟩
  | .hbm, ⟨3, _⟩ => ⟨S4096x6144, .f32⟩
  | .hbm, ⟨4, _⟩ => ⟨S4096x96, .f32⟩
  | .hbm, ⟨5, _⟩ => ⟨S4096x96, .f32⟩
  | .hbm, ⟨6, _⟩ => ⟨S4096x256, .f32⟩
  | .hbm, ⟨7, _⟩ => ⟨S_, .i32⟩
  | .hbm, ⟨8, _⟩ => ⟨S_, .f32⟩
  | .hbm, ⟨9, _⟩ => ⟨S4096x128, .f32⟩
  | .hbm, ⟨10, _⟩ => ⟨S_, .i32⟩
  | .hbm, ⟨11, _⟩ => ⟨S_, .f32⟩
  | .hbm, ⟨12, _⟩ => ⟨S4096x128, .f32⟩
  | .hbm, ⟨13, _⟩ => ⟨S_, .i32⟩
  | .hbm, ⟨14, _⟩ => ⟨S_, .f32⟩
  | .hbm, ⟨15, _⟩ => ⟨S4096x256, .f32⟩
  | .hbm, ⟨16, _⟩ => ⟨S4096x6656, .f32⟩
  | .hbm, ⟨17, _⟩ => ⟨S4096x6656, .bf16⟩
  | .hbm, ⟨18, _⟩ => ⟨S16896x6656, .f32⟩
  | .local _ .vmem, ⟨0, _⟩ => ⟨S768x4096, .bf16⟩
  | .local _ .vmem, ⟨1, _⟩ => ⟨S768x4096, .bf16⟩
  | .local _ .vmem, ⟨2, _⟩ => ⟨S4096x512, .bf16⟩
  | .local _ .vmem, ⟨3, _⟩ => ⟨S4096x512, .bf16⟩
  | .local _ .vmem, ⟨4, _⟩ => ⟨S768x512, .f32⟩
  | .local _ .vmem, ⟨5, _⟩ => ⟨S768x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_c_1 : Ref sig .tc := ⟨.hbm, 13, rfl⟩
abbrev main_call2_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 13, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRkvRefIdeal.lean ====
abbrev S16896x4096 : Shape := ⟨2, ![16896, 4096]⟩
abbrev S1x4096x18960 : Shape := ⟨3, ![1, 4096, 18960]⟩
abbrev S4096x18960 : Shape := ⟨2, ![4096, 18960]⟩
abbrev S16896x18960 : Shape := ⟨2, ![16896, 18960]⟩
abbrev S16896x6240 : Shape := ⟨2, ![16896, 6240]⟩
abbrev S_ : Shape := ⟨0, ![]⟩
abbrev S16896x32 : Shape := ⟨2, ![16896, 32]⟩
abbrev S16896x96 : Shape := ⟨2, ![16896, 96]⟩
abbrev S16896x256 : Shape := ⟨2, ![16896, 256]⟩
abbrev S16896x6656 : Shape := ⟨2, ![16896, 6656]⟩

abbrev nBuf : Space → Nat
  | .hbm => 13
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S16896x4096, .f32⟩
  | .hbm, ⟨3, _⟩ => ⟨S4096x18960, .f32⟩
  | .hbm, ⟨4, _⟩ => ⟨S16896x18960, .f32⟩
  | .hbm, ⟨5, _⟩ => ⟨S16896x6240, .f32⟩
  | .hbm, ⟨6, _⟩ => ⟨S_, .f32⟩
  | .hbm, ⟨7, _⟩ => ⟨S16896x32, .f32⟩
  | .hbm, ⟨8, _⟩ => ⟨S16896x96, .f32⟩
  | .hbm, ⟨9, _⟩ => ⟨S_, .f32⟩
  | .hbm, ⟨10, _⟩ => ⟨S16896x32, .f32⟩
  | .hbm, ⟨11, _⟩ => ⟨S16896x256, .f32⟩
  | .hbm, ⟨12, _⟩ => ⟨S16896x6656, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ProjKv.lean ====
abbrev S16896x4096 : Shape := ⟨2, ![16896, 4096]⟩
abbrev S1x4096x18960 : Shape := ⟨3, ![1, 4096, 18960]⟩
abbrev S4096x18960 : Shape := ⟨2, ![4096, 18960]⟩
abbrev S4096x512 : Shape := ⟨2, ![4096, 512]⟩
abbrev S4096x1024 : Shape := ⟨2, ![4096, 1024]⟩
abbrev S4096x64 : Shape := ⟨2, ![4096, 64]⟩
abbrev S4096x16 : Shape := ⟨2, ![4096, 16]⟩
abbrev S_ : Shape := ⟨0, ![]⟩
abbrev S4096x128 : Shape := ⟨2, ![4096, 128]⟩
abbrev S4096x1280 : Shape := ⟨2, ![4096, 1280]⟩
abbrev S16896x1280 : Shape := ⟨2, ![16896, 1280]⟩
abbrev S4x16896x128 : Shape := ⟨3, ![4, 16896, 128]⟩
abbrev S768x4096 : Shape := ⟨2, ![768, 4096]⟩
abbrev S768x1280 : Shape := ⟨2, ![768, 1280]⟩
abbrev S4x768x128 : Shape := ⟨3, ![4, 768, 128]⟩
abbrev S768x512 : Shape := ⟨2, ![768, 512]⟩
abbrev S768x128 : Shape := ⟨2, ![768, 128]⟩
abbrev S1x768x128 : Shape := ⟨3, ![1, 768, 128]⟩

abbrev nBuf : Space → Nat
  | .hbm => 19
  | .vmem => 9
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S4096x18960, .f32⟩
  | .hbm, ⟨3, _⟩ => ⟨S4096x512, .f32⟩
  | .hbm, ⟨4, _⟩ => ⟨S4096x512, .f32⟩
  | .hbm, ⟨5, _⟩ => ⟨S4096x1024, .f32⟩
  | .hbm, ⟨6, _⟩ => ⟨S4096x64, .f32⟩
  | .hbm, ⟨7, _⟩ => ⟨S4096x16, .f32⟩
  | .hbm, ⟨8, _⟩ => ⟨S_, .i32⟩
  | .hbm, ⟨9, _⟩ => ⟨S_, .f32⟩
  | .hbm, ⟨10, _⟩ => ⟨S4096x128, .f32⟩
  | .hbm, ⟨11, _⟩ => ⟨S_, .i32⟩
  | .hbm, ⟨12, _⟩ => ⟨S_, .f32⟩
  | .hbm, ⟨13, _⟩ => ⟨S4096x128, .f32⟩
  | .hbm, ⟨14, _⟩ => ⟨S4096x1280, .f32⟩
  | .hbm, ⟨15, _⟩ => ⟨S4096x1280, .bf16⟩
  | .hbm, ⟨16, _⟩ => ⟨S16896x1280, .f32⟩
  | .hbm, ⟨17, _⟩ => ⟨S4x16896x128, .bf16⟩
  | .hbm, ⟨18, _⟩ => ⟨S4x16896x128, .bf16⟩
  | .local _ .vmem, ⟨0, _⟩ => ⟨S768x4096, .bf16⟩
  | .local _ .vmem, ⟨1, _⟩ => ⟨S768x4096, .bf16⟩
  | .local _ .vmem, ⟨2, _⟩ => ⟨S4096x1280, .bf16⟩
  | .local _ .vmem, ⟨3, _⟩ => ⟨S768x1280, .f32⟩
  | .local _ .vmem, ⟨4, _⟩ => ⟨S768x1280, .f32⟩
  | .local _ .vmem, ⟨5, _⟩ => ⟨S4x768x128, .bf16⟩
  | .local _ .vmem, ⟨6, _⟩ => ⟨S4x768x128, .bf16⟩
  | .local _ .vmem, ⟨7, _⟩ => ⟨S4x768x128, .bf16⟩
  | .local _ .vmem, ⟨8, _⟩ => ⟨S4x768x128, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== ProjKvRefIdeal.lean ====
abbrev S16896x4096 : Shape := ⟨2, ![16896, 4096]⟩
abbrev S1x4096x18960 : Shape := ⟨3, ![1, 4096, 18960]⟩
abbrev S4096x18960 : Shape := ⟨2, ![4096, 18960]⟩
abbrev S16896x18960 : Shape := ⟨2, ![16896, 18960]⟩
abbrev S16896x512 : Shape := ⟨2, ![16896, 512]⟩
abbrev S16896x64 : Shape := ⟨2, ![16896, 64]⟩
abbrev S16896x16 : Shape := ⟨2, ![16896, 16]⟩
abbrev S_ : Shape := ⟨0, ![]⟩
abbrev S16896x112 : Shape := ⟨2, ![16896, 112]⟩
abbrev S16896x1280 : Shape := ⟨2, ![16896, 1280]⟩
abbrev S16896x4x128 : Shape := ⟨3, ![16896, 4, 128]⟩
abbrev S4x16896x128 : Shape := ⟨3, ![4, 16896, 128]⟩

abbrev nBuf : Space → Nat
  | .hbm => 20
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S16896x4096, .f32⟩
  | .hbm, ⟨3, _⟩ => ⟨S4096x18960, .f32⟩
  | .hbm, ⟨4, _⟩ => ⟨S16896x18960, .f32⟩
  | .hbm, ⟨5, _⟩ => ⟨S16896x512, .f32⟩
  | .hbm, ⟨6, _⟩ => ⟨S16896x512, .f32⟩
  | .hbm, ⟨7, _⟩ => ⟨S16896x64, .f32⟩
  | .hbm, ⟨8, _⟩ => ⟨S16896x16, .f32⟩
  | .hbm, ⟨9, _⟩ => ⟨S_, .f32⟩
  | .hbm, ⟨10, _⟩ => ⟨S16896x64, .f32⟩
  | .hbm, ⟨11, _⟩ => ⟨S_, .f32⟩
  | .hbm, ⟨12, _⟩ => ⟨S16896x112, .f32⟩
  | .hbm, ⟨13, _⟩ => ⟨S16896x1280, .f32⟩
  | .hbm, ⟨14, _⟩ => ⟨S16896x4x128, .f32⟩
  | .hbm, ⟨15, _⟩ => ⟨S4x16896x128, .f32⟩
  | .hbm, ⟨16, _⟩ => ⟨S4x16896x128, .bf16⟩
  | .hbm, ⟨17, _⟩ => ⟨S16896x4x128, .f32⟩
  | .hbm, ⟨18, _⟩ => ⟨S4x16896x128, .f32⟩
  | .hbm, ⟨19, _⟩ => ⟨S4x16896x128, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== ProjGates.lean ====
abbrev S16896x4096 : Shape := ⟨2, ![16896, 4096]⟩
abbrev S1x4096x18960 : Shape := ⟨3, ![1, 4096, 18960]⟩
abbrev S4096x18960 : Shape := ⟨2, ![4096, 18960]⟩
abbrev S4096x4096 : Shape := ⟨2, ![4096, 4096]⟩
abbrev S4096x8192 : Shape := ⟨2, ![4096, 8192]⟩
abbrev S16896x8192 : Shape := ⟨2, ![16896, 8192]⟩
abbrev S768x4096 : Shape := ⟨2, ![768, 4096]⟩
abbrev S4096x1024 : Shape := ⟨2, ![4096, 1024]⟩
abbrev S768x1024 : Shape := ⟨2, ![768, 1024]⟩

abbrev nBuf : Space → Nat
  | .hbm => 8
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S4096x18960, .f32⟩
  | .hbm, ⟨3, _⟩ => ⟨S4096x4096, .f32⟩
  | .hbm, ⟨4, _⟩ => ⟨S4096x4096, .f32⟩
  | .hbm, ⟨5, _⟩ => ⟨S4096x8192, .f32⟩
  | .hbm, ⟨6, _⟩ => ⟨S4096x8192, .bf16⟩
  | .hbm, ⟨7, _⟩ => ⟨S16896x8192, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGatesRefIdeal.lean ====
abbrev S16896x4096 : Shape := ⟨2, ![16896, 4096]⟩
abbrev S1x4096x18960 : Shape := ⟨3, ![1, 4096, 18960]⟩
abbrev S4096x18960 : Shape := ⟨2, ![4096, 18960]⟩
abbrev S16896x18960 : Shape := ⟨2, ![16896, 18960]⟩
abbrev S16896x8192 : Shape := ⟨2, ![16896, 8192]⟩

abbrev nBuf : Space → Nat
  | .hbm => 7
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S16896x4096, .f32⟩
  | .hbm, ⟨3, _⟩ => ⟨S4096x18960, .f32⟩
  | .hbm, ⟨4, _⟩ => ⟨S16896x18960, .f32⟩
  | .hbm, ⟨5, _⟩ => ⟨S16896x8192, .f32⟩
  | .hbm, ⟨6, _⟩ => ⟨S16896x8192, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== ProjQ.lean ====
abbrev S16896x4096 : Shape := ⟨2, ![16896, 4096]⟩
abbrev S1x4096x18960 : Shape := ⟨3, ![1, 4096, 18960]⟩
abbrev S4096x18960 : Shape := ⟨2, ![4096, 18960]⟩
abbrev S4096x2048 : Shape := ⟨2, ![4096, 2048]⟩
abbrev S16x16896x128 : Shape := ⟨3, ![16, 16896, 128]⟩
abbrev S768x4096 : Shape := ⟨2, ![768, 4096]⟩
abbrev S4096x1024 : Shape := ⟨2, ![4096, 1024]⟩
abbrev S8x768x128 : Shape := ⟨3, ![8, 768, 128]⟩
abbrev S768x1024 : Shape := ⟨2, ![768, 1024]⟩
abbrev S768x128 : Shape := ⟨2, ![768, 128]⟩
abbrev S1x768x128 : Shape := ⟨3, ![1, 768, 128]⟩

abbrev nBuf : Space → Nat
  | .hbm => 6
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S4096x18960, .f32⟩
  | .hbm, ⟨3, _⟩ => ⟨S4096x2048, .f32⟩
  | .hbm, ⟨4, _⟩ => ⟨S4096x2048, .bf16⟩
  | .hbm, ⟨5, _⟩ => ⟨S16x16896x128, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x768x128, .bf16⟩
  | .local _ .vmem, ⟨5, _⟩ => ⟨S8x768x128, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQRefIdeal.lean ====
abbrev S16896x4096 : Shape := ⟨2, ![16896, 4096]⟩
abbrev S1x4096x18960 : Shape := ⟨3, ![1, 4096, 18960]⟩
abbrev S4096x18960 : Shape := ⟨2, ![4096, 18960]⟩
abbrev S16896x18960 : Shape := ⟨2, ![16896, 18960]⟩
abbrev S16896x2048 : Shape := ⟨2, ![16896, 2048]⟩
abbrev S16896x16x128 : Shape := ⟨3, ![16896, 16, 128]⟩
abbrev S_ : Shape := ⟨0, ![]⟩
abbrev S16x16896x128 : Shape := ⟨3, ![16, 16896, 128]⟩

abbrev nBuf : Space → Nat
  | .hbm => 12
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S16896x4096, .f32⟩
  | .hbm, ⟨3, _⟩ => ⟨S4096x18960, .f32⟩
  | .hbm, ⟨4, _⟩ => ⟨S16896x18960, .f32⟩
  | .hbm, ⟨5, _⟩ => ⟨S16896x2048, .f32⟩
  | .hbm, ⟨6, _⟩ => ⟨S16896x16x128, .f32⟩
  | .hbm, ⟨7, _⟩ => ⟨S_, .f32⟩
  | .hbm, ⟨8, _⟩ => ⟨S16896x16x128, .f32⟩
  | .hbm, ⟨9, _⟩ => ⟨S16896x16x128, .f32⟩
  | .hbm, ⟨10, _⟩ => ⟨S16x16896x128, .f32⟩
  | .hbm, ⟨11, _⟩ => ⟨S16x16896x128, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjQi.lean ====
abbrev S16896x4096 : Shape := ⟨2, ![16896, 4096]⟩
abbrev S1x4096x18960 : Shape := ⟨3, ![1, 4096, 18960]⟩
abbrev S4096x18960 : Shape := ⟨2, ![4096, 18960]⟩
abbrev S4096x1024 : Shape := ⟨2, ![4096, 1024]⟩
abbrev S16x16896x64 : Shape := ⟨3, ![16, 16896, 64]⟩
abbrev S768x4096 : Shape := ⟨2, ![768, 4096]⟩
abbrev S16x768x64 : Shape := ⟨3, ![16, 768, 64]⟩
abbrev S768x1024 : Shape := ⟨2, ![768, 1024]⟩
abbrev S768x64 : Shape := ⟨2, ![768, 64]⟩
abbrev S1x768x64 : Shape := ⟨3, ![1, 768, 64]⟩

abbrev nBuf : Space → Nat
  | .hbm => 6
  | .vmem => 5
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S4096x18960, .f32⟩
  | .hbm, ⟨3, _⟩ => ⟨S4096x1024, .f32⟩
  | .hbm, ⟨4, _⟩ => ⟨S4096x1024, .bf16⟩
  | .hbm, ⟨5, _⟩ => ⟨S16x16896x64, .bf16⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S16x768x64, .bf16⟩
  | .local _ .vmem, ⟨4, _⟩ => ⟨S16x768x64, .bf16⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![22, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S16x768x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQiRefIdeal.lean ====
abbrev S16896x4096 : Shape := ⟨2, ![16896, 4096]⟩
abbrev S1x4096x18960 : Shape := ⟨3, ![1, 4096, 18960]⟩
abbrev S4096x18960 : Shape := ⟨2, ![4096, 18960]⟩
abbrev S16896x18960 : Shape := ⟨2, ![16896, 18960]⟩
abbrev S16896x1024 : Shape := ⟨2, ![16896, 1024]⟩
abbrev S16896x16x64 : Shape := ⟨3, ![16896, 16, 64]⟩
abbrev S16x16896x64 : Shape := ⟨3, ![16, 16896, 64]⟩

abbrev nBuf : Space → Nat
  | .hbm => 9
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S1x4096x18960, .f32⟩
  | .hbm, ⟨2, _⟩ => ⟨S16896x4096, .f32⟩
  | .hbm, ⟨3, _⟩ => ⟨S4096x18960, .f32⟩
  | .hbm, ⟨4, _⟩ => ⟨S16896x18960, .f32⟩
  | .hbm, ⟨5, _⟩ => ⟨S16896x1024, .f32⟩
  | .hbm, ⟨6, _⟩ => ⟨S16896x16x64, .f32⟩
  | .hbm, ⟨7, _⟩ => ⟨S16x16896x64, .f32⟩
  | .hbm, ⟨8, _⟩ => ⟨S16x16896x64, .bf16⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Merge.lean ====
abbrev S16896x2048 : Shape := ⟨2, ![16896, 2048]⟩
abbrev S16x16896x128 : Shape := ⟨3, ![16, 16896, 128]⟩
abbrev S16896x8192 : Shape := ⟨2, ![16896, 8192]⟩
abbrev S1x2048x4096 : Shape := ⟨3, ![1, 2048, 4096]⟩
abbrev S2048x4096 : Shape := ⟨2, ![2048, 4096]⟩
abbrev S16896x4096 : Shape := ⟨2, ![16896, 4096]⟩
abbrev S768x2048 : Shape := ⟨2, ![768, 2048]⟩
abbrev S16x768x128 : Shape := ⟨3, ![16, 768, 128]⟩
abbrev S2048x1024 : Shape := ⟨2, ![2048, 1024]⟩
abbrev S768x1024 : Shape := ⟨2, ![768, 1024]⟩
abbrev S1x768x128 : Shape := ⟨3, ![1, 768, 128]⟩
abbrev S768x128 : Shape := ⟨2, ![768, 128]⟩

abbrev nBuf : Space → Nat
  | .hbm => 10
  | .vmem => 14
  | .smem => 0
  | _ => 0

abbrev bufTy : (tb : Table) → Fin (tcTables nBuf tb) → BufTy
  | .hbm, ⟨0, _⟩ => ⟨S16896x2048, .bf16⟩
  | .hbm, ⟨1, _⟩ => ⟨S16x16896x128, .bf16⟩
  | .hbm, ⟨2, _⟩ => ⟨S16896x8192, .bf16⟩
  | .hbm, ⟨3, _⟩ => ⟨S1x2048x4096, .f32⟩
  | .hbm, ⟨4, _⟩ => ⟨S1x2048x4096, .f32⟩
  | .hbm, ⟨5, _⟩ => ⟨S2048x4096, .f32⟩
  | .hbm, ⟨6, _⟩ => ⟨S2048x4096, .bf16⟩
  | .hbm, ⟨7, _⟩ => ⟨S2048x4096, .f32⟩
  | .hbm, ⟨8, _⟩ => ⟨S2048x4096, .bf16⟩
  | .hbm, ⟨9, _⟩ => ⟨S16896x4096, .bf16⟩
  | .local _ .vmem, ⟨0, _⟩ => ⟨S768x2048, .bf16⟩
  | .local _ .vmem, ⟨1, _⟩ => ⟨S768x2048, .bf16⟩
  | .local _ .vmem, ⟨2, _⟩ => ⟨S16x768x128, .bf16⟩
  | .local _ .vmem, ⟨3, _⟩ => ⟨S16x768x128, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S768x1024, .bf16⟩
  | .local _ .vmem, ⟨9, _⟩ => ⟨S768x1024, .bf16⟩
  | .local _ .vmem, ⟨10, _⟩ => ⟨S768x1024, .bf16⟩
  | .local _ .vmem, ⟨11, _⟩ => ⟨S768x1024, .bf16⟩
  | .local _ .vmem, ⟨12, _⟩ => ⟨S768x1024, .bf16⟩
  | .local _ .vmem, ⟨13, _⟩ => ⟨S768x1024, .bf16⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![22, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S16x768x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S768x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== MergeRefIdeal.lean ====
abbrev S16896x2048 : Shape := ⟨2, ![16896, 2048]⟩
abbrev S16x16896x128 : Shape := ⟨3, ![16, 16896, 128]⟩
abbrev S16896x8192 : Shape := ⟨2, ![16896, 8192]⟩
abbrev S1x2048x4096 : Shape := ⟨3, ![1, 2048, 4096]⟩
abbrev S16896x16x128 : Shape := ⟨3, ![16896, 16, 128]⟩
abbrev S16896x4096 : Shape := ⟨2, ![16896, 4096]⟩
abbrev S_ : Shape := ⟨0, ![]⟩
abbrev S2048x4096 : Shape := ⟨2, ![2048, 4096]⟩

abbrev nBuf : Space → Nat
  | .hbm => 37
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16x16896x128, .bf16⟩
  | .hbm, ⟨2, _⟩ => ⟨S16896x8192, .bf16⟩
  | .hbm, ⟨3, _⟩ => ⟨S1x2048x4096, .f32⟩
  | .hbm, ⟨4, _⟩ => ⟨S1x2048x4096, .f32⟩
  | .hbm, ⟨5, _⟩ => ⟨S16x16896x128, .f32⟩
  | .hbm, ⟨6, _⟩ => ⟨S16896x16x128, .f32⟩
  | .hbm, ⟨7, _⟩ => ⟨S16896x2048, .f32⟩
  | .hbm, ⟨8, _⟩ => ⟨S16896x4096, .bf16⟩
  | .hbm, ⟨9, _⟩ => ⟨S16896x4096, .f32⟩
  | .hbm, ⟨10, _⟩ => ⟨S16896x4096, .bf16⟩
  | .hbm, ⟨11, _⟩ => ⟨S16896x4096, .f32⟩
  | .hbm, ⟨12, _⟩ => ⟨S16896x4096, .f32⟩
  | .hbm, ⟨13, _⟩ => ⟨S16896x4096, .f32⟩
  | .hbm, ⟨14, _⟩ => ⟨S_, .f32⟩
  | .hbm, ⟨15, _⟩ => ⟨S16896x4096, .f32⟩
  | .hbm, ⟨16, _⟩ => ⟨S16896x4096, .f32⟩
  | .hbm, ⟨17, _⟩ => ⟨S_, .f32⟩
  | .hbm, ⟨18, _⟩ => ⟨S16896x4096, .f32⟩
  | .hbm, ⟨19, _⟩ => ⟨S16896x4096, .f32⟩
  | .hbm, ⟨20, _⟩ => ⟨S16896x2048, .f32⟩
  | .hbm, ⟨21, _⟩ => ⟨S2048x4096, .f32⟩
  | .hbm, ⟨22, _⟩ => ⟨S16896x4096, .f32⟩
  | .hbm, ⟨23, _⟩ => ⟨S16896x4096, .f32⟩
  | .hbm, ⟨24, _⟩ => ⟨S16896x4096, .f32⟩
  | .hbm, ⟨25, _⟩ => ⟨S16896x4096, .f32⟩
  | .hbm, ⟨26, _⟩ => ⟨S_, .f32⟩
  | .hbm, ⟨27, _⟩ => ⟨S16896x4096, .f32⟩
  | .hbm, ⟨28, _⟩ => ⟨S16896x4096, .f32⟩
  | .hbm, ⟨29, _⟩ => ⟨S_, .f32⟩
  | .hbm, ⟨30, _⟩ => ⟨S16896x4096, .f32⟩
  | .hbm, ⟨31, _⟩ => ⟨S16896x4096, .f32⟩
  | .hbm, ⟨32, _⟩ => ⟨S2048x4096, .f32⟩
  | .hbm, ⟨33, _⟩ => ⟨S16896x4096, .f32⟩
  | .hbm, ⟨34, _⟩ => ⟨S16896x4096, .f32⟩
  | .hbm, ⟨35, _⟩ => ⟨S16896x4096, .f32⟩
  | .hbm, ⟨36, _⟩ => ⟨S16896x4096, .bf16⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== OutProj.lean ====
abbrev S16896x4096 : Shape := ⟨2, ![16896, 4096]⟩
abbrev S8x2048x4096 : Shape := ⟨3, ![8, 2048, 4096]⟩
abbrev S8x64x4096 : Shape := ⟨3, ![8, 64, 4096]⟩
abbrev S1x4096x4096 : Shape := ⟨3, ![1, 4096, 4096]⟩
abbrev S16384x4096 : Shape := ⟨2, ![16384, 4096]⟩
abbrev S512x4096 : Shape := ⟨2, ![512, 4096]⟩
abbrev S4096x4096 : Shape := ⟨2, ![4096, 4096]⟩
abbrev S4096x1024 : Shape := ⟨2, ![4096, 1024]⟩
abbrev S512x1024 : Shape := ⟨2, ![512, 1024]⟩

abbrev nBuf : Space → Nat
  | .hbm => 9
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S8x2048x4096, .f32⟩
  | .hbm, ⟨2, _⟩ => ⟨S8x64x4096, .f32⟩
  | .hbm, ⟨3, _⟩ => ⟨S1x4096x4096, .f32⟩
  | .hbm, ⟨4, _⟩ => ⟨S16384x4096, .f32⟩
  | .hbm, ⟨5, _⟩ => ⟨S512x4096, .f32⟩
  | .hbm, ⟨6, _⟩ => ⟨S4096x4096, .f32⟩
  | .hbm, ⟨7, _⟩ => ⟨S4096x4096, .bf16⟩
  | .hbm, ⟨8, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 33, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 32 := Scalar.minsi arg1 c31_i32
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  ![v1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== OutProjRefIdeal.lean ====
abbrev S16896x4096 : Shape := ⟨2, ![16896, 4096]⟩
abbrev S8x2048x4096 : Shape := ⟨3, ![8, 2048, 4096]⟩
abbrev S8x64x4096 : Shape := ⟨3, ![8, 64, 4096]⟩
abbrev S1x4096x4096 : Shape := ⟨3, ![1, 4096, 4096]⟩
abbrev S16384x4096 : Shape := ⟨2, ![16384, 4096]⟩
abbrev S512x4096 : Shape := ⟨2, ![512, 4096]⟩
abbrev S4096x4096 : Shape := ⟨2, ![4096, 4096]⟩

abbrev nBuf : Space → Nat
  | .hbm => 11
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S8x2048x4096, .f32⟩
  | .hbm, ⟨2, _⟩ => ⟨S8x64x4096, .f32⟩
  | .hbm, ⟨3, _⟩ => ⟨S1x4096x4096, .f32⟩
  | .hbm, ⟨4, _⟩ => ⟨S16384x4096, .f32⟩
  | .hbm, ⟨5, _⟩ => ⟨S512x4096, .f32⟩
  | .hbm, ⟨6, _⟩ => ⟨S16896x4096, .f32⟩
  | .hbm, ⟨7, _⟩ => ⟨S16896x4096, .f32⟩
  | .hbm, ⟨8, _⟩ => ⟨S4096x4096, .f32⟩
  | .hbm, ⟨9, _⟩ => ⟨S16896x4096, .f32⟩
  | .hbm, ⟨10, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== NormP.lean ====
abbrev S16896x4096 : Shape := ⟨2, ![16896, 4096]⟩
abbrev S4096 : Shape := ⟨1, ![4096]⟩
abbrev S1x4096 : Shape := ⟨2, ![1, 4096]⟩
abbrev S16384x4096 : Shape := ⟨2, ![16384, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormPRefIdeal.lean ====
abbrev S16896x4096 : Shape := ⟨2, ![16896, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormS.lean ====
abbrev S16896x4096 : Shape := ⟨2, ![16896, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 3
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S512x4096, .f32⟩
  | .local _ .vmem, ⟨0, _⟩ => ⟨S512x4096, .f32⟩
  | .local _ .vmem, ⟨1, _⟩ => ⟨S1x4096, .f32⟩
  | .local _ .vmem, ⟨2, _⟩ => ⟨S512x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormSRefIdeal.lean ====
abbrev S16896x4096 : Shape := ⟨2, ![16896, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== NormIn.lean ====
abbrev S8x2048x4096 : Shape := ⟨3, ![8, 2048, 4096]⟩
abbrev S8x64x4096 : Shape := ⟨3, ![8, 64, 4096]⟩
abbrev S1x4096 : Shape := ⟨2, ![1, 4096]⟩
abbrev S16384x4096 : Shape := ⟨2, ![16384, 4096]⟩
abbrev S512x4096 : Shape := ⟨2, ![512, 4096]⟩
abbrev S4096 : Shape := ⟨1, ![4096]⟩
abbrev S16896x4096 : Shape := ⟨2, ![16896, 4096]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S8x64x4096, .f32⟩
  | .hbm, ⟨2, _⟩ => ⟨S1x4096, .f32⟩
  | .hbm, ⟨3, _⟩ => ⟨S16384x4096, .f32⟩
  | .hbm, ⟨4, _⟩ => ⟨S512x4096, .f32⟩
  | .hbm, ⟨5, _⟩ => ⟨S4096, .f32⟩
  | .hbm, ⟨6, _⟩ => ⟨S1x4096, .f32⟩
  | .hbm, ⟨7, _⟩ => ⟨S16896x4096, .bf16⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S512x4096, .bf16⟩
  | .local _ .vmem, ⟨6, _⟩ => ⟨S512x4096, .bf16⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== NormInRefIdeal.lean ====
abbrev S8x2048x4096 : Shape := ⟨3, ![8, 2048, 4096]⟩
abbrev S8x64x4096 : Shape := ⟨3, ![8, 64, 4096]⟩
abbrev S1x4096 : Shape := ⟨2, ![1, 4096]⟩
abbrev S16384x4096 : Shape := ⟨2, ![16384, 4096]⟩
abbrev S512x4096 : Shape := ⟨2, ![512, 4096]⟩
abbrev S16896x4096 : Shape := ⟨2, ![16896, 4096]⟩
abbrev S4096 : Shape := ⟨1, ![4096]⟩
abbrev S_ : Shape := ⟨0, ![]⟩
abbrev S16896 : Shape := ⟨1, ![16896]⟩
abbrev S16896x1 : Shape := ⟨2, ![16896, 1]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S8x64x4096, .f32⟩
  | .hbm, ⟨2, _⟩ => ⟨S1x4096, .f32⟩
  | .hbm, ⟨3, _⟩ => ⟨S16384x4096, .f32⟩
  | .hbm, ⟨4, _⟩ => ⟨S512x4096, .f32⟩
  | .hbm, ⟨5, _⟩ => ⟨S16896x4096, .f32⟩
  | .hbm, ⟨6, _⟩ => ⟨S4096, .f32⟩
  | .hbm, ⟨7, _⟩ => ⟨S16896x4096, .f32⟩
  | .hbm, ⟨8, _⟩ => ⟨S_, .f32⟩
  | .hbm, ⟨9, _⟩ => ⟨S16896, .f32⟩
  | .hbm, ⟨10, _⟩ => ⟨S16896x1, .f32⟩
  | .hbm, ⟨11, _⟩ => ⟨S_, .f32⟩
  | .hbm, ⟨12, _⟩ => ⟨S16896x1, .f32⟩
  | .hbm, ⟨13, _⟩ => ⟨S16896x1, .f32⟩
  | .hbm, ⟨14, _⟩ => ⟨S_, .f32⟩
  | .hbm, ⟨15, _⟩ => ⟨S16896x1, .f32⟩
  | .hbm, ⟨16, _⟩ => ⟨S16896x1, .f32⟩
  | .hbm, ⟨17, _⟩ => ⟨S16896x1, .f32⟩
  | .hbm, ⟨18, _⟩ => ⟨S16896x4096, .f32⟩
  | .hbm, ⟨19, _⟩ => ⟨S16896x4096, .f32⟩
  | .hbm, ⟨20, _⟩ => ⟨S1x4096, .f32⟩
  | .hbm, ⟨21, _⟩ => ⟨S16896x4096, .f32⟩
  | .hbm, ⟨22, _⟩ => ⟨S16896x4096, .f32⟩
  | .hbm, ⟨23, _⟩ => ⟨S16896x4096, .bf16⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== NormMid.lean ====
abbrev S16896x4096 : Shape := ⟨2, ![16896, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S1x4096, .f32⟩
  | .hbm, ⟨2, _⟩ => ⟨S4096, .f32⟩
  | .hbm, ⟨3, _⟩ => ⟨S1x4096, .f32⟩
  | .hbm, ⟨4, _⟩ => ⟨S16896x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMidRefIdeal.lean ====
abbrev S16896x4096 : Shape := ⟨2, ![16896, 4096]⟩
abbrev S1x4096 : Shape := ⟨2, ![1, 4096]⟩
abbrev S4096 : Shape := ⟨1, ![4096]⟩
abbrev S_ : Shape := ⟨0, ![]⟩
abbrev S16896 : Shape := ⟨1, ![16896]⟩
abbrev S16896x1 : Shape := ⟨2, ![16896, 1]⟩

abbrev nBuf : Space → Nat
  | .hbm => 20
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S1x4096, .f32⟩
  | .hbm, ⟨2, _⟩ => ⟨S4096, .f32⟩
  | .hbm, ⟨3, _⟩ => ⟨S16896x4096, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x4096, .f32⟩
  | .hbm, ⟨15, _⟩ => ⟨S16896x4096, .f32⟩
  | .hbm, ⟨16, _⟩ => ⟨S1x4096, .f32⟩
  | .hbm, ⟨17, _⟩ => ⟨S16896x4096, .f32⟩
  | .hbm, ⟨18, _⟩ => ⟨S16896x4096, .f32⟩
  | .hbm, ⟨19, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FfnDown.lean ====
abbrev S16896x11008 : Shape := ⟨2, ![16896, 11008]⟩
abbrev S1x11008x4096 : Shape := ⟨3, ![1, 11008, 4096]⟩
abbrev S16896x4096 : Shape := ⟨2, ![16896, 4096]⟩
abbrev S11008x4096 : Shape := ⟨2, ![11008, 4096]⟩
abbrev S_ : Shape := ⟨0, ![]⟩
abbrev S0x4096 : Shape := ⟨2, ![0, 4096]⟩
abbrev S768x5504 : Shape := ⟨2, ![768, 5504]⟩
abbrev S5504x512 : Shape := ⟨2, ![5504, 512]⟩
abbrev S768x512 : Shape := ⟨2, ![768, 512]⟩
abbrev S8x768x512 : Shape := ⟨3, ![8, 768, 512]⟩
abbrev S1x768x512 : Shape := ⟨3, ![1, 768, 512]⟩

abbrev nBuf : Space → Nat
  | .hbm => 9
  | .vmem => 9
  | .smem => 0
  | _ => 0

abbrev bufTy : (tb : Table) → Fin (tcTables nBuf tb) → BufTy
  | .hbm, ⟨0, _⟩ => ⟨S16896x11008, .bf16⟩
  | .hbm, ⟨1, _⟩ => ⟨S1x11008x4096, .f32⟩
  | .hbm, ⟨2, _⟩ => ⟨S16896x4096, .f32⟩
  | .hbm, ⟨3, _⟩ => ⟨S11008x4096, .f32⟩
  | .hbm, ⟨4, _⟩ => ⟨S11008x4096, .bf16⟩
  | .hbm, ⟨5, _⟩ => ⟨S_, .bf16⟩
  | .hbm, ⟨6, _⟩ => ⟨S0x4096, .bf16⟩
  | .hbm, ⟨7, _⟩ => ⟨S11008x4096, .bf16⟩
  | .hbm, ⟨8, _⟩ => ⟨S16896x4096, .f32⟩
  | .local _ .vmem, ⟨0, _⟩ => ⟨S768x5504, .bf16⟩
  | .local _ .vmem, ⟨1, _⟩ => ⟨S768x5504, .bf16⟩
  | .local _ .vmem, ⟨2, _⟩ => ⟨S5504x512, .bf16⟩
  | .local _ .vmem, ⟨3, _⟩ => ⟨S5504x512, .bf16⟩
  | .local _ .vmem, ⟨4, _⟩ => ⟨S768x512, .f32⟩
  | .local _ .vmem, ⟨5, _⟩ => ⟨S768x512, .f32⟩
  | .local _ .vmem, ⟨6, _⟩ => ⟨S768x512, .f32⟩
  | .local _ .vmem, ⟨7, _⟩ => ⟨S768x512, .f32⟩
  | .local _ .vmem, ⟨8, _⟩ => ⟨S8x768x512, .f32⟩
  | _, _ => ⟨S16896x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![22, 2, 8], ![false, false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_3 : BitVec 32 := 0#32
  let v6 : BitVec 1 := Scalar.cmpi .ne v5 c0_i32_3
  v6

def k0_off1 (i : grid0.Coords) : Fin 3 → Nat :=
  let arg2 : BitVec 32 := BitVec.ofNat 32 (i 2).val
  let v15 : Index := Scalar.indexCast arg2
  let c0_8 : Index := 0#32
  let c0_9 : Index := 0#32
  ![v15.toNat, 0, 0]
def k0_cond2 (i : grid0.Coords) : BitVec 1 :=
  let arg1 : BitVec 32 := BitVec.ofNat 32 (i 1).val
  let c0_i32_4 : BitVec 32 := 0#32
  let v7 : BitVec 1 := Scalar.cmpi .sgt arg1 c0_i32_4
  let c1_i32 : BitVec 32 := 1#32
  let v8 : BitVec 1 := Scalar.cmpi .slt arg1 c1_i32
  let v9 : BitVec 1 := Scalar.andi v7 v8
  let v10 : BitVec 32 := Scalar.extui v9
  let c0_i32_5 : BitVec 32 := 0#32
  let v11 : BitVec 1 := Scalar.cmpi .ne v10 c0_i32_5
  v11

def k0_off2 (i : grid0.Coords) : Fin 3 → Nat :=
  let arg2 : BitVec 32 := BitVec.ofNat 32 (i 2).val
  let v15 : Index := Scalar.indexCast arg2
  let c0_8 : Index := 0#32
  let c0_9 : Index := 0#32
  ![v15.toNat, 0, 0]
def k0_cond3 (i : grid0.Coords) : BitVec 1 :=
  let arg1 : BitVec 32 := BitVec.ofNat 32 (i 1).val
  let c1_i32_6 : BitVec 32 := 1#32
  let v12 : BitVec 1 := Scalar.cmpi .eq arg1 c1_i32_6
  let v13 : BitVec 32 := Scalar.extui v12
  let c0_i32_7 : BitVec 32 := 0#32
  let v14 : BitVec 1 := Scalar.cmpi .ne v13 c0_i32_7
  v14

def k0_off3 (i : grid0.Coords) : Fin 3 → Nat :=
  let arg2 : BitVec 32 := BitVec.ofNat 32 (i 2).val
  let v16 : Index := Scalar.indexCast arg2
  let c0_10 : Index := 0#32
  let c0_11 : Index := 0#32
  ![v16.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg1 c1_i32
  let c0_i32 : BitVec 32 := 0#32
  let v1 : BitVec 32 := Scalar.select v0 arg2 c0_i32
  let c0_i32_0 : BitVec 32 := 0#32
  ![arg0.toNat, v1.toNat]

abbrev stage0_0 : Fin 2 → Memref sig .tc .vmem S768x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S768x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== FfnDownRefIdeal.lean ====
abbrev S16896x11008 : Shape := ⟨2, ![16896, 11008]⟩
abbrev S1x11008x4096 : Shape := ⟨3, ![1, 11008, 4096]⟩
abbrev S16896x4096 : Shape := ⟨2, ![16896, 4096]⟩
abbrev S11008x4096 : Shape := ⟨2, ![11008, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16896x11008, .bf16⟩
  | .hbm, ⟨1, _⟩ => ⟨S1x11008x4096, .f32⟩
  | .hbm, ⟨2, _⟩ => ⟨S16896x4096, .f32⟩
  | .hbm, ⟨3, _⟩ => ⟨S16896x11008, .f32⟩
  | .hbm, ⟨4, _⟩ => ⟨S11008x4096, .f32⟩
  | .hbm, ⟨5, _⟩ => ⟨S16896x4096, .f32⟩
  | .hbm, ⟨6, _⟩ => ⟨S16896x4096, .f32⟩
  | _, _ => ⟨S16896x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dsa.lean ====
abbrev S16x16896x128 : Shape := ⟨3, ![16, 16896, 128]⟩
abbrev S16x16896x64 : Shape := ⟨3, ![16, 16896, 64]⟩
abbrev S4x16896x128 : Shape := ⟨3, ![4, 16896, 128]⟩
abbrev S16896x1280 : Shape := ⟨2, ![16896, 1280]⟩
abbrev S16x256x128 : Shape := ⟨3, ![16, 256, 128]⟩
abbrev S4x2048x128 : Shape := ⟨3, ![4, 2048, 128]⟩
abbrev S16x256x64 : Shape := ⟨3, ![16, 256, 64]⟩
abbrev S256x128 : Shape := ⟨2, ![256, 128]⟩
abbrev S2048x128 : Shape := ⟨2, ![2048, 128]⟩
abbrev S2048x64 : Shape := ⟨2, ![2048, 64]⟩
abbrev S256x2048 : Shape := ⟨2, ![256, 2048]⟩
abbrev S256x1 : Shape := ⟨2, ![256, 1]⟩
abbrev S1x256x128 : Shape := ⟨3, ![1, 256, 128]⟩
abbrev S2x256x64 : Shape := ⟨3, ![2, 256, 64]⟩
abbrev S512x64 : Shape := ⟨2, ![512, 64]⟩
abbrev S512x2048 : Shape := ⟨2, ![512, 2048]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S1x2048x128 : Shape := ⟨3, ![1, 2048, 128]⟩
abbrev S1x1 : Shape := ⟨2, ![1, 1]⟩

abbrev nBuf : Space → Nat
  | .hbm => 7
  | .vmem => 19
  | .smem => 0
  | _ => 0

abbrev bufTy : (tb : Table) → Fin (tcTables nBuf tb) → BufTy
  | .hbm, ⟨0, _⟩ => ⟨S16x16896x128, .bf16⟩
  | .hbm, ⟨1, _⟩ => ⟨S16x16896x64, .bf16⟩
  | .hbm, ⟨2, _⟩ => ⟨S4x16896x128, .bf16⟩
  | .hbm, ⟨3, _⟩ => ⟨S4x16896x128, .bf16⟩
  | .hbm, ⟨4, _⟩ => ⟨S16896x1280, .f32⟩
  | .hbm, ⟨5, _⟩ => ⟨S16x16896x128, .bf16⟩
  | .hbm, ⟨6, _⟩ => ⟨S16x16896x128, .bf16⟩
  | .local _ .vmem, ⟨0, _⟩ => ⟨S16x256x128, .bf16⟩
  | .local _ .vmem, ⟨1, _⟩ => ⟨S16x256x128, .bf16⟩
  | .local _ .vmem, ⟨2, _⟩ => ⟨S4x2048x128, .bf16⟩
  | .local _ .vmem, ⟨3, _⟩ => ⟨S4x2048x128, .bf16⟩
  | .local _ .vmem, ⟨4, _⟩ => ⟨S4x2048x128, .bf16⟩
  | .local _ .vmem, ⟨5, _⟩ => ⟨S4x2048x128, .bf16⟩
  | .local _ .vmem, ⟨6, _⟩ => ⟨S16x256x64, .bf16⟩
  | .local _ .vmem, ⟨7, _⟩ => ⟨S16x256x64, .bf16⟩
  | .local _ .vmem, ⟨8, _⟩ => ⟨S256x128, .f32⟩
  | .local _ .vmem, ⟨9, _⟩ => ⟨S256x128, .f32⟩
  | .local _ .vmem, ⟨10, _⟩ => ⟨S2048x128, .f32⟩
  | .local _ .vmem, ⟨11, _⟩ => ⟨S2048x128, .f32⟩
  | .local _ .vmem, ⟨12, _⟩ => ⟨S16x256x128, .bf16⟩
  | .local _ .vmem, ⟨13, _⟩ => ⟨S16x256x128, .bf16⟩
  | .local _ .vmem, ⟨14, _⟩ => ⟨S2048x64, .bf16⟩
  | .local _ .vmem, ⟨15, _⟩ => ⟨S16x256x128, .f32⟩
  | .local _ .vmem, ⟨16, _⟩ => ⟨S256x2048, .f32⟩
  | .local _ .vmem, ⟨17, _⟩ => ⟨S256x2048, .i32⟩
  | .local _ .vmem, ⟨18, _⟩ => ⟨S256x2048, .f32⟩
  | _, _ => ⟨S16x16896x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![8, 1], ![false, false]⟩

@[reducible] def k0_t1_loop : Scf.Loop 32 :=
  let c0_i32_39 : BitVec 32 := 0#32
  let c8_i32 : BitVec 32 := 8#32
  let v105 : BitVec 32 := Scalar.addi c0_i32_39 c8_i32
  let c1_i32 : BitVec 32 := 1#32
  ⟨c0_i32_39, v105, c1_i32⟩
def k0_off1 (k0_t1 : Fin k0_t1_loop.trips) : Fin 3 → Nat :=
  let c0_i32_39 : BitVec 32 := 0#32
  let c1_i32 : BitVec 32 := 1#32
  let arg15 : BitVec 32 := Scf.iv c0_i32_39 c1_i32 k0_t1
  let c2_i32 : BitVec 32 := 2#32
  let v194 : BitVec 32 := Scalar.muli arg15 c2_i32
  let v195 : Index := Scalar.indexCast v194
  let c0_79 : Index := 0#32
  let c0_80 : Index := 0#32
  ![v195.toNat, 0, 0]
def k0_off2 (k0_t1 : Fin k0_t1_loop.trips) (c0_i32_86 : BitVec 32) : Fin 3 → Nat :=
  let c0_i32_39 : BitVec 32 := 0#32
  let c1_i32 : BitVec 32 := 1#32
  let arg15 : BitVec 32 := Scf.iv c0_i32_39 c1_i32 k0_t1
  let c2_i32_85 : BitVec 32 := 2#32
  let v203 : BitVec 32 := Scalar.muli arg15 c2_i32_85
  let v204 : BitVec 32 := Scalar.addi v203 c0_i32_86
  let v205 : Index := Scalar.indexCast v204
  let c0_87 : Index := 0#32
  let c0_88 : Index := 0#32
  ![v205.toNat, 0, 0]
@[reducible] def k0_t2_loop : Scf.Loop 32 :=
  let c0_i32_57 : BitVec 32 := 0#32
  let c31_i32 : BitVec 32 := 31#32
  let v147 : BitVec 32 := Scalar.addi c0_i32_57 c31_i32
  let c1_i32_58 : BitVec 32 := 1#32
  ⟨c0_i32_57, v147, c1_i32_58⟩
@[reducible] def k0_t3_loop : Scf.Loop 32 :=
  let c0_i32_79 : BitVec 32 := 0#32
  let c11_i32 : BitVec 32 := 11#32
  let v194 : BitVec 32 := Scalar.addi c0_i32_79 c11_i32
  let c1_i32_80 : BitVec 32 := 1#32
  ⟨c0_i32_79, v194, c1_i32_80⟩
@[reducible] def k0_t4_loop : Scf.Loop 32 :=
  let c0_i32_76 : BitVec 32 := 0#32
  let c4_i32 : BitVec 32 := 4#32
  let v193 : BitVec 32 := Scalar.addi c0_i32_76 c4_i32
  let c1_i32_77 : BitVec 32 := 1#32
  ⟨c0_i32_76, v193, c1_i32_77⟩
def k0_off3 (k0_t4 : Fin k0_t4_loop.trips) : Fin 3 → Nat :=
  let c0_i32_76 : BitVec 32 := 0#32
  let c1_i32_77 : BitVec 32 := 1#32
  let arg15 : BitVec 32 := Scf.iv c0_i32_76 c1_i32_77 k0_t4
  let v194 : Index := Scalar.indexCast arg15
  let c0_79 : Index := 0#32
  let c0_80 : Index := 0#32
  ![v194.toNat, 0, 0]
def k0_off4 (k0_t4 : Fin k0_t4_loop.trips) : Fin 3 → Nat :=
  let c0_i32_76 : BitVec 32 := 0#32
  let c1_i32_77 : BitVec 32 := 1#32
  let arg15 : BitVec 32 := Scf.iv c0_i32_76 c1_i32_77 k0_t4
  let c4_i32_85 : BitVec 32 := 4#32
  let v201 : BitVec 32 := Scalar.muli arg15 c4_i32_85
  let v202 : Index := Scalar.indexCast v201
  let c0_86 : Index := 0#32
  let c0_87 : Index := 0#32
  ![v202.toNat, 0, 0]
def k0_off5 (k0_t4 : Fin k0_t4_loop.trips) (c0_i32_90 : BitVec 32) : Fin 3 → Nat :=
  let c0_i32_76 : BitVec 32 := 0#32
  let c1_i32_77 : BitVec 32 := 1#32
  let arg15 : BitVec 32 := Scf.iv c0_i32_76 c1_i32_77 k0_t4
  let c4_i32_89 : BitVec 32 := 4#32
  let v206 : BitVec 32 := Scalar.muli arg15 c4_i32_89
  let v207 : BitVec 32 := Scalar.addi v206 c0_i32_90
  let c1_i32_91 : BitVec 32 := 1#32
  let v208 : BitVec 32 := Scalar.addi v207 c1_i32_91
  let v209 : Index := Scalar.indexCast v208
  let c0_92 : Index := 0#32
  let c0_93 : Index := 0#32
  ![v209.toNat, 0, 0]
def k0_off6 (k0_t4 : Fin k0_t4_loop.trips) (c0_i32_90 : BitVec 32) : Fin 3 → Nat :=
  let c0_i32_76 : BitVec 32 := 0#32
  let c1_i32_77 : BitVec 32 := 1#32
  let arg15 : BitVec 32 := Scf.iv c0_i32_76 c1_i32_77 k0_t4
  let c4_i32_89 : BitVec 32 := 4#32
  let v206 : BitVec 32 := Scalar.muli arg15 c4_i32_89
  let v207 : BitVec 32 := Scalar.addi v206 c0_i32_90
  let v236 : Index := Scalar.indexCast v207
  let c0_101 : Index := 0#32
  let c0_102 : Index := 0#32
  ![v236.toNat, 0, 0]
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.addi c7_i32 v0
  let v2 : BitVec 32 := Scalar.addi v1 arg1
  let c0_i32 : BitVec 32 := 0#32
  let c0_i32_0 : BitVec 32 := 0#32
  let c0_i32_1 : BitVec 32 := 0#32
  ![c0_i32.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.addi c7_i32 v0
  let v2 : BitVec 32 := Scalar.addi v1 arg1
  let c0_i32 : BitVec 32 := 0#32
  let c0_i32_0 : BitVec 32 := 0#32
  let c0_i32_1 : BitVec 32 := 0#32
  ![c0_i32.toNat, v2.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.addi c7_i32 v0
  let v2 : BitVec 32 := Scalar.addi v1 arg1
  let c9_i32 : BitVec 32 := 9#32
  let c0_i32 : BitVec 32 := 0#32
  ![v2.toNat, c9_i32.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c8_i32 : BitVec 32 := 8#32
  let c0_i32 : BitVec 32 := 0#32
  ![v0.toNat, c8_i32.toNat]

def cc0_transform_7 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c7_i32 : BitVec 32 := 7#32
  let v1 : BitVec 32 := Scalar.addi c7_i32 v0
  let v2 : BitVec 32 := Scalar.addi v1 arg1
  let c0_i32 : BitVec 32 := 0#32
  let c0_i32_0 : BitVec 32 := 0#32
  let c0_i32_1 : BitVec 32 := 0#32
  ![c0_i32.toNat, v2.toNat, c0_i32_0.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x256x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S16x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.WkvRun.lean ====
/- The run of the recurrence's call: what its outputs hold after each grid point, the body's obligation at every point, and the
   whole call's run with the argument arrays kept. -/
module

public import proofs.«01_k».proof.Proof.Gen.KernelIdeal.Frame.RunA
public import Idealize.ShloMosaic.Lib.Claim
public import Idealize.ShloMosaic.Lib.Pipeline.Value

@[expose] public section

set_option maxRecDepth 16384

noncomputable section

namespace Cert.KernelIdeal.WkvRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The eight column pieces the body stores cover the whole block of the first result. -/
theorem cover0_A_19 (c : Dev nD) (i : grid0.Coords) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x512 .f32) (harg6 : arg6.IsWhole) (arg7 : Memref sig .tc .vmem S1x1x8x1024 .f32) (harg7 : arg7.IsWhole) (arg8 : Memref sig .tc .vmem S1x1x512 .f32) (harg8 : arg8.IsWhole) (arg9 : Memref sig .tc .vmem S1x8x128x128 .f32) (harg9 : arg9.IsWhole) (arg10 : Memref sig .tc .vmem S8x1024 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S256x1024 .bf16) (harg21 : arg21.IsWhole) (arg23 : Memref sig .tc .vmem S64x1024 .bf16) (harg23 : arg23.IsWhole) (arg24 : Memref sig .tc .vmem S1x8x128x128 .f32) (harg24 : arg24.IsWhole) (arg25 : Memref sig .tc .vmem S8x128x128 .f32) (harg25 : arg25.IsWhole) (arg26 : Memref sig .tc .vmem S8x1024 .f32) (harg26 : arg26.IsWhole) (arg27 : Memref sig .tc .vmem S1x512 .f32) (harg27 : arg27.IsWhole) (hc0 : cond0_0 i) (hc1 : cond0_1 i)
    (x0 : Vec F S64x1024 .f32) (x1 : Vec F S64x1024 .f32) (x2 : Vec F S64x1024 .f32) (x3 : Vec F S64x512 .f32) (x4 : Vec F S1x1x8x1024 .f32) (x5 : Vec F S1x1x512 .f32) (x6 : Vec F S1x8x128x128 .f32) (x7 : Vec F S8x1024 .f32) (x8 : Vec F S1x512 .f32) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S128x1024 .bf16) (x17 : Vec F S128x1024 .bf16) (x18 : Vec F S256x1024 .bf16) (y : S64x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 arg24 harg24 arg25 harg25 arg26 harg26 arg27 harg27 hc0 hc1 x0 x1 x2 x3 x4 x5 x6 x7 x8 x9 x10 x11 x12 x13 x14 x15 x16 x17 x18).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 arg24 harg24 arg25 harg25 arg26 harg26 arg27 harg27 hc0 hc1 x0 x1 x2 x3 x4 x5 x6 x7 x8 x9 x10 x11 x12 x13 x14 x15 x16 x17 x18).1 S64x128.size (by sl_kernel_rfl) y

/-- The first result's block after the body. -/
def out0_A_19 (c : Dev nD) (i : grid0.Coords) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x512 .f32) (harg6 : arg6.IsWhole) (arg7 : Memref sig .tc .vmem S1x1x8x1024 .f32) (harg7 : arg7.IsWhole) (arg8 : Memref sig .tc .vmem S1x1x512 .f32) (harg8 : arg8.IsWhole) (arg9 : Memref sig .tc .vmem S1x8x128x128 .f32) (harg9 : arg9.IsWhole) (arg10 : Memref sig .tc .vmem S8x1024 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S256x1024 .bf16) (harg21 : arg21.IsWhole) (arg23 : Memref sig .tc .vmem S64x1024 .bf16) (harg23 : arg23.IsWhole) (arg24 : Memref sig .tc .vmem S1x8x128x128 .f32) (harg24 : arg24.IsWhole) (arg25 : Memref sig .tc .vmem S8x128x128 .f32) (harg25 : arg25.IsWhole) (arg26 : Memref sig .tc .vmem S8x1024 .f32) (harg26 : arg26.IsWhole) (arg27 : Memref sig .tc .vmem S1x512 .f32) (harg27 : arg27.IsWhole) (hc0 : cond0_0 i) (hc1 : cond0_1 i)
    (x0 : Vec F S64x1024 .f32) (x1 : Vec F S64x1024 .f32) (x2 : Vec F S64x1024 .f32) (x3 : Vec F S64x512 .f32) (x4 : Vec F S1x1x8x1024 .f32) (x5 : Vec F S1x1x512 .f32) (x6 : Vec F S1x8x128x128 .f32) (x7 : Vec F S8x1024 .f32) (x8 : Vec F S1x512 .f32) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S128x1024 .bf16) (x17 : Vec F S128x1024 .bf16) (x18 : Vec F S256x1024 .bf16) : Vec F S64x1024 .bf16 :=
  VO0_19.read (Elt F) (VO0_19.writes (Elt F) VO0_19.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 arg24 harg24 arg25 harg25 arg26 harg26 arg27 harg27 hc0 hc1 x0 x1 x2 x3 x4 x5 x6 x7 x8 x9 x10 x11 x12 x13 x14 x15 x16 x17 x18).1)

/-- The one piece the body stores covers the whole block of the second result, the states. -/
theorem cover0_A_20 (c : Dev nD) (i : grid0.Coords) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x512 .f32) (harg6 : arg6.IsWhole) (arg7 : Memref sig .tc .vmem S1x1x8x1024 .f32) (harg7 : arg7.IsWhole) (arg8 : Memref sig .tc .vmem S1x1x512 .f32) (harg8 : arg8.IsWhole) (arg9 : Memref sig .tc .vmem S1x8x128x128 .f32) (harg9 : arg9.IsWhole) (arg10 : Memref sig .tc .vmem S8x1024 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S256x1024 .bf16) (harg21 : arg21.IsWhole) (arg23 : Memref sig .tc .vmem S64x1024 .bf16) (harg23 : arg23.IsWhole) (arg24 : Memref sig .tc .vmem S1x8x128x128 .f32) (harg24 : arg24.IsWhole) (arg25 : Memref sig .tc .vmem S8x128x128 .f32) (harg25 : arg25.IsWhole) (arg26 : Memref sig .tc .vmem S8x1024 .f32) (harg26 : arg26.IsWhole) (arg27 : Memref sig .tc .vmem S1x512 .f32) (harg27 : arg27.IsWhole) (hc0 : cond0_0 i) (hc1 : cond0_1 i)
    (x0 : Vec F S64x1024 .f32) (x1 : Vec F S64x1024 .f32) (x2 : Vec F S64x1024 .f32) (x3 : Vec F S64x512 .f32) (x4 : Vec F S1x1x8x1024 .f32) (x5 : Vec F S1x1x512 .f32) (x6 : Vec F S1x8x128x128 .f32) (x7 : Vec F S8x1024 .f32) (x8 : Vec F S1x512 .f32) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S128x1024 .bf16) (x17 : Vec F S128x1024 .bf16) (x18 : Vec F S256x1024 .bf16) (y : S1x8x128x128.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 arg24 harg24 arg25 harg25 arg26 harg26 arg27 harg27 hc0 hc1 x0 x1 x2 x3 x4 x5 x6 x7 x8 x9 x10 x11 x12 x13 x14 x15 x16 x17 x18).2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 arg24 harg24 arg25 harg25 arg26 harg26 arg27 harg27 hc0 hc1 x0 x1 x2 x3 x4 x5 x6 x7 x8 x9 x10 x11 x12 x13 x14 x15 x16 x17 x18).2.1 S1x8x128x128.size (by sl_kernel_rfl) y

/-- The second result's block after the body. -/
def out0_A_20 (c : Dev nD) (i : grid0.Coords) (arg3 : Memref sig .tc .vmem S64x1024 .f32) (harg3 : arg3.IsWhole) (arg4 : Memref sig .tc .vmem S64x1024 .f32) (harg4 : arg4.IsWhole) (arg5 : Memref sig .tc .vmem S64x1024 .f32) (harg5 : arg5.IsWhole) (arg6 : Memref sig .tc .vmem S64x512 .f32) (harg6 : arg6.IsWhole) (arg7 : Memref sig .tc .vmem S1x1x8x1024 .f32) (harg7 : arg7.IsWhole) (arg8 : Memref sig .tc .vmem S1x1x512 .f32) (harg8 : arg8.IsWhole) (arg9 : Memref sig .tc .vmem S1x8x128x128 .f32) (harg9 : arg9.IsWhole) (arg10 : Memref sig .tc .vmem S8x1024 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x1024 .f32) (harg16 : arg16.IsWhole) (arg17 : Memref sig .tc .vmem S1x1024 .f32) (harg17 : arg17.IsWhole) (arg18 : Memref sig .tc .vmem S1x1024 .f32) (harg18 : arg18.IsWhole) (arg19 : Memref sig .tc .vmem S128x1024 .bf16) (harg19 : arg19.IsWhole) (arg20 : Memref sig .tc .vmem S128x1024 .bf16) (harg20 : arg20.IsWhole) (arg21 : Memref sig .tc .vmem S256x1024 .bf16) (harg21 : arg21.IsWhole) (arg23 : Memref sig .tc .vmem S64x1024 .bf16) (harg23 : arg23.IsWhole) (arg24 : Memref sig .tc .vmem S1x8x128x128 .f32) (harg24 : arg24.IsWhole) (arg25 : Memref sig .tc .vmem S8x128x128 .f32) (harg25 : arg25.IsWhole) (arg26 : Memref sig .tc .vmem S8x1024 .f32) (harg26 : arg26.IsWhole) (arg27 : Memref sig .tc .vmem S1x512 .f32) (harg27 : arg27.IsWhole) (hc0 : cond0_0 i) (hc1 : cond0_1 i)
    (x0 : Vec F S64x1024 .f32) (x1 : Vec F S64x1024 .f32) (x2 : Vec F S64x1024 .f32) (x3 : Vec F S64x512 .f32) (x4 : Vec F S1x1x8x1024 .f32) (x5 : Vec F S1x1x512 .f32) (x6 : Vec F S1x8x128x128 .f32) (x7 : Vec F S8x1024 .f32) (x8 : Vec F S1x512 .f32) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S128x1024 .bf16) (x17 : Vec F S128x1024 .bf16) (x18 : Vec F S256x1024 .bf16) : Vec F S1x8x128x128 .f32 :=
  VO0_20.read (Elt F) (VO0_20.writes (Elt F) VO0_20.junk (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg23 harg23 arg24 harg24 arg25 harg25 arg26 harg26 arg27 harg27 hc0 hc1 x0 x1 x2 x3 x4 x5 x6 x7 x8 x9 x10 x11 x12 x13 x14 x15 x16 x17 x18).2.1)

/-! ## The results' blocks, point by point -/

/-- Both results' blocks after the body has run at point `t`. -/
def outsAt0 (c : Dev nD) (t : Fin cfg0.N) : Vec F S64x1024 .bf16 × Vec F S1x8x128x128 .f32 :=
  (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) (hcond0_1 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) scM0_2 (Memref.isWhole_whole _) (hcond0_0 t) (hcond0_1 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t))

/-! ## What the pipeline keeps -/

/-- What holds along the grid on core `c`: arrays start as the host code left them, an input's buffer keeps its block, a result's
    buffer takes the body's, scratch memory may hold anything between points, and no transfer is left owed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t).1
    | ⟨20, _⟩ => (outsAt0 m c t).2
    | ⟨_ + 21, h⟩ => absurd h (Nat.not_lt.2 (Nat.le_add_left _ _))
  Φ _ := Pipeline.ΦA spec0 c
  q w := Pipeline.shareOf spec0 w
  owed _ := 0

/-- The arrays at the start are those the host code left. -/
theorem A_eq (c : Dev nD) (w : Fin cfg0.W) : (dats m 0 c).A w = V m c (Pipeline.arrRef spec0 w) := by
  dsimp only [dats]

/-- The buffers after the body, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t).1 := by dsimp only [dats]
theorem after0_20 (c : Dev nD) (t : Fin cfg0.N) : (dats m 0 c).after 20 t = (outsAt0 m c t).2 := by dsimp only [dats]

/-- Before the body an input's buffer holds its block, whether this point fetched it or an earlier one did. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body at any point -/

/-- What the body finds at point `t` -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t)

set_option maxHeartbeats 2400000 in
/-- From what it finds the body gets to what it leaves, using scratch memory of any contents and owing no transfer. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  rw [show (dats m 0 c).leavesExact 2 t = owns (c : Thread nD τ) (ms0_2 t) fullShare ((dats m 0 c).after 2 t) from by
      unfold Dat.leavesExact; rw [liveAt0_2 t], after0_2]
  rw [show (dats m 0 c).leavesExact 3 t = owns (c : Thread nD τ) (ms0_3 t) fullShare ((dats m 0 c).after 3 t) from by
      unfold Dat.leavesExact; rw [liveAt0_3 t], after0_3]
  rw [show (dats m 0 c).leavesExact 4 t = owns (c : Thread nD τ) (ms0_4 t) fullShare ((dats m 0 c).after 4 t) from by
      unfold Dat.leavesExact; rw [liveAt0_4 t], after0_4]
  rw [show (dats m 0 c).leavesExact 5 t = owns (c : Thread nD τ) (ms0_5 t) fullShare ((dats m 0 c).after 5 t) from by
      unfold Dat.leavesExact; rw [liveAt0_5 t], after0_5]
  rw [show (dats m 0 c).leavesExact 6 t = owns (c : Thread nD τ) (ms0_6 t) fullShare ((dats m 0 c).after 6 t) from by
      unfold Dat.leavesExact; rw [liveAt0_6 t], after0_6]
  rw [show (dats m 0 c).leavesExact 7 t = owns (c : Thread nD τ) (ms0_7 t) fullShare ((dats m 0 c).after 7 t) from by
      unfold Dat.leavesExact; rw [liveAt0_7 t], after0_7]
  rw [show (dats m 0 c).leavesExact 8 t = owns (c : Thread nD τ) (ms0_8 t) fullShare ((dats m 0 c).after 8 t) from by
      unfold Dat.leavesExact; rw [liveAt0_8 t], after0_8]
  rw [show (dats m 0 c).leavesExact 9 t = owns (c : Thread nD τ) (ms0_9 t) fullShare ((dats m 0 c).after 9 t) from by
      unfold Dat.leavesExact; rw [liveAt0_9 t], after0_9]
  rw [show (dats m 0 c).leavesExact 10 t = owns (c : Thread nD τ) (ms0_10 t) fullShare ((dats m 0 c).after 10 t) from by
      unfold Dat.leavesExact; rw [liveAt0_10 t], after0_10]
  rw [show (dats m 0 c).leavesExact 11 t = owns (c : Thread nD τ) (ms0_11 t) fullShare ((dats m 0 c).after 11 t) from by
      unfold Dat.leavesExact; rw [liveAt0_11 t], after0_11]
  rw [show (dats m 0 c).leavesExact 12 t = owns (c : Thread nD τ) (ms0_12 t) fullShare ((dats m 0 c).after 12 t) from by
      unfold Dat.leavesExact; rw [liveAt0_12 t], after0_12]
  rw [show (dats m 0 c).leavesExact 13 t = owns (c : Thread nD τ) (ms0_13 t) fullShare ((dats m 0 c).after 13 t) from by
      unfold Dat.leavesExact; rw [liveAt0_13 t], after0_13]
  rw [show (dats m 0 c).leavesExact 14 t = owns (c : Thread nD τ) (ms0_14 t) fullShare ((dats m 0 c).after 14 t) from by
      unfold Dat.leavesExact; rw [liveAt0_14 t], after0_14]
  rw [show (dats m 0 c).leavesExact 15 t = owns (c : Thread nD τ) (ms0_15 t) fullShare ((dats m 0 c).after 15 t) from by
      unfold Dat.leavesExact; rw [liveAt0_15 t], after0_15]
  rw [show (dats m 0 c).leavesExact 16 t = owns (c : Thread nD τ) (ms0_16 t) fullShare ((dats m 0 c).after 16 t) from by
      unfold Dat.leavesExact; rw [liveAt0_16 t], after0_16]
  rw [show (dats m 0 c).leavesExact 17 t = owns (c : Thread nD τ) (ms0_17 t) fullShare ((dats m 0 c).after 17 t) from by
      unfold Dat.leavesExact; rw [liveAt0_17 t], after0_17]
  rw [show (dats m 0 c).leavesExact 18 t = owns (c : Thread nD τ) (ms0_18 t) fullShare ((dats m 0 c).after 18 t) from by
      unfold Dat.leavesExact; rw [liveAt0_18 t], after0_18]
  rw [show (dats m 0 c).leavesExact 19 t = owns (c : Thread nD τ) (ms0_19 t) fullShare ((dats m 0 c).after 19 t) from by
      unfold Dat.leavesExact; rw [liveAt0_19 t], after0_19]
  rw [show (dats m 0 c).leavesExact 20 t = owns (c : Thread nD τ) (ms0_20 t) fullShare ((dats m 0 c).after 20 t) from by
      unfold Dat.leavesExact; rw [liveAt0_20_A t (hcond0_0 t) (hcond0_1 t)], after0_20]
  unfold outsAt0
  unfold out0_A_19 out0_A_20; (try dsimp only)
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ (hcond0_0 t) (hcond0_1 t) (X0_0 m c t) (X0_1 m c t) (X0_2 m c t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, ⟨%e20, H20⟩, ⟨%fT0, HS0⟩, ⟨%fT1, HS1⟩, ⟨%fT2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H20
  ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body that point `t` calls. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- So the pipeline's demand on its body is met at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole call: it ends without fault, its arrays as the pipeline computes them, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

/-- The frame over any float values: arguments kept and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (unchanged m ρ) ((θ_run defs _ _).mono (fun _ h => h.2) (run_main_quiescent m ρ))

end Cert.KernelIdeal.WkvRun

end
-- ==== Proof.WkvFrames.lean ====
/- The frames of the recurrence's three programs. The kernel's two readings have the same text, so one run serves both. -/
module

public import proofs.«01_k».proof.Defs
public import proofs.«01_k».proof.Proof.WkvRun
public import proofs.«01_k».proof.Proof.Gen.Kernel
public import proofs.«01_k».proof.Proof.Gen.ReferenceIdeal.Run
public import Idealize.ShloMosaic.Lib.Quiescent

@[expose] public section

set_option maxRecDepth 16384

noncomputable section

open Idealize.ShloMosaic Idealize.ShloMosaic.TcCoe Idealize.ShloMosaic.Tactic Idealize.SL.Sem

namespace Cert.ReferenceIdeal.Kept

open Cert.ReferenceIdeal Cert.ReferenceIdeal.Gen Cert.ReferenceIdeal.Value Idealize.ShloMosaic.StableHlo

/-- What `hostOps0_3` writes. -/
abbrev hostOps0_3_W : List (Ref sig .tc) := [main_v88, main_cst_9, main_v89, main_v90, main_cst_10, main_v91, main_v92, main_v93, main_v94, main_v95, main_cst_11, main_v96, main_v97, main_cst_12, main_v98, main_v99, main_v100, main_v101, main_cst_13, main_v102, main_v103, main_v104, main_v105, main_v106, main_v107, main_v108, main_v109, main_v110, main_v111, main_v112, main_v113, main_v114, main_v115, main_v116, main_v117, main_v118, main_v119, main_v120, main_cst_14, main_v121, main_v122, main_v123, main_v124, main_v125, main_v126, main_v127, main_v128, main_v129, main_v130, main_v131, main_v132, main_v133, main_v134, main_v135, main_c_15]
theorem hostOps0_3_writes : (hostOps0_3 : List (HloOp τ sig (Elt Ideal))).Forall fun op => op.writes ⊆ (hostOps0_3_W.map (Proc.devRef (τ := τ) .tc)).toFinset :=
  StableHlo.forall_writes_sub_of_map rfl

/-- What `hostOps0_4` writes. -/
abbrev hostOps0_4_W : List (Ref sig .tc) := [main_call8_v0, main_v136]
theorem hostOps0_4_writes : (hostOps0_4 : List (HloOp τ sig (Elt Ideal))).Forall fun op => op.writes ⊆ (hostOps0_4_W.map (Proc.devRef (τ := τ) .tc)).toFinset :=
  StableHlo.forall_writes_sub_of_map rfl

/-- What `hostOps0_5` writes. -/
abbrev hostOps0_5_W : List (Ref sig .tc) := [main_v137, main_v138, main_c_16]
theorem hostOps0_5_writes : (hostOps0_5 : List (HloOp τ sig (Elt Ideal))).Forall fun op => op.writes ⊆ (hostOps0_5_W.map (Proc.devRef (τ := τ) .tc)).toFinset :=
  StableHlo.forall_writes_sub_of_map rfl

/-- What `hostOps0_6` writes. -/
abbrev hostOps0_6_W : List (Ref sig .tc) := [main_call9_v0, main_v139]
theorem hostOps0_6_writes : (hostOps0_6 : List (HloOp τ sig (Elt Ideal))).Forall fun op => op.writes ⊆ (hostOps0_6_W.map (Proc.devRef (τ := τ) .tc)).toFinset :=
  StableHlo.forall_writes_sub_of_map rfl

/-- What `hostOps0_7` writes. -/
abbrev hostOps0_7_W : List (Ref sig .tc) := [main_v140]
theorem hostOps0_7_writes : (hostOps0_7 : List (HloOp τ sig (Elt Ideal))).Forall fun op => op.writes ⊆ (hostOps0_7_W.map (Proc.devRef (τ := τ) .tc)).toFinset :=
  StableHlo.forall_writes_sub_of_map rfl

/-- The buffers the reference writes, stretch by stretch, the loop's among them. -/
abbrev written : List (List (Ref sig .tc)) :=
  [condOps_W, hostOps0_W, hostOps0_1_W, hostOps0_2_W, while0Ops0_W, while0Ops0_1_W, while0Ops0_2_W, while0Ops0_3_W, while0Ops0_4_W, while0Ops0_5_W, while0Ops0_6_W, while0Ops0_7_W, while0Ops0_8_W, hostOps0_3_W, hostOps0_4_W, hostOps0_5_W, hostOps0_6_W, hostOps0_7_W]

/-- A buffer that no stretch writes. -/
abbrev Untouched (b : Ref sig .tc) : Prop :=
  ∀ W ∈ written, b ∉ W

variable (m : (ℓ : Loc nD τ sig) → Buf (Elt Ideal) ℓ) (c : Dev nD) (b : Ref sig .tc) (h : Untouched b)
include h

/-- Before the loop such a buffer is as launched. -/
theorem entry : entryContents preI m c (Proc.devRef .tc b) = m ((c.tc : Thread nD τ).loc b) := by
  simp only [entryContents, afterL_cons, afterL_nil]
  rw [after_of_writes_sub hostOps0_2 _ hostOps0_2_writes (h _ (.tail _ (.tail _ (.tail _ (.head _))))),
      after_of_writes_sub hostOps0_1 _ hostOps0_1_writes (h _ (.tail _ (.tail _ (.head _)))),
      after_of_writes_sub hostOps0 _ hostOps0_writes (h _ (.tail _ (.head _)))]

/-- After any number of trips as well. -/
theorem trips : ∀ k, atK m k c (Proc.devRef .tc b) = m ((c.tc : Thread nD τ).loc b)
  | 0 => entry m c b h
  | k + 1 => by
    rw [show atK m (k + 1) c = afterL bodyI (after condOps (atK m k c)) from rfl]
    simp only [afterL_cons, afterL_nil]
    rw [after_of_writes_sub while0Ops0_8 _ while0Ops0_8_writes (h _ (.tail _ (.tail _ (.tail _ (.tail _ (.tail _ (.tail _ (.tail _ (.tail _ (.tail _ (.tail _ (.tail _ (.tail _ (.head _)))))))))))))),
      after_of_writes_sub while0Ops0_7 _ while0Ops0_7_writes (h _ (.tail _ (.tail _ (.tail _ (.tail _ (.tail _ (.tail _ (.tail _ (.tail _ (.tail _ (.tail _ (.tail _ (.head _))))))))))))),
      after_of_writes_sub while0Ops0_6 _ while0Ops0_6_writes (h _ (.tail _ (.tail _ (.tail _ (.tail _ (.tail _ (.tail _ (.tail _ (.tail _ (.tail _ (.tail _ (.head _)))))))))))),
      after_of_writes_sub while0Ops0_5 _ while0Ops0_5_writes (h _ (.tail _ (.tail _ (.tail _ (.tail _ (.tail _ (.tail _ (.tail _ (.tail _ (.tail _ (.head _))))))))))),
      after_of_writes_sub while0Ops0_4 _ while0Ops0_4_writes (h _ (.tail _ (.tail _ (.tail _ (.tail _ (.tail _ (.tail _ (.tail _ (.tail _ (.head _)))))))))),
      after_of_writes_sub while0Ops0_3 _ while0Ops0_3_writes (h _ (.tail _ (.tail _ (.tail _ (.tail _ (.tail _ (.tail _ (.tail _ (.head _))))))))),
      after_of_writes_sub while0Ops0_2 _ while0Ops0_2_writes (h _ (.tail _ (.tail _ (.tail _ (.tail _ (.tail _ (.tail _ (.head _)))))))),
      after_of_writes_sub while0Ops0_1 _ while0Ops0_1_writes (h _ (.tail _ (.tail _ (.tail _ (.tail _ (.tail _ (.head _))))))),
      after_of_writes_sub while0Ops0 _ while0Ops0_writes (h _ (.tail _ (.tail _ (.tail _ (.tail _ (.head _)))))),
      after_of_writes_sub condOps _ condOps_writes (h _ (.head _)), trips k]

/-- And at the end. -/
theorem final : finalContents condOps preI bodyI postI 64 m c (Proc.devRef .tc b) = m ((c.tc : Thread nD τ).loc b) := by
  show afterL postI (after condOps (atK m 64 c)) (Proc.devRef .tc b) = _
  simp only [afterL_cons, afterL_nil]
  rw [after_of_writes_sub hostOps0_7 _ hostOps0_7_writes (h _ (.tail _ (.tail _ (.tail _ (.tail _ (.tail _ (.tail _ (.tail _ (.tail _ (.tail _ (.tail _ (.tail _ (.tail _ (.tail _ (.tail _ (.tail _ (.tail _ (.tail _ (.head _))))))))))))))))))),
      after_of_writes_sub hostOps0_6 _ hostOps0_6_writes (h _ (.tail _ (.tail _ (.tail _ (.tail _ (.tail _ (.tail _ (.tail _ (.tail _ (.tail _ (.tail _ (.tail _ (.tail _ (.tail _ (.tail _ (.tail _ (.tail _ (.head _)))))))))))))))))),
      after_of_writes_sub hostOps0_5 _ hostOps0_5_writes (h _ (.tail _ (.tail _ (.tail _ (.tail _ (.tail _ (.tail _ (.tail _ (.tail _ (.tail _ (.tail _ (.tail _ (.tail _ (.tail _ (.tail _ (.tail _ (.head _))))))))))))))))),
      after_of_writes_sub hostOps0_4 _ hostOps0_4_writes (h _ (.tail _ (.tail _ (.tail _ (.tail _ (.tail _ (.tail _ (.tail _ (.tail _ (.tail _ (.tail _ (.tail _ (.tail _ (.tail _ (.tail _ (.head _)))))))))))))))),
      after_of_writes_sub hostOps0_3 _ hostOps0_3_writes (h _ (.tail _ (.tail _ (.tail _ (.tail _ (.tail _ (.tail _ (.tail _ (.tail _ (.tail _ (.tail _ (.tail _ (.tail _ (.tail _ (.head _))))))))))))))),
    after_of_writes_sub condOps _ condOps_writes (h _ (.head _)), trips m c b h 64]

end Cert.ReferenceIdeal.Kept

namespace Cert.Proof.Wkv

/-- The idealized kernel's frame. -/
theorem frame_ideal : Cert.quiescent_KernelIdeal := fun m ρ _ => Cert.KernelIdeal.WkvRun.frame (F := Ideal) m ρ

/-- The kernel's own frame: the same run over words. -/
theorem frame : Cert.quiescent_Kernel := by
  have h := fun (m : (ℓ : Loc Cert.KernelIdeal.nD Cert.KernelIdeal.τ Cert.KernelIdeal.sig) → Buf (Elt Bits) ℓ) (g : Dev Cert.KernelIdeal.nD → PrngReg)
    (_ : True) => Cert.KernelIdeal.WkvRun.frame (F := Bits) m g
  exact Eq.mp (by sl_kernel_rfl) h

/-- The reference's frame. -/
theorem frame_ref : Cert.quiescent_ReferenceIdeal := fun m ρ _ =>
  (θ_run Cert.ReferenceIdeal.defs _ _).mono (fun r h => ⟨fun c => ⟨(h c Cert.ReferenceIdeal.main_arg0 rfl).trans (Cert.ReferenceIdeal.Kept.final m c _ (by decide +kernel)),
      (h c Cert.ReferenceIdeal.main_arg1 rfl).trans (Cert.ReferenceIdeal.Kept.final m c _ (by decide +kernel)),
      (h c Cert.ReferenceIdeal.main_arg2 rfl).trans (Cert.ReferenceIdeal.Kept.final m c _ (by decide +kernel)),
      (h c Cert.ReferenceIdeal.main_arg3 rfl).trans (Cert.ReferenceIdeal.Kept.final m c _ (by decide +kernel)),
      (h c Cert.ReferenceIdeal.main_arg4 rfl).trans (Cert.ReferenceIdeal.Kept.final m c _ (by decide +kernel)),
      (h c Cert.ReferenceIdeal.main_arg5 rfl).trans (Cert.ReferenceIdeal.Kept.final m c _ (by decide +kernel)),
      (h c Cert.ReferenceIdeal.main_arg6 rfl).trans (Cert.ReferenceIdeal.Kept.final m c _ (by decide +kernel)),
      (h c Cert.ReferenceIdeal.main_arg7 rfl).trans (Cert.ReferenceIdeal.Kept.final m c _ (by decide +kernel)),
      (h c Cert.ReferenceIdeal.main_arg8 rfl).trans (Cert.ReferenceIdeal.Kept.final m c _ (by decide +kernel)),
      (h c Cert.ReferenceIdeal.main_arg9 rfl).trans (Cert.ReferenceIdeal.Kept.final m c _ (by decide +kernel)),
      (h c Cert.ReferenceIdeal.main_arg10 rfl).trans (Cert.ReferenceIdeal.Kept.final m c _ (by decide +kernel)),
      (h c Cert.ReferenceIdeal.main_arg11 rfl).trans (Cert.ReferenceIdeal.Kept.final m c _ (by decide +kernel)),
      (h c Cert.ReferenceIdeal.main_arg12 rfl).trans (Cert.ReferenceIdeal.Kept.final m c _ (by decide +kernel)),
      (h c Cert.ReferenceIdeal.main_arg13 rfl).trans (Cert.ReferenceIdeal.Kept.final m c _ (by decide +kernel)),
      (h c Cert.ReferenceIdeal.main_arg14 rfl).trans (Cert.ReferenceIdeal.Kept.final m c _ (by decide +kernel))⟩,
      Idealize.ShloMosaic.sem_eq_zero_of_no_sems (by decide) r.2⟩)
    (Cert.ReferenceIdeal.Value.run_fold (F := Ideal) m ρ)

end Cert.Proof.Wkv

end
-- ==== Proof.FfnUp.lean ====
/- The up projection of the feed-forward layer: the pipelined kernel's result array is, entry by entry,
   `silu (h · Wg) · (h · Wu)`, which is the host reference's. -/
module

public import proofs.«01_k».proof.Defs
public import proofs.«01_k».proof.Proof.Gen.FfnUp.Frame
public import proofs.«01_k».proof.Proof.Gen.FfnUpIdeal.Value
public import proofs.«01_k».proof.Proof.Gen.FfnUpRefIdeal.Read
public import Idealize.ShloMosaic.Lib.MatmulPlain
public import Idealize.ShloMosaic.Lib.ValueIdx
public import Idealize.ShloMosaic.Lib.StableHlo.Run
public import Idealize.ShloMosaic.Lib.Quiescent

@[expose] public section

set_option maxRecDepth 16384

noncomputable section

open Idealize.ShloMosaic Idealize.ShloMosaic.TcCoe Idealize.SL.Sem Idealize.ShloMosaic.ValueIdx
open Idealize.ShloMosaic.Pipeline (Dat)

namespace Cert.FfnUpIdeal.UpValue

open Cert.FfnUpIdeal Cert.FfnUpIdeal.Gen

/-- The gate and the up product multiplied: `g · (1 / (1 + exp (0 - g))) · u`. -/
def glu (g u : EReal) : EReal :=
  g * Ideal.div (Ideal.ofBits .f32 0x3F800000#32) (Ideal.ofBits .f32 0x3F800000#32 + Ideal.exp (-g)) * u

/-- The result array as one function of the three argument arrays. -/
def spec (x : FVec Ideal S16896x4096 .bf16) (wg wu : FVec Ideal S1x4096x11008 .f32) : FVec Ideal S16896x11008 .bf16 := fun i =>
  glu (∑ k : Fin 4096, x (ix2 (i 0) k) * wg (ix3 (0 : Fin 1) k (i 1))) (∑ k : Fin 4096, x (ix2 (i 0) k) * wu (ix3 (0 : Fin 1) k (i 1)))

variable (m : (ℓ : Loc nD τ sig) → Buf (Elt Ideal) ℓ) (ρ : Dev nD → PrngReg)

theorem hz : (![0, 0] : Fin 2 → Nat) = fun _ => 0 := funext fun a => by fin_cases a <;> rfl

/-- The body's stored block at an index, of its loaded blocks. -/
theorem pay_apply (x : FVec Ideal S1536x4096 .bf16) (a b : FVec Ideal S4096x256 .bf16) (r : Fin 1536) (c : Fin 256) :
    k0_pay1 (F := Ideal) x a x b (ix2 r c)
      = glu (∑ k : Fin 4096, x (ix2 r k) * a (ix2 k c)) (∑ k : Fin 4096, x (ix2 r k) * b (ix2 k c)) := by
  have hm (w : FVec Ideal S4096x256 .bf16) :
      matmul (F := Ideal) dot_S1536x4096_S4096x256_S1536x256_1_0_0_1_n_n none x w (constant S1536x256 .f32 0x00000000#32) (ix2 r c)
        = ∑ k : Fin 4096, x (ix2 r k) * w (ix2 k c) := by
    refine (Ideal.matmul_plain_apply none x w (constant S1536x256 .f32 0x00000000#32) r c).trans ?_
    show Ideal.ofBits .f32 0x00000000#32 + _ = _
    rw [Ideal.ofBits_zero_f32, zero_add]
  unfold k0_pay1
  simp only [shapeCast_self]
  rw [← hm a, ← hm b]
  show (_ : EReal) * Ideal.div _ (_ + Ideal.exp (Ideal.ofBits .f32 0x00000000#32 - _)) * _ = _
  rw [Ideal.ofBits_zero_f32, zero_sub]
  rfl

/-- The gate weights as the region finds them, at an index. -/
theorem V_v3 (c : Dev nD) (k : Fin 4096) (n : Fin 11008) :
    V m c main_v3 (ix2 k n) = m ((c : Thread nD τ).loc main_arg1) (ix3 (0 : Fin 1) k n) := by
  have e : V m c main_v3 = concatenate S4096x11008 1 [⟨S4096x11008, truncf .bf16 (shapeCast S4096x11008 (m ((c : Thread nD τ).loc main_arg1)) shapeCasts_S1x4096x11008_S4096x11008 : FVec Ideal S4096x11008 .f32) bitsLt_bf16_f32⟩,
      ⟨S4096x0, broadcastInDim S4096x0 ![] bcast_S_S4096x0 (constant (F := Ideal) S_ .bf16 0x0000#16)⟩] concatenates_S4096x11008_S4096x0_S4096x11008_d1 := by
    unfold V
    simp only [hostOps0]
    after_results
    rfl
  rw [e]
  refine (concatenate_pair_apply_left (t := S4096x11008) (s₁ := S4096x11008) (s₂ := S4096x0) 1 _ _ _ (ix2 k n) rfl (ix2 k n) ?_).trans ?_
  · intro b
    match b with
    | ⟨0, _⟩ => rfl
    | ⟨1, _⟩ => rfl
  rw [truncf_apply]
  refine shapeCast_apply _ _ _ (ix3 (0 : Fin 1) k n) ?_
  rewrite [Shape.rowMajor_val_three, Shape.rowMajor_val_two]
  show (0 * 4096 + k.val) * 11008 + n.val = k.val * 11008 + n.val
  omega

/-- The up weights as the region finds them, at an index. -/
theorem V_v6 (c : Dev nD) (k : Fin 4096) (n : Fin 11008) :
    V m c main_v6 (ix2 k n) = m ((c : Thread nD τ).loc main_arg2) (ix3 (0 : Fin 1) k n) := by
  have e : V m c main_v6 = concatenate S4096x11008 1 [⟨S4096x11008, truncf .bf16 (shapeCast S4096x11008 (m ((c : Thread nD τ).loc main_arg2)) shapeCasts_S1x4096x11008_S4096x11008 : FVec Ideal S4096x11008 .f32) bitsLt_bf16_f32⟩,
      ⟨S4096x0, broadcastInDim S4096x0 ![] bcast_S_S4096x0 (constant (F := Ideal) S_ .bf16 0x0000#16)⟩] concatenates_S4096x11008_S4096x0_S4096x11008_d1 := by
    unfold V
    simp only [hostOps0]
    after_results
    rfl
  rw [e]
  refine (concatenate_pair_apply_left (t := S4096x11008) (s₁ := S4096x11008) (s₂ := S4096x0) 1 _ _ _ (ix2 k n) rfl (ix2 k n) ?_).trans ?_
  · intro b
    match b with
    | ⟨0, _⟩ => rfl
    | ⟨1, _⟩ => rfl
  rw [truncf_apply]
  refine shapeCast_apply _ _ _ (ix3 (0 : Fin 1) k n) ?_
  rewrite [Shape.rowMajor_val_three, Shape.rowMajor_val_two]
  show (0 * 4096 + k.val) * 11008 + n.val = k.val * 11008 + n.val
  omega

theorem idx_facts : ∀ t : Fin grid0.N,
    win0_3.index t 0 = t.val / 43 ∧ win0_3.index t 1 = t.val % 43
    ∧ win0_0.index t 0 = t.val / 43 ∧ win0_0.index t 1 = 0
    ∧ win0_1.index t 0 = 0 ∧ win0_1.index t 1 = t.val % 43
    ∧ win0_2.index t 0 = 0 ∧ win0_2.index t 1 = t.val % 43 := by decide +kernel

/-- What device `c`'s result array is shown to hold. -/
abbrev G (c : Dev nD) : FVec Ideal S16896x11008 .bf16 :=
  spec (m ((c : Thread nD τ).loc main_arg0)) (m ((c : Thread nD τ).loc main_arg1)) (m ((c : Thread nD τ).loc main_arg2))

/-- The row block of `h` at point `t`, at an index. -/
theorem blk0 (c : Dev nD) (t : Fin cfg0.N) (r : Fin 1536) (k : Fin 4096) (R : Fin 16896) (h : R.val = t.val / 43 * 1536 + r.val) :
    iblk m c 0 t (ix2 r k) = m ((c : Thread nD τ).loc main_arg0) (ix2 R k) := by
  unfold iblk
  rw [View.read_apply]
  show V m c main_arg0 _ = _
  rw [V_main_arg0]
  obtain ⟨-, -, h0, h1, -⟩ := idx_facts t
  congr 1
  funext a
  apply Fin.ext
  match a with
  | ⟨0, _⟩ => show win0_0.index t 0 * 1536 + 1 * r.val = R.val; rw [h0]; omega
  | ⟨1, _⟩ => show win0_0.index t 1 * 4096 + 1 * k.val = k.val; rw [h1]; omega

/-- The column block of the gate weights at point `t`, at an index. -/
theorem blk1 (c : Dev nD) (t : Fin cfg0.N) (k : Fin 4096) (n : Fin 256) (N : Fin 11008) (h : N.val = t.val % 43 * 256 + n.val) :
    iblk m c 1 t (ix2 k n) = m ((c : Thread nD τ).loc main_arg1) (ix3 (0 : Fin 1) k N) := by
  unfold iblk
  rw [View.read_apply, ← V_v3 m c]
  obtain ⟨-, -, -, -, h0, h1, -⟩ := idx_facts t
  refine congrArg (V m c main_v3) ?_
  funext a
  apply Fin.ext
  match a with
  | ⟨0, _⟩ => show win0_1.index t 0 * 4096 + 1 * k.val = k.val; rw [h0]; omega
  | ⟨1, _⟩ => show win0_1.index t 1 * 256 + 1 * n.val = N.val; rw [h1]; omega

/-- The column block of the up weights at point `t`, at an index. -/
theorem blk2 (c : Dev nD) (t : Fin cfg0.N) (k : Fin 4096) (n : Fin 256) (N : Fin 11008) (h : N.val = t.val % 43 * 256 + n.val) :
    iblk m c 2 t (ix2 k n) = m ((c : Thread nD τ).loc main_arg2) (ix3 (0 : Fin 1) k N) := by
  unfold iblk
  rw [View.read_apply, ← V_v6 m c]
  obtain ⟨-, -, -, -, -, -, h0, h1⟩ := idx_facts t
  refine congrArg (V m c main_v6) ?_
  funext a
  apply Fin.ext
  match a with
  | ⟨0, _⟩ => show win0_2.index t 0 * 4096 + 1 * k.val = k.val; rw [h0]; omega
  | ⟨1, _⟩ => show win0_2.index t 1 * 256 + 1 * n.val = N.val; rw [h1]; omega

/-- Where point `t` writes entry `(r, n)` of its block in the result array. -/
theorem read3 (g : FVec Ideal S16896x11008 .bf16) (t : Fin cfg0.N) (r : Fin 1536) (n : Fin 256) (R : Fin 16896) (N : Fin 11008)
    (hR : R.val = t.val / 43 * 1536 + r.val) (hN : N.val = t.val % 43 * 256 + n.val) :
    ((cfg0.win 3).blk t).view.read (Elt Ideal) g (ix2 r n) = g (ix2 R N) := by
  rw [View.read_apply]
  obtain ⟨h0, h1, -⟩ := idx_facts t
  refine congrArg g ?_
  funext a
  apply Fin.ext
  match a with
  | ⟨0, _⟩ => show win0_3.index t 0 * 1536 + 1 * r.val = R.val; rw [h0]; omega
  | ⟨1, _⟩ => show win0_3.index t 1 * 256 + 1 * n.val = N.val; rw [h1]; omega

/-- What point `t` writes back is block `t` of `G`. -/
theorem flushed_eq (c : Dev nD) (t : Fin cfg0.N) :
    (dats m 0 c).flushed 3 t = ((cfg0.win 3).blk t).view.read (Elt Ideal) (G m c) := by
  rw [Value.flushed3]
  unfold out0_3
  rw [View.canon_unit_zero hz, View.ld_unit_zero hz, View.ld_unit_zero hz, View.ld_unit_zero hz]
  have hN : cfg0.N = 473 := N_0
  have ht : t.val < 473 := hN ▸ t.isLt
  funext j
  obtain ⟨r, n, rfl⟩ : ∃ (r : Fin 1536) (n : Fin 256), j = ix2 r n := ⟨j 0, j 1, eq_ix2 j⟩
  have hr : r.val < 1536 := r.isLt
  have hn : n.val < 256 := n.isLt
  let R : Fin 16896 := ⟨t.val / 43 * 1536 + r.val, by omega⟩
  let N : Fin 11008 := ⟨t.val % 43 * 256 + n.val, by omega⟩
  refine Eq.trans (pay_apply (iblk m c 0 t) (iblk m c 1 t) (iblk m c 2 t) r n) ((read3 (G m c) t r n R N rfl rfl).trans ?_).symm
  show glu (∑ k : Fin 4096, _) (∑ k : Fin 4096, _) = _
  exact congrArg₂ glu
    (Finset.sum_congr rfl fun k _ => by rw [blk0 m c t r k R rfl, blk1 m c t k n N rfl])
    (Finset.sum_congr rfl fun k _ => by rw [blk0 m c t r k R rfl, blk2 m c t k n N rfl])

/-- An index of the result array is in point `t`'s block exactly when both coordinates are in its ranges. -/
theorem mem_blk (t : Fin cfg0.N) (i : S16896x11008.Idx) :
    i ∈ ((cfg0.win 3).blk t).view.set ↔
      (t.val / 43 * 1536 ≤ (i 0 : Nat) ∧ (i 0 : Nat) < t.val / 43 * 1536 + 1536)
      ∧ (t.val % 43 * 256 ≤ (i 1 : Nat) ∧ (i 1 : Nat) < t.val % 43 * 256 + 256) := by
  show i ∈ ((View.whole main_v7).slice (win0_3.rect t)).set ↔ _
  rw [View.set_slice_whole, Rect.mem_set_unit]
  obtain ⟨h0, h1, -⟩ := idx_facts t
  have e0 : win0_3.index t 0 * win0_3.size 0 = t.val / 43 * 1536 := by rw [h0]; rfl
  have e1 : win0_3.index t 1 * win0_3.size 1 = t.val % 43 * 256 := by rw [h1]; rfl
  have s0 : win0_3.xsize (grid0.coords t) 0 = 1536 := rfl
  have s1 : win0_3.xsize (grid0.coords t) 1 = 256 := rfl
  refine ⟨fun h => ⟨?_, ?_⟩, fun h a => ?_⟩
  · have : win0_3.index t 0 * win0_3.size 0 ≤ (i 0 : Nat) ∧ (i 0 : Nat) < win0_3.index t 0 * win0_3.size 0 + win0_3.xsize (grid0.coords t) 0 := h 0
    rw [e0, s0] at this; exact this
  · have : win0_3.index t 1 * win0_3.size 1 ≤ (i 1 : Nat) ∧ (i 1 : Nat) < win0_3.index t 1 * win0_3.size 1 + win0_3.xsize (grid0.coords t) 1 := h 1
    rw [e1, s1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, s0]; exact h.1
    | ⟨1, _⟩ => show win0_3.index t 1 * win0_3.size 1 ≤ (i 1 : Nat) ∧ (i 1 : Nat) < win0_3.index t 1 * win0_3.size 1 + win0_3.xsize (grid0.coords t) 1
                rw [e1, s1]; exact h.2

/-- The blocks tile the result array. -/
theorem cover (i : S16896x11008.Idx) :
    ∃ t : Fin cfg0.N, (cfg0.win 3).flush t = true ∧ i ∈ ((cfg0.win 3).blk t).view.set := by
  have h0 : (i 0 : Nat) < 16896 := (i 0).isLt
  have h1 : (i 1 : Nat) < 11008 := (i 1).isLt
  have hN : cfg0.N = 473 := N_0
  refine ⟨⟨(i 0 : Nat) / 1536 * 43 + (i 1 : Nat) / 256, by omega⟩, flush0_3 _, ?_⟩
  rw [mem_blk]
  dsimp only
  omega

/-- So the result array ends holding `G`. -/
theorem final (c : Dev nD) : (dats m 0 c).arrAt 3 cfg0.N = G m c :=
  (dats m 0 c).arrAt_eq_of_cover 3 (G m c) (fun t _ => flushed_eq m c t) cover

end Cert.FfnUpIdeal.UpValue

namespace Cert.FfnUpRefIdeal.RefValue

open Cert.FfnUpRefIdeal Cert.FfnUpRefIdeal.Gen

/-- The reference's result is the same function of its arguments. -/
theorem val_eq (x : FVec Ideal S16896x4096 .bf16) (wg wu : FVec Ideal S1x4096x11008 .f32) :
    Read.val_main_v7 (F := Ideal) x wg wu = Cert.FfnUpIdeal.UpValue.spec x wg wu := by
  funext i
  obtain ⟨r, n, rfl⟩ : ∃ (r : Fin 16896) (n : Fin 11008), i = ix2 r n := ⟨i 0, i 1, eq_ix2 i⟩
  have hw (w : FVec Ideal S1x4096x11008 .f32) (k : Fin 4096) :
      Read.val_main_v1 (F := Ideal) w (ix2 k n) = w (ix3 (0 : Fin 1) k n) := by
    rw [Read.val_main_v1_apply]
    refine congrArg w (funext fun a => Fin.ext ?_)
    have hk : k.val < 4096 := k.isLt
    have hn : n.val < 11008 := n.isLt
    match a with
    | ⟨0, _⟩ => rfl
    | ⟨1, _⟩ => show (k.val * 11008 + n.val) / 11008 % 4096 = k.val; omega
    | ⟨2, _⟩ => show (k.val * 11008 + n.val) % 11008 = n.val; omega
  have hd (w : FVec Ideal S1x4096x11008 .f32) :
      Read.val_main_v2 (F := Ideal) x w (ix2 r n) = ∑ k : Fin 4096, x (ix2 r k) * w (ix3 (0 : Fin 1) k n) := by
    rw [Read.val_main_v2_apply]
    refine Finset.sum_congr rfl fun k _ => ?_
    show x _ * Read.val_main_v1 (F := Ideal) w (Read.ridx_main_v2 (ix2 r n) k) = _
    rw [show Read.ridx_main_v2 (ix2 r n) k = ix2 k n from funext fun a => by match a with | ⟨0, _⟩ => rfl | ⟨1, _⟩ => rfl, hw,
      show Read.lidx_main_v2 (ix2 r n) k = ix2 r k from funext fun a => by match a with | ⟨0, _⟩ => rfl | ⟨1, _⟩ => rfl]
  show _ = Cert.FfnUpIdeal.UpValue.glu (∑ k : Fin 4096, x (ix2 r k) * wg (ix3 (0 : Fin 1) k n)) (∑ k : Fin 4096, x (ix2 r k) * wu (ix3 (0 : Fin 1) k n))
  rw [← hd wg, ← hd wu]
  rfl

end Cert.FfnUpRefIdeal.RefValue

namespace Cert.Proof.FfnUp

theorem frame : Cert.quiescent_FfnUp := fun m ρ _ => Cert.FfnUp.Gen.frame m ρ
theorem frame_ideal : Cert.quiescent_FfnUpIdeal := fun m ρ _ => Cert.FfnUpIdeal.Gen.frame m ρ
theorem frame_ref : Cert.quiescent_FfnUpRefIdeal := fun m ρ _ =>
  (θ_run Cert.FfnUpRefIdeal.defs _ _).mono (fun r h => ⟨fun c => (h c).2,
      Idealize.ShloMosaic.sem_eq_zero_of_no_sems (by decide) r.2⟩)
    (Cert.FfnUpRefIdeal.Value.run (F := Ideal) m ρ)

theorem algebraic : Cert.algebraic_FfnUpIdeal_FfnUpRefIdeal := by
  intro m ρ m' ρ' _ hagree
  refine ⟨fun c => Cert.FfnUpIdeal.UpValue.G m c, ?_, ?_⟩
  · exact (θ_run Cert.FfnUpIdeal.defs _ _).mono
      (fun _ h c => ⟨(h c).1.trans (Cert.FfnUpIdeal.UpValue.final m c), (h c).2⟩)
      (Cert.FfnUpIdeal.Value.run_blocks (F := Ideal) m ρ)
  · refine (θ_run Cert.FfnUpRefIdeal.defs _ _).mono (fun _ h c => ⟨?_, (h c).2⟩)
      (Cert.FfnUpRefIdeal.Value.run (F := Ideal) m' ρ')
    refine (h c).1.trans ((Cert.FfnUpRefIdeal.Read.val_main_v7_eq ..).trans ((Cert.FfnUpRefIdeal.RefValue.val_eq ..).trans ?_))
    unfold Cert.FfnUpIdeal.UpValue.G
    rw [(hagree c).1, (hagree c).2.1, (hagree c).2.2]

end Cert.Proof.FfnUp

end
-- ==== Proof.Common.lean ====
/- What the matrix-product calls share: a product onto a zero accumulator at an index, and one entry of `h · W` for the
   layer's wide input weights. -/
module

public import Idealize.ShloMosaic.Lib.MatmulPlain
public import Idealize.ShloMosaic.Lib.ValueIdx
public import Idealize.ShloMosaic.Lib.Pipeline.Value
public import Idealize.ShloMosaic.Lib.StableHlo.Run
public import Idealize.ShloMosaic.Lib.KernelVsHost
public import Idealize.ShloMosaic.Lib.Quiescent

@[expose] public section

noncomputable section

open Idealize.ShloMosaic Idealize.ShloMosaic.ValueIdx

namespace Cert.Proof.Common

/-- Two zero offsets. -/
theorem hz : (![0, 0] : Fin 2 → Nat) = fun _ => 0 := funext fun a => by fin_cases a <;> rfl

/-- A plain product onto the zero block, at `(r, c)`. -/
theorem matmul_zero {M K N : ℕ} {φ₁ φ₂ : FTy} (x : FVec Ideal ⟨2, ![M, K]⟩ φ₁) (w : FVec Ideal ⟨2, ![K, N]⟩ φ₂)
    (r : Fin M) (c : Fin N) :
    FloatOps.matmul (DotDims.plain M K N) none x w (constant ⟨2, ![M, N]⟩ .f32 0x00000000#32) (ix2 r c)
      = ∑ k : Fin K, x (ix2 r k) * w (ix2 k c) := by
  refine (Ideal.matmul_plain_apply none x w (constant ⟨2, ![M, N]⟩ .f32 0x00000000#32) r c).trans ?_
  show Ideal.ofBits .f32 0x00000000#32 + _ = _
  rw [Ideal.ofBits_zero_f32, zero_add]

/-- Entry `(r, n)` of the normed rows times the layer's input weights. -/
def proj (h : FVec Ideal ⟨2, ![16896, 4096]⟩ .bf16) (w : FVec Ideal ⟨3, ![1, 4096, 18960]⟩ .f32) (r : Fin 16896) (n : Fin 18960) : EReal :=
  ∑ k : Fin 4096, h (ix2 r k) * w (ix3 (0 : Fin 1) k n)

/-- A rank-2 index whose coordinates are known. -/
theorem ix2_ext {n0 n1 : Nat} (j : (⟨2, ![n0, n1]⟩ : Shape).Idx) (a : Fin n0) (b : Fin n1)
    (h0 : (j 0).val = a.val) (h1 : (j 1).val = b.val) : j = ix2 a b :=
  funext fun d => Fin.ext (match d with | ⟨0, _⟩ => h0 | ⟨1, _⟩ => h1)

/-- A rank-3 index whose coordinates are known. -/
theorem ix3_ext {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (match d with | ⟨0, _⟩ => h0 | ⟨1, _⟩ => h1 | ⟨2, _⟩ => h2)

/-- The weights `[1, 4096, 18960]` without their unit axis, at an index. -/
theorem squeeze_apply (w : FVec Ideal ⟨3, ![1, 4096, 18960]⟩ .f32)
    (hs : (⟨3, ![1, 4096, 18960]⟩ : Shape).ShapeCasts ⟨2, ![4096, 18960]⟩) (k : Fin 4096) (n : Fin 18960) :
    shapeCast ⟨2, ![4096, 18960]⟩ w hs (ix2 k n) = w (ix3 (0 : Fin 1) k n) := by
  refine shapeCast_apply _ _ _ (ix3 (0 : Fin 1) k n) ?_
  rewrite [Shape.rowMajor_val_three, Shape.rowMajor_val_two]
  show (0 * 4096 + k.val) * 18960 + n.val = k.val * 18960 + n.val
  omega

/-- A slice of columns of those weights, at an index. -/
theorem cols_apply {n : ℕ} (o : ℕ) (w : FVec Ideal ⟨3, ![1, 4096, 18960]⟩ .f32)
    (hs : (⟨3, ![1, 4096, 18960]⟩ : Shape).ShapeCasts ⟨2, ![4096, 18960]⟩)
    (h : (⟨2, ![4096, 18960]⟩ : Shape).Slices ![0, o] ⟨2, ![4096, n]⟩) (k : Fin 4096) (j : Fin n) (J : Fin 18960) (hJ : J.val = o + j.val) :
    extractStridedSlice ⟨2, ![4096, n]⟩ ![0, o] (shapeCast ⟨2, ![4096, 18960]⟩ w hs) h (ix2 k j) = w (ix3 (0 : Fin 1) k J) := by
  refine (extractStridedSlice_apply _ _ _ (ix2 k j) (ix2 k J) ?_).trans (squeeze_apply w hs k J)
  intro a
  match a with
  | ⟨0, _⟩ => show k.val = 0 + k.val; omega
  | ⟨1, _⟩ => exact hJ

/-- Pairing two column blocks: an entry left of the seam. -/
theorem cat_left {p q s M : ℕ} {α : Type} (x : (⟨2, ![M, p]⟩ : Shape).Idx → α) (y : (⟨2, ![M, q]⟩ : Shape).Idx → α)
    (h : Shape.Concatenates [⟨2, ![M, p]⟩, ⟨2, ![M, q]⟩] ⟨2, ![M, s]⟩ 1) (k : Fin M) (n : Fin s) (j : Fin p) (hj : j.val = n.val) :
    concatenate ⟨2, ![M, s]⟩ 1 [⟨⟨2, ![M, p]⟩, x⟩, ⟨⟨2, ![M, q]⟩, y⟩] h (ix2 k n) = x (ix2 k j) := by
  refine concatenate_pair_apply_left 1 x y h (ix2 k n) rfl (ix2 k j) ?_
  intro b
  match b with
  | ⟨0, _⟩ => rfl
  | ⟨1, _⟩ => exact hj

/-- Pairing two column blocks: an entry right of the seam. -/
theorem cat_right {p q s M : ℕ} {α : Type} (x : (⟨2, ![M, p]⟩ : Shape).Idx → α) (y : (⟨2, ![M, q]⟩ : Shape).Idx → α)
    (h : Shape.Concatenates [⟨2, ![M, p]⟩, ⟨2, ![M, q]⟩] ⟨2, ![M, s]⟩ 1) (k : Fin M) (n : Fin s) (j : Fin q) (hj : j.val + p = n.val) :
    concatenate ⟨2, ![M, s]⟩ 1 [⟨⟨2, ![M, p]⟩, x⟩, ⟨⟨2, ![M, q]⟩, y⟩] h (ix2 k n) = y (ix2 k j) := by
  refine concatenate_pair_apply_right 1 x y h (ix2 k n) rfl rfl (ix2 k j) ?_ hj
  intro b hb
  match b with
  | ⟨0, _⟩ => rfl
  | ⟨1, _⟩ => exact absurd rfl hb

/-- Joining column blocks: an entry of piece `i`, whose columns begin at `pre`. -/
theorem cat_piece {s M : ℕ} {α : Type} (xs : List ((s : Shape) × (s.Idx → α))) (h : Shape.Concatenates (xs.map (·.1)) ⟨2, ![M, s]⟩ 1)
    (k : Fin M) (n : Fin s) (i : ℕ) (hi : i < xs.length) {p : ℕ} (x : (⟨2, ![M, p]⟩ : Shape).Idx → α) (hx : xs[i] = ⟨⟨2, ![M, p]⟩, x⟩)
    (pre : ℕ) (hpre : (((xs.take i).map (·.1)).map fun t => if h : t.rank = 2 then t.size ((1 : Fin 2).cast h.symm) else 0).sum = pre)
    (j : Fin p) (hj : pre + j.val = n.val) :
    concatenate ⟨2, ![M, s]⟩ 1 xs h (ix2 k n) = x (ix2 k j) := by
  refine concatenate_apply_piece (t := ⟨2, ![M, s]⟩) 1 xs h (ix2 k n) i hi ⟨2, ![M, p]⟩ x hx rfl pre hpre (ix2 k j) ?_ hj
  intro b hb
  match b with
  | ⟨0, _⟩ => rfl
  | ⟨1, _⟩ => exact absurd rfl hb

/-- A column of the input weights, or a column of zeros. -/
def pick (w : FVec Ideal ⟨3, ![1, 4096, 18960]⟩ .f32) (k : Fin 4096) : Option (Fin 18960) → EReal
  | some n => w (ix3 (0 : Fin 1) k n)
  | none => 0

/-- An entry of the normed rows times such a column. -/
def projO (h : FVec Ideal ⟨2, ![16896, 4096]⟩ .bf16) (w : FVec Ideal ⟨3, ![1, 4096, 18960]⟩ .f32) (r : Fin 16896) : Option (Fin 18960) → EReal
  | some n => proj h w r n
  | none => 0

theorem sum_pick (h : FVec Ideal ⟨2, ![16896, 4096]⟩ .bf16) (w : FVec Ideal ⟨3, ![1, 4096, 18960]⟩ .f32) (r : Fin 16896) (o : Option (Fin 18960)) :
    ∑ k : Fin 4096, h (ix2 r k) * pick w k o = projO h w r o := by
  match o with
  | some n => rfl
  | none =>
    refine Finset.sum_eq_zero fun k _ => ?_
    show (_ : EReal) * 0 = 0
    exact mul_zero _

/-- Columns of padding on the right: an entry inside the operand. -/
theorem pad_in {α : Type} {M p q hi : ℕ} (x : (⟨2, ![M, p]⟩ : Shape).Idx → α) {u : Shape} (v : u.Idx → α)
    (h : (⟨2, ![M, p]⟩ : Shape).Pads ![0, 0] ![0, hi] ![0, 0] ⟨2, ![M, q]⟩) (hu : 0 < u.numel) (k : Fin M) (j : Fin q) (i : Fin p) (hj : j.val = i.val) :
    pad ⟨2, ![M, q]⟩ ![0, 0] ![0, hi] ![0, 0] x v h hu (ix2 k j) = x (ix2 k i) := by
  refine pad_apply_of_inside _ _ _ x v h hu (ix2 k j) (ix2 k i) ?_
  intro a
  match a with
  | ⟨0, _⟩ => show k.val = 0 + k.val * (0 + 1); omega
  | ⟨1, _⟩ => show j.val = 0 + i.val * (0 + 1); omega

/-- Columns of padding on the right: an entry of the padding, where the padding value is `0`. -/
theorem pad_out {M p q hi : ℕ} (x : FVec Ideal ⟨2, ![M, p]⟩ .f32) {u : Shape} (v : FVec Ideal u .f32)
    (h : (⟨2, ![M, p]⟩ : Shape).Pads ![0, 0] ![0, hi] ![0, 0] ⟨2, ![M, q]⟩) (hu : 0 < u.numel) (k : Fin M) (j : Fin q) (hj : p ≤ j.val)
    (hv : ∀ i, v i = (0 : EReal)) :
    pad ⟨2, ![M, q]⟩ ![0, 0] ![0, hi] ![0, 0] x v h hu (ix2 k j) = (0 : EReal) := by
  refine (pad_apply_of_not_inside _ _ _ x v h hu (ix2 k j) (1 : Fin 2) ?_).trans (hv _)
  intro hc
  have h2 : (j.val - 0) / (0 + 1) < p := hc.2.2
  omega

/-- The whole number zero as a float. -/
theorem sitofp_zero {u : Shape} (i : u.Idx) : (sitofp .f32 (constantI u 32 0#32) : FVec Ideal u .f32) i = (0 : EReal) := by
  show (((0#32 : BitVec 32).toInt : ℝ) : EReal) = 0
  simp

end Cert.Proof.Common

end
-- ==== Proof.ProjRkv.lean ====
/- The projection onto the recurrence's receptance, keys, values and low-rank inputs: every entry of the kernel's result is the
   product of a normed row and a column of the input weights, or zero in a padded column, which is the host reference's. -/
module

public import proofs.«01_k».proof.Defs
public import proofs.«01_k».proof.Proof.Common
public import proofs.«01_k».proof.Proof.Gen.ProjRkv.Frame
public import proofs.«01_k».proof.Proof.Gen.ProjRkvIdeal.Value
public import proofs.«01_k».proof.Proof.Gen.ProjRkvRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.ProjRkvIdeal.ProjRkvValue

open Cert.ProjRkvIdeal Cert.ProjRkvIdeal.Gen

/-- Which column of the layer's input weights column `n` of this call's weights is; `none` for a column of zeros. -/
def src (n : Fin 6656) : Option (Fin 18960) :=
  if n.val < 6240 then some ⟨n.val, by omega⟩ else if n.val < 6272 then none else if n.val < 6368 then some ⟨n.val - 32, by omega⟩
    else if n.val < 6400 then none else some ⟨n.val - 64, by omega⟩

variable (m : (ℓ : Loc nD τ sig) → Buf (Elt Ideal) ℓ) (ρ : Dev nD → PrngReg)

/-- The body's product at an index, of its loaded blocks. -/
theorem pay_apply (x : FVec Ideal S768x4096 .bf16) (a : FVec Ideal S4096x512 .bf16) (r : Fin 768) (c : Fin 512) :
    k0_pay1 (F := Ideal) x a (ix2 r c) = (∑ k : Fin 4096, x (ix2 r k) * a (ix2 k c) : EReal) := by
  unfold k0_pay1
  simp only [shapeCast_self]
  exact matmul_zero x a r c

/-- This call's weights as the region finds them, at an index. -/
theorem V_w (c : Dev nD) (k : Fin 4096) (n : Fin 6656) :
    V m c main_v9 (ix2 k n) = pick (m ((c : Thread nD τ).loc main_arg1)) k (src n) := by
  have e : V m c main_v9 = truncf .bf16 (concatenate S4096x6656 1 [⟨S4096x6144, (extractStridedSlice S4096x6144 ![0, 0] (shapeCast S4096x18960 (m ((c : Thread nD τ).loc main_arg1)) shapeCasts_S1x4096x18960_S4096x18960) slices_S4096x18960_S4096x6144_0_0 : FVec Ideal S4096x6144 .f32)⟩, ⟨S4096x128, (pad S4096x128 ![0, 0] ![0, 32] ![0, 0] (extractStridedSlice S4096x96 ![0, 6144] (shapeCast S4096x18960 (m ((c : Thread nD τ).loc main_arg1)) shapeCasts_S1x4096x18960_S4096x18960) slices_S4096x18960_S4096x96_0_6144 : FVec Ideal S4096x96 .f32) (sitofp .f32 (constantI S_ 32 0#32) : FVec Ideal S_ .f32) pads_S4096x96_S4096x128_000_0320 h_S_ : FVec Ideal S4096x128 .f32)⟩, ⟨S4096x128, (pad S4096x128 ![0, 0] ![0, 32] ![0, 0] (extractStridedSlice S4096x96 ![0, 6240] (shapeCast S4096x18960 (m ((c : Thread nD τ).loc main_arg1)) shapeCasts_S1x4096x18960_S4096x18960) slices_S4096x18960_S4096x96_0_6240 : FVec Ideal S4096x96 .f32) (sitofp .f32 (constantI S_ 32 0#32) : FVec Ideal S_ .f32) pads_S4096x96_S4096x128_000_0320 h_S_ : FVec Ideal S4096x128 .f32)⟩, ⟨S4096x256, (pad S4096x256 ![0, 0] ![0, 0] ![0, 0] (extractStridedSlice S4096x256 ![0, 6336] (shapeCast S4096x18960 (m ((c : Thread nD τ).loc main_arg1)) shapeCasts_S1x4096x18960_S4096x18960) slices_S4096x18960_S4096x256_0_6336 : FVec Ideal S4096x256 .f32) (sitofp .f32 (constantI S_ 32 0#32) : FVec Ideal S_ .f32) pads_S4096x256_S4096x256_000_000 h_S_ : FVec Ideal S4096x256 .f32)⟩] concatenates_S4096x6144_S4096x128_S4096x128_S4096x256_S4096x6656_d1 : FVec Ideal S4096x6656 .f32) bitsLt_bf16_f32 := by
    unfold V
    simp only [hostOps0, hostOps0_1, hostOps0_2, hostOps0_3, hostOps0_4, hostOps0_5, hostOps0_6, List.flatten_cons, List.flatten_nil, List.append_nil, List.cons_append,
      List.nil_append, StableHlo.TRef.unary, StableHlo.TRef.binary, StableHlo.TRef.toBuf, StableHlo.TRef.ofBuf, cast_eq]
    after_results
    rfl
  rw [e, truncf_apply]
  have hn : n.val < 6656 := n.isLt
  unfold src
  by_cases h1 : n.val < 6144
  · rw [if_pos (by omega)]
    exact (cat_piece _ _ k n 0 (by exact (by decide : 0 < 4)) _ rfl 0 rfl (⟨n.val, by omega⟩ : Fin 6144) (by dsimp only; omega)).trans (cols_apply 0 _ _ _ k _ (⟨n.val, by omega⟩ : Fin 18960) (by dsimp only; omega))
  by_cases h2 : n.val < 6272
  · refine (cat_piece _ _ k n 1 (by exact (by decide : 1 < 4)) _ rfl 6144 rfl (⟨n.val - 6144, by omega⟩ : Fin 128) (by dsimp only; omega)).trans ?_
    by_cases h3 : n.val < 6240
    · rw [if_pos h3]
      refine (pad_in _ _ _ _ k _ (⟨n.val - 6144, by omega⟩ : Fin 96) (by rfl)).trans ?_
      exact cols_apply 6144 _ _ _ k _ (⟨n.val, by omega⟩ : Fin 18960) (by dsimp only; omega)
    · rw [if_neg h3, if_pos h2]
      exact pad_out _ _ _ _ k _ (show 96 ≤ n.val - 6144 by omega) sitofp_zero
  by_cases h4 : n.val < 6400
  · refine (cat_piece _ _ k n 2 (by exact (by decide : 2 < 4)) _ rfl 6272 rfl (⟨n.val - 6272, by omega⟩ : Fin 128) (by dsimp only; omega)).trans ?_
    by_cases h3 : n.val < 6368
    · rw [if_neg (by omega), if_neg h2, if_pos h3]
      refine (pad_in _ _ _ _ k _ (⟨n.val - 6272, by omega⟩ : Fin 96) (by rfl)).trans ?_
      exact cols_apply 6240 _ _ _ k _ (⟨n.val - 32, by omega⟩ : Fin 18960) (by dsimp only; omega)
    · rw [if_neg (by omega), if_neg h2, if_neg h3, if_pos h4]
      exact pad_out _ _ _ _ k _ (show 96 ≤ n.val - 6272 by omega) sitofp_zero
  · refine (cat_piece _ _ k n 3 (by exact (by decide : 3 < 4)) _ rfl 6400 rfl (⟨n.val - 6400, by omega⟩ : Fin 256) (by dsimp only; omega)).trans ?_
    rw [if_neg (by omega), if_neg h2, if_neg (by omega), if_neg h4]
    refine (pad_in _ _ _ _ k _ (⟨n.val - 6400, by omega⟩ : Fin 256) (by rfl)).trans ?_
    exact cols_apply 6336 _ _ _ k _ (⟨n.val - 64, by omega⟩ : Fin 18960) (by dsimp only; omega)

theorem idx_facts : ∀ t : Fin grid0.N,
    win0_0.index t 0 = t.val / 13 ∧ win0_0.index t 1 = 0 ∧ win0_1.index t 0 = 0 ∧ win0_1.index t 1 = t.val % 13 := by decide +kernel

/-- The row block of `h` at point `t`, at an index. -/
theorem blk0 (c : Dev nD) (t : Fin cfg0.N) (r : Fin 768) (k : Fin 4096) (R : Fin 16896) (h : R.val = t.val / 13 * 768 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 768 + 1 * r.val = R.val; rw [h0]; omega
  | ⟨1, _⟩ => show win0_0.index t 1 * 4096 + 1 * k.val = k.val; rw [h1]; omega

/-- The column block of the weights at point `t`, at an index. -/
theorem blk1 (c : Dev nD) (t : Fin cfg0.N) (k : Fin 4096) (n : Fin 512) (N : Fin 6656) (h : N.val = t.val % 13 * 512 + n.val) :
    iblk m c 1 t (ix2 k n) = pick (m ((c : Thread nD τ).loc main_arg1)) k (src N) := by
  unfold iblk
  rw [View.read_apply, ← V_w m c]
  obtain ⟨-, -, h0, h1⟩ := idx_facts t
  refine congrArg (V m c main_v9) ?_
  funext a
  apply Fin.ext
  match a with
  | ⟨0, _⟩ => show win0_1.index t 0 * 4096 + 1 * k.val = k.val; rw [h0]; omega
  | ⟨1, _⟩ => show win0_1.index t 1 * 512 + 1 * n.val = N.val; rw [h1]; omega

/-- The body's product at point `t` is the projection at the row and column it stands for. -/
theorem base_eq (c : Dev nD) (t : Fin cfg0.N) (r : Fin 768) (n : Fin 512) (R : Fin 16896) (N : Fin 6656)
    (hR : R.val = t.val / 13 * 768 + r.val) (hN : N.val = t.val % 13 * 512 + n.val) :
    k0_pay1 (F := Ideal) (iblk m c 0 t) (iblk m c 1 t) (ix2 r n)
      = projO (m ((c : Thread nD τ).loc main_arg0)) (m ((c : Thread nD τ).loc main_arg1)) R (src N) := by
  refine (pay_apply (iblk m c 0 t) (iblk m c 1 t) r n).trans ?_
  rw [← sum_pick]
  refine id ?_
  exact Finset.sum_congr rfl fun k _ => by rw [blk0 m c t r k R hR, blk1 m c t k n N hN]

theorem lt_N (t : Fin cfg0.N) : t.val < 286 := by
  have hN : cfg0.N = 286 := N_0
  exact hN ▸ t.isLt

/-- What device `c`'s result array is shown to hold. -/
def spec (h : FVec Ideal S16896x4096 .bf16) (w : FVec Ideal S1x4096x18960 .f32) : FVec Ideal S16896x6656 .f32 := fun i =>
  projO h w (i 0) (src (i 1))

abbrev G (c : Dev nD) : FVec Ideal S16896x6656 .f32 :=
  spec (m ((c : Thread nD τ).loc main_arg0)) (m ((c : Thread nD τ).loc main_arg1))

theorem idx_out : ∀ t : Fin grid0.N, win0_2.index t 0 = t.val / 13 ∧ win0_2.index t 1 = t.val % 13 := by decide +kernel

/-- Where point `t` writes entry `(r, n)` of its block in the result array. -/
theorem read (g : FVec Ideal S16896x6656 .f32) (t : Fin cfg0.N) (r : Fin 768) (n : Fin 512) (R : Fin 16896) (N : Fin 6656)
    (hR : R.val = t.val / 13 * 768 + r.val) (hN : N.val = t.val % 13 * 512 + n.val) :
    ((cfg0.win 2).blk t).view.read (Elt Ideal) g (ix2 r n) = g (ix2 R N) := by
  rw [View.read_apply]
  obtain ⟨h0, h1⟩ := idx_out t
  refine congrArg g ?_
  funext a
  apply Fin.ext
  match a with
  | ⟨0, _⟩ => show win0_2.index t 0 * 768 + 1 * r.val = R.val; rw [h0]; omega
  | ⟨1, _⟩ => show win0_2.index t 1 * 512 + 1 * n.val = N.val; rw [h1]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  have ht := lt_N t
  funext j
  obtain ⟨r, n, rfl⟩ : ∃ (r : Fin 768) (n : Fin 512), j = ix2 r n := ⟨j 0, j 1, eq_ix2 j⟩
  have hr : r.val < 768 := r.isLt
  have hn : n.val < 512 := n.isLt
  let R : Fin 16896 := ⟨t.val / 13 * 768 + r.val, by omega⟩
  let N : Fin 6656 := ⟨t.val % 13 * 512 + n.val, by omega⟩
  exact Eq.trans (base_eq m c t r n R N rfl rfl) ((read (G m c) t r n R N rfl rfl)).symm

/-- An index of the result array is in point `t`'s block exactly when both coordinates are in its ranges. -/
theorem mem_blk (t : Fin cfg0.N) (i : S16896x6656.Idx) :
    i ∈ ((cfg0.win 2).blk t).view.set ↔
      (t.val / 13 * 768 ≤ (i 0 : Nat) ∧ (i 0 : Nat) < t.val / 13 * 768 + 768)
      ∧ (t.val % 13 * 512 ≤ (i 1 : Nat) ∧ (i 1 : Nat) < t.val % 13 * 512 + 512) := by
  show i ∈ ((View.whole main_v10).slice (win0_2.rect t)).set ↔ _
  rw [View.set_slice_whole, Rect.mem_set_unit]
  obtain ⟨h0, h1⟩ := idx_out t
  have e0 : win0_2.index t 0 * win0_2.size 0 = t.val / 13 * 768 := by rw [h0]; rfl
  have e1 : win0_2.index t 1 * win0_2.size 1 = t.val % 13 * 512 := by rw [h1]; rfl
  have s0 : win0_2.xsize (grid0.coords t) 0 = 768 := rfl
  have s1 : win0_2.xsize (grid0.coords t) 1 = 512 := rfl
  refine ⟨fun h => ⟨?_, ?_⟩, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · have : win0_2.index t 1 * win0_2.size 1 ≤ (i 1 : Nat) ∧ (i 1 : Nat) < win0_2.index t 1 * win0_2.size 1 + win0_2.xsize (grid0.coords t) 1 := h 1
    rw [e1, s1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h.1
    | ⟨1, _⟩ => show win0_2.index t 1 * win0_2.size 1 ≤ (i 1 : Nat) ∧ (i 1 : Nat) < win0_2.index t 1 * win0_2.size 1 + win0_2.xsize (grid0.coords t) 1
                rw [e1, s1]; exact h.2

/-- The blocks tile the result array. -/
theorem cover (i : S16896x6656.Idx) :
    ∃ t : Fin cfg0.N, (cfg0.win 2).flush t = true ∧ i ∈ ((cfg0.win 2).blk t).view.set := by
  have h0 : (i 0 : Nat) < 16896 := (i 0).isLt
  have h1 : (i 1 : Nat) < 6656 := (i 1).isLt
  have hN : cfg0.N = 286 := N_0
  refine ⟨⟨(i 0 : Nat) / 768 * 13 + (i 1 : Nat) / 512, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

end Cert.ProjRkvIdeal.ProjRkvValue

namespace Cert.ProjRkvRefIdeal.RefValue

open Cert.ProjRkvRefIdeal Cert.ProjRkvRefIdeal.Gen Cert.ProjRkvIdeal.ProjRkvValue

/-- The reference's product at an index. -/
theorem dot_apply (h : FVec Ideal S16896x4096 .bf16) (w : FVec Ideal S1x4096x18960 .f32) (r : Fin 16896) (n : Fin 18960) :
    Read.val_main_v2 (F := Ideal) h w (ix2 r n) = proj h w r n := by
  have hw (k : Fin 4096) : Read.val_main_v1 (F := Ideal) w (ix2 k n) = w (ix3 (0 : Fin 1) k n) := by
    rw [Read.val_main_v1_apply]
    refine congrArg w (funext fun a => Fin.ext ?_)
    have hk : k.val < 4096 := k.isLt
    have hn : n.val < 18960 := n.isLt
    match a with
    | ⟨0, _⟩ => rfl
    | ⟨1, _⟩ => show (k.val * 18960 + n.val) / 18960 % 4096 = k.val; omega
    | ⟨2, _⟩ => show (k.val * 18960 + n.val) % 18960 = n.val; omega
  rw [Read.val_main_v2_apply]
  refine Finset.sum_congr rfl fun k _ => ?_
  show h _ * Read.val_main_v1 (F := Ideal) w (Read.ridx_main_v2 (ix2 r n) k) = _
  rw [show Read.ridx_main_v2 (ix2 r n) k = ix2 k n from funext fun a => by match a with | ⟨0, _⟩ => rfl | ⟨1, _⟩ => rfl, hw,
    show Read.lidx_main_v2 (ix2 r n) k = ix2 r k from funext fun a => by match a with | ⟨0, _⟩ => rfl | ⟨1, _⟩ => rfl]

/-- The reference's result is the same function of its arguments. -/
theorem val_eq (h : FVec Ideal S16896x4096 .bf16) (w : FVec Ideal S1x4096x18960 .f32) :
    Read.val_main_v8 (F := Ideal) h w = spec h w := by
  funext i
  obtain ⟨r, n, rfl⟩ : ∃ (r : Fin 16896) (n : Fin 6656), i = ix2 r n := ⟨i 0, i 1, eq_ix2 i⟩
  have hn : n.val < 6656 := n.isLt
  unfold Read.val_main_v8
  show _ = projO h w r (src n)
  unfold src
  by_cases h1 : n.val < 6240
  · rw [if_pos h1]
    refine (cat_piece _ _ r n 0 (by exact (by decide : 0 < 5)) _ rfl 0 rfl (⟨n.val, by omega⟩ : Fin 6240) (by dsimp only; omega)).trans ?_
    refine (Read.val_main_v3_apply (F := Ideal) h w _).trans ?_
    rw [show Read.idx_main_v3 (ix2 r (⟨n.val, by omega⟩ : Fin 6240)) = ix2 r (⟨n.val, by omega⟩ : Fin 18960) from
      ix2_ext _ _ _ rfl rfl]
    exact dot_apply h w r _
  by_cases h2 : n.val < 6272
  · rw [if_neg h1, if_pos h2]
    refine (cat_piece _ _ r n 1 (by exact (by decide : 1 < 5)) _ rfl 6240 rfl (⟨n.val - 6240, by omega⟩ : Fin 32) (by dsimp only; omega)).trans ?_
    exact Ideal.ofBits_zero_f32
  by_cases h3 : n.val < 6368
  · rw [if_neg h1, if_neg h2, if_pos h3]
    refine (cat_piece _ _ r n 2 (by exact (by decide : 2 < 5)) _ rfl 6272 rfl (⟨n.val - 6272, by omega⟩ : Fin 96) (by dsimp only; omega)).trans ?_
    refine (Read.val_main_v5_apply (F := Ideal) h w _).trans ?_
    rw [show Read.idx_main_v5 (ix2 r (⟨n.val - 6272, by omega⟩ : Fin 96)) = ix2 r (⟨n.val - 32, by omega⟩ : Fin 18960) from
      ix2_ext _ _ _ rfl (show 6240 + (n.val - 6272) = n.val - 32 by omega)]
    exact dot_apply h w r _
  by_cases h4 : n.val < 6400
  · rw [if_neg h1, if_neg h2, if_neg h3, if_pos h4]
    refine (cat_piece _ _ r n 3 (by exact (by decide : 3 < 5)) _ rfl 6368 rfl (⟨n.val - 6368, by omega⟩ : Fin 32) (by dsimp only; omega)).trans ?_
    exact Ideal.ofBits_zero_f32
  · rw [if_neg h1, if_neg h2, if_neg h3, if_neg h4]
    refine (cat_piece _ _ r n 4 (by exact (by decide : 4 < 5)) _ rfl 6400 rfl (⟨n.val - 6400, by omega⟩ : Fin 256) (by dsimp only; omega)).trans ?_
    refine (Read.val_main_v7_apply (F := Ideal) h w _).trans ?_
    rw [show Read.idx_main_v7 (ix2 r (⟨n.val - 6400, by omega⟩ : Fin 256)) = ix2 r (⟨n.val - 64, by omega⟩ : Fin 18960) from
      ix2_ext _ _ _ rfl (show 6336 + (n.val - 6400) = n.val - 64 by omega)]
    exact dot_apply h w r _

end Cert.ProjRkvRefIdeal.RefValue

namespace Cert.Proof.ProjRkv

theorem frame : Cert.quiescent_ProjRkv := fun m ρ _ => Cert.ProjRkv.Gen.frame m ρ
theorem frame_ideal : Cert.quiescent_ProjRkvIdeal := fun m ρ _ => Cert.ProjRkvIdeal.Gen.frame m ρ
theorem frame_ref : Cert.quiescent_ProjRkvRefIdeal := fun m ρ _ =>
  (θ_run Cert.ProjRkvRefIdeal.defs _ _).mono (fun r h => ⟨fun c => (h c).2,
      Idealize.ShloMosaic.sem_eq_zero_of_no_sems (by decide) r.2⟩)
    (Cert.ProjRkvRefIdeal.Value.run (F := Ideal) m ρ)

theorem algebraic : Cert.algebraic_ProjRkvIdeal_ProjRkvRefIdeal := by
  intro m ρ m' ρ' _ hagree
  refine ⟨fun c => Cert.ProjRkvIdeal.ProjRkvValue.G m c, ?_, ?_⟩
  · exact (θ_run Cert.ProjRkvIdeal.defs _ _).mono
      (fun _ h c => ⟨(h c).1.trans (Cert.ProjRkvIdeal.ProjRkvValue.final m c), (h c).2⟩)
      (Cert.ProjRkvIdeal.Value.run_blocks (F := Ideal) m ρ)
  · refine (θ_run Cert.ProjRkvRefIdeal.defs _ _).mono (fun _ h c => ⟨?_, (h c).2⟩)
      (Cert.ProjRkvRefIdeal.Value.run (F := Ideal) m' ρ')
    · refine (h c).1.trans ((Cert.ProjRkvRefIdeal.Read.val_main_v8_eq ..).trans ((Cert.ProjRkvRefIdeal.RefValue.val_eq ..).trans ?_))
      unfold Cert.ProjRkvIdeal.ProjRkvValue.G
      rw [(hagree c).1, (hagree c).2]

end Cert.Proof.ProjRkv

end
-- ==== Proof.ProjKv.lean ====
/- The projection onto the attention's keys and values and the indexer's keys and weights: the flat array with its padded columns,
   and the keys and the values head by head. -/
module

public import proofs.«01_k».proof.Defs
public import proofs.«01_k».proof.Proof.Common
public import proofs.«01_k».proof.Proof.Gen.ProjKv.Frame
public import proofs.«01_k».proof.Proof.Gen.ProjKvIdeal.Value
public import proofs.«01_k».proof.Proof.Gen.ProjKvRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.ProjKvIdeal.ProjKvValue

open Cert.ProjKvIdeal Cert.ProjKvIdeal.Gen

/-- Which column of the layer's input weights column `n` of this call's weights is; `none` for a column of zeros. -/
def src (n : Fin 1280) : Option (Fin 18960) :=
  if n.val < 1024 then some ⟨8640 + n.val, by omega⟩ else if n.val < 1088 then some ⟨9664 + n.val, by omega⟩ else if n.val < 1152 then none
    else if n.val < 1168 then some ⟨9600 + n.val, by omega⟩ else none

variable (m : (ℓ : Loc nD τ sig) → Buf (Elt Ideal) ℓ) (ρ : Dev nD → PrngReg)

/-- The body's product at an index, of its loaded blocks. -/
theorem pay_apply (x : FVec Ideal S768x4096 .bf16) (a : FVec Ideal S4096x1280 .bf16) (r : Fin 768) (c : Fin 1280) :
    k0_pay5 (F := Ideal) x a (ix2 r c) = (∑ k : Fin 4096, x (ix2 r k) * a (ix2 k c) : EReal) := by
  unfold k0_pay5
  simp only [shapeCast_self]
  exact matmul_zero x a r c

/-- This call's weights as the region finds them, at an index. -/
theorem V_w (c : Dev nD) (k : Fin 4096) (n : Fin 1280) :
    V m c main_v9 (ix2 k n) = pick (m ((c : Thread nD τ).loc main_arg1)) k (src n) := by
  have e : V m c main_v9 = truncf .bf16 (concatenate S4096x1280 1 [⟨S4096x512, (extractStridedSlice S4096x512 ![0, 8640] (shapeCast S4096x18960 (m ((c : Thread nD τ).loc main_arg1)) shapeCasts_S1x4096x18960_S4096x18960) slices_S4096x18960_S4096x512_0_8640 : FVec Ideal S4096x512 .f32)⟩, ⟨S4096x512, (extractStridedSlice S4096x512 ![0, 9152] (shapeCast S4096x18960 (m ((c : Thread nD τ).loc main_arg1)) shapeCasts_S1x4096x18960_S4096x18960) slices_S4096x18960_S4096x512_0_9152 : FVec Ideal S4096x512 .f32)⟩, ⟨S4096x128, (pad S4096x128 ![0, 0] ![0, 64] ![0, 0] (extractStridedSlice S4096x64 ![0, 10688] (shapeCast S4096x18960 (m ((c : Thread nD τ).loc main_arg1)) shapeCasts_S1x4096x18960_S4096x18960) slices_S4096x18960_S4096x64_0_10688 : FVec Ideal S4096x64 .f32) (sitofp .f32 (constantI S_ 32 0#32) : FVec Ideal S_ .f32) pads_S4096x64_S4096x128_000_0640 h_S_ : FVec Ideal S4096x128 .f32)⟩, ⟨S4096x128, (pad S4096x128 ![0, 0] ![0, 112] ![0, 0] (extractStridedSlice S4096x16 ![0, 10752] (shapeCast S4096x18960 (m ((c : Thread nD τ).loc main_arg1)) shapeCasts_S1x4096x18960_S4096x18960) slices_S4096x18960_S4096x16_0_10752 : FVec Ideal S4096x16 .f32) (sitofp .f32 (constantI S_ 32 0#32) : FVec Ideal S_ .f32) pads_S4096x16_S4096x128_000_01120 h_S_ : FVec Ideal S4096x128 .f32)⟩] concatenates_S4096x512_S4096x512_S4096x128_S4096x128_S4096x1280_d1 : FVec Ideal S4096x1280 .f32) bitsLt_bf16_f32 := by
    unfold V
    simp only [hostOps0, hostOps0_1, hostOps0_2, hostOps0_3, hostOps0_4, List.flatten_cons, List.flatten_nil, List.append_nil, List.cons_append,
      List.nil_append, StableHlo.TRef.unary, StableHlo.TRef.binary, StableHlo.TRef.toBuf, StableHlo.TRef.ofBuf, cast_eq]
    after_results
    rfl
  rw [e, truncf_apply]
  have hn : n.val < 1280 := n.isLt
  unfold src
  by_cases h1 : n.val < 512
  · rw [if_pos (by omega)]
    exact (cat_piece _ _ k n 0 (by exact (by decide : 0 < 4)) _ rfl 0 rfl (⟨n.val, by omega⟩ : Fin 512) (by dsimp only; omega)).trans (cols_apply 8640 _ _ _ k _ _ rfl)
  by_cases h2 : n.val < 1024
  · rw [if_pos h2]
    exact (cat_piece _ _ k n 1 (by exact (by decide : 1 < 4)) _ rfl 512 rfl (⟨n.val - 512, by omega⟩ : Fin 512) (by dsimp only; omega)).trans (cols_apply 9152 _ _ _ k _ _ (show 8640 + n.val = 9152 + (n.val - 512) by omega))
  by_cases h3 : n.val < 1152
  · refine (cat_piece _ _ k n 2 (by exact (by decide : 2 < 4)) _ rfl 1024 rfl (⟨n.val - 1024, by omega⟩ : Fin 128) (by dsimp only; omega)).trans ?_
    by_cases h4 : n.val < 1088
    · rw [if_neg h2, if_pos h4]
      refine (pad_in _ _ _ _ k _ (⟨n.val - 1024, by omega⟩ : Fin 64) (by rfl)).trans ?_
      exact cols_apply 10688 _ _ _ k _ (⟨9664 + n.val, by omega⟩ : Fin 18960) (by dsimp only; omega)
    · rw [if_neg h2, if_neg h4, if_pos h3]
      exact pad_out _ _ _ _ k _ (show 64 ≤ n.val - 1024 by omega) sitofp_zero
  · refine (cat_piece _ _ k n 3 (by exact (by decide : 3 < 4)) _ rfl 1152 rfl (⟨n.val - 1152, by omega⟩ : Fin 128) (by dsimp only; omega)).trans ?_
    by_cases h4 : n.val < 1168
    · rw [if_neg h2, if_neg (by omega), if_neg h3, if_pos h4]
      refine (pad_in _ _ _ _ k _ (⟨n.val - 1152, by omega⟩ : Fin 16) (by rfl)).trans ?_
      exact cols_apply 10752 _ _ _ k _ (⟨9600 + n.val, by omega⟩ : Fin 18960) (by dsimp only; omega)
    · rw [if_neg h2, if_neg (by omega), if_neg h3, if_neg h4]
      exact pad_out _ _ _ _ k _ (show 16 ≤ n.val - 1152 by omega) sitofp_zero

theorem idx_facts : ∀ t : Fin grid0.N,
    win0_0.index t 0 = t.val ∧ win0_0.index t 1 = 0 ∧ win0_1.index t 0 = 0 ∧ win0_1.index t 1 = 0 := by decide +kernel

/-- The row block of `h` at point `t`, at an index. -/
theorem blk0 (c : Dev nD) (t : Fin cfg0.N) (r : Fin 768) (k : Fin 4096) (R : Fin 16896) (h : R.val = t.val * 768 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 768 + 1 * r.val = R.val; rw [h0]; omega
  | ⟨1, _⟩ => show win0_0.index t 1 * 4096 + 1 * k.val = k.val; rw [h1]; omega

/-- The column block of the weights at point `t`, at an index. -/
theorem blk1 (c : Dev nD) (t : Fin cfg0.N) (k : Fin 4096) (n : Fin 1280) (N : Fin 1280) (h : N.val = 0 * 1280 + n.val) :
    iblk m c 1 t (ix2 k n) = pick (m ((c : Thread nD τ).loc main_arg1)) k (src N) := by
  unfold iblk
  rw [View.read_apply, ← V_w m c]
  obtain ⟨-, -, h0, h1⟩ := idx_facts t
  refine congrArg (V m c main_v9) ?_
  funext a
  apply Fin.ext
  match a with
  | ⟨0, _⟩ => show win0_1.index t 0 * 4096 + 1 * k.val = k.val; rw [h0]; omega
  | ⟨1, _⟩ => show win0_1.index t 1 * 1280 + 1 * n.val = N.val; rw [h1]; omega

/-- The body's product at point `t` is the projection at the row and column it stands for. -/
theorem base_eq (c : Dev nD) (t : Fin cfg0.N) (r : Fin 768) (n : Fin 1280) (R : Fin 16896) (N : Fin 1280)
    (hR : R.val = t.val * 768 + r.val) (hN : N.val = 0 * 1280 + n.val) :
    k0_pay5 (F := Ideal) (iblk m c 0 t) (iblk m c 1 t) (ix2 r n)
      = projO (m ((c : Thread nD τ).loc main_arg0)) (m ((c : Thread nD τ).loc main_arg1)) R (src N) := by
  refine (pay_apply (iblk m c 0 t) (iblk m c 1 t) r n).trans ?_
  rw [← sum_pick]
  refine id ?_
  exact Finset.sum_congr rfl fun k _ => by rw [blk0 m c t r k R hR, blk1 m c t k n N hN]

theorem lt_N (t : Fin cfg0.N) : t.val < 22 := by
  have hN : cfg0.N = 22 := N_0
  exact hN ▸ t.isLt

/-- What device `c`'s result array is shown to hold. -/
def spec (h : FVec Ideal S16896x4096 .bf16) (w : FVec Ideal S1x4096x18960 .f32) : FVec Ideal S16896x1280 .f32 := fun i =>
  projO h w (i 0) (src (i 1))

abbrev G (c : Dev nD) : FVec Ideal S16896x1280 .f32 :=
  spec (m ((c : Thread nD τ).loc main_arg0)) (m ((c : Thread nD τ).loc main_arg1))

theorem idx_out : ∀ t : Fin grid0.N, win0_2.index t 0 = t.val ∧ win0_2.index t 1 = 0 := by decide +kernel

/-- Where point `t` writes entry `(r, n)` of its block in the result array. -/
theorem read (g : FVec Ideal S16896x1280 .f32) (t : Fin cfg0.N) (r : Fin 768) (n : Fin 1280) (R : Fin 16896) (N : Fin 1280)
    (hR : R.val = t.val * 768 + r.val) (hN : N.val = 0 * 1280 + n.val) :
    ((cfg0.win 2).blk t).view.read (Elt Ideal) g (ix2 r n) = g (ix2 R N) := by
  rw [View.read_apply]
  obtain ⟨h0, h1⟩ := idx_out t
  refine congrArg g ?_
  funext a
  apply Fin.ext
  match a with
  | ⟨0, _⟩ => show win0_2.index t 0 * 768 + 1 * r.val = R.val; rw [h0]; omega
  | ⟨1, _⟩ => show win0_2.index t 1 * 1280 + 1 * n.val = N.val; rw [h1]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  have ht := lt_N t
  funext j
  obtain ⟨r, n, rfl⟩ : ∃ (r : Fin 768) (n : Fin 1280), j = ix2 r n := ⟨j 0, j 1, eq_ix2 j⟩
  have hr : r.val < 768 := r.isLt
  have hn : n.val < 1280 := n.isLt
  let R : Fin 16896 := ⟨t.val * 768 + r.val, by omega⟩
  let N : Fin 1280 := ⟨0 * 1280 + n.val, by omega⟩
  exact Eq.trans (base_eq m c t r n R N rfl rfl) ((read (G m c) t r n R N rfl rfl)).symm

/-- An index of the result array is in point `t`'s block exactly when both coordinates are in its ranges. -/
theorem mem_blk (t : Fin cfg0.N) (i : S16896x1280.Idx) :
    i ∈ ((cfg0.win 2).blk t).view.set ↔
      (t.val * 768 ≤ (i 0 : Nat) ∧ (i 0 : Nat) < t.val * 768 + 768)
      ∧ (0 * 1280 ≤ (i 1 : Nat) ∧ (i 1 : Nat) < 0 * 1280 + 1280) := by
  show i ∈ ((View.whole main_v10_0).slice (win0_2.rect t)).set ↔ _
  rw [View.set_slice_whole, Rect.mem_set_unit]
  obtain ⟨h0, h1⟩ := idx_out t
  have e0 : win0_2.index t 0 * win0_2.size 0 = t.val * 768 := by rw [h0]; rfl
  have e1 : win0_2.index t 1 * win0_2.size 1 = 0 * 1280 := by rw [h1]; rfl
  have s0 : win0_2.xsize (grid0.coords t) 0 = 768 := rfl
  have s1 : win0_2.xsize (grid0.coords t) 1 = 1280 := rfl
  refine ⟨fun h => ⟨?_, ?_⟩, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · have : win0_2.index t 1 * win0_2.size 1 ≤ (i 1 : Nat) ∧ (i 1 : Nat) < win0_2.index t 1 * win0_2.size 1 + win0_2.xsize (grid0.coords t) 1 := h 1
    rw [e1, s1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h.1
    | ⟨1, _⟩ => show win0_2.index t 1 * win0_2.size 1 ≤ (i 1 : Nat) ∧ (i 1 : Nat) < win0_2.index t 1 * win0_2.size 1 + win0_2.xsize (grid0.coords t) 1
                rw [e1, s1]; exact h.2

/-- The blocks tile the result array. -/
theorem cover (i : S16896x1280.Idx) :
    ∃ t : Fin cfg0.N, (cfg0.win 2).flush t = true ∧ i ∈ ((cfg0.win 2).blk t).view.set := by
  have h0 : (i 0 : Nat) < 16896 := (i 0).isLt
  have h1 : (i 1 : Nat) < 1280 := (i 1).isLt
  have hN : cfg0.N = 22 := N_0
  refine ⟨⟨(i 0 : Nat) / 768 * 1 + (i 1 : Nat) / 1280, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

/-- What device `c`'s result array is shown to hold: entry `(e, r, k)` is the projection's column `128 e + k` of row `r`. -/
def spec_k (h : FVec Ideal S16896x4096 .bf16) (w : FVec Ideal S1x4096x18960 .f32) : FVec Ideal S4x16896x128 .bf16 := fun i =>
  projO h w (i 1) (src ⟨(i 0).val * 128 + (i 2).val, by have h0 : (i 0).val < 4 := (i 0).isLt; have h2 : (i 2).val < 128 := (i 2).isLt; omega⟩)

abbrev G_k (c : Dev nD) : FVec Ideal S4x16896x128 .bf16 :=
  spec_k (m ((c : Thread nD τ).loc main_arg0)) (m ((c : Thread nD τ).loc main_arg1))

theorem idx_out_k : ∀ t : Fin grid0.N, win0_3.index t 0 = 0 ∧ win0_3.index t 1 = t.val ∧ win0_3.index t 2 = 0 := by decide +kernel

/-- Where point `t` writes entry `(e, r, k)` of its block in the result array. -/
theorem read_k (g : FVec Ideal S4x16896x128 .bf16) (t : Fin cfg0.N) (e : Fin 4) (r : Fin 768) (k : Fin 128) (E : Fin 4) (R : Fin 16896)
    (hE : E.val = 0 * 4 + e.val) (hR : R.val = t.val * 768 + r.val) :
    ((cfg0.win 3).blk t).view.read (Elt Ideal) g (ix3 e r k) = g (ix3 E R k) := by
  rw [View.read_apply]
  obtain ⟨h0, h1, h2⟩ := idx_out_k t
  refine congrArg g ?_
  funext a
  apply Fin.ext
  match a with
  | ⟨0, _⟩ => show win0_3.index t 0 * 4 + 1 * e.val = E.val; rw [h0]; omega
  | ⟨1, _⟩ => show win0_3.index t 1 * 768 + 1 * r.val = R.val; rw [h1]; omega
  | ⟨2, _⟩ => show win0_3.index t 2 * 128 + 1 * k.val = k.val; rw [h2]; omega

/-- What point `t` writes back is block `t` of `G`. -/
theorem flushed_eq_k (c : Dev nD) (t : Fin cfg0.N) :
    (dats m 0 c).flushed 3 t = ((cfg0.win 3).blk t).view.read (Elt Ideal) (G_k m c) := by
  rw [Value.flushed3]
  unfold out0_3
  rw [View.ld_unit_zero hz, View.ld_unit_zero hz]
  have ht := lt_N t
  funext j
  refine Eq.trans (Value.canon3_eq (F := Ideal) (iblk m c 0 t) (iblk m c 1 t) j) ?_
  obtain ⟨e, r, k, rfl⟩ : ∃ (e : Fin 4) (r : Fin 768) (k : Fin 128), j = ix3 e r k := ⟨j 0, j 1, j 2, eq_ix3 j⟩
  have he : e.val < 4 := e.isLt
  have hr : r.val < 768 := r.isLt
  have hk : k.val < 128 := k.isLt
  let R : Fin 16896 := ⟨t.val * 768 + r.val, by omega⟩
  let E : Fin 4 := ⟨0 * 4 + e.val, by omega⟩
  refine Eq.trans ?_ (read_k (G_k m c) t e r k E R rfl rfl).symm
  show k0_pay5 (F := Ideal) (iblk m c 0 t) (iblk m c 1 t) (Value.ix3_0 (ix3 e r k)) = _
  rw [show Value.ix3_0 (ix3 e r k) = ix2 r (⟨e.val * 128 + k.val, by omega⟩ : Fin 1280) from
    ix2_ext _ _ _ rfl rfl]
  refine base_eq m c t r _ R _ rfl ?_
  show (0 * 4 + e.val) * 128 + k.val = 0 * 1280 + (e.val * 128 + k.val)
  omega

/-- An index of the result array is in point `t`'s block exactly when its coordinates are in its ranges. -/
theorem mem_blk_k (t : Fin cfg0.N) (i : S4x16896x128.Idx) :
    i ∈ ((cfg0.win 3).blk t).view.set ↔
      (0 * 4 ≤ (i 0 : Nat) ∧ (i 0 : Nat) < 0 * 4 + 4)
      ∧ (t.val * 768 ≤ (i 1 : Nat) ∧ (i 1 : Nat) < t.val * 768 + 768) := by
  show i ∈ ((View.whole main_v10_1).slice (win0_3.rect t)).set ↔ _
  rw [View.set_slice_whole, Rect.mem_set_unit]
  obtain ⟨h0, h1, h2⟩ := idx_out_k t
  have e0 : win0_3.index t 0 * win0_3.size 0 = 0 * 4 := by rw [h0]; rfl
  have e1 : win0_3.index t 1 * win0_3.size 1 = t.val * 768 := by rw [h1]; rfl
  have e2 : win0_3.index t 2 * win0_3.size 2 = 0 := by rw [h2]; rfl
  have s0 : win0_3.xsize (grid0.coords t) 0 = 4 := rfl
  have s1 : win0_3.xsize (grid0.coords t) 1 = 768 := rfl
  have s2 : win0_3.xsize (grid0.coords t) 2 = 128 := rfl
  have i2 : (i 2 : Nat) < 128 := (i 2).isLt
  refine ⟨fun h => ⟨?_, ?_⟩, fun h a => ?_⟩
  · have : win0_3.index t 0 * win0_3.size 0 ≤ (i 0 : Nat) ∧ (i 0 : Nat) < win0_3.index t 0 * win0_3.size 0 + win0_3.xsize (grid0.coords t) 0 := h 0
    rw [e0, s0] at this; exact this
  · have : win0_3.index t 1 * win0_3.size 1 ≤ (i 1 : Nat) ∧ (i 1 : Nat) < win0_3.index t 1 * win0_3.size 1 + win0_3.xsize (grid0.coords t) 1 := h 1
    rw [e1, s1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, s0]; exact h.1
    | ⟨1, _⟩ => show win0_3.index t 1 * win0_3.size 1 ≤ (i 1 : Nat) ∧ (i 1 : Nat) < win0_3.index t 1 * win0_3.size 1 + win0_3.xsize (grid0.coords t) 1
                rw [e1, s1]; exact h.2
    | ⟨2, _⟩ => show win0_3.index t 2 * win0_3.size 2 ≤ (i 2 : Nat) ∧ (i 2 : Nat) < win0_3.index t 2 * win0_3.size 2 + win0_3.xsize (grid0.coords t) 2
                rw [e2, s2]; omega

/-- The blocks tile the result array. -/
theorem cover_k (i : S4x16896x128.Idx) :
    ∃ t : Fin cfg0.N, (cfg0.win 3).flush t = true ∧ i ∈ ((cfg0.win 3).blk t).view.set := by
  have h0 : (i 0 : Nat) < 4 := (i 0).isLt
  have h1 : (i 1 : Nat) < 16896 := (i 1).isLt
  have hN : cfg0.N = 22 := N_0
  refine ⟨⟨(i 1 : Nat) / 768 * 1 + (i 0 : Nat) / 4, by omega⟩, flush0_3 _, ?_⟩
  rw [mem_blk_k]
  dsimp only
  omega

/-- So the result array ends holding `G`. -/
theorem final_k (c : Dev nD) : (dats m 0 c).arrAt 3 cfg0.N = G_k m c :=
  (dats m 0 c).arrAt_eq_of_cover 3 (G_k m c) (fun t _ => flushed_eq_k m c t) cover_k

/-- What device `c`'s result array is shown to hold: entry `(e, r, k)` is the projection's column `128 e + k + 512` of row `r`. -/
def spec_v (h : FVec Ideal S16896x4096 .bf16) (w : FVec Ideal S1x4096x18960 .f32) : FVec Ideal S4x16896x128 .bf16 := fun i =>
  projO h w (i 1) (src ⟨(i 0).val * 128 + (i 2).val + 512, by have h0 : (i 0).val < 4 := (i 0).isLt; have h2 : (i 2).val < 128 := (i 2).isLt; omega⟩)

abbrev G_v (c : Dev nD) : FVec Ideal S4x16896x128 .bf16 :=
  spec_v (m ((c : Thread nD τ).loc main_arg0)) (m ((c : Thread nD τ).loc main_arg1))

theorem idx_out_v : ∀ t : Fin grid0.N, win0_4.index t 0 = 0 ∧ win0_4.index t 1 = t.val ∧ win0_4.index t 2 = 0 := by decide +kernel

/-- Where point `t` writes entry `(e, r, k)` of its block in the result array. -/
theorem read_v (g : FVec Ideal S4x16896x128 .bf16) (t : Fin cfg0.N) (e : Fin 4) (r : Fin 768) (k : Fin 128) (E : Fin 4) (R : Fin 16896)
    (hE : E.val = 0 * 4 + e.val) (hR : R.val = t.val * 768 + r.val) :
    ((cfg0.win 4).blk t).view.read (Elt Ideal) g (ix3 e r k) = g (ix3 E R k) := by
  rw [View.read_apply]
  obtain ⟨h0, h1, h2⟩ := idx_out_v t
  refine congrArg g ?_
  funext a
  apply Fin.ext
  match a with
  | ⟨0, _⟩ => show win0_4.index t 0 * 4 + 1 * e.val = E.val; rw [h0]; omega
  | ⟨1, _⟩ => show win0_4.index t 1 * 768 + 1 * r.val = R.val; rw [h1]; omega
  | ⟨2, _⟩ => show win0_4.index t 2 * 128 + 1 * k.val = k.val; rw [h2]; omega

/-- What point `t` writes back is block `t` of `G`. -/
theorem flushed_eq_v (c : Dev nD) (t : Fin cfg0.N) :
    (dats m 0 c).flushed 4 t = ((cfg0.win 4).blk t).view.read (Elt Ideal) (G_v m c) := by
  rw [Value.flushed4]
  unfold out0_4 k0_pay13
  rw [View.ld_unit_zero hz, View.ld_unit_zero hz]
  have ht := lt_N t
  funext j
  refine Eq.trans (Value.canon4_eq (F := Ideal) (iblk m c 0 t) (iblk m c 1 t) j) ?_
  obtain ⟨e, r, k, rfl⟩ : ∃ (e : Fin 4) (r : Fin 768) (k : Fin 128), j = ix3 e r k := ⟨j 0, j 1, j 2, eq_ix3 j⟩
  have he : e.val < 4 := e.isLt
  have hr : r.val < 768 := r.isLt
  have hk : k.val < 128 := k.isLt
  let R : Fin 16896 := ⟨t.val * 768 + r.val, by omega⟩
  let E : Fin 4 := ⟨0 * 4 + e.val, by omega⟩
  refine Eq.trans ?_ (read_v (G_v m c) t e r k E R rfl rfl).symm
  show k0_pay5 (F := Ideal) (iblk m c 0 t) (iblk m c 1 t) (Value.ix4_0 (ix3 e r k)) = _
  rw [show Value.ix4_0 (ix3 e r k) = ix2 r (⟨e.val * 128 + k.val + 512, by omega⟩ : Fin 1280) from
    ix2_ext _ _ _ rfl rfl]
  refine base_eq m c t r _ R _ rfl ?_
  show (0 * 4 + e.val) * 128 + k.val + 512 = 0 * 1280 + (e.val * 128 + k.val + 512)
  omega

/-- An index of the result array is in point `t`'s block exactly when its coordinates are in its ranges. -/
theorem mem_blk_v (t : Fin cfg0.N) (i : S4x16896x128.Idx) :
    i ∈ ((cfg0.win 4).blk t).view.set ↔
      (0 * 4 ≤ (i 0 : Nat) ∧ (i 0 : Nat) < 0 * 4 + 4)
      ∧ (t.val * 768 ≤ (i 1 : Nat) ∧ (i 1 : Nat) < t.val * 768 + 768) := by
  show i ∈ ((View.whole main_v10_2).slice (win0_4.rect t)).set ↔ _
  rw [View.set_slice_whole, Rect.mem_set_unit]
  obtain ⟨h0, h1, h2⟩ := idx_out_v t
  have e0 : win0_4.index t 0 * win0_4.size 0 = 0 * 4 := by rw [h0]; rfl
  have e1 : win0_4.index t 1 * win0_4.size 1 = t.val * 768 := by rw [h1]; rfl
  have e2 : win0_4.index t 2 * win0_4.size 2 = 0 := by rw [h2]; rfl
  have s0 : win0_4.xsize (grid0.coords t) 0 = 4 := rfl
  have s1 : win0_4.xsize (grid0.coords t) 1 = 768 := rfl
  have s2 : win0_4.xsize (grid0.coords t) 2 = 128 := rfl
  have i2 : (i 2 : Nat) < 128 := (i 2).isLt
  refine ⟨fun h => ⟨?_, ?_⟩, fun h a => ?_⟩
  · have : win0_4.index t 0 * win0_4.size 0 ≤ (i 0 : Nat) ∧ (i 0 : Nat) < win0_4.index t 0 * win0_4.size 0 + win0_4.xsize (grid0.coords t) 0 := h 0
    rw [e0, s0] at this; exact this
  · have : win0_4.index t 1 * win0_4.size 1 ≤ (i 1 : Nat) ∧ (i 1 : Nat) < win0_4.index t 1 * win0_4.size 1 + win0_4.xsize (grid0.coords t) 1 := h 1
    rw [e1, s1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e0, s0]; exact h.1
    | ⟨1, _⟩ => show win0_4.index t 1 * win0_4.size 1 ≤ (i 1 : Nat) ∧ (i 1 : Nat) < win0_4.index t 1 * win0_4.size 1 + win0_4.xsize (grid0.coords t) 1
                rw [e1, s1]; exact h.2
    | ⟨2, _⟩ => show win0_4.index t 2 * win0_4.size 2 ≤ (i 2 : Nat) ∧ (i 2 : Nat) < win0_4.index t 2 * win0_4.size 2 + win0_4.xsize (grid0.coords t) 2
                rw [e2, s2]; omega

/-- The blocks tile the result array. -/
theorem cover_v (i : S4x16896x128.Idx) :
    ∃ t : Fin cfg0.N, (cfg0.win 4).flush t = true ∧ i ∈ ((cfg0.win 4).blk t).view.set := by
  have h0 : (i 0 : Nat) < 4 := (i 0).isLt
  have h1 : (i 1 : Nat) < 16896 := (i 1).isLt
  have hN : cfg0.N = 22 := N_0
  refine ⟨⟨(i 1 : Nat) / 768 * 1 + (i 0 : Nat) / 4, by omega⟩, flush0_4 _, ?_⟩
  rw [mem_blk_v]
  dsimp only
  omega

/-- So the result array ends holding `G`. -/
theorem final_v (c : Dev nD) : (dats m 0 c).arrAt 4 cfg0.N = G_v m c :=
  (dats m 0 c).arrAt_eq_of_cover 4 (G_v m c) (fun t _ => flushed_eq_v m c t) cover_v

end Cert.ProjKvIdeal.ProjKvValue

namespace Cert.ProjKvRefIdeal.RefValue

open Cert.ProjKvRefIdeal Cert.ProjKvRefIdeal.Gen Cert.ProjKvIdeal.ProjKvValue

/-- The reference's product at an index. -/
theorem dot_apply (h : FVec Ideal S16896x4096 .bf16) (w : FVec Ideal S1x4096x18960 .f32) (r : Fin 16896) (n : Fin 18960) :
    Read.val_main_v2 (F := Ideal) h w (ix2 r n) = proj h w r n := by
  have hw (k : Fin 4096) : Read.val_main_v1 (F := Ideal) w (ix2 k n) = w (ix3 (0 : Fin 1) k n) := by
    rw [Read.val_main_v1_apply]
    refine congrArg w (funext fun a => Fin.ext ?_)
    have hk : k.val < 4096 := k.isLt
    have hn : n.val < 18960 := n.isLt
    match a with
    | ⟨0, _⟩ => rfl
    | ⟨1, _⟩ => show (k.val * 18960 + n.val) / 18960 % 4096 = k.val; omega
    | ⟨2, _⟩ => show (k.val * 18960 + n.val) % 18960 = n.val; omega
  rw [Read.val_main_v2_apply]
  refine Finset.sum_congr rfl fun k _ => ?_
  show h _ * Read.val_main_v1 (F := Ideal) w (Read.ridx_main_v2 (ix2 r n) k) = _
  rw [show Read.ridx_main_v2 (ix2 r n) k = ix2 k n from funext fun a => by match a with | ⟨0, _⟩ => rfl | ⟨1, _⟩ => rfl, hw,
    show Read.lidx_main_v2 (ix2 r n) k = ix2 r k from funext fun a => by match a with | ⟨0, _⟩ => rfl | ⟨1, _⟩ => rfl]

/-- The reference's result is the same function of its arguments. -/
theorem val_eq (h : FVec Ideal S16896x4096 .bf16) (w : FVec Ideal S1x4096x18960 .f32) :
    Read.val_main_v9 (F := Ideal) h w = spec h w := by
  funext i
  obtain ⟨r, n, rfl⟩ : ∃ (r : Fin 16896) (n : Fin 1280), i = ix2 r n := ⟨i 0, i 1, eq_ix2 i⟩
  have hn : n.val < 1280 := n.isLt
  unfold Read.val_main_v9
  show _ = projO h w r (src n)
  unfold src
  by_cases h1 : n.val < 512
  · rw [if_pos (by omega)]
    refine (cat_piece _ _ r n 0 (by exact (by decide : 0 < 6)) _ rfl 0 rfl (⟨n.val, by omega⟩ : Fin 512) (by dsimp only; omega)).trans ?_
    refine (Read.val_main_v3_apply (F := Ideal) h w _).trans ?_
    rw [show Read.idx_main_v3 (ix2 r (⟨n.val, by omega⟩ : Fin 512)) = ix2 r (⟨8640 + n.val, by omega⟩ : Fin 18960) from
      ix2_ext _ _ _ rfl rfl]
    exact dot_apply h w r _
  by_cases h2 : n.val < 1024
  · rw [if_pos h2]
    refine (cat_piece _ _ r n 1 (by exact (by decide : 1 < 6)) _ rfl 512 rfl (⟨n.val - 512, by omega⟩ : Fin 512) (by dsimp only; omega)).trans ?_
    refine (Read.val_main_v4_apply (F := Ideal) h w _).trans ?_
    rw [show Read.idx_main_v4 (ix2 r (⟨n.val - 512, by omega⟩ : Fin 512)) = ix2 r (⟨8640 + n.val, by omega⟩ : Fin 18960) from
      ix2_ext _ _ _ rfl (show 9152 + (n.val - 512) = 8640 + n.val by omega)]
    exact dot_apply h w r _
  by_cases h3 : n.val < 1088
  · rw [if_neg h2, if_pos h3]
    refine (cat_piece _ _ r n 2 (by exact (by decide : 2 < 6)) _ rfl 1024 rfl (⟨n.val - 1024, by omega⟩ : Fin 64) (by dsimp only; omega)).trans ?_
    refine (Read.val_main_v5_apply (F := Ideal) h w _).trans ?_
    rw [show Read.idx_main_v5 (ix2 r (⟨n.val - 1024, by omega⟩ : Fin 64)) = ix2 r (⟨9664 + n.val, by omega⟩ : Fin 18960) from
      ix2_ext _ _ _ rfl (show 10688 + (n.val - 1024) = 9664 + n.val by omega)]
    exact dot_apply h w r _
  by_cases h4 : n.val < 1152
  · rw [if_neg h2, if_neg h3, if_pos h4]
    refine (cat_piece _ _ r n 3 (by exact (by decide : 3 < 6)) _ rfl 1088 rfl (⟨n.val - 1088, by omega⟩ : Fin 64) (by dsimp only; omega)).trans ?_
    exact Ideal.ofBits_zero_f32
  by_cases h5 : n.val < 1168
  · rw [if_neg h2, if_neg h3, if_neg h4, if_pos h5]
    refine (cat_piece _ _ r n 4 (by exact (by decide : 4 < 6)) _ rfl 1152 rfl (⟨n.val - 1152, by omega⟩ : Fin 16) (by dsimp only; omega)).trans ?_
    refine (Read.val_main_v6_apply (F := Ideal) h w _).trans ?_
    rw [show Read.idx_main_v6 (ix2 r (⟨n.val - 1152, by omega⟩ : Fin 16)) = ix2 r (⟨9600 + n.val, by omega⟩ : Fin 18960) from
      ix2_ext _ _ _ rfl (show 10752 + (n.val - 1152) = 9600 + n.val by omega)]
    exact dot_apply h w r _
  · rw [if_neg h2, if_neg h3, if_neg h4, if_neg h5]
    refine (cat_piece _ _ r n 5 (by exact (by decide : 5 < 6)) _ rfl 1168 rfl (⟨n.val - 1168, by omega⟩ : Fin 112) (by dsimp only; omega)).trans ?_
    exact Ideal.ofBits_zero_f32

/-- The reference's result is the same function of its arguments. -/
theorem val_eq_k (h : FVec Ideal S16896x4096 .bf16) (w : FVec Ideal S1x4096x18960 .f32) :
    Read.val_main_v12 (F := Ideal) h w = spec_k h w := by
  funext i
  obtain ⟨e, r, k, rfl⟩ : ∃ (e : Fin 4) (r : Fin 16896) (k : Fin 128), i = ix3 e r k := ⟨i 0, i 1, i 2, eq_ix3 i⟩
  have he : e.val < 4 := e.isLt
  have hr : r.val < 16896 := r.isLt
  have hk : k.val < 128 := k.isLt
  show Read.val_main_v11 (F := Ideal) h w (ix3 e r k) = _
  rw [Read.val_main_v11_apply, show Read.idx_main_v11 (ix3 e r k) = ix3 r e k from ix3_ext _ _ _ _ rfl rfl rfl]
  have hp : Read.val_main_v10 (F := Ideal) h w (ix3 r e k) = proj h w r (⟨8640 + (e.val * 128 + k.val), by omega⟩ : Fin 18960) := by
    rw [Read.val_main_v10_apply, show Read.idx_main_v10 (ix3 r e k) = ix2 r (⟨e.val * 128 + k.val, by omega⟩ : Fin 512) from
      ix2_ext _ _ _ (show ((r.val * 4 + e.val) * 128 + k.val) / 512 = r.val by omega) (show ((r.val * 4 + e.val) * 128 + k.val) % 512 = e.val * 128 + k.val by omega),
      Read.val_main_v3_apply]
    rw [show Read.idx_main_v3 (ix2 r (⟨e.val * 128 + k.val, by omega⟩ : Fin 512)) = ix2 r (⟨8640 + (e.val * 128 + k.val), by omega⟩ : Fin 18960) from
      ix2_ext _ _ _ rfl rfl]
    exact dot_apply h w r _
  refine hp.trans ?_
  show proj h w r _ = projO h w r (src _)
  unfold src
  rw [if_pos (show e.val * 128 + k.val < 1024 by omega)]
  show proj h w r _ = proj h w r _
  exact congrArg (proj h w r) (Fin.ext (show 8640 + (e.val * 128 + k.val) = 8640 + (e.val * 128 + k.val) by omega))

/-- The reference's result is the same function of its arguments. -/
theorem val_eq_v (h : FVec Ideal S16896x4096 .bf16) (w : FVec Ideal S1x4096x18960 .f32) :
    Read.val_main_v15 (F := Ideal) h w = spec_v h w := by
  funext i
  obtain ⟨e, r, k, rfl⟩ : ∃ (e : Fin 4) (r : Fin 16896) (k : Fin 128), i = ix3 e r k := ⟨i 0, i 1, i 2, eq_ix3 i⟩
  have he : e.val < 4 := e.isLt
  have hr : r.val < 16896 := r.isLt
  have hk : k.val < 128 := k.isLt
  show Read.val_main_v14 (F := Ideal) h w (ix3 e r k) = _
  rw [Read.val_main_v14_apply, show Read.idx_main_v14 (ix3 e r k) = ix3 r e k from ix3_ext _ _ _ _ rfl rfl rfl]
  have hp : Read.val_main_v13 (F := Ideal) h w (ix3 r e k) = proj h w r (⟨9152 + (e.val * 128 + k.val), by omega⟩ : Fin 18960) := by
    rw [Read.val_main_v13_apply, show Read.idx_main_v13 (ix3 r e k) = ix2 r (⟨e.val * 128 + k.val, by omega⟩ : Fin 512) from
      ix2_ext _ _ _ (show ((r.val * 4 + e.val) * 128 + k.val) / 512 = r.val by omega) (show ((r.val * 4 + e.val) * 128 + k.val) % 512 = e.val * 128 + k.val by omega),
      Read.val_main_v4_apply]
    rw [show Read.idx_main_v4 (ix2 r (⟨e.val * 128 + k.val, by omega⟩ : Fin 512)) = ix2 r (⟨9152 + (e.val * 128 + k.val), by omega⟩ : Fin 18960) from
      ix2_ext _ _ _ rfl rfl]
    exact dot_apply h w r _
  refine hp.trans ?_
  show proj h w r _ = projO h w r (src _)
  unfold src
  rw [if_pos (show e.val * 128 + k.val + 512 < 1024 by omega)]
  show proj h w r _ = proj h w r _
  exact congrArg (proj h w r) (Fin.ext (show 9152 + (e.val * 128 + k.val) = 8640 + (e.val * 128 + k.val + 512) by omega))

end Cert.ProjKvRefIdeal.RefValue

namespace Cert.Proof.ProjKv

theorem frame : Cert.quiescent_ProjKv := fun m ρ _ => Cert.ProjKv.Gen.frame m ρ
theorem frame_ideal : Cert.quiescent_ProjKvIdeal := fun m ρ _ => Cert.ProjKvIdeal.Gen.frame m ρ
theorem frame_ref : Cert.quiescent_ProjKvRefIdeal := fun m ρ _ =>
  (θ_run Cert.ProjKvRefIdeal.defs _ _).mono (fun r h => ⟨fun c => (h c).2.2.2,
      Idealize.ShloMosaic.sem_eq_zero_of_no_sems (by decide) r.2⟩)
    (Cert.ProjKvRefIdeal.Value.run (F := Ideal) m ρ)

theorem algebraic : Cert.algebraic_ProjKvIdeal_ProjKvRefIdeal := by
  intro m ρ m' ρ' _ hagree
  refine ⟨fun c => Cert.ProjKvIdeal.ProjKvValue.G m c, fun c => Cert.ProjKvIdeal.ProjKvValue.G_k m c, fun c => Cert.ProjKvIdeal.ProjKvValue.G_v m c, ?_, ?_⟩
  · exact (θ_run Cert.ProjKvIdeal.defs _ _).mono
      (fun _ h c => ⟨(h c).1.trans (Cert.ProjKvIdeal.ProjKvValue.final m c), (h c).2.1.trans (Cert.ProjKvIdeal.ProjKvValue.final_k m c), (h c).2.2.1.trans (Cert.ProjKvIdeal.ProjKvValue.final_v m c), (h c).2.2.2⟩)
      (Cert.ProjKvIdeal.Value.run_blocks (F := Ideal) m ρ)
  · refine (θ_run Cert.ProjKvRefIdeal.defs _ _).mono (fun _ h c => ⟨?_, ?_, ?_, (h c).2.2.2⟩)
      (Cert.ProjKvRefIdeal.Value.run (F := Ideal) m' ρ')
    · refine (h c).1.trans ((Cert.ProjKvRefIdeal.Read.val_main_v9_eq ..).trans ((Cert.ProjKvRefIdeal.RefValue.val_eq ..).trans ?_))
      unfold Cert.ProjKvIdeal.ProjKvValue.G
      rw [(hagree c).1, (hagree c).2]
    · refine (h c).2.1.trans ((Cert.ProjKvRefIdeal.Read.val_main_v12_eq ..).trans ((Cert.ProjKvRefIdeal.RefValue.val_eq_k ..).trans ?_))
      unfold Cert.ProjKvIdeal.ProjKvValue.G_k
      rw [(hagree c).1, (hagree c).2]
    · refine (h c).2.2.1.trans ((Cert.ProjKvRefIdeal.Read.val_main_v15_eq ..).trans ((Cert.ProjKvRefIdeal.RefValue.val_eq_v ..).trans ?_))
      unfold Cert.ProjKvIdeal.ProjKvValue.G_v
      rw [(hagree c).1, (hagree c).2]

end Cert.Proof.ProjKv

end
-- ==== Proof.ProjGates.lean ====
/- The projection onto the two gates: every entry of the kernel's result is the product of a normed row and a column of the input
   weights, which is the host reference's. -/
module

public import proofs.«01_k».proof.Defs
public import proofs.«01_k».proof.Proof.Common
public import proofs.«01_k».proof.Proof.Gen.ProjGates.Frame
public import proofs.«01_k».proof.Proof.Gen.ProjGatesIdeal.Value
public import proofs.«01_k».proof.Proof.Gen.ProjGatesRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.ProjGatesIdeal.ProjGatesValue

open Cert.ProjGatesIdeal Cert.ProjGatesIdeal.Gen

/-- Which column of the layer's input weights column `n` of this call's weights is; `none` for a column of zeros. -/
def src (n : Fin 8192) : Option (Fin 18960) :=
  some ⟨10768 + n.val, by omega⟩

variable (m : (ℓ : Loc nD τ sig) → Buf (Elt Ideal) ℓ) (ρ : Dev nD → PrngReg)

/-- The body's product at an index, of its loaded blocks. -/
theorem pay_apply (x : FVec Ideal S768x4096 .bf16) (a : FVec Ideal S4096x1024 .bf16) (r : Fin 768) (c : Fin 1024) :
    k0_pay1 (F := Ideal) x a (ix2 r c) = (∑ k : Fin 4096, x (ix2 r k) * a (ix2 k c) : EReal) := by
  unfold k0_pay1
  simp only [shapeCast_self]
  exact matmul_zero x a r c

/-- This call's weights as the region finds them, at an index. -/
theorem V_w (c : Dev nD) (k : Fin 4096) (n : Fin 8192) :
    V m c main_v4 (ix2 k n) = pick (m ((c : Thread nD τ).loc main_arg1)) k (src n) := by
  have e : V m c main_v4 = truncf .bf16 (concatenate S4096x8192 1 [⟨S4096x4096, (extractStridedSlice S4096x4096 ![0, 10768] (shapeCast S4096x18960 (m ((c : Thread nD τ).loc main_arg1)) shapeCasts_S1x4096x18960_S4096x18960) slices_S4096x18960_S4096x4096_0_10768 : FVec Ideal S4096x4096 .f32)⟩, ⟨S4096x4096, (extractStridedSlice S4096x4096 ![0, 14864] (shapeCast S4096x18960 (m ((c : Thread nD τ).loc main_arg1)) shapeCasts_S1x4096x18960_S4096x18960) slices_S4096x18960_S4096x4096_0_14864 : FVec Ideal S4096x4096 .f32)⟩] concatenates_S4096x4096_S4096x4096_S4096x8192_d1 : FVec Ideal S4096x8192 .f32) bitsLt_bf16_f32 := by
    unfold V
    simp only [hostOps0]
    after_results
    rfl
  rw [e, truncf_apply]
  have hn : n.val < 8192 := n.isLt
  by_cases hl : n.val < 4096
  · refine (cat_left _ _ _ k n ⟨n.val, hl⟩ rfl).trans ?_
    exact cols_apply 10768 _ _ _ k _ _ rfl
  · refine (cat_right _ _ _ k n (⟨n.val - 4096, by omega⟩ : Fin 4096) (show n.val - 4096 + 4096 = n.val by omega)).trans ?_
    exact cols_apply 14864 _ _ _ k _ _ (show 10768 + n.val = 14864 + (n.val - 4096) by omega)

theorem idx_facts : ∀ t : Fin grid0.N,
    win0_0.index t 0 = t.val / 8 ∧ win0_0.index t 1 = 0 ∧ win0_1.index t 0 = 0 ∧ win0_1.index t 1 = t.val % 8 := by decide +kernel

/-- The row block of `h` at point `t`, at an index. -/
theorem blk0 (c : Dev nD) (t : Fin cfg0.N) (r : Fin 768) (k : Fin 4096) (R : Fin 16896) (h : R.val = t.val / 8 * 768 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 768 + 1 * r.val = R.val; rw [h0]; omega
  | ⟨1, _⟩ => show win0_0.index t 1 * 4096 + 1 * k.val = k.val; rw [h1]; omega

/-- The column block of the weights at point `t`, at an index. -/
theorem blk1 (c : Dev nD) (t : Fin cfg0.N) (k : Fin 4096) (n : Fin 1024) (N : Fin 8192) (h : N.val = t.val % 8 * 1024 + n.val) :
    iblk m c 1 t (ix2 k n) = pick (m ((c : Thread nD τ).loc main_arg1)) k (src N) := by
  unfold iblk
  rw [View.read_apply, ← V_w m c]
  obtain ⟨-, -, h0, h1⟩ := idx_facts t
  refine congrArg (V m c main_v4) ?_
  funext a
  apply Fin.ext
  match a with
  | ⟨0, _⟩ => show win0_1.index t 0 * 4096 + 1 * k.val = k.val; rw [h0]; omega
  | ⟨1, _⟩ => show win0_1.index t 1 * 1024 + 1 * n.val = N.val; rw [h1]; omega

/-- The body's product at point `t` is the projection at the row and column it stands for. -/
theorem base_eq (c : Dev nD) (t : Fin cfg0.N) (r : Fin 768) (n : Fin 1024) (R : Fin 16896) (N : Fin 8192)
    (hR : R.val = t.val / 8 * 768 + r.val) (hN : N.val = t.val % 8 * 1024 + n.val) :
    k0_pay1 (F := Ideal) (iblk m c 0 t) (iblk m c 1 t) (ix2 r n)
      = projO (m ((c : Thread nD τ).loc main_arg0)) (m ((c : Thread nD τ).loc main_arg1)) R (src N) := by
  refine (pay_apply (iblk m c 0 t) (iblk m c 1 t) r n).trans ?_
  rw [← sum_pick]
  refine id ?_
  exact Finset.sum_congr rfl fun k _ => by rw [blk0 m c t r k R hR, blk1 m c t k n N hN]

theorem lt_N (t : Fin cfg0.N) : t.val < 176 := by
  have hN : cfg0.N = 176 := N_0
  exact hN ▸ t.isLt

/-- What device `c`'s result array is shown to hold. -/
def spec (h : FVec Ideal S16896x4096 .bf16) (w : FVec Ideal S1x4096x18960 .f32) : FVec Ideal S16896x8192 .bf16 := fun i =>
  projO h w (i 0) (src (i 1))

abbrev G (c : Dev nD) : FVec Ideal S16896x8192 .bf16 :=
  spec (m ((c : Thread nD τ).loc main_arg0)) (m ((c : Thread nD τ).loc main_arg1))

theorem idx_out : ∀ t : Fin grid0.N, win0_2.index t 0 = t.val / 8 ∧ win0_2.index t 1 = t.val % 8 := by decide +kernel

/-- Where point `t` writes entry `(r, n)` of its block in the result array. -/
theorem read (g : FVec Ideal S16896x8192 .bf16) (t : Fin cfg0.N) (r : Fin 768) (n : Fin 1024) (R : Fin 16896) (N : Fin 8192)
    (hR : R.val = t.val / 8 * 768 + r.val) (hN : N.val = t.val % 8 * 1024 + n.val) :
    ((cfg0.win 2).blk t).view.read (Elt Ideal) g (ix2 r n) = g (ix2 R N) := by
  rw [View.read_apply]
  obtain ⟨h0, h1⟩ := idx_out t
  refine congrArg g ?_
  funext a
  apply Fin.ext
  match a with
  | ⟨0, _⟩ => show win0_2.index t 0 * 768 + 1 * r.val = R.val; rw [h0]; omega
  | ⟨1, _⟩ => show win0_2.index t 1 * 1024 + 1 * n.val = N.val; rw [h1]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  unfold out0_2
  rw [View.canon_unit_zero hz, View.ld_unit_zero hz, View.ld_unit_zero hz]
  have ht := lt_N t
  funext j
  obtain ⟨r, n, rfl⟩ : ∃ (r : Fin 768) (n : Fin 1024), j = ix2 r n := ⟨j 0, j 1, eq_ix2 j⟩
  have hr : r.val < 768 := r.isLt
  have hn : n.val < 1024 := n.isLt
  let R : Fin 16896 := ⟨t.val / 8 * 768 + r.val, by omega⟩
  let N : Fin 8192 := ⟨t.val % 8 * 1024 + n.val, by omega⟩
  exact Eq.trans (base_eq m c t r n R N rfl rfl) ((read (G m c) t r n R N rfl rfl)).symm

/-- An index of the result array is in point `t`'s block exactly when both coordinates are in its ranges. -/
theorem mem_blk (t : Fin cfg0.N) (i : S16896x8192.Idx) :
    i ∈ ((cfg0.win 2).blk t).view.set ↔
      (t.val / 8 * 768 ≤ (i 0 : Nat) ∧ (i 0 : Nat) < t.val / 8 * 768 + 768)
      ∧ (t.val % 8 * 1024 ≤ (i 1 : Nat) ∧ (i 1 : Nat) < t.val % 8 * 1024 + 1024) := by
  show i ∈ ((View.whole main_v5).slice (win0_2.rect t)).set ↔ _
  rw [View.set_slice_whole, Rect.mem_set_unit]
  obtain ⟨h0, h1⟩ := idx_out t
  have e0 : win0_2.index t 0 * win0_2.size 0 = t.val / 8 * 768 := by rw [h0]; rfl
  have e1 : win0_2.index t 1 * win0_2.size 1 = t.val % 8 * 1024 := by rw [h1]; rfl
  have s0 : win0_2.xsize (grid0.coords t) 0 = 768 := rfl
  have s1 : win0_2.xsize (grid0.coords t) 1 = 1024 := rfl
  refine ⟨fun h => ⟨?_, ?_⟩, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · have : win0_2.index t 1 * win0_2.size 1 ≤ (i 1 : Nat) ∧ (i 1 : Nat) < win0_2.index t 1 * win0_2.size 1 + win0_2.xsize (grid0.coords t) 1 := h 1
    rw [e1, s1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h.1
    | ⟨1, _⟩ => show win0_2.index t 1 * win0_2.size 1 ≤ (i 1 : Nat) ∧ (i 1 : Nat) < win0_2.index t 1 * win0_2.size 1 + win0_2.xsize (grid0.coords t) 1
                rw [e1, s1]; exact h.2

/-- The blocks tile the result array. -/
theorem cover (i : S16896x8192.Idx) :
    ∃ t : Fin cfg0.N, (cfg0.win 2).flush t = true ∧ i ∈ ((cfg0.win 2).blk t).view.set := by
  have h0 : (i 0 : Nat) < 16896 := (i 0).isLt
  have h1 : (i 1 : Nat) < 8192 := (i 1).isLt
  have hN : cfg0.N = 176 := N_0
  refine ⟨⟨(i 0 : Nat) / 768 * 8 + (i 1 : Nat) / 1024, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

end Cert.ProjGatesIdeal.ProjGatesValue

namespace Cert.ProjGatesRefIdeal.RefValue

open Cert.ProjGatesRefIdeal Cert.ProjGatesRefIdeal.Gen Cert.ProjGatesIdeal.ProjGatesValue

/-- The reference's product at an index. -/
theorem dot_apply (h : FVec Ideal S16896x4096 .bf16) (w : FVec Ideal S1x4096x18960 .f32) (r : Fin 16896) (n : Fin 18960) :
    Read.val_main_v2 (F := Ideal) h w (ix2 r n) = proj h w r n := by
  have hw (k : Fin 4096) : Read.val_main_v1 (F := Ideal) w (ix2 k n) = w (ix3 (0 : Fin 1) k n) := by
    rw [Read.val_main_v1_apply]
    refine congrArg w (funext fun a => Fin.ext ?_)
    have hk : k.val < 4096 := k.isLt
    have hn : n.val < 18960 := n.isLt
    match a with
    | ⟨0, _⟩ => rfl
    | ⟨1, _⟩ => show (k.val * 18960 + n.val) / 18960 % 4096 = k.val; omega
    | ⟨2, _⟩ => show (k.val * 18960 + n.val) % 18960 = n.val; omega
  rw [Read.val_main_v2_apply]
  refine Finset.sum_congr rfl fun k _ => ?_
  show h _ * Read.val_main_v1 (F := Ideal) w (Read.ridx_main_v2 (ix2 r n) k) = _
  rw [show Read.ridx_main_v2 (ix2 r n) k = ix2 k n from funext fun a => by match a with | ⟨0, _⟩ => rfl | ⟨1, _⟩ => rfl, hw,
    show Read.lidx_main_v2 (ix2 r n) k = ix2 r k from funext fun a => by match a with | ⟨0, _⟩ => rfl | ⟨1, _⟩ => rfl]

/-- The reference's result is the same function of its arguments. -/
theorem val_eq (h : FVec Ideal S16896x4096 .bf16) (w : FVec Ideal S1x4096x18960 .f32) :
    Read.val_main_v4 (F := Ideal) h w = spec h w := by
  funext i
  obtain ⟨r, n, rfl⟩ : ∃ (r : Fin 16896) (n : Fin 8192), i = ix2 r n := ⟨i 0, i 1, eq_ix2 i⟩
  show Read.val_main_v3 (F := Ideal) h w (ix2 r n) = _
  rw [Read.val_main_v3_apply]
  have hn : n.val < 8192 := n.isLt
  rw [show Read.idx_main_v3 (ix2 r n) = ix2 r (⟨10768 + n.val, by omega⟩ : Fin 18960) from ix2_ext _ _ _ rfl rfl]
  exact dot_apply h w r _

end Cert.ProjGatesRefIdeal.RefValue

namespace Cert.Proof.ProjGates

theorem frame : Cert.quiescent_ProjGates := fun m ρ _ => Cert.ProjGates.Gen.frame m ρ
theorem frame_ideal : Cert.quiescent_ProjGatesIdeal := fun m ρ _ => Cert.ProjGatesIdeal.Gen.frame m ρ
theorem frame_ref : Cert.quiescent_ProjGatesRefIdeal := fun m ρ _ =>
  (θ_run Cert.ProjGatesRefIdeal.defs _ _).mono (fun r h => ⟨fun c => (h c).2,
      Idealize.ShloMosaic.sem_eq_zero_of_no_sems (by decide) r.2⟩)
    (Cert.ProjGatesRefIdeal.Value.run (F := Ideal) m ρ)

theorem algebraic : Cert.algebraic_ProjGatesIdeal_ProjGatesRefIdeal := by
  intro m ρ m' ρ' _ hagree
  refine ⟨fun c => Cert.ProjGatesIdeal.ProjGatesValue.G m c, ?_, ?_⟩
  · exact (θ_run Cert.ProjGatesIdeal.defs _ _).mono
      (fun _ h c => ⟨(h c).1.trans (Cert.ProjGatesIdeal.ProjGatesValue.final m c), (h c).2⟩)
      (Cert.ProjGatesIdeal.Value.run_blocks (F := Ideal) m ρ)
  · refine (θ_run Cert.ProjGatesRefIdeal.defs _ _).mono (fun _ h c => ⟨?_, (h c).2⟩)
      (Cert.ProjGatesRefIdeal.Value.run (F := Ideal) m' ρ')
    · refine (h c).1.trans ((Cert.ProjGatesRefIdeal.Read.val_main_v4_eq ..).trans ((Cert.ProjGatesRefIdeal.RefValue.val_eq ..).trans ?_))
      unfold Cert.ProjGatesIdeal.ProjGatesValue.G
      rw [(hagree c).1, (hagree c).2]

end Cert.Proof.ProjGates

end
-- ==== Proof.ProjQ.lean ====
/- The projection onto the attention's queries, scaled and written head by head. -/
module

public import proofs.«01_k».proof.Defs
public import proofs.«01_k».proof.Proof.Common
public import proofs.«01_k».proof.Proof.Gen.ProjQ.Frame
public import proofs.«01_k».proof.Proof.Gen.ProjQIdeal.Value
public import proofs.«01_k».proof.Proof.Gen.ProjQRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.ProjQIdeal.ProjQValue

open Cert.ProjQIdeal Cert.ProjQIdeal.Gen

/-- Which column of the layer's input weights column `n` of this call's weights is; `none` for a column of zeros. -/
def src (n : Fin 2048) : Option (Fin 18960) :=
  some ⟨6592 + n.val, by omega⟩

variable (m : (ℓ : Loc nD τ sig) → Buf (Elt Ideal) ℓ) (ρ : Dev nD → PrngReg)

/-- The body's product at an index, of its loaded blocks. -/
theorem pay_apply (x : FVec Ideal S768x4096 .bf16) (a : FVec Ideal S4096x1024 .bf16) (r : Fin 768) (c : Fin 1024) :
    k0_pay4 (F := Ideal) x a (ix2 r c) = ((∑ k : Fin 4096, x (ix2 r k) * a (ix2 k c) : EReal)) * Ideal.ofBits .f32 0x3E0293EE#32 := by
  unfold k0_pay4
  simp only [shapeCast_self]
  exact congrArg (fun z : EReal => z * Ideal.ofBits .f32 0x3E0293EE#32) (matmul_zero x a r c)

/-- This call's weights as the region finds them, at an index. -/
theorem V_w (c : Dev nD) (k : Fin 4096) (n : Fin 2048) :
    V m c main_v2 (ix2 k n) = pick (m ((c : Thread nD τ).loc main_arg1)) k (src n) := by
  have e : V m c main_v2 = truncf .bf16 (extractStridedSlice S4096x2048 ![0, 6592] (shapeCast S4096x18960 (m ((c : Thread nD τ).loc main_arg1)) shapeCasts_S1x4096x18960_S4096x18960) slices_S4096x18960_S4096x2048_0_6592 : FVec Ideal S4096x2048 .f32) bitsLt_bf16_f32 := by
    unfold V
    simp only [hostOps0]
    after_results
    rfl
  rw [e, truncf_apply]
  exact cols_apply 6592 _ _ _ k _ _ rfl

theorem idx_facts : ∀ t : Fin grid0.N,
    win0_0.index t 0 = t.val / 2 ∧ win0_0.index t 1 = 0 ∧ win0_1.index t 0 = 0 ∧ win0_1.index t 1 = t.val % 2 := by decide +kernel

/-- The row block of `h` at point `t`, at an index. -/
theorem blk0 (c : Dev nD) (t : Fin cfg0.N) (r : Fin 768) (k : Fin 4096) (R : Fin 16896) (h : R.val = t.val / 2 * 768 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 768 + 1 * r.val = R.val; rw [h0]; omega
  | ⟨1, _⟩ => show win0_0.index t 1 * 4096 + 1 * k.val = k.val; rw [h1]; omega

/-- The column block of the weights at point `t`, at an index. -/
theorem blk1 (c : Dev nD) (t : Fin cfg0.N) (k : Fin 4096) (n : Fin 1024) (N : Fin 2048) (h : N.val = t.val % 2 * 1024 + n.val) :
    iblk m c 1 t (ix2 k n) = pick (m ((c : Thread nD τ).loc main_arg1)) k (src N) := by
  unfold iblk
  rw [View.read_apply, ← V_w m c]
  obtain ⟨-, -, h0, h1⟩ := idx_facts t
  refine congrArg (V m c main_v2) ?_
  funext a
  apply Fin.ext
  match a with
  | ⟨0, _⟩ => show win0_1.index t 0 * 4096 + 1 * k.val = k.val; rw [h0]; omega
  | ⟨1, _⟩ => show win0_1.index t 1 * 1024 + 1 * n.val = N.val; rw [h1]; omega

/-- The body's product at point `t` is the projection at the row and column it stands for. -/
theorem base_eq (c : Dev nD) (t : Fin cfg0.N) (r : Fin 768) (n : Fin 1024) (R : Fin 16896) (N : Fin 2048)
    (hR : R.val = t.val / 2 * 768 + r.val) (hN : N.val = t.val % 2 * 1024 + n.val) :
    k0_pay4 (F := Ideal) (iblk m c 0 t) (iblk m c 1 t) (ix2 r n)
      = (projO (m ((c : Thread nD τ).loc main_arg0)) (m ((c : Thread nD τ).loc main_arg1)) R (src N)) * Ideal.ofBits .f32 0x3E0293EE#32 := by
  refine (pay_apply (iblk m c 0 t) (iblk m c 1 t) r n).trans ?_
  rw [← sum_pick]
  refine congrArg (fun z : EReal => z * Ideal.ofBits .f32 0x3E0293EE#32) ?_
  exact Finset.sum_congr rfl fun k _ => by rw [blk0 m c t r k R hR, blk1 m c t k n N hN]

theorem lt_N (t : Fin cfg0.N) : t.val < 44 := by
  have hN : cfg0.N = 44 := N_0
  exact hN ▸ t.isLt

/-- What device `c`'s result array is shown to hold: entry `(e, r, k)` is the projection's column `128 e + k` of row `r`. -/
def spec (h : FVec Ideal S16896x4096 .bf16) (w : FVec Ideal S1x4096x18960 .f32) : FVec Ideal S16x16896x128 .bf16 := fun i =>
  (projO h w (i 1) (src ⟨(i 0).val * 128 + (i 2).val, by have h0 : (i 0).val < 16 := (i 0).isLt; have h2 : (i 2).val < 128 := (i 2).isLt; omega⟩)) * Ideal.ofBits .f32 0x3E0293EE#32

abbrev G (c : Dev nD) : FVec Ideal S16x16896x128 .bf16 :=
  spec (m ((c : Thread nD τ).loc main_arg0)) (m ((c : Thread nD τ).loc main_arg1))

theorem idx_out : ∀ t : Fin grid0.N, win0_2.index t 0 = t.val % 2 ∧ win0_2.index t 1 = t.val / 2 ∧ win0_2.index t 2 = 0 := by decide +kernel

/-- Where point `t` writes entry `(e, r, k)` of its block in the result array. -/
theorem read (g : FVec Ideal S16x16896x128 .bf16) (t : Fin cfg0.N) (e : Fin 8) (r : Fin 768) (k : Fin 128) (E : Fin 16) (R : Fin 16896)
    (hE : E.val = t.val % 2 * 8 + e.val) (hR : R.val = t.val / 2 * 768 + r.val) :
    ((cfg0.win 2).blk t).view.read (Elt Ideal) g (ix3 e r k) = g (ix3 E R k) := by
  rw [View.read_apply]
  obtain ⟨h0, h1, h2⟩ := idx_out t
  refine congrArg g ?_
  funext a
  apply Fin.ext
  match a with
  | ⟨0, _⟩ => show win0_2.index t 0 * 8 + 1 * e.val = E.val; rw [h0]; omega
  | ⟨1, _⟩ => show win0_2.index t 1 * 768 + 1 * r.val = R.val; rw [h1]; omega
  | ⟨2, _⟩ => show win0_2.index t 2 * 128 + 1 * k.val = k.val; rw [h2]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  unfold out0_2 k0_pay10
  rw [View.ld_unit_zero hz, View.ld_unit_zero hz]
  have ht := lt_N t
  funext j
  refine Eq.trans (Value.canon2_eq (F := Ideal) (iblk m c 0 t) (iblk m c 1 t) j) ?_
  obtain ⟨e, r, k, rfl⟩ : ∃ (e : Fin 8) (r : Fin 768) (k : Fin 128), j = ix3 e r k := ⟨j 0, j 1, j 2, eq_ix3 j⟩
  have he : e.val < 8 := e.isLt
  have hr : r.val < 768 := r.isLt
  have hk : k.val < 128 := k.isLt
  let R : Fin 16896 := ⟨t.val / 2 * 768 + r.val, by omega⟩
  let E : Fin 16 := ⟨t.val % 2 * 8 + e.val, by omega⟩
  refine Eq.trans ?_ (read (G m c) t e r k E R rfl rfl).symm
  show k0_pay4 (F := Ideal) (iblk m c 0 t) (iblk m c 1 t) (Value.ix2_0 (ix3 e r k)) = _
  rw [show Value.ix2_0 (ix3 e r k) = ix2 r (⟨e.val * 128 + k.val, by omega⟩ : Fin 1024) from
    ix2_ext _ _ _ rfl rfl]
  refine base_eq m c t r _ R _ rfl ?_
  show (t.val % 2 * 8 + e.val) * 128 + k.val = t.val % 2 * 1024 + (e.val * 128 + k.val)
  omega

/-- An index of the result array is in point `t`'s block exactly when its coordinates are in its ranges. -/
theorem mem_blk (t : Fin cfg0.N) (i : S16x16896x128.Idx) :
    i ∈ ((cfg0.win 2).blk t).view.set ↔
      (t.val % 2 * 8 ≤ (i 0 : Nat) ∧ (i 0 : Nat) < t.val % 2 * 8 + 8)
      ∧ (t.val / 2 * 768 ≤ (i 1 : Nat) ∧ (i 1 : Nat) < t.val / 2 * 768 + 768) := by
  show i ∈ ((View.whole main_v3).slice (win0_2.rect t)).set ↔ _
  rw [View.set_slice_whole, Rect.mem_set_unit]
  obtain ⟨h0, h1, h2⟩ := idx_out t
  have e0 : win0_2.index t 0 * win0_2.size 0 = t.val % 2 * 8 := by rw [h0]; rfl
  have e1 : win0_2.index t 1 * win0_2.size 1 = t.val / 2 * 768 := by rw [h1]; rfl
  have e2 : win0_2.index t 2 * win0_2.size 2 = 0 := by rw [h2]; rfl
  have s0 : win0_2.xsize (grid0.coords t) 0 = 8 := rfl
  have s1 : win0_2.xsize (grid0.coords t) 1 = 768 := rfl
  have s2 : win0_2.xsize (grid0.coords t) 2 = 128 := rfl
  have i2 : (i 2 : Nat) < 128 := (i 2).isLt
  refine ⟨fun h => ⟨?_, ?_⟩, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · have : win0_2.index t 1 * win0_2.size 1 ≤ (i 1 : Nat) ∧ (i 1 : Nat) < win0_2.index t 1 * win0_2.size 1 + win0_2.xsize (grid0.coords t) 1 := h 1
    rw [e1, s1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h.1
    | ⟨1, _⟩ => show win0_2.index t 1 * win0_2.size 1 ≤ (i 1 : Nat) ∧ (i 1 : Nat) < win0_2.index t 1 * win0_2.size 1 + win0_2.xsize (grid0.coords t) 1
                rw [e1, s1]; exact h.2
    | ⟨2, _⟩ => show win0_2.index t 2 * win0_2.size 2 ≤ (i 2 : Nat) ∧ (i 2 : Nat) < win0_2.index t 2 * win0_2.size 2 + win0_2.xsize (grid0.coords t) 2
                rw [e2, s2]; omega

/-- The blocks tile the result array. -/
theorem cover (i : S16x16896x128.Idx) :
    ∃ t : Fin cfg0.N, (cfg0.win 2).flush t = true ∧ i ∈ ((cfg0.win 2).blk t).view.set := by
  have h0 : (i 0 : Nat) < 16 := (i 0).isLt
  have h1 : (i 1 : Nat) < 16896 := (i 1).isLt
  have hN : cfg0.N = 44 := N_0
  refine ⟨⟨(i 1 : Nat) / 768 * 2 + (i 0 : Nat) / 8, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

end Cert.ProjQIdeal.ProjQValue

namespace Cert.ProjQRefIdeal.RefValue

open Cert.ProjQRefIdeal Cert.ProjQRefIdeal.Gen Cert.ProjQIdeal.ProjQValue

/-- The reference's product at an index. -/
theorem dot_apply (h : FVec Ideal S16896x4096 .bf16) (w : FVec Ideal S1x4096x18960 .f32) (r : Fin 16896) (n : Fin 18960) :
    Read.val_main_v2 (F := Ideal) h w (ix2 r n) = proj h w r n := by
  have hw (k : Fin 4096) : Read.val_main_v1 (F := Ideal) w (ix2 k n) = w (ix3 (0 : Fin 1) k n) := by
    rw [Read.val_main_v1_apply]
    refine congrArg w (funext fun a => Fin.ext ?_)
    have hk : k.val < 4096 := k.isLt
    have hn : n.val < 18960 := n.isLt
    match a with
    | ⟨0, _⟩ => rfl
    | ⟨1, _⟩ => show (k.val * 18960 + n.val) / 18960 % 4096 = k.val; omega
    | ⟨2, _⟩ => show (k.val * 18960 + n.val) % 18960 = n.val; omega
  rw [Read.val_main_v2_apply]
  refine Finset.sum_congr rfl fun k _ => ?_
  show h _ * Read.val_main_v1 (F := Ideal) w (Read.ridx_main_v2 (ix2 r n) k) = _
  rw [show Read.ridx_main_v2 (ix2 r n) k = ix2 k n from funext fun a => by match a with | ⟨0, _⟩ => rfl | ⟨1, _⟩ => rfl, hw,
    show Read.lidx_main_v2 (ix2 r n) k = ix2 r k from funext fun a => by match a with | ⟨0, _⟩ => rfl | ⟨1, _⟩ => rfl]

/-- The reference's result is the same function of its arguments. -/
theorem val_eq (h : FVec Ideal S16896x4096 .bf16) (w : FVec Ideal S1x4096x18960 .f32) :
    Read.val_main_v8 (F := Ideal) h w = spec h w := by
  funext i
  obtain ⟨e, r, k, rfl⟩ : ∃ (e : Fin 16) (r : Fin 16896) (k : Fin 128), i = ix3 e r k := ⟨i 0, i 1, i 2, eq_ix3 i⟩
  have he : e.val < 16 := e.isLt
  have hr : r.val < 16896 := r.isLt
  have hk : k.val < 128 := k.isLt
  show Read.val_main_v7 (F := Ideal) h w (ix3 e r k) = _
  rw [Read.val_main_v7_apply, show Read.idx_main_v7 (ix3 e r k) = ix3 r e k from ix3_ext _ _ _ _ rfl rfl rfl]
  have hp : Read.val_main_v4 (F := Ideal) h w (ix3 r e k) = proj h w r (⟨6592 + (e.val * 128 + k.val), by omega⟩ : Fin 18960) := by
    rw [Read.val_main_v4_apply, show Read.idx_main_v4 (ix3 r e k) = ix2 r (⟨e.val * 128 + k.val, by omega⟩ : Fin 2048) from
      ix2_ext _ _ _ (show ((r.val * 16 + e.val) * 128 + k.val) / 2048 = r.val by omega) (show ((r.val * 16 + e.val) * 128 + k.val) % 2048 = e.val * 128 + k.val by omega),
      Read.val_main_v3_apply]
    rw [show Read.idx_main_v3 (ix2 r (⟨e.val * 128 + k.val, by omega⟩ : Fin 2048)) = ix2 r (⟨6592 + (e.val * 128 + k.val), by omega⟩ : Fin 18960) from
      ix2_ext _ _ _ rfl rfl]
    exact dot_apply h w r _
  show Read.val_main_v4 (F := Ideal) h w (ix3 r e k) * Ideal.ofBits .f32 0x3E0293EE#32 = _
  rw [hp]
  rfl

end Cert.ProjQRefIdeal.RefValue

namespace Cert.Proof.ProjQ

theorem frame : Cert.quiescent_ProjQ := fun m ρ _ => Cert.ProjQ.Gen.frame m ρ
theorem frame_ideal : Cert.quiescent_ProjQIdeal := fun m ρ _ => Cert.ProjQIdeal.Gen.frame m ρ
theorem frame_ref : Cert.quiescent_ProjQRefIdeal := fun m ρ _ =>
  (θ_run Cert.ProjQRefIdeal.defs _ _).mono (fun r h => ⟨fun c => (h c).2,
      Idealize.ShloMosaic.sem_eq_zero_of_no_sems (by decide) r.2⟩)
    (Cert.ProjQRefIdeal.Value.run (F := Ideal) m ρ)

theorem algebraic : Cert.algebraic_ProjQIdeal_ProjQRefIdeal := by
  intro m ρ m' ρ' _ hagree
  refine ⟨fun c => Cert.ProjQIdeal.ProjQValue.G m c, ?_, ?_⟩
  · exact (θ_run Cert.ProjQIdeal.defs _ _).mono
      (fun _ h c => ⟨(h c).1.trans (Cert.ProjQIdeal.ProjQValue.final m c), (h c).2⟩)
      (Cert.ProjQIdeal.Value.run_blocks (F := Ideal) m ρ)
  · refine (θ_run Cert.ProjQRefIdeal.defs _ _).mono (fun _ h c => ⟨?_, (h c).2⟩)
      (Cert.ProjQRefIdeal.Value.run (F := Ideal) m' ρ')
    · refine (h c).1.trans ((Cert.ProjQRefIdeal.Read.val_main_v8_eq ..).trans ((Cert.ProjQRefIdeal.RefValue.val_eq ..).trans ?_))
      unfold Cert.ProjQIdeal.ProjQValue.G
      rw [(hagree c).1, (hagree c).2]

end Cert.Proof.ProjQ

end
-- ==== Proof.ProjQi.lean ====
/- The projection onto the indexer's queries, written head by head. -/
module

public import proofs.«01_k».proof.Defs
public import proofs.«01_k».proof.Proof.Common
public import proofs.«01_k».proof.Proof.Gen.ProjQi.Frame
public import proofs.«01_k».proof.Proof.Gen.ProjQiIdeal.Value
public import proofs.«01_k».proof.Proof.Gen.ProjQiRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.ProjQiIdeal.ProjQiValue

open Cert.ProjQiIdeal Cert.ProjQiIdeal.Gen

/-- Which column of the layer's input weights column `n` of this call's weights is; `none` for a column of zeros. -/
def src (n : Fin 1024) : Option (Fin 18960) :=
  some ⟨9664 + n.val, by omega⟩

variable (m : (ℓ : Loc nD τ sig) → Buf (Elt Ideal) ℓ) (ρ : Dev nD → PrngReg)

/-- The body's product at an index, of its loaded blocks. -/
theorem pay_apply (x : FVec Ideal S768x4096 .bf16) (a : FVec Ideal S4096x1024 .bf16) (r : Fin 768) (c : Fin 1024) :
    k0_pay5 (F := Ideal) x a (ix2 r c) = (∑ k : Fin 4096, x (ix2 r k) * a (ix2 k c) : EReal) := by
  unfold k0_pay5
  simp only [shapeCast_self]
  exact matmul_zero x a r c

/-- This call's weights as the region finds them, at an index. -/
theorem V_w (c : Dev nD) (k : Fin 4096) (n : Fin 1024) :
    V m c main_v2 (ix2 k n) = pick (m ((c : Thread nD τ).loc main_arg1)) k (src n) := by
  have e : V m c main_v2 = truncf .bf16 (extractStridedSlice S4096x1024 ![0, 9664] (shapeCast S4096x18960 (m ((c : Thread nD τ).loc main_arg1)) shapeCasts_S1x4096x18960_S4096x18960) slices_S4096x18960_S4096x1024_0_9664 : FVec Ideal S4096x1024 .f32) bitsLt_bf16_f32 := by
    unfold V
    simp only [hostOps0]
    after_results
    rfl
  rw [e, truncf_apply]
  exact cols_apply 9664 _ _ _ k _ _ rfl

theorem idx_facts : ∀ t : Fin grid0.N,
    win0_0.index t 0 = t.val ∧ win0_0.index t 1 = 0 ∧ win0_1.index t 0 = 0 ∧ win0_1.index t 1 = 0 := by decide +kernel

/-- The row block of `h` at point `t`, at an index. -/
theorem blk0 (c : Dev nD) (t : Fin cfg0.N) (r : Fin 768) (k : Fin 4096) (R : Fin 16896) (h : R.val = t.val * 768 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 768 + 1 * r.val = R.val; rw [h0]; omega
  | ⟨1, _⟩ => show win0_0.index t 1 * 4096 + 1 * k.val = k.val; rw [h1]; omega

/-- The column block of the weights at point `t`, at an index. -/
theorem blk1 (c : Dev nD) (t : Fin cfg0.N) (k : Fin 4096) (n : Fin 1024) (N : Fin 1024) (h : N.val = 0 * 1024 + n.val) :
    iblk m c 1 t (ix2 k n) = pick (m ((c : Thread nD τ).loc main_arg1)) k (src N) := by
  unfold iblk
  rw [View.read_apply, ← V_w m c]
  obtain ⟨-, -, h0, h1⟩ := idx_facts t
  refine congrArg (V m c main_v2) ?_
  funext a
  apply Fin.ext
  match a with
  | ⟨0, _⟩ => show win0_1.index t 0 * 4096 + 1 * k.val = k.val; rw [h0]; omega
  | ⟨1, _⟩ => show win0_1.index t 1 * 1024 + 1 * n.val = N.val; rw [h1]; omega

/-- The body's product at point `t` is the projection at the row and column it stands for. -/
theorem base_eq (c : Dev nD) (t : Fin cfg0.N) (r : Fin 768) (n : Fin 1024) (R : Fin 16896) (N : Fin 1024)
    (hR : R.val = t.val * 768 + r.val) (hN : N.val = 0 * 1024 + n.val) :
    k0_pay5 (F := Ideal) (iblk m c 0 t) (iblk m c 1 t) (ix2 r n)
      = projO (m ((c : Thread nD τ).loc main_arg0)) (m ((c : Thread nD τ).loc main_arg1)) R (src N) := by
  refine (pay_apply (iblk m c 0 t) (iblk m c 1 t) r n).trans ?_
  rw [← sum_pick]
  refine id ?_
  exact Finset.sum_congr rfl fun k _ => by rw [blk0 m c t r k R hR, blk1 m c t k n N hN]

theorem lt_N (t : Fin cfg0.N) : t.val < 22 := by
  have hN : cfg0.N = 22 := N_0
  exact hN ▸ t.isLt

/-- What device `c`'s result array is shown to hold: entry `(e, r, k)` is the projection's column `64 e + k` of row `r`. -/
def spec (h : FVec Ideal S16896x4096 .bf16) (w : FVec Ideal S1x4096x18960 .f32) : FVec Ideal S16x16896x64 .bf16 := fun i =>
  projO h w (i 1) (src ⟨(i 0).val * 64 + (i 2).val, by have h0 : (i 0).val < 16 := (i 0).isLt; have h2 : (i 2).val < 64 := (i 2).isLt; omega⟩)

abbrev G (c : Dev nD) : FVec Ideal S16x16896x64 .bf16 :=
  spec (m ((c : Thread nD τ).loc main_arg0)) (m ((c : Thread nD τ).loc main_arg1))

theorem idx_out : ∀ t : Fin grid0.N, win0_2.index t 0 = 0 ∧ win0_2.index t 1 = t.val ∧ win0_2.index t 2 = 0 := by decide +kernel

/-- Where point `t` writes entry `(e, r, k)` of its block in the result array. -/
theorem read (g : FVec Ideal S16x16896x64 .bf16) (t : Fin cfg0.N) (e : Fin 16) (r : Fin 768) (k : Fin 64) (E : Fin 16) (R : Fin 16896)
    (hE : E.val = 0 * 16 + e.val) (hR : R.val = t.val * 768 + r.val) :
    ((cfg0.win 2).blk t).view.read (Elt Ideal) g (ix3 e r k) = g (ix3 E R k) := by
  rw [View.read_apply]
  obtain ⟨h0, h1, h2⟩ := idx_out t
  refine congrArg g ?_
  funext a
  apply Fin.ext
  match a with
  | ⟨0, _⟩ => show win0_2.index t 0 * 16 + 1 * e.val = E.val; rw [h0]; omega
  | ⟨1, _⟩ => show win0_2.index t 1 * 768 + 1 * r.val = R.val; rw [h1]; omega
  | ⟨2, _⟩ => show win0_2.index t 2 * 64 + 1 * k.val = k.val; rw [h2]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  unfold out0_2 k0_pay19
  rw [View.ld_unit_zero hz, View.ld_unit_zero hz]
  have ht := lt_N t
  funext j
  refine Eq.trans (Value.canon2_eq (F := Ideal) (iblk m c 0 t) (iblk m c 1 t) j) ?_
  obtain ⟨e, r, k, rfl⟩ : ∃ (e : Fin 16) (r : Fin 768) (k : Fin 64), j = ix3 e r k := ⟨j 0, j 1, j 2, eq_ix3 j⟩
  have he : e.val < 16 := e.isLt
  have hr : r.val < 768 := r.isLt
  have hk : k.val < 64 := k.isLt
  let R : Fin 16896 := ⟨t.val * 768 + r.val, by omega⟩
  let E : Fin 16 := ⟨0 * 16 + e.val, by omega⟩
  refine Eq.trans ?_ (read (G m c) t e r k E R rfl rfl).symm
  show k0_pay5 (F := Ideal) (iblk m c 0 t) (iblk m c 1 t) (Value.ix2_0 (ix3 e r k)) = _
  rw [show Value.ix2_0 (ix3 e r k) = ix2 r (⟨e.val * 64 + k.val, by omega⟩ : Fin 1024) from
    ix2_ext _ _ _ rfl rfl]
  refine base_eq m c t r _ R _ rfl ?_
  show (0 * 16 + e.val) * 64 + k.val = 0 * 1024 + (e.val * 64 + k.val)
  omega

/-- An index of the result array is in point `t`'s block exactly when its coordinates are in its ranges. -/
theorem mem_blk (t : Fin cfg0.N) (i : S16x16896x64.Idx) :
    i ∈ ((cfg0.win 2).blk t).view.set ↔
      (0 * 16 ≤ (i 0 : Nat) ∧ (i 0 : Nat) < 0 * 16 + 16)
      ∧ (t.val * 768 ≤ (i 1 : Nat) ∧ (i 1 : Nat) < t.val * 768 + 768) := by
  show i ∈ ((View.whole main_v3).slice (win0_2.rect t)).set ↔ _
  rw [View.set_slice_whole, Rect.mem_set_unit]
  obtain ⟨h0, h1, h2⟩ := idx_out t
  have e0 : win0_2.index t 0 * win0_2.size 0 = 0 * 16 := by rw [h0]; rfl
  have e1 : win0_2.index t 1 * win0_2.size 1 = t.val * 768 := by rw [h1]; rfl
  have e2 : win0_2.index t 2 * win0_2.size 2 = 0 := by rw [h2]; rfl
  have s0 : win0_2.xsize (grid0.coords t) 0 = 16 := rfl
  have s1 : win0_2.xsize (grid0.coords t) 1 = 768 := rfl
  have s2 : win0_2.xsize (grid0.coords t) 2 = 64 := rfl
  have i2 : (i 2 : Nat) < 64 := (i 2).isLt
  refine ⟨fun h => ⟨?_, ?_⟩, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · have : win0_2.index t 1 * win0_2.size 1 ≤ (i 1 : Nat) ∧ (i 1 : Nat) < win0_2.index t 1 * win0_2.size 1 + win0_2.xsize (grid0.coords t) 1 := h 1
    rw [e1, s1] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h.1
    | ⟨1, _⟩ => show win0_2.index t 1 * win0_2.size 1 ≤ (i 1 : Nat) ∧ (i 1 : Nat) < win0_2.index t 1 * win0_2.size 1 + win0_2.xsize (grid0.coords t) 1
                rw [e1, s1]; exact h.2
    | ⟨2, _⟩ => show win0_2.index t 2 * win0_2.size 2 ≤ (i 2 : Nat) ∧ (i 2 : Nat) < win0_2.index t 2 * win0_2.size 2 + win0_2.xsize (grid0.coords t) 2
                rw [e2, s2]; omega

/-- The blocks tile the result array. -/
theorem cover (i : S16x16896x64.Idx) :
    ∃ t : Fin cfg0.N, (cfg0.win 2).flush t = true ∧ i ∈ ((cfg0.win 2).blk t).view.set := by
  have h0 : (i 0 : Nat) < 16 := (i 0).isLt
  have h1 : (i 1 : Nat) < 16896 := (i 1).isLt
  have hN : cfg0.N = 22 := N_0
  refine ⟨⟨(i 1 : Nat) / 768 * 1 + (i 0 : Nat) / 16, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

end Cert.ProjQiIdeal.ProjQiValue

namespace Cert.ProjQiRefIdeal.RefValue

open Cert.ProjQiRefIdeal Cert.ProjQiRefIdeal.Gen Cert.ProjQiIdeal.ProjQiValue

/-- The reference's product at an index. -/
theorem dot_apply (h : FVec Ideal S16896x4096 .bf16) (w : FVec Ideal S1x4096x18960 .f32) (r : Fin 16896) (n : Fin 18960) :
    Read.val_main_v2 (F := Ideal) h w (ix2 r n) = proj h w r n := by
  have hw (k : Fin 4096) : Read.val_main_v1 (F := Ideal) w (ix2 k n) = w (ix3 (0 : Fin 1) k n) := by
    rw [Read.val_main_v1_apply]
    refine congrArg w (funext fun a => Fin.ext ?_)
    have hk : k.val < 4096 := k.isLt
    have hn : n.val < 18960 := n.isLt
    match a with
    | ⟨0, _⟩ => rfl
    | ⟨1, _⟩ => show (k.val * 18960 + n.val) / 18960 % 4096 = k.val; omega
    | ⟨2, _⟩ => show (k.val * 18960 + n.val) % 18960 = n.val; omega
  rw [Read.val_main_v2_apply]
  refine Finset.sum_congr rfl fun k _ => ?_
  show h _ * Read.val_main_v1 (F := Ideal) w (Read.ridx_main_v2 (ix2 r n) k) = _
  rw [show Read.ridx_main_v2 (ix2 r n) k = ix2 k n from funext fun a => by match a with | ⟨0, _⟩ => rfl | ⟨1, _⟩ => rfl, hw,
    show Read.lidx_main_v2 (ix2 r n) k = ix2 r k from funext fun a => by match a with | ⟨0, _⟩ => rfl | ⟨1, _⟩ => rfl]

/-- The reference's result is the same function of its arguments. -/
theorem val_eq (h : FVec Ideal S16896x4096 .bf16) (w : FVec Ideal S1x4096x18960 .f32) :
    Read.val_main_v6 (F := Ideal) h w = spec h w := by
  funext i
  obtain ⟨e, r, k, rfl⟩ : ∃ (e : Fin 16) (r : Fin 16896) (k : Fin 64), i = ix3 e r k := ⟨i 0, i 1, i 2, eq_ix3 i⟩
  have he : e.val < 16 := e.isLt
  have hr : r.val < 16896 := r.isLt
  have hk : k.val < 64 := k.isLt
  show Read.val_main_v5 (F := Ideal) h w (ix3 e r k) = _
  rw [Read.val_main_v5_apply, show Read.idx_main_v5 (ix3 e r k) = ix3 r e k from ix3_ext _ _ _ _ rfl rfl rfl]
  have hp : Read.val_main_v4 (F := Ideal) h w (ix3 r e k) = proj h w r (⟨9664 + (e.val * 64 + k.val), by omega⟩ : Fin 18960) := by
    rw [Read.val_main_v4_apply, show Read.idx_main_v4 (ix3 r e k) = ix2 r (⟨e.val * 64 + k.val, by omega⟩ : Fin 1024) from
      ix2_ext _ _ _ (show ((r.val * 16 + e.val) * 64 + k.val) / 1024 = r.val by omega) (show ((r.val * 16 + e.val) * 64 + k.val) % 1024 = e.val * 64 + k.val by omega),
      Read.val_main_v3_apply]
    rw [show Read.idx_main_v3 (ix2 r (⟨e.val * 64 + k.val, by omega⟩ : Fin 1024)) = ix2 r (⟨9664 + (e.val * 64 + k.val), by omega⟩ : Fin 18960) from
      ix2_ext _ _ _ rfl rfl]
    exact dot_apply h w r _
  exact hp

end Cert.ProjQiRefIdeal.RefValue

namespace Cert.Proof.ProjQi

theorem frame : Cert.quiescent_ProjQi := fun m ρ _ => Cert.ProjQi.Gen.frame m ρ
theorem frame_ideal : Cert.quiescent_ProjQiIdeal := fun m ρ _ => Cert.ProjQiIdeal.Gen.frame m ρ
theorem frame_ref : Cert.quiescent_ProjQiRefIdeal := fun m ρ _ =>
  (θ_run Cert.ProjQiRefIdeal.defs _ _).mono (fun r h => ⟨fun c => (h c).2,
      Idealize.ShloMosaic.sem_eq_zero_of_no_sems (by decide) r.2⟩)
    (Cert.ProjQiRefIdeal.Value.run (F := Ideal) m ρ)

theorem algebraic : Cert.algebraic_ProjQiIdeal_ProjQiRefIdeal := by
  intro m ρ m' ρ' _ hagree
  refine ⟨fun c => Cert.ProjQiIdeal.ProjQiValue.G m c, ?_, ?_⟩
  · exact (θ_run Cert.ProjQiIdeal.defs _ _).mono
      (fun _ h c => ⟨(h c).1.trans (Cert.ProjQiIdeal.ProjQiValue.final m c), (h c).2⟩)
      (Cert.ProjQiIdeal.Value.run_blocks (F := Ideal) m ρ)
  · refine (θ_run Cert.ProjQiRefIdeal.defs _ _).mono (fun _ h c => ⟨?_, (h c).2⟩)
      (Cert.ProjQiRefIdeal.Value.run (F := Ideal) m' ρ')
    · refine (h c).1.trans ((Cert.ProjQiRefIdeal.Read.val_main_v6_eq ..).trans ((Cert.ProjQiRefIdeal.RefValue.val_eq ..).trans ?_))
      unfold Cert.ProjQiIdeal.ProjQiValue.G
      rw [(hagree c).1, (hagree c).2]

end Cert.Proof.ProjQi

end
-- ==== Proof.Merge.lean ====
/- The two branches merged under their gates: every entry of the kernel's result is the logistic of the first gate times the product of
   an attention row and a column of its weights, plus the logistic of the second times the product of a recurrence row and a column of its. -/
module

public import proofs.«01_k».proof.Defs
public import proofs.«01_k».proof.Proof.Common
public import proofs.«01_k».proof.Proof.Gen.Merge.Frame
public import proofs.«01_k».proof.Proof.Gen.MergeIdeal.Value
public import proofs.«01_k».proof.Proof.Gen.MergeRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.MergeIdeal.MergeValue

open Cert.MergeIdeal Cert.MergeIdeal.Gen

/-- The logistic function, written with the programs' own operations. -/
def lgs (g : EReal) : EReal :=
  Ideal.div (Ideal.ofBits .f32 0x3F800000#32) (Ideal.ofBits .f32 0x3F800000#32 + Ideal.exp (-g))

/-- The head a merged column belongs to. -/
abbrev hd (k : Fin 2048) : Fin 16 := ⟨k.val / 128, by have := k.isLt; omega⟩

/-- The column within that head. -/
abbrev ch (k : Fin 2048) : Fin 128 := ⟨k.val % 128, by omega⟩

/-- What the result array is shown to hold. -/
def spec (a : FVec Ideal S16896x2048 .bf16) (b : FVec Ideal S16x16896x128 .bf16) (g : FVec Ideal S16896x8192 .bf16)
    (wa wb : FVec Ideal S1x2048x4096 .f32) : FVec Ideal S16896x4096 .bf16 := fun i =>
  lgs (g (ix2 (i 0) (⟨(i 1).val, by have h : (i 1).val < 4096 := (i 1).isLt; omega⟩ : Fin 8192))) * (∑ k : Fin 2048, a (ix2 (i 0) k) * wa (ix3 (0 : Fin 1) k (i 1)))
    + lgs (g (ix2 (i 0) (⟨4096 + (i 1).val, by have h : (i 1).val < 4096 := (i 1).isLt; omega⟩ : Fin 8192))) * (∑ k : Fin 2048, b (ix3 (hd k) (i 0) (ch k)) * wb (ix3 (0 : Fin 1) k (i 1)))

variable (m : (ℓ : Loc nD τ sig) → Buf (Elt Ideal) ℓ) (ρ : Dev nD → PrngReg)

/-- One head's rows of a block of heads. -/
def headRows (x : FVec Ideal S16x768x128 .bf16) (e : Fin 16) : FVec Ideal S768x128 .bf16 := fun i => x (ix3 e (i 0) (i 1))

/-- Loading one head and dropping its unit axis gives that head's rows. -/
theorem head_eq (x : FVec Ideal S16x768x128 .bf16) (e : Fin 16) (inb : ∀ a, (![e.val, 0, 0] : Fin 3 → ℕ) a + S1x768x128.size a ≤ S16x768x128.size a) :
    shapeCast S768x128 (View.ld (Val := Elt Ideal) (e' := .bf16) x (Rect.unit (s := S16x768x128) ![e.val, 0, 0] S1x768x128.size inb)) shapeCasts_S1x768x128_S768x128 = headRows x e := by
  funext i
  obtain ⟨r, n, rfl⟩ : ∃ (r : Fin 768) (n : Fin 128), i = ix2 r n := ⟨i 0, i 1, eq_ix2 i⟩
  refine (shapeCast_apply _ _ _ (ix3 (0 : Fin 1) r n) ?_).trans ?_
  · rewrite [Shape.rowMajor_val_three, Shape.rowMajor_val_two]
    show (0 * 768 + r.val) * 128 + n.val = r.val * 128 + n.val
    omega
  · refine congrArg x (ix3_ext _ e r n ?_ ?_ ?_)
    · show e.val + 1 * 0 = e.val; omega
    · show 0 + 1 * r.val = r.val; omega
    · show 0 + 1 * n.val = n.val; omega

/-- The heads of a block, each with its shape. -/
def pcs (x : FVec Ideal S16x768x128 .bf16) : List ((s : Shape) × (s.Idx → Ideal .bf16)) :=
  [⟨S768x128, shapeCast S768x128 (View.ld (Val := Elt Ideal) (e' := .bf16) x r0_2) shapeCasts_S1x768x128_S768x128⟩, ⟨S768x128, shapeCast S768x128 (View.ld (Val := Elt Ideal) (e' := .bf16) x r0_3) shapeCasts_S1x768x128_S768x128⟩, ⟨S768x128, shapeCast S768x128 (View.ld (Val := Elt Ideal) (e' := .bf16) x r0_4) shapeCasts_S1x768x128_S768x128⟩, ⟨S768x128, shapeCast S768x128 (View.ld (Val := Elt Ideal) (e' := .bf16) x r0_5) shapeCasts_S1x768x128_S768x128⟩, ⟨S768x128, shapeCast S768x128 (View.ld (Val := Elt Ideal) (e' := .bf16) x r0_6) shapeCasts_S1x768x128_S768x128⟩, ⟨S768x128, shapeCast S768x128 (View.ld (Val := Elt Ideal) (e' := .bf16) x r0_7) shapeCasts_S1x768x128_S768x128⟩, ⟨S768x128, shapeCast S768x128 (View.ld (Val := Elt Ideal) (e' := .bf16) x r0_8) shapeCasts_S1x768x128_S768x128⟩, ⟨S768x128, shapeCast S768x128 (View.ld (Val := Elt Ideal) (e' := .bf16) x r0_9) shapeCasts_S1x768x128_S768x128⟩, ⟨S768x128, shapeCast S768x128 (View.ld (Val := Elt Ideal) (e' := .bf16) x r0_10) shapeCasts_S1x768x128_S768x128⟩, ⟨S768x128, shapeCast S768x128 (View.ld (Val := Elt Ideal) (e' := .bf16) x r0_11) shapeCasts_S1x768x128_S768x128⟩, ⟨S768x128, shapeCast S768x128 (View.ld (Val := Elt Ideal) (e' := .bf16) x r0_12) shapeCasts_S1x768x128_S768x128⟩, ⟨S768x128, shapeCast S768x128 (View.ld (Val := Elt Ideal) (e' := .bf16) x r0_13) shapeCasts_S1x768x128_S768x128⟩, ⟨S768x128, shapeCast S768x128 (View.ld (Val := Elt Ideal) (e' := .bf16) x r0_14) shapeCasts_S1x768x128_S768x128⟩, ⟨S768x128, shapeCast S768x128 (View.ld (Val := Elt Ideal) (e' := .bf16) x r0_15) shapeCasts_S1x768x128_S768x128⟩, ⟨S768x128, shapeCast S768x128 (View.ld (Val := Elt Ideal) (e' := .bf16) x r0_16) shapeCasts_S1x768x128_S768x128⟩, ⟨S768x128, shapeCast S768x128 (View.ld (Val := Elt Ideal) (e' := .bf16) x r0_17) shapeCasts_S1x768x128_S768x128⟩]

theorem pcs_shapes (x : FVec Ideal S16x768x128 .bf16) : (pcs x).map (·.1) = List.replicate 16 S768x128 := rfl

/-- The heads of a block side by side. -/
def heads (x : FVec Ideal S16x768x128 .bf16) : FVec Ideal S768x2048 .bf16 :=
  concatenate S768x2048 1 (pcs x) concatenates_S768x128_S768x128_S768x128_S768x128_S768x128_S768x128_S768x128_S768x128_S768x128_S768x128_S768x128_S768x128_S768x128_S768x128_S768x128_S768x128_S768x2048_d1

theorem pcs_get (x : FVec Ideal S16x768x128 .bf16) (e : ℕ) (he : e < 16) (hl : e < (pcs x).length) :
    (pcs x)[e] = ⟨S768x128, headRows x ⟨e, he⟩⟩ := by
  rcases e with _ | _ | _ | _ | _ | _ | _ | _ | _ | _ | _ | _ | _ | _ | _ | _ | _
  · exact congrArg (fun z => (⟨S768x128, z⟩ : (s : Shape) × (s.Idx → Ideal .bf16))) (head_eq x ⟨0, he⟩ inb_S16x768x128_S1x768x128_0_0_0)
  · exact congrArg (fun z => (⟨S768x128, z⟩ : (s : Shape) × (s.Idx → Ideal .bf16))) (head_eq x ⟨1, he⟩ inb_S16x768x128_S1x768x128_1_0_0)
  · exact congrArg (fun z => (⟨S768x128, z⟩ : (s : Shape) × (s.Idx → Ideal .bf16))) (head_eq x ⟨2, he⟩ inb_S16x768x128_S1x768x128_2_0_0)
  · exact congrArg (fun z => (⟨S768x128, z⟩ : (s : Shape) × (s.Idx → Ideal .bf16))) (head_eq x ⟨3, he⟩ inb_S16x768x128_S1x768x128_3_0_0)
  · exact congrArg (fun z => (⟨S768x128, z⟩ : (s : Shape) × (s.Idx → Ideal .bf16))) (head_eq x ⟨4, he⟩ inb_S16x768x128_S1x768x128_4_0_0)
  · exact congrArg (fun z => (⟨S768x128, z⟩ : (s : Shape) × (s.Idx → Ideal .bf16))) (head_eq x ⟨5, he⟩ inb_S16x768x128_S1x768x128_5_0_0)
  · exact congrArg (fun z => (⟨S768x128, z⟩ : (s : Shape) × (s.Idx → Ideal .bf16))) (head_eq x ⟨6, he⟩ inb_S16x768x128_S1x768x128_6_0_0)
  · exact congrArg (fun z => (⟨S768x128, z⟩ : (s : Shape) × (s.Idx → Ideal .bf16))) (head_eq x ⟨7, he⟩ inb_S16x768x128_S1x768x128_7_0_0)
  · exact congrArg (fun z => (⟨S768x128, z⟩ : (s : Shape) × (s.Idx → Ideal .bf16))) (head_eq x ⟨8, he⟩ inb_S16x768x128_S1x768x128_8_0_0)
  · exact congrArg (fun z => (⟨S768x128, z⟩ : (s : Shape) × (s.Idx → Ideal .bf16))) (head_eq x ⟨9, he⟩ inb_S16x768x128_S1x768x128_9_0_0)
  · exact congrArg (fun z => (⟨S768x128, z⟩ : (s : Shape) × (s.Idx → Ideal .bf16))) (head_eq x ⟨10, he⟩ inb_S16x768x128_S1x768x128_10_0_0)
  · exact congrArg (fun z => (⟨S768x128, z⟩ : (s : Shape) × (s.Idx → Ideal .bf16))) (head_eq x ⟨11, he⟩ inb_S16x768x128_S1x768x128_11_0_0)
  · exact congrArg (fun z => (⟨S768x128, z⟩ : (s : Shape) × (s.Idx → Ideal .bf16))) (head_eq x ⟨12, he⟩ inb_S16x768x128_S1x768x128_12_0_0)
  · exact congrArg (fun z => (⟨S768x128, z⟩ : (s : Shape) × (s.Idx → Ideal .bf16))) (head_eq x ⟨13, he⟩ inb_S16x768x128_S1x768x128_13_0_0)
  · exact congrArg (fun z => (⟨S768x128, z⟩ : (s : Shape) × (s.Idx → Ideal .bf16))) (head_eq x ⟨14, he⟩ inb_S16x768x128_S1x768x128_14_0_0)
  · exact congrArg (fun z => (⟨S768x128, z⟩ : (s : Shape) × (s.Idx → Ideal .bf16))) (head_eq x ⟨15, he⟩ inb_S16x768x128_S1x768x128_15_0_0)
  · omega

theorem pcs_cols (x : FVec Ideal S16x768x128 .bf16) (e : ℕ) (he : e < 16) :
    ((((pcs x).take e).map (·.1)).map fun t => if h : t.rank = 2 then t.size ((1 : Fin 2).cast h.symm) else 0).sum = e * 128 := by
  rw [List.map_take, pcs_shapes, List.take_replicate, List.map_replicate, List.sum_replicate, Nat.min_eq_left he.le]
  rfl

theorem heads_apply (x : FVec Ideal S16x768x128 .bf16) (r : Fin 768) (k : Fin 2048) :
    heads x (ix2 r k) = x (ix3 (hd k) r (ch k)) :=
  cat_piece (pcs x) concatenates_S768x128_S768x128_S768x128_S768x128_S768x128_S768x128_S768x128_S768x128_S768x128_S768x128_S768x128_S768x128_S768x128_S768x128_S768x128_S768x128_S768x2048_d1 r k (hd k).val (hd k).isLt (headRows x (hd k)) (pcs_get x _ (hd k).isLt (hd k).isLt) ((hd k).val * 128) (pcs_cols x _ (hd k).isLt) (ch k)
    (by show k.val / 128 * 128 + k.val % 128 = k.val; omega)

/-- The body's stored block at an index, of its loaded blocks. -/
theorem pay_apply (a : FVec Ideal S768x2048 .bf16) (b : FVec Ideal S16x768x128 .bf16) (wa wb : FVec Ideal S2048x1024 .bf16) (g h : FVec Ideal S768x1024 .bf16)
    (r : Fin 768) (c : Fin 1024) :
    out0_6 (F := Ideal) a b wa wb g h (ix2 r c)
      = lgs (g (ix2 r c)) * (∑ k : Fin 2048, a (ix2 r k) * wa (ix2 k c))
        + lgs (h (ix2 r c)) * (∑ k : Fin 2048, b (ix3 (hd k) r (ch k)) * wb (ix2 k c)) := by
  have hb : (∑ k : Fin 2048, b (ix3 (hd k) r (ch k)) * wb (ix2 k c)) = ∑ k : Fin 2048, heads b (ix2 r k) * wb (ix2 k c) :=
    Finset.sum_congr rfl fun k _ => by rw [heads_apply]
  rw [hb, ← matmul_zero a wa r c, ← matmul_zero (heads b) wb r c]
  unfold out0_6
  rw [View.canon_unit_zero hz, View.ld_unit_zero hz, View.ld_unit_zero hz, View.ld_unit_zero hz, View.ld_unit_zero hz, View.ld_unit_zero hz]
  unfold k0_pay1 k0_pay2 k0_pay12 k0_pay13 k0_pay14 k0_pay15 k0_pay3 k0_pay4 k0_pay5 k0_pay6 k0_pay7 k0_pay8 k0_pay9 k0_pay10 k0_pay11 lgs
  simp only [shapeCast_self]
  rw [← zero_sub (g (ix2 r c) : EReal), ← zero_sub (h (ix2 r c) : EReal), ← Ideal.ofBits_zero_f32]
  have hc : (concatenate S768x2048 1 [⟨S768x128, shapeCast S768x128 (View.ld (Val := Elt Ideal) (e' := .bf16) b r0_2) shapeCasts_S1x768x128_S768x128⟩, ⟨S768x128, shapeCast S768x128 (View.ld (Val := Elt Ideal) (e' := .bf16) b r0_3) shapeCasts_S1x768x128_S768x128⟩, ⟨S768x128, shapeCast S768x128 (View.ld (Val := Elt Ideal) (e' := .bf16) b r0_4) shapeCasts_S1x768x128_S768x128⟩, ⟨S768x128, shapeCast S768x128 (View.ld (Val := Elt Ideal) (e' := .bf16) b r0_5) shapeCasts_S1x768x128_S768x128⟩, ⟨S768x128, shapeCast S768x128 (View.ld (Val := Elt Ideal) (e' := .bf16) b r0_6) shapeCasts_S1x768x128_S768x128⟩, ⟨S768x128, shapeCast S768x128 (View.ld (Val := Elt Ideal) (e' := .bf16) b r0_7) shapeCasts_S1x768x128_S768x128⟩, ⟨S768x128, shapeCast S768x128 (View.ld (Val := Elt Ideal) (e' := .bf16) b r0_8) shapeCasts_S1x768x128_S768x128⟩, ⟨S768x128, shapeCast S768x128 (View.ld (Val := Elt Ideal) (e' := .bf16) b r0_9) shapeCasts_S1x768x128_S768x128⟩, ⟨S768x128, shapeCast S768x128 (View.ld (Val := Elt Ideal) (e' := .bf16) b r0_10) shapeCasts_S1x768x128_S768x128⟩, ⟨S768x128, shapeCast S768x128 (View.ld (Val := Elt Ideal) (e' := .bf16) b r0_11) shapeCasts_S1x768x128_S768x128⟩, ⟨S768x128, shapeCast S768x128 (View.ld (Val := Elt Ideal) (e' := .bf16) b r0_12) shapeCasts_S1x768x128_S768x128⟩, ⟨S768x128, shapeCast S768x128 (View.ld (Val := Elt Ideal) (e' := .bf16) b r0_13) shapeCasts_S1x768x128_S768x128⟩, ⟨S768x128, shapeCast S768x128 (View.ld (Val := Elt Ideal) (e' := .bf16) b r0_14) shapeCasts_S1x768x128_S768x128⟩, ⟨S768x128, shapeCast S768x128 (View.ld (Val := Elt Ideal) (e' := .bf16) b r0_15) shapeCasts_S1x768x128_S768x128⟩, ⟨S768x128, shapeCast S768x128 (View.ld (Val := Elt Ideal) (e' := .bf16) b r0_16) shapeCasts_S1x768x128_S768x128⟩, ⟨S768x128, shapeCast S768x128 (View.ld (Val := Elt Ideal) (e' := .bf16) b r0_17) shapeCasts_S1x768x128_S768x128⟩] concatenates_S768x128_S768x128_S768x128_S768x128_S768x128_S768x128_S768x128_S768x128_S768x128_S768x128_S768x128_S768x128_S768x128_S768x128_S768x128_S768x128_S768x2048_d1 : FVec Ideal S768x2048 .bf16) = heads b := rfl
  rw [hc]
  exact congrArg₂ (fun u v : EReal => u + v) (congrArg₂ (fun u v : EReal => u * v) rfl rfl) (congrArg₂ (fun u v : EReal => u * v) rfl rfl)

/-- A branch's weights as the region finds them, at an index. -/
theorem V_wa (c : Dev nD) (k : Fin 2048) (n : Fin 4096) :
    V m c main_v1 (ix2 k n) = m ((c : Thread nD τ).loc main_arg3) (ix3 (0 : Fin 1) k n) := by
  have e : V m c main_v1 = truncf .bf16 (shapeCast S2048x4096 (m ((c : Thread nD τ).loc main_arg3)) shapeCasts_S1x2048x4096_S2048x4096 : FVec Ideal S2048x4096 .f32) bitsLt_bf16_f32 := by
    unfold V
    simp only [hostOps0]
    after_results
    rfl
  rw [e, truncf_apply]
  refine shapeCast_apply _ _ _ (ix3 (0 : Fin 1) k n) ?_
  rewrite [Shape.rowMajor_val_three, Shape.rowMajor_val_two]
  show (0 * 2048 + k.val) * 4096 + n.val = k.val * 4096 + n.val
  omega

/-- A branch's weights as the region finds them, at an index. -/
theorem V_wb (c : Dev nD) (k : Fin 2048) (n : Fin 4096) :
    V m c main_v3 (ix2 k n) = m ((c : Thread nD τ).loc main_arg4) (ix3 (0 : Fin 1) k n) := by
  have e : V m c main_v3 = truncf .bf16 (shapeCast S2048x4096 (m ((c : Thread nD τ).loc main_arg4)) shapeCasts_S1x2048x4096_S2048x4096 : FVec Ideal S2048x4096 .f32) bitsLt_bf16_f32 := by
    unfold V
    simp only [hostOps0]
    after_results
    rfl
  rw [e, truncf_apply]
  refine shapeCast_apply _ _ _ (ix3 (0 : Fin 1) k n) ?_
  rewrite [Shape.rowMajor_val_three, Shape.rowMajor_val_two]
  show (0 * 2048 + k.val) * 4096 + n.val = k.val * 4096 + n.val
  omega

theorem idx_facts : ∀ t : Fin grid0.N,
    win0_0.index t 0 = t.val / 4 ∧ win0_0.index t 1 = 0 ∧ win0_1.index t 0 = 0 ∧ win0_1.index t 1 = t.val / 4 ∧ win0_1.index t 2 = 0
    ∧ win0_2.index t 0 = 0 ∧ win0_2.index t 1 = t.val % 4 ∧ win0_3.index t 0 = 0 ∧ win0_3.index t 1 = t.val % 4
    ∧ win0_4.index t 0 = t.val / 4 ∧ win0_4.index t 1 = t.val % 4 ∧ win0_5.index t 0 = t.val / 4 ∧ win0_5.index t 1 = 4 + t.val % 4
    ∧ win0_6.index t 0 = t.val / 4 ∧ win0_6.index t 1 = t.val % 4 := by decide +kernel

/-- The block of attention rows at point `t`, at an index. -/
theorem blk0 (c : Dev nD) (t : Fin cfg0.N) (r : Fin 768) (k : Fin 2048) (R : Fin 16896) (h : R.val = t.val / 4 * 768 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  refine congrArg (m ((c : Thread nD τ).loc main_arg0)) ?_
  funext a
  apply Fin.ext
  match a with
  | ⟨0, _⟩ => show win0_0.index t 0 * 768 + 1 * r.val = R.val; rw [h0]; omega
  | ⟨1, _⟩ => show win0_0.index t 1 * 2048 + 1 * k.val = k.val; rw [h1]; omega

/-- The block of recurrence rows at point `t`, at an index. -/
theorem blk1 (c : Dev nD) (t : Fin cfg0.N) (e : Fin 16) (r : Fin 768) (k : Fin 128) (R : Fin 16896) (h : R.val = t.val / 4 * 768 + r.val) :
    iblk m c 1 t (ix3 e r k) = m ((c : Thread nD τ).loc main_arg1) (ix3 e R k) := by
  unfold iblk
  rw [View.read_apply]
  show V m c main_arg1 _ = _
  rw [V_main_arg1]
  obtain ⟨-, -, h0, h1, h2, -⟩ := idx_facts t
  refine congrArg (m ((c : Thread nD τ).loc main_arg1)) ?_
  funext a
  apply Fin.ext
  match a with
  | ⟨0, _⟩ => show win0_1.index t 0 * 16 + 1 * e.val = e.val; rw [h0]; omega
  | ⟨1, _⟩ => show win0_1.index t 1 * 768 + 1 * r.val = R.val; rw [h1]; omega
  | ⟨2, _⟩ => show win0_1.index t 2 * 128 + 1 * k.val = k.val; rw [h2]; omega

/-- The column block of a branch's weights at point `t`, at an index. -/
theorem blk2 (c : Dev nD) (t : Fin cfg0.N) (k : Fin 2048) (n : Fin 1024) (N : Fin 4096) (h : N.val = t.val % 4 * 1024 + n.val) :
    iblk m c 2 t (ix2 k n) = m ((c : Thread nD τ).loc main_arg3) (ix3 (0 : Fin 1) k N) := by
  unfold iblk
  rw [View.read_apply, ← V_wa m c]
  obtain ⟨-, -, -, -, -, h0, h1, -⟩ := idx_facts t
  refine congrArg (V m c main_v1) ?_
  funext a
  apply Fin.ext
  match a with
  | ⟨0, _⟩ => show win0_2.index t 0 * 2048 + 1 * k.val = k.val; rw [h0]; omega
  | ⟨1, _⟩ => show win0_2.index t 1 * 1024 + 1 * n.val = N.val; rw [h1]; omega

/-- The column block of a branch's weights at point `t`, at an index. -/
theorem blk3 (c : Dev nD) (t : Fin cfg0.N) (k : Fin 2048) (n : Fin 1024) (N : Fin 4096) (h : N.val = t.val % 4 * 1024 + n.val) :
    iblk m c 3 t (ix2 k n) = m ((c : Thread nD τ).loc main_arg4) (ix3 (0 : Fin 1) k N) := by
  unfold iblk
  rw [View.read_apply, ← V_wb m c]
  obtain ⟨-, -, -, -, -, -, -, h0, h1, -⟩ := idx_facts t
  refine congrArg (V m c main_v3) ?_
  funext a
  apply Fin.ext
  match a with
  | ⟨0, _⟩ => show win0_3.index t 0 * 2048 + 1 * k.val = k.val; rw [h0]; omega
  | ⟨1, _⟩ => show win0_3.index t 1 * 1024 + 1 * n.val = N.val; rw [h1]; omega

/-- The block of the first gate at point `t`, at an index. -/
theorem blk4 (c : Dev nD) (t : Fin cfg0.N) (r : Fin 768) (n : Fin 1024) (R : Fin 16896) (N : Fin 8192)
    (hR : R.val = t.val / 4 * 768 + r.val) (hN : N.val = t.val % 4 * 1024 + n.val) :
    iblk m c 4 t (ix2 r n) = m ((c : Thread nD τ).loc main_arg2) (ix2 R N) := by
  unfold iblk
  rw [View.read_apply]
  show V m c main_arg2 _ = _
  rw [V_main_arg2]
  obtain ⟨-, -, -, -, -, -, -, -, -, h0, h1, -⟩ := idx_facts t
  refine congrArg (m ((c : Thread nD τ).loc main_arg2)) ?_
  funext a
  apply Fin.ext
  match a with
  | ⟨0, _⟩ => show win0_4.index t 0 * 768 + 1 * r.val = R.val; rw [h0]; omega
  | ⟨1, _⟩ => show win0_4.index t 1 * 1024 + 1 * n.val = N.val; rw [h1]; omega

/-- The block of the second gate at point `t`, at an index. -/
theorem blk5 (c : Dev nD) (t : Fin cfg0.N) (r : Fin 768) (n : Fin 1024) (R : Fin 16896) (N : Fin 8192)
    (hR : R.val = t.val / 4 * 768 + r.val) (hN : N.val = 4096 + t.val % 4 * 1024 + n.val) :
    iblk m c 5 t (ix2 r n) = m ((c : Thread nD τ).loc main_arg2) (ix2 R N) := by
  unfold iblk
  rw [View.read_apply]
  show V m c main_arg2 _ = _
  rw [V_main_arg2]
  obtain ⟨-, -, -, -, -, -, -, -, -, -, -, h0, h1, -⟩ := idx_facts t
  refine congrArg (m ((c : Thread nD τ).loc main_arg2)) ?_
  funext a
  apply Fin.ext
  match a with
  | ⟨0, _⟩ => show win0_5.index t 0 * 768 + 1 * r.val = R.val; rw [h0]; omega
  | ⟨1, _⟩ => show win0_5.index t 1 * 1024 + 1 * n.val = N.val; rw [h1]; omega

theorem lt_N (t : Fin cfg0.N) : t.val < 88 := by
  have hN : cfg0.N = 88 := N_0
  exact hN ▸ t.isLt

abbrev G (c : Dev nD) : FVec Ideal S16896x4096 .bf16 :=
  spec (m ((c : Thread nD τ).loc main_arg0)) (m ((c : Thread nD τ).loc main_arg1)) (m ((c : Thread nD τ).loc main_arg2)) (m ((c : Thread nD τ).loc main_arg3)) (m ((c : Thread nD τ).loc main_arg4))

/-- Where point `t` writes entry `(r, n)` of its block in the result array. -/
theorem read6 (g : FVec Ideal S16896x4096 .bf16) (t : Fin cfg0.N) (r : Fin 768) (n : Fin 1024) (R : Fin 16896) (N : Fin 4096)
    (hR : R.val = t.val / 4 * 768 + r.val) (hN : N.val = t.val % 4 * 1024 + n.val) :
    ((cfg0.win 6).blk t).view.read (Elt Ideal) g (ix2 r n) = g (ix2 R N) := by
  rw [View.read_apply]
  obtain ⟨-, -, -, -, -, -, -, -, -, -, -, -, -, h0, h1⟩ := idx_facts t
  refine congrArg g ?_
  funext a
  apply Fin.ext
  match a with
  | ⟨0, _⟩ => show win0_6.index t 0 * 768 + 1 * r.val = R.val; rw [h0]; omega
  | ⟨1, _⟩ => show win0_6.index t 1 * 1024 + 1 * n.val = N.val; rw [h1]; omega

/-- What point `t` writes back is block `t` of `G`. -/
theorem flushed_eq (c : Dev nD) (t : Fin cfg0.N) :
    (dats m 0 c).flushed 6 t = ((cfg0.win 6).blk t).view.read (Elt Ideal) (G m c) := by
  rw [Value.flushed6]
  have ht := lt_N t
  funext j
  obtain ⟨r, n, rfl⟩ : ∃ (r : Fin 768) (n : Fin 1024), j = ix2 r n := ⟨j 0, j 1, eq_ix2 j⟩
  have hr : r.val < 768 := r.isLt
  have hn : n.val < 1024 := n.isLt
  let R : Fin 16896 := ⟨t.val / 4 * 768 + r.val, by omega⟩
  let N : Fin 4096 := ⟨t.val % 4 * 1024 + n.val, by omega⟩
  refine Eq.trans (pay_apply (iblk m c 0 t) (iblk m c 1 t) (iblk m c 2 t) (iblk m c 3 t) (iblk m c 4 t) (iblk m c 5 t) r n) ((read6 (G m c) t r n R N rfl rfl).trans ?_).symm
  rw [blk4 m c t r n R (⟨N.val, by have := N.isLt; omega⟩ : Fin 8192) rfl rfl,
    blk5 m c t r n R (⟨4096 + N.val, by have := N.isLt; omega⟩ : Fin 8192) rfl (by show 4096 + (t.val % 4 * 1024 + n.val) = _; omega)]
  refine (congrArg₂ (fun u v : EReal => u + v) (congrArg (fun u : EReal => lgs _ * u) ?_) (congrArg (fun u : EReal => lgs _ * u) ?_)).symm
  · exact Finset.sum_congr rfl fun k _ => by rw [blk0 m c t r k R rfl, blk2 m c t k n N rfl]
  · exact Finset.sum_congr rfl fun k _ => by rw [blk1 m c t (hd k) r (ch k) R rfl, blk3 m c t k n N rfl]

/-- An index of the result array is in point `t`'s block exactly when both coordinates are in its ranges. -/
theorem mem_blk (t : Fin cfg0.N) (i : S16896x4096.Idx) :
    i ∈ ((cfg0.win 6).blk t).view.set ↔
      (t.val / 4 * 768 ≤ (i 0 : Nat) ∧ (i 0 : Nat) < t.val / 4 * 768 + 768)
      ∧ (t.val % 4 * 1024 ≤ (i 1 : Nat) ∧ (i 1 : Nat) < t.val % 4 * 1024 + 1024) := by
  show i ∈ ((View.whole main_v4).slice (win0_6.rect t)).set ↔ _
  rw [View.set_slice_whole, Rect.mem_set_unit]
  obtain ⟨-, -, -, -, -, -, -, -, -, -, -, -, -, h0, h1⟩ := idx_facts t
  have e0 : win0_6.index t 0 * win0_6.size 0 = t.val / 4 * 768 := by rw [h0]; rfl
  have e1 : win0_6.index t 1 * win0_6.size 1 = t.val % 4 * 1024 := by rw [h1]; rfl
  have s0 : win0_6.xsize (grid0.coords t) 0 = 768 := rfl
  have s1 : win0_6.xsize (grid0.coords t) 1 = 1024 := rfl
  refine ⟨fun h => ⟨?_, ?_⟩, fun h a => ?_⟩
  · have : win0_6.index t 0 * win0_6.size 0 ≤ (i 0 : Nat) ∧ (i 0 : Nat) < win0_6.index t 0 * win0_6.size 0 + win0_6.xsize (grid0.coords t) 0 := h 0
    rw [e0, s0] at this; exact this
  · have : win0_6.index t 1 * win0_6.size 1 ≤ (i 1 : Nat) ∧ (i 1 : Nat) < win0_6.index t 1 * win0_6.size 1 + win0_6.xsize (grid0.coords t) 1 := h 1
    rw [e1, s1] at this; exact this
  · match a with
    | ⟨0, _⟩ => show win0_6.index t 0 * win0_6.size 0 ≤ (i 0 : Nat) ∧ (i 0 : Nat) < win0_6.index t 0 * win0_6.size 0 + win0_6.xsize (grid0.coords t) 0
                rw [e0, s0]; exact h.1
    | ⟨1, _⟩ => show win0_6.index t 1 * win0_6.size 1 ≤ (i 1 : Nat) ∧ (i 1 : Nat) < win0_6.index t 1 * win0_6.size 1 + win0_6.xsize (grid0.coords t) 1
                rw [e1, s1]; exact h.2

/-- The blocks tile the result array. -/
theorem cover (i : S16896x4096.Idx) :
    ∃ t : Fin cfg0.N, (cfg0.win 6).flush t = true ∧ i ∈ ((cfg0.win 6).blk t).view.set := by
  have h0 : (i 0 : Nat) < 16896 := (i 0).isLt
  have h1 : (i 1 : Nat) < 4096 := (i 1).isLt
  have hN : cfg0.N = 88 := N_0
  refine ⟨⟨(i 0 : Nat) / 768 * 4 + (i 1 : Nat) / 1024, by omega⟩, flush0_6 _, ?_⟩
  rw [mem_blk]
  dsimp only
  omega

/-- So the result array ends holding `G`. -/
theorem final (c : Dev nD) : (dats m 0 c).arrAt 6 cfg0.N = G m c :=
  (dats m 0 c).arrAt_eq_of_cover 6 (G m c) (fun t _ => flushed_eq m c t) cover

end Cert.MergeIdeal.MergeValue

namespace Cert.MergeRefIdeal.RefValue

open Cert.MergeRefIdeal Cert.MergeRefIdeal.Gen Cert.MergeIdeal.MergeValue

/-- A branch's weights without their unit axis. -/
theorem wa_apply (w : FVec Ideal S1x2048x4096 .f32) (k : Fin 2048) (n : Fin 4096) :
    Read.val_main_v14 (F := Ideal) w (ix2 k n) = w (ix3 (0 : Fin 1) k n) := by
  rw [Read.val_main_v14_apply]
  have hk : k.val < 2048 := k.isLt
  have hn : n.val < 4096 := n.isLt
  refine congrArg w (ix3_ext _ _ _ _ rfl ?_ ?_)
  · show (k.val * 4096 + n.val) / 4096 % 2048 = k.val; omega
  · show (k.val * 4096 + n.val) % 4096 = n.val; omega

/-- A branch's weights without their unit axis. -/
theorem wb_apply (w : FVec Ideal S1x2048x4096 .f32) (k : Fin 2048) (n : Fin 4096) :
    Read.val_main_v23 (F := Ideal) w (ix2 k n) = w (ix3 (0 : Fin 1) k n) := by
  rw [Read.val_main_v23_apply]
  have hk : k.val < 2048 := k.isLt
  have hn : n.val < 4096 := n.isLt
  refine congrArg w (ix3_ext _ _ _ _ rfl ?_ ?_)
  · show (k.val * 4096 + n.val) / 4096 % 2048 = k.val; omega
  · show (k.val * 4096 + n.val) % 4096 = n.val; omega

/-- The reference's attention product at an index. -/
theorem dotA (a : FVec Ideal S16896x2048 .bf16) (w : FVec Ideal S1x2048x4096 .f32) (r : Fin 16896) (n : Fin 4096) :
    Read.val_main_v15 (F := Ideal) a w (ix2 r n) = ∑ k : Fin 2048, a (ix2 r k) * w (ix3 (0 : Fin 1) k n) := by
  rw [Read.val_main_v15_apply]
  refine Finset.sum_congr rfl fun k _ => ?_
  rw [show Read.ridx_main_v15 (ix2 r n) k = ix2 k n from ix2_ext _ _ _ rfl rfl, wa_apply,
    show Read.lidx_main_v15 (ix2 r n) k = ix2 r k from ix2_ext _ _ _ rfl rfl]
  rfl

/-- The recurrence's heads side by side in the reference. -/
theorem flat_apply (b : FVec Ideal S16x16896x128 .bf16) (r : Fin 16896) (k : Fin 2048) :
    Read.val_main_v2 (F := Ideal) b (ix2 r k) = b (ix3 (hd k) r (ch k)) := by
  rw [Read.val_main_v2_apply (F := Ideal), Read.val_main_v1_apply (F := Ideal), Read.val_main_v0_apply (F := Ideal)]
  have hk : k.val < 2048 := k.isLt
  have hr : r.val < 16896 := r.isLt
  refine congrArg b (ix3_ext _ _ _ _ ?_ ?_ ?_)
  · show (r.val * 2048 + k.val) / 128 % 16 = k.val / 128; omega
  · show (r.val * 2048 + k.val) / 2048 = r.val; omega
  · show (r.val * 2048 + k.val) % 128 = k.val % 128; omega

/-- The reference's recurrence product at an index. -/
theorem dotB (b : FVec Ideal S16x16896x128 .bf16) (w : FVec Ideal S1x2048x4096 .f32) (r : Fin 16896) (n : Fin 4096) :
    Read.val_main_v24 (F := Ideal) b w (ix2 r n) = ∑ k : Fin 2048, b (ix3 (hd k) r (ch k)) * w (ix3 (0 : Fin 1) k n) := by
  rw [Read.val_main_v24_apply]
  refine Finset.sum_congr rfl fun k _ => ?_
  rw [show Read.ridx_main_v24 (ix2 r n) k = ix2 k n from ix2_ext _ _ _ rfl rfl, wb_apply,
    show Read.lidx_main_v24 (ix2 r n) k = ix2 r k from ix2_ext _ _ _ rfl rfl, flat_apply]

/-- The reference's first gate at an index. -/
theorem gateA (g : FVec Ideal S16896x8192 .bf16) (r : Fin 16896) (n : Fin 4096) :
    Read.val_main_v12 (F := Ideal) g (ix2 r n) = lgs (g (ix2 r (⟨n.val, by have := n.isLt; omega⟩ : Fin 8192))) := by
  rw [Read.val_main_v12_apply, Read.val_main_v11_apply, Read.val_main_v10_apply, Read.val_main_v9_apply, Read.val_main_v8_apply, Read.val_main_v7_apply,
    Read.val_main_v4_apply, Read.val_main_v3_apply (F := Ideal), show Read.idx_main_v3 (ix2 r n) = ix2 r (⟨n.val, by have := n.isLt; omega⟩ : Fin 8192) from ix2_ext _ _ _ rfl rfl]
  rfl

/-- The reference's second gate at an index. -/
theorem gateB (g : FVec Ideal S16896x8192 .bf16) (r : Fin 16896) (n : Fin 4096) :
    Read.val_main_v22 (F := Ideal) g (ix2 r n) = lgs (g (ix2 r (⟨4096 + n.val, by have := n.isLt; omega⟩ : Fin 8192))) := by
  rw [Read.val_main_v22_apply, Read.val_main_v21_apply, Read.val_main_v20_apply, Read.val_main_v19_apply, Read.val_main_v18_apply, Read.val_main_v17_apply,
    Read.val_main_v6_apply, Read.val_main_v5_apply (F := Ideal), show Read.idx_main_v5 (ix2 r n) = ix2 r (⟨4096 + n.val, by have := n.isLt; omega⟩ : Fin 8192) from ix2_ext _ _ _ rfl rfl]
  rfl

/-- The reference's result is the same function of its arguments. -/
theorem val_eq (a : FVec Ideal S16896x2048 .bf16) (b : FVec Ideal S16x16896x128 .bf16) (g : FVec Ideal S16896x8192 .bf16)
    (wa wb : FVec Ideal S1x2048x4096 .f32) : Read.val_main_v27 (F := Ideal) a b g wa wb = spec a b g wa wb := by
  funext i
  obtain ⟨r, n, rfl⟩ : ∃ (r : Fin 16896) (n : Fin 4096), i = ix2 r n := ⟨i 0, i 1, eq_ix2 i⟩
  show (Read.val_main_v12 (F := Ideal) g (ix2 r n) * Read.val_main_v15 (F := Ideal) a wa (ix2 r n) : EReal)
    + Read.val_main_v22 (F := Ideal) g (ix2 r n) * Read.val_main_v24 (F := Ideal) b wb (ix2 r n) = _
  rw [gateA, gateB, dotA, dotB]
  rfl

end Cert.MergeRefIdeal.RefValue

namespace Cert.Proof.Merge

theorem frame : Cert.quiescent_Merge := fun m ρ _ => Cert.Merge.Gen.frame m ρ
theorem frame_ideal : Cert.quiescent_MergeIdeal := fun m ρ _ => Cert.MergeIdeal.Gen.frame m ρ
theorem frame_ref : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

theorem algebraic : Cert.algebraic_MergeIdeal_MergeRefIdeal := by
  intro m ρ m' ρ' _ hagree
  refine ⟨fun c => Cert.MergeIdeal.MergeValue.G m c, ?_, ?_⟩
  · exact (θ_run Cert.MergeIdeal.defs _ _).mono
      (fun _ h c => ⟨(h c).1.trans (Cert.MergeIdeal.MergeValue.final m c), (h c).2⟩)
      (Cert.MergeIdeal.Value.run_blocks (F := Ideal) m ρ)
  · refine (θ_run Cert.MergeRefIdeal.defs _ _).mono (fun _ h c => ⟨?_, (h c).2⟩)
      (Cert.MergeRefIdeal.Value.run (F := Ideal) m' ρ')
    refine (h c).1.trans ((Cert.MergeRefIdeal.Read.val_main_v27_eq ..).trans ((Cert.MergeRefIdeal.RefValue.val_eq ..).trans ?_))
    unfold Cert.MergeIdeal.MergeValue.G
    rw [(hagree c).1, (hagree c).2.1, (hagree c).2.2.1, (hagree c).2.2.2.1, (hagree c).2.2.2.2]

end Cert.Proof.Merge

end
-- ==== Proof.OutProj.lean ====
/- The output projection with its residual: every entry of the kernel's result is the residual's entry, of the prompt in the first
   16384 rows and of the sample in the others, plus the product of a merged row and a column of the weights. -/
module

public import proofs.«01_k».proof.Defs
public import proofs.«01_k».proof.Proof.Common
public import proofs.«01_k».proof.Proof.Gen.OutProj.Frame
public import proofs.«01_k».proof.Proof.Gen.OutProjIdeal.Value
public import proofs.«01_k».proof.Proof.Gen.OutProjRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.OutProjIdeal.OutProjValue

open Cert.OutProjIdeal Cert.OutProjIdeal.Gen

/-- The residual at row `r`: the prompt's batches one after the other, then the sample's. -/
def resid (p : FVec Ideal S8x2048x4096 .f32) (s : FVec Ideal S8x64x4096 .f32) (r : Fin 16896) (n : Fin 4096) : EReal :=
  if h : r.val < 16384 then p (ix3 (⟨r.val / 2048, by omega⟩ : Fin 8) (⟨r.val % 2048, by omega⟩ : Fin 2048) n)
  else s (ix3 (⟨(r.val - 16384) / 64, by have := r.isLt; omega⟩ : Fin 8) (⟨(r.val - 16384) % 64, by omega⟩ : Fin 64) n)

/-- What the result array is shown to hold. -/
def spec (x : FVec Ideal S16896x4096 .bf16) (p : FVec Ideal S8x2048x4096 .f32) (s : FVec Ideal S8x64x4096 .f32) (w : FVec Ideal S1x4096x4096 .f32) :
    FVec Ideal S16896x4096 .f32 := fun i =>
  resid p s (i 0) (i 1) + ∑ k : Fin 4096, x (ix2 (i 0) k) * w (ix3 (0 : Fin 1) k (i 1))

variable (m : (ℓ : Loc nD τ sig) → Buf (Elt Ideal) ℓ) (ρ : Dev nD → PrngReg)

theorem slt_apply : ∀ i : Fin 33, Scalar.cmpi .slt (BitVec.ofNat 32 i.val) 32#32 = (if i.val < 32 then 1#1 else 0#1 : BitVec 1) := by decide +kernel

/-- The body's stored block at an index, of its loaded blocks. -/
theorem pay_apply (i : grid0.Coords) (x : FVec Ideal S512x4096 .bf16) (a : FVec Ideal S4096x1024 .bf16) (p s : FVec Ideal S512x1024 .f32)
    (r : Fin 512) (c : Fin 1024) :
    k0_pay1 (F := Ideal) i x a p s (ix2 r c)
      = (if (i 1).val < 32 then p (ix2 r c) else s (ix2 r c) : EReal) + ∑ k : Fin 4096, x (ix2 r k) * a (ix2 k c) := by
  unfold k0_pay1
  simp only [shapeCast_self]
  have hs : Scalar.cmpi .slt (BitVec.ofNat 32 (i 1).val) 32#32 = (if (i 1).val < 32 then 1#1 else 0#1 : BitVec 1) := slt_apply (i 1)
  rw [hs]
  refine congrArg₂ (fun u v : EReal => u + v) ?_ (matmul_zero x a r c)
  by_cases h : (i 1).val < 32
  · rw [if_pos h, if_pos h]; rfl
  · rw [if_neg h, if_neg h]; rfl

/-- The weights as the region finds them, at an index. -/
theorem V_w (c : Dev nD) (k n : Fin 4096) :
    V m c main_v3 (ix2 k n) = m ((c : Thread nD τ).loc main_arg3) (ix3 (0 : Fin 1) k n) := by
  have e : V m c main_v3 = truncf .bf16 (shapeCast S4096x4096 (m ((c : Thread nD τ).loc main_arg3)) shapeCasts_S1x4096x4096_S4096x4096 : FVec Ideal S4096x4096 .f32) bitsLt_bf16_f32 := by
    unfold V
    simp only [hostOps0]
    after_results
    rfl
  rw [e, truncf_apply]
  refine shapeCast_apply _ _ _ (ix3 (0 : Fin 1) k n) ?_
  rewrite [Shape.rowMajor_val_three, Shape.rowMajor_val_two]
  show (0 * 4096 + k.val) * 4096 + n.val = k.val * 4096 + n.val
  omega

/-- The prompt's residual as the region finds it, at an index. -/
theorem V_p (c : Dev nD) (r : Fin 16384) (n : Fin 4096) :
    V m c main_v0 (ix2 r n) = m ((c : Thread nD τ).loc main_arg1) (ix3 (⟨r.val / 2048, by omega⟩ : Fin 8) (⟨r.val % 2048, by omega⟩ : Fin 2048) n) := by
  have e : V m c main_v0 = (shapeCast S16384x4096 (m ((c : Thread nD τ).loc main_arg1)) shapeCasts_S8x2048x4096_S16384x4096 : FVec Ideal S16384x4096 .f32) := by
    unfold V
    simp only [hostOps0]
    after_results
    rfl
  rw [e]
  refine shapeCast_apply _ _ _ (ix3 (⟨r.val / 2048, by omega⟩ : Fin 8) (⟨r.val % 2048, by omega⟩ : Fin 2048) n) ?_
  rewrite [Shape.rowMajor_val_three, Shape.rowMajor_val_two]
  show (r.val / 2048 * 2048 + r.val % 2048) * 4096 + n.val = r.val * 4096 + n.val
  omega

/-- The sample's residual as the region finds it, at an index. -/
theorem V_s (c : Dev nD) (r : Fin 512) (n : Fin 4096) :
    V m c main_v1 (ix2 r n) = m ((c : Thread nD τ).loc main_arg2) (ix3 (⟨r.val / 64, by omega⟩ : Fin 8) (⟨r.val % 64, by omega⟩ : Fin 64) n) := by
  have e : V m c main_v1 = (shapeCast S512x4096 (m ((c : Thread nD τ).loc main_arg2)) shapeCasts_S8x64x4096_S512x4096 : FVec Ideal S512x4096 .f32) := by
    unfold V
    simp only [hostOps0]
    after_results
    rfl
  rw [e]
  refine shapeCast_apply _ _ _ (ix3 (⟨r.val / 64, by omega⟩ : Fin 8) (⟨r.val % 64, by omega⟩ : Fin 64) n) ?_
  rewrite [Shape.rowMajor_val_three, Shape.rowMajor_val_two]
  show (r.val / 64 * 64 + r.val % 64) * 4096 + n.val = r.val * 4096 + n.val
  omega

theorem idx_facts : ∀ t : Fin grid0.N,
    win0_0.index t 0 = t.val % 33 ∧ win0_0.index t 1 = 0 ∧ win0_1.index t 0 = 0 ∧ win0_1.index t 1 = t.val / 33
    ∧ win0_2.index t 0 = min (t.val % 33) 31 ∧ win0_2.index t 1 = t.val / 33 ∧ win0_3.index t 0 = 0 ∧ win0_3.index t 1 = t.val / 33
    ∧ win0_4.index t 0 = t.val % 33 ∧ win0_4.index t 1 = t.val / 33 ∧ (grid0.coords t 1).val = t.val % 33 := by decide +kernel

/-- The row block at point `t`, at an index. -/
theorem blk0 (c : Dev nD) (t : Fin cfg0.N) (r : Fin 512) (k : Fin 4096) (R : Fin 16896) (h : R.val = t.val % 33 * 512 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 512 + 1 * r.val = R.val; rw [h0]; omega
  | ⟨1, _⟩ => show win0_0.index t 1 * 4096 + 1 * k.val = k.val; rw [h1]; omega

/-- The column block of the weights at point `t`, at an index. -/
theorem blk1 (c : Dev nD) (t : Fin cfg0.N) (k : Fin 4096) (n : Fin 1024) (N : Fin 4096) (h : N.val = t.val / 33 * 1024 + n.val) :
    iblk m c 1 t (ix2 k n) = m ((c : Thread nD τ).loc main_arg3) (ix3 (0 : Fin 1) k N) := by
  unfold iblk
  rw [View.read_apply, ← V_w m c]
  obtain ⟨-, -, h0, h1, -⟩ := idx_facts t
  refine congrArg (V m c main_v3) ?_
  funext a
  apply Fin.ext
  match a with
  | ⟨0, _⟩ => show win0_1.index t 0 * 4096 + 1 * k.val = k.val; rw [h0]; omega
  | ⟨1, _⟩ => show win0_1.index t 1 * 1024 + 1 * n.val = N.val; rw [h1]; omega

/-- The block of the prompt's residual at point `t`, at an index: the row's own as long as the row is a prompt's. -/
theorem blk2 (c : Dev nD) (t : Fin cfg0.N) (r : Fin 512) (n : Fin 1024) (R : Fin 16384) (N : Fin 4096) (h : R.val = min (t.val % 33) 31 * 512 + r.val)
    (hN : N.val = t.val / 33 * 1024 + n.val) : iblk m c 2 t (ix2 r n) = V m c main_v0 (ix2 R N) := by
  unfold iblk
  rw [View.read_apply]
  obtain ⟨-, -, -, -, h0, h1, -⟩ := idx_facts t
  refine congrArg (V m c main_v0) ?_
  funext a
  apply Fin.ext
  match a with
  | ⟨0, _⟩ => show win0_2.index t 0 * 512 + 1 * r.val = R.val; rw [h0]; omega
  | ⟨1, _⟩ => show win0_2.index t 1 * 1024 + 1 * n.val = N.val; rw [h1]; omega

/-- The block of the sample's residual at point `t`, at an index. -/
theorem blk3 (c : Dev nD) (t : Fin cfg0.N) (r : Fin 512) (n : Fin 1024) (N : Fin 4096)
    (hN : N.val = t.val / 33 * 1024 + n.val) : iblk m c 3 t (ix2 r n) = V m c main_v1 (ix2 r N) := by
  unfold iblk
  rw [View.read_apply]
  obtain ⟨-, -, -, -, -, -, h0, h1, -⟩ := idx_facts t
  refine congrArg (V m c main_v1) ?_
  funext a
  apply Fin.ext
  match a with
  | ⟨0, _⟩ => show win0_3.index t 0 * 512 + 1 * r.val = r.val; rw [h0]; omega
  | ⟨1, _⟩ => show win0_3.index t 1 * 1024 + 1 * n.val = N.val; rw [h1]; omega

theorem lt_N (t : Fin cfg0.N) : t.val < 132 := by
  have hN : cfg0.N = 132 := N_0
  exact hN ▸ t.isLt

/-- The residual the body takes at point `t` is the row's. -/
theorem res_eq (c : Dev nD) (t : Fin cfg0.N) (r : Fin 512) (n : Fin 1024) (R : Fin 16896) (N : Fin 4096)
    (hR : R.val = t.val % 33 * 512 + r.val) (hN : N.val = t.val / 33 * 1024 + n.val) :
    (if (grid0.coords t 1).val < 32 then iblk m c 2 t (ix2 r n) else iblk m c 3 t (ix2 r n) : EReal)
      = resid (m ((c : Thread nD τ).loc main_arg1)) (m ((c : Thread nD τ).loc main_arg2)) R N := by
  obtain ⟨-, -, -, -, -, -, -, -, -, -, hc⟩ := idx_facts t
  rw [hc]
  have ht := lt_N t
  have hr : r.val < 512 := r.isLt
  unfold resid
  by_cases h : t.val % 33 < 32
  · have hR' : R.val < 16384 := by omega
    rw [if_pos h, dif_pos hR', blk2 m c t r n ⟨R.val, hR'⟩ N (by dsimp only; omega) hN, V_p]
  · have hR' : ¬R.val < 16384 := by omega
    rw [if_neg h, dif_neg hR', blk3 m c t r n N hN, V_s]
    refine congrArg (m ((c : Thread nD τ).loc main_arg2)) ?_
    refine ix3_ext _ _ _ _ ?_ ?_ rfl
    · show r.val / 64 = (R.val - 16384) / 64; omega
    · show r.val % 64 = (R.val - 16384) % 64; omega

abbrev G (c : Dev nD) : FVec Ideal S16896x4096 .f32 :=
  spec (m ((c : Thread nD τ).loc main_arg0)) (m ((c : Thread nD τ).loc main_arg1)) (m ((c : Thread nD τ).loc main_arg2)) (m ((c : Thread nD τ).loc main_arg3))

/-- Where point `t` writes entry `(r, n)` of its block in the result array. -/
theorem read4 (g : FVec Ideal S16896x4096 .f32) (t : Fin cfg0.N) (r : Fin 512) (n : Fin 1024) (R : Fin 16896) (N : Fin 4096)
    (hR : R.val = t.val % 33 * 512 + r.val) (hN : N.val = t.val / 33 * 1024 + n.val) :
    ((cfg0.win 4).blk t).view.read (Elt Ideal) g (ix2 r n) = g (ix2 R N) := by
  rw [View.read_apply]
  obtain ⟨-, -, -, -, -, -, -, -, h0, h1, -⟩ := idx_facts t
  refine congrArg g ?_
  funext a
  apply Fin.ext
  match a with
  | ⟨0, _⟩ => show win0_4.index t 0 * 512 + 1 * r.val = R.val; rw [h0]; omega
  | ⟨1, _⟩ => show win0_4.index t 1 * 1024 + 1 * n.val = N.val; rw [h1]; omega

/-- What point `t` writes back is block `t` of `G`. -/
theorem flushed_eq (c : Dev nD) (t : Fin cfg0.N) :
    (dats m 0 c).flushed 4 t = ((cfg0.win 4).blk t).view.read (Elt Ideal) (G m c) := by
  rw [Value.flushed4]
  unfold out0_4
  rw [View.canon_unit_zero hz, View.ld_unit_zero hz, View.ld_unit_zero hz, View.ld_unit_zero hz, View.ld_unit_zero hz]
  have ht := lt_N t
  funext j
  obtain ⟨r, n, rfl⟩ : ∃ (r : Fin 512) (n : Fin 1024), j = ix2 r n := ⟨j 0, j 1, eq_ix2 j⟩
  have hr : r.val < 512 := r.isLt
  have hn : n.val < 1024 := n.isLt
  let R : Fin 16896 := ⟨t.val % 33 * 512 + r.val, by omega⟩
  let N : Fin 4096 := ⟨t.val / 33 * 1024 + n.val, by omega⟩
  refine Eq.trans (pay_apply (grid0.coords t) (iblk m c 0 t) (iblk m c 1 t) (iblk m c 2 t) (iblk m c 3 t) r n) ((read4 (G m c) t r n R N rfl rfl).trans ?_).symm
  refine (congrArg₂ (fun u v : EReal => u + v) (res_eq m c t r n R N rfl rfl) ?_).symm
  exact Finset.sum_congr rfl fun k _ => by rw [blk0 m c t r k R rfl, blk1 m c t k n N rfl]

/-- An index of the result array is in point `t`'s block exactly when both coordinates are in its ranges. -/
theorem mem_blk (t : Fin cfg0.N) (i : S16896x4096.Idx) :
    i ∈ ((cfg0.win 4).blk t).view.set ↔
      (t.val % 33 * 512 ≤ (i 0 : Nat) ∧ (i 0 : Nat) < t.val % 33 * 512 + 512)
      ∧ (t.val / 33 * 1024 ≤ (i 1 : Nat) ∧ (i 1 : Nat) < t.val / 33 * 1024 + 1024) := by
  show i ∈ ((View.whole main_v4).slice (win0_4.rect t)).set ↔ _
  rw [View.set_slice_whole, Rect.mem_set_unit]
  obtain ⟨-, -, -, -, -, -, -, -, h0, h1, -⟩ := idx_facts t
  have e0 : win0_4.index t 0 * win0_4.size 0 = t.val % 33 * 512 := by rw [h0]; rfl
  have e1 : win0_4.index t 1 * win0_4.size 1 = t.val / 33 * 1024 := by rw [h1]; rfl
  have s0 : win0_4.xsize (grid0.coords t) 0 = 512 := rfl
  have s1 : win0_4.xsize (grid0.coords t) 1 = 1024 := rfl
  refine ⟨fun h => ⟨?_, ?_⟩, fun h a => ?_⟩
  · have : win0_4.index t 0 * win0_4.size 0 ≤ (i 0 : Nat) ∧ (i 0 : Nat) < win0_4.index t 0 * win0_4.size 0 + win0_4.xsize (grid0.coords t) 0 := h 0
    rw [e0, s0] at this; exact this
  · have : win0_4.index t 1 * win0_4.size 1 ≤ (i 1 : Nat) ∧ (i 1 : Nat) < win0_4.index t 1 * win0_4.size 1 + win0_4.xsize (grid0.coords t) 1 := h 1
    rw [e1, s1] at this; exact this
  · match a with
    | ⟨0, _⟩ => show win0_4.index t 0 * win0_4.size 0 ≤ (i 0 : Nat) ∧ (i 0 : Nat) < win0_4.index t 0 * win0_4.size 0 + win0_4.xsize (grid0.coords t) 0
                rw [e0, s0]; exact h.1
    | ⟨1, _⟩ => show win0_4.index t 1 * win0_4.size 1 ≤ (i 1 : Nat) ∧ (i 1 : Nat) < win0_4.index t 1 * win0_4.size 1 + win0_4.xsize (grid0.coords t) 1
                rw [e1, s1]; exact h.2

/-- The blocks tile the result array. -/
theorem cover (i : S16896x4096.Idx) :
    ∃ t : Fin cfg0.N, (cfg0.win 4).flush t = true ∧ i ∈ ((cfg0.win 4).blk t).view.set := by
  have h0 : (i 0 : Nat) < 16896 := (i 0).isLt
  have h1 : (i 1 : Nat) < 4096 := (i 1).isLt
  have hN : cfg0.N = 132 := N_0
  refine ⟨⟨(i 1 : Nat) / 1024 * 33 + (i 0 : Nat) / 512, by omega⟩, flush0_4 _, ?_⟩
  rw [mem_blk]
  dsimp only
  omega

/-- So the result array ends holding `G`. -/
theorem final (c : Dev nD) : (dats m 0 c).arrAt 4 cfg0.N = G m c :=
  (dats m 0 c).arrAt_eq_of_cover 4 (G m c) (fun t _ => flushed_eq m c t) cover

end Cert.OutProjIdeal.OutProjValue

namespace Cert.OutProjRefIdeal.RefValue

open Cert.OutProjRefIdeal Cert.OutProjRefIdeal.Gen Cert.OutProjIdeal.OutProjValue

/-- The reference's product at an index. -/
theorem dot_apply (x : FVec Ideal S16896x4096 .bf16) (w : FVec Ideal S1x4096x4096 .f32) (r : Fin 16896) (n : Fin 4096) :
    Read.val_main_v5 (F := Ideal) x w (ix2 r n) = ∑ k : Fin 4096, x (ix2 r k) * w (ix3 (0 : Fin 1) k n) := by
  have hw (k : Fin 4096) : Read.val_main_v4 (F := Ideal) w (ix2 k n) = w (ix3 (0 : Fin 1) k n) := by
    rw [Read.val_main_v4_apply]
    refine congrArg w (funext fun a => Fin.ext ?_)
    have hk : k.val < 4096 := k.isLt
    have hn : n.val < 4096 := n.isLt
    match a with
    | ⟨0, _⟩ => rfl
    | ⟨1, _⟩ => show (k.val * 4096 + n.val) / 4096 % 4096 = k.val; omega
    | ⟨2, _⟩ => show (k.val * 4096 + n.val) % 4096 = n.val; omega
  rw [Read.val_main_v5_apply]
  refine Finset.sum_congr rfl fun k _ => ?_
  show x _ * Read.val_main_v4 (F := Ideal) w (Read.ridx_main_v5 (ix2 r n) k) = _
  rw [show Read.ridx_main_v5 (ix2 r n) k = ix2 k n from funext fun a => by match a with | ⟨0, _⟩ => rfl | ⟨1, _⟩ => rfl, hw,
    show Read.lidx_main_v5 (ix2 r n) k = ix2 r k from funext fun a => by match a with | ⟨0, _⟩ => rfl | ⟨1, _⟩ => rfl]

/-- The reference's two residuals one after the other. -/
theorem res_apply (p : FVec Ideal S8x2048x4096 .f32) (s : FVec Ideal S8x64x4096 .f32) (r : Fin 16896) (n : Fin 4096) :
    Read.val_main_v2 (F := Ideal) p s (ix2 r n) = resid p s r n := by
  have hn : n.val < 4096 := n.isLt
  have hr : r.val < 16896 := r.isLt
  unfold Read.val_main_v2 resid
  by_cases h : r.val < 16384
  · rw [dif_pos h]
    refine (concatenate_pair_apply_left (t := S16896x4096) (s₁ := S16384x4096) (s₂ := S512x4096) 0 _ _ _ (ix2 r n) rfl (ix2 (⟨r.val, h⟩ : Fin 16384) n) ?_).trans ?_
    · intro b
      match b with
      | ⟨0, _⟩ => rfl
      | ⟨1, _⟩ => rfl
    refine (Read.val_main_v0_apply (F := Ideal) p _).trans (congrArg p (ix3_ext _ _ _ _ ?_ ?_ ?_))
    · show (r.val * 4096 + n.val) / 8388608 = r.val / 2048; omega
    · show (r.val * 4096 + n.val) / 4096 % 2048 = r.val % 2048; omega
    · show (r.val * 4096 + n.val) % 4096 = n.val; omega
  · rw [dif_neg h]
    refine (concatenate_pair_apply_right (t := S16896x4096) (s₁ := S16384x4096) (s₂ := S512x4096) 0 _ _ _ (ix2 r n) rfl rfl (ix2 (⟨r.val - 16384, by omega⟩ : Fin 512) n) ?_ ?_).trans ?_
    · intro b hb
      match b with
      | ⟨0, _⟩ => exact absurd rfl hb
      | ⟨1, _⟩ => rfl
    · show r.val - 16384 + 16384 = r.val; omega
    refine (Read.val_main_v1_apply (F := Ideal) s _).trans (congrArg s (ix3_ext _ _ _ _ ?_ ?_ ?_))
    · show ((r.val - 16384) * 4096 + n.val) / 262144 = (r.val - 16384) / 64; omega
    · show ((r.val - 16384) * 4096 + n.val) / 4096 % 64 = (r.val - 16384) % 64; omega
    · show ((r.val - 16384) * 4096 + n.val) % 4096 = n.val; omega

/-- The reference's result is the same function of its arguments. -/
theorem val_eq (x : FVec Ideal S16896x4096 .bf16) (p : FVec Ideal S8x2048x4096 .f32) (s : FVec Ideal S8x64x4096 .f32) (w : FVec Ideal S1x4096x4096 .f32) :
    Read.val_main_v6 (F := Ideal) x p s w = spec x p s w := by
  funext i
  obtain ⟨r, n, rfl⟩ : ∃ (r : Fin 16896) (n : Fin 4096), i = ix2 r n := ⟨i 0, i 1, eq_ix2 i⟩
  exact congrArg₂ (fun u v : EReal => u + v) (res_apply p s r n) (dot_apply x w r n)

end Cert.OutProjRefIdeal.RefValue

namespace Cert.Proof.OutProj

theorem frame : Cert.quiescent_OutProj := fun m ρ _ => Cert.OutProj.Gen.frame m ρ
theorem frame_ideal : Cert.quiescent_OutProjIdeal := fun m ρ _ => Cert.OutProjIdeal.Gen.frame m ρ
theorem frame_ref : Cert.quiescent_OutProjRefIdeal := fun m ρ _ =>
  (θ_run Cert.OutProjRefIdeal.defs _ _).mono (fun r h => ⟨fun c => (h c).2,
      Idealize.ShloMosaic.sem_eq_zero_of_no_sems (by decide) r.2⟩)
    (Cert.OutProjRefIdeal.Value.run (F := Ideal) m ρ)

theorem algebraic : Cert.algebraic_OutProjIdeal_OutProjRefIdeal := by
  intro m ρ m' ρ' _ hagree
  refine ⟨fun c => Cert.OutProjIdeal.OutProjValue.G m c, ?_, ?_⟩
  · exact (θ_run Cert.OutProjIdeal.defs _ _).mono
      (fun _ h c => ⟨(h c).1.trans (Cert.OutProjIdeal.OutProjValue.final m c), (h c).2⟩)
      (Cert.OutProjIdeal.Value.run_blocks (F := Ideal) m ρ)
  · refine (θ_run Cert.OutProjRefIdeal.defs _ _).mono (fun _ h c => ⟨?_, (h c).2⟩)
      (Cert.OutProjRefIdeal.Value.run (F := Ideal) m' ρ')
    refine (h c).1.trans ((Cert.OutProjRefIdeal.Read.val_main_v6_eq ..).trans ((Cert.OutProjRefIdeal.RefValue.val_eq ..).trans ?_))
    unfold Cert.OutProjIdeal.OutProjValue.G
    rw [(hagree c).1, (hagree c).2.1, (hagree c).2.2.1, (hagree c).2.2.2]

end Cert.Proof.OutProj

end
-- ==== Proof.NormP.lean ====
/- The last norm of the prompt: every row over the root of its mean square, times the weights. -/
module

public import proofs.«01_k».proof.Defs
public import proofs.«01_k».proof.Proof.Common
public import proofs.«01_k».proof.Proof.Gen.NormP.Frame
public import proofs.«01_k».proof.Proof.Gen.NormPIdeal.Value
public import proofs.«01_k».proof.Proof.Gen.NormPRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.NormPIdeal.NormPValue

open Cert.NormPIdeal Cert.NormPIdeal.Gen

/-- One entry of a normed row: the entry over the root of the row's mean square plus a small number, times its weight. -/
def nrm (row : Fin 4096 → EReal) (w : EReal) (n : Fin 4096) : EReal :=
  row n * Ideal.rsqrt (Ideal.div (∑ k : Fin 4096, row k * row k) (Ideal.ofBits .f32 0x45800000#32) + Ideal.ofBits .f32 0x358637BD#32) * w

/-- The row of the input that result row `r` is made from. -/
abbrev src (r : Fin 16384) : Fin 16896 := ⟨0 + r.val, by have := r.isLt; omega⟩

/-- What the result array is shown to hold. -/
def spec (x : FVec Ideal S16896x4096 .f32) (w : FVec Ideal S4096 .f32) : FVec Ideal S16384x4096 .f32 := fun i =>
  nrm (fun k => x (ix2 (src (i 0)) k)) (w (ix1 (i 1))) (i 1)

variable (m : (ℓ : Loc nD τ sig) → Buf (Elt Ideal) ℓ) (ρ : Dev nD → PrngReg)

/-- The body's stored block at an index, of its loaded blocks. -/
theorem pay_apply (x : FVec Ideal S512x4096 .f32) (w : FVec Ideal S1x4096 .f32) (r : Fin 512) (n : Fin 4096) :
    out0_2 (F := Ideal) x w (ix2 r n) = nrm (fun k => x (ix2 r k)) (w (ix2 (0 : Fin 1) n)) n := by
  unfold out0_2
  rw [View.ld_unit_zero hz, View.ld_unit_zero hz, Value.canon2_eq]
  have hs : multiReduction .add [1] S512 (mulf x x) 0x00000000#32 reduces_S512x4096_S512 (.inl rfl) rfl (Value.ix2_1 (ix2 r n))
      = ∑ k : Fin 4096, x (ix2 r k) * x (ix2 r k) := by
    refine (Ideal.multiReduction_add_single (mulf x x) 0x00000000#32 reduces_S512x4096_S512 (.inl rfl) rfl (Value.ix2_1 (ix2 r n))).trans ?_
    refine Finset.sum_congr rfl fun k _ => ?_
    have hk : (reduces_S512x4096_S512.lift (Value.ix2_1 (ix2 r n)) k) = (ix2 r k : S512x4096.Idx) :=
      funext fun a => Fin.ext (match a with | ⟨0, _⟩ => rfl | ⟨1, _⟩ => rfl)
    rw [hk]
    rfl
  have h0 : (Value.ix2_0 (ix2 r n)) = (ix2 r n : S512x4096.Idx) := funext fun a => Fin.ext (match a with | ⟨0, _⟩ => rfl | ⟨1, _⟩ => rfl)
  have h2 : (Value.ix2_2 (ix2 r n)) = (ix2 (0 : Fin 1) n : S1x4096.Idx) := funext fun a => Fin.ext (match a with | ⟨0, _⟩ => rfl | ⟨1, _⟩ => rfl)
  show (x (Value.ix2_0 (ix2 r n)) * Ideal.rsqrt (Ideal.div
      (multiReduction .add [1] S512 (mulf x x) 0x00000000#32 reduces_S512x4096_S512 (.inl rfl) rfl (Value.ix2_1 (ix2 r n))) (Ideal.ofBits .f32 0x45800000#32)
        + Ideal.ofBits .f32 0x358637BD#32) * w (Value.ix2_2 (ix2 r n)) : EReal) = _
  rw [hs, h0, h2]
  rfl

/-- The weights as the region finds them, at an index. -/
theorem V_w (c : Dev nD) (n : Fin 4096) :
    V m c main_v0 (ix2 (0 : Fin 1) n) = m ((c : Thread nD τ).loc main_arg1) (ix1 n) := by
  have e : V m c main_v0 = (shapeCast S1x4096 (m ((c : Thread nD τ).loc main_arg1)) shapeCasts_S4096_S1x4096 : FVec Ideal S1x4096 .f32) := by
    unfold V
    simp only [hostOps0]
    after_results
    rfl
  rw [e]
  refine shapeCast_apply _ _ _ (ix1 n) ?_
  rewrite [Shape.rowMajor_val_one, Shape.rowMajor_val_two]
  show n.val = 0 * 4096 + n.val
  omega

theorem idx_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0 := by decide +kernel

theorem lt_N (t : Fin cfg0.N) : t.val < 32 := by
  have hN : cfg0.N = 32 := N_0
  exact hN ▸ t.isLt

/-- The row block at point `t`, at an index. -/
theorem blk0 (c : Dev nD) (t : Fin cfg0.N) (r : Fin 512) (k : Fin 4096) (R : Fin 16384) (h : R.val = t.val * 512 + r.val) :
    iblk m c 0 t (ix2 r k) = m ((c : Thread nD τ).loc main_arg0) (ix2 (src R) k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 512 + 1 * r.val = 0 + R.val; rw [h0]; omega
  | ⟨1, _⟩ => show win0_0.index t 1 * 4096 + 1 * k.val = k.val; rw [h1]; omega

/-- The weights at every point. -/
theorem blk1 (c : Dev nD) (t : Fin cfg0.N) (n : Fin 4096) :
    iblk m c 1 t (ix2 (0 : Fin 1) n) = m ((c : Thread nD τ).loc main_arg1) (ix1 n) := by
  unfold iblk
  rw [View.read_apply, ← V_w m c]
  obtain ⟨-, -, h0, h1, -⟩ := idx_facts t
  refine congrArg (V m c main_v0) ?_
  funext a
  apply Fin.ext
  match a with
  | ⟨0, _⟩ => show win0_1.index t 0 * 1 + 1 * 0 = 0; rw [h0]
  | ⟨1, _⟩ => show win0_1.index t 1 * 4096 + 1 * n.val = n.val; rw [h1]; omega

abbrev G (c : Dev nD) : FVec Ideal S16384x4096 .f32 :=
  spec (m ((c : Thread nD τ).loc main_arg0)) (m ((c : Thread nD τ).loc main_arg1))

/-- Where point `t` writes entry `(r, n)` of its block in the result array. -/
theorem read2 (g : FVec Ideal S16384x4096 .f32) (t : Fin cfg0.N) (r : Fin 512) (n : Fin 4096) (R : Fin 16384)
    (hR : R.val = t.val * 512 + r.val) :
    ((cfg0.win 2).blk t).view.read (Elt Ideal) g (ix2 r n) = g (ix2 R n) := by
  rw [View.read_apply]
  obtain ⟨-, -, -, -, h0, h1⟩ := idx_facts t
  refine congrArg g ?_
  funext a
  apply Fin.ext
  match a with
  | ⟨0, _⟩ => show win0_2.index t 0 * 512 + 1 * r.val = R.val; rw [h0]; omega
  | ⟨1, _⟩ => show win0_2.index t 1 * 4096 + 1 * n.val = n.val; rw [h1]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  have ht := lt_N t
  funext j
  obtain ⟨r, n, rfl⟩ : ∃ (r : Fin 512) (n : Fin 4096), j = ix2 r n := ⟨j 0, j 1, eq_ix2 j⟩
  have hr : r.val < 512 := r.isLt
  let R : Fin 16384 := ⟨t.val * 512 + r.val, by omega⟩
  refine Eq.trans (pay_apply (iblk m c 0 t) (iblk m c 1 t) r n) ((read2 (G m c) t r n R rfl).trans ?_).symm
  show nrm _ _ _ = nrm _ _ _
  rw [blk1 m c t n, show (fun k => iblk m c 0 t (ix2 r k)) = fun k => m ((c : Thread nD τ).loc main_arg0) (ix2 (src R) k) from
    funext fun k => blk0 m c t r k R rfl]

/-- An index of the result array is in point `t`'s block exactly when its row is in the block's range. -/
theorem mem_blk (t : Fin cfg0.N) (i : S16384x4096.Idx) :
    i ∈ ((cfg0.win 2).blk t).view.set ↔ (t.val * 512 ≤ (i 0 : Nat) ∧ (i 0 : Nat) < t.val * 512 + 512) := by
  show i ∈ ((View.whole main_v1).slice (win0_2.rect t)).set ↔ _
  rw [View.set_slice_whole, Rect.mem_set_unit]
  obtain ⟨-, -, -, -, h0, h1⟩ := idx_facts t
  have e0 : win0_2.index t 0 * win0_2.size 0 = t.val * 512 := by rw [h0]; rfl
  have e1 : win0_2.index t 1 * win0_2.size 1 = 0 := by rw [h1]; rfl
  have s0 : win0_2.xsize (grid0.coords t) 0 = 512 := rfl
  have s1 : win0_2.xsize (grid0.coords t) 1 = 4096 := rfl
  have i1 : (i 1 : Nat) < 4096 := (i 1).isLt
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h
    | ⟨1, _⟩ => show win0_2.index t 1 * win0_2.size 1 ≤ (i 1 : Nat) ∧ (i 1 : Nat) < win0_2.index t 1 * win0_2.size 1 + win0_2.xsize (grid0.coords t) 1
                rw [e1, s1]; omega

/-- The blocks tile the result array. -/
theorem cover (i : S16384x4096.Idx) :
    ∃ t : Fin cfg0.N, (cfg0.win 2).flush t = true ∧ i ∈ ((cfg0.win 2).blk t).view.set := by
  have h0 : (i 0 : Nat) < 16384 := (i 0).isLt
  have hN : cfg0.N = 32 := N_0
  refine ⟨⟨(i 0 : Nat) / 512, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

end Cert.NormPIdeal.NormPValue

namespace Cert.NormPRefIdeal.RefValue

open Cert.NormPRefIdeal Cert.NormPRefIdeal.Gen Cert.NormPIdeal.NormPValue

/-- The reference's sum of squares of a row. -/
theorem sum_apply (x : FVec Ideal S16896x4096 .f32) (r : Fin 16384) :
    Read.val_main_v2 (F := Ideal) x (ix1 r) = ∑ k : Fin 4096, x (ix2 (src r) k) * x (ix2 (src r) k) := by
  rw [Read.val_main_v2_apply]
  show Ideal.ofBits .f32 0x00000000#32 + _ = _
  rw [Ideal.ofBits_zero_f32, zero_add]
  refine Finset.sum_congr rfl fun k _ => ?_
  rw [Read.val_main_v1_apply, Read.val_main_v0_apply]
  have h : Read.idx_main_v0 (Read.idx_main_v2 (ix1 r) k) = ix2 (src r) k := ix2_ext _ _ _ (by show r.val = 0 + r.val; omega) rfl
  rw [h]
  rfl

/-- The reference's result is the same function of its arguments. -/
theorem val_eq (x : FVec Ideal S16896x4096 .f32) (w : FVec Ideal S4096 .f32) : Read.val_main_v13 (F := Ideal) x w = spec x w := by
  funext i
  obtain ⟨r, n, rfl⟩ : ∃ (r : Fin 16384) (n : Fin 4096), i = ix2 r n := ⟨i 0, i 1, eq_ix2 i⟩
  have h0 : Read.val_main_v0 (F := Ideal) x (ix2 r n) = x (ix2 (src r) n) := by
    rw [Read.val_main_v0_apply]
    exact congrArg x (ix2_ext _ _ _ (by show r.val = 0 + r.val; omega) rfl)
  have h9 : Read.val_main_v9 (F := Ideal) x (ix2 r n) = Ideal.rsqrt (Ideal.div (∑ k : Fin 4096, x (ix2 (src r) k) * x (ix2 (src r) k))
      (Ideal.ofBits .f32 0x45800000#32) + Ideal.ofBits .f32 0x358637BD#32) := by
    rw [Read.val_main_v9_apply, Read.val_main_v8_apply, Read.val_main_v7_apply, Read.val_main_v6_apply, Read.val_main_v5_apply,
      Read.val_main_v4_apply, Read.val_main_v3_apply, Read.val_main_cst_0_apply, Read.val_main_cst_1_apply,
      show Read.idx_main_v3 (Read.idx_main_v9 (ix2 r n)) = ix1 r from funext fun a => Fin.ext (match a with | ⟨0, _⟩ => rfl), sum_apply x r]
    rfl
  have h12 : Read.val_main_v12 (F := Ideal) w (ix2 r n) = w (ix1 n) := by
    rw [Read.val_main_v12_apply, Read.val_main_v11_apply]
    exact congrArg w (funext fun a => Fin.ext (match a with | ⟨0, _⟩ => rfl))
  rw [Read.val_main_v13_apply, Read.val_main_v10_apply, h0, h9, h12]
  rfl

end Cert.NormPRefIdeal.RefValue

namespace Cert.Proof.NormP

theorem frame : Cert.quiescent_NormP := fun m ρ _ => Cert.NormP.Gen.frame m ρ
theorem frame_ideal : Cert.quiescent_NormPIdeal := fun m ρ _ => Cert.NormPIdeal.Gen.frame m ρ
theorem frame_ref : Cert.quiescent_NormPRefIdeal := fun m ρ _ =>
  (θ_run Cert.NormPRefIdeal.defs _ _).mono (fun r h => ⟨fun c => (h c).2,
      Idealize.ShloMosaic.sem_eq_zero_of_no_sems (by decide) r.2⟩)
    (Cert.NormPRefIdeal.Value.run (F := Ideal) m ρ)

theorem algebraic : Cert.algebraic_NormPIdeal_NormPRefIdeal := by
  intro m ρ m' ρ' _ hagree
  refine ⟨fun c => Cert.NormPIdeal.NormPValue.G m c, ?_, ?_⟩
  · exact (θ_run Cert.NormPIdeal.defs _ _).mono
      (fun _ h c => ⟨(h c).1.trans (Cert.NormPIdeal.NormPValue.final m c), (h c).2⟩)
      (Cert.NormPIdeal.Value.run_blocks (F := Ideal) m ρ)
  · refine (θ_run Cert.NormPRefIdeal.defs _ _).mono (fun _ h c => ⟨?_, (h c).2⟩)
      (Cert.NormPRefIdeal.Value.run (F := Ideal) m' ρ')
    refine (h c).1.trans ((Cert.NormPRefIdeal.Read.val_main_v13_eq ..).trans ((Cert.NormPRefIdeal.RefValue.val_eq ..).trans ?_))
    unfold Cert.NormPIdeal.NormPValue.G
    rw [(hagree c).1, (hagree c).2]

end Cert.Proof.NormP

end
-- ==== Proof.NormS.lean ====
/- The last norm of the sample: the rows after the prompt's, every row over the root of its mean square, times the weights. -/
module

public import proofs.«01_k».proof.Defs
public import proofs.«01_k».proof.Proof.Common
public import proofs.«01_k».proof.Proof.Gen.NormS.Frame
public import proofs.«01_k».proof.Proof.Gen.NormSIdeal.Value
public import proofs.«01_k».proof.Proof.Gen.NormSRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.NormSIdeal.NormSValue

open Cert.NormSIdeal Cert.NormSIdeal.Gen

/-- One entry of a normed row: the entry over the root of the row's mean square plus a small number, times its weight. -/
def nrm (row : Fin 4096 → EReal) (w : EReal) (n : Fin 4096) : EReal :=
  row n * Ideal.rsqrt (Ideal.div (∑ k : Fin 4096, row k * row k) (Ideal.ofBits .f32 0x45800000#32) + Ideal.ofBits .f32 0x358637BD#32) * w

/-- The row of the input that result row `r` is made from. -/
abbrev src (r : Fin 512) : Fin 16896 := ⟨16384 + r.val, by have := r.isLt; omega⟩

/-- What the result array is shown to hold. -/
def spec (x : FVec Ideal S16896x4096 .f32) (w : FVec Ideal S4096 .f32) : FVec Ideal S512x4096 .f32 := fun i =>
  nrm (fun k => x (ix2 (src (i 0)) k)) (w (ix1 (i 1))) (i 1)

variable (m : (ℓ : Loc nD τ sig) → Buf (Elt Ideal) ℓ) (ρ : Dev nD → PrngReg)

/-- The body's stored block at an index, of its loaded blocks. -/
theorem pay_apply (x : FVec Ideal S512x4096 .f32) (w : FVec Ideal S1x4096 .f32) (r : Fin 512) (n : Fin 4096) :
    out0_2 (F := Ideal) x w (ix2 r n) = nrm (fun k => x (ix2 r k)) (w (ix2 (0 : Fin 1) n)) n := by
  unfold out0_2
  rw [View.ld_unit_zero hz, View.ld_unit_zero hz, Value.canon2_eq]
  have hs : multiReduction .add [1] S512 (mulf x x) 0x00000000#32 reduces_S512x4096_S512 (.inl rfl) rfl (Value.ix2_1 (ix2 r n))
      = ∑ k : Fin 4096, x (ix2 r k) * x (ix2 r k) := by
    refine (Ideal.multiReduction_add_single (mulf x x) 0x00000000#32 reduces_S512x4096_S512 (.inl rfl) rfl (Value.ix2_1 (ix2 r n))).trans ?_
    refine Finset.sum_congr rfl fun k _ => ?_
    have hk : (reduces_S512x4096_S512.lift (Value.ix2_1 (ix2 r n)) k) = (ix2 r k : S512x4096.Idx) :=
      funext fun a => Fin.ext (match a with | ⟨0, _⟩ => rfl | ⟨1, _⟩ => rfl)
    rw [hk]
    rfl
  have h0 : (Value.ix2_0 (ix2 r n)) = (ix2 r n : S512x4096.Idx) := funext fun a => Fin.ext (match a with | ⟨0, _⟩ => rfl | ⟨1, _⟩ => rfl)
  have h2 : (Value.ix2_2 (ix2 r n)) = (ix2 (0 : Fin 1) n : S1x4096.Idx) := funext fun a => Fin.ext (match a with | ⟨0, _⟩ => rfl | ⟨1, _⟩ => rfl)
  show (x (Value.ix2_0 (ix2 r n)) * Ideal.rsqrt (Ideal.div
      (multiReduction .add [1] S512 (mulf x x) 0x00000000#32 reduces_S512x4096_S512 (.inl rfl) rfl (Value.ix2_1 (ix2 r n))) (Ideal.ofBits .f32 0x45800000#32)
        + Ideal.ofBits .f32 0x358637BD#32) * w (Value.ix2_2 (ix2 r n)) : EReal) = _
  rw [hs, h0, h2]
  rfl

/-- The weights as the region finds them, at an index. -/
theorem V_w (c : Dev nD) (n : Fin 4096) :
    V m c main_v0 (ix2 (0 : Fin 1) n) = m ((c : Thread nD τ).loc main_arg1) (ix1 n) := by
  have e : V m c main_v0 = (shapeCast S1x4096 (m ((c : Thread nD τ).loc main_arg1)) shapeCasts_S4096_S1x4096 : FVec Ideal S1x4096 .f32) := by
    unfold V
    simp only [hostOps0]
    after_results
    rfl
  rw [e]
  refine shapeCast_apply _ _ _ (ix1 n) ?_
  rewrite [Shape.rowMajor_val_one, Shape.rowMajor_val_two]
  show n.val = 0 * 4096 + n.val
  omega

theorem idx_facts : ∀ t : Fin grid0.N,
    win0_0.index t 0 = t.val + 32 ∧ win0_0.index t 1 = 0 ∧ win0_1.index t 0 = 0 ∧ win0_1.index t 1 = 0
    ∧ win0_2.index t 0 = t.val ∧ win0_2.index t 1 = 0 := by decide +kernel

theorem lt_N (t : Fin cfg0.N) : t.val < 1 := by
  have hN : cfg0.N = 1 := N_0
  exact hN ▸ t.isLt

/-- The row block at point `t`, at an index. -/
theorem blk0 (c : Dev nD) (t : Fin cfg0.N) (r : Fin 512) (k : Fin 4096) (R : Fin 512) (h : R.val = t.val * 512 + r.val) :
    iblk m c 0 t (ix2 r k) = m ((c : Thread nD τ).loc main_arg0) (ix2 (src R) k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 512 + 1 * r.val = 16384 + R.val; rw [h0]; omega
  | ⟨1, _⟩ => show win0_0.index t 1 * 4096 + 1 * k.val = k.val; rw [h1]; omega

/-- The weights at every point. -/
theorem blk1 (c : Dev nD) (t : Fin cfg0.N) (n : Fin 4096) :
    iblk m c 1 t (ix2 (0 : Fin 1) n) = m ((c : Thread nD τ).loc main_arg1) (ix1 n) := by
  unfold iblk
  rw [View.read_apply, ← V_w m c]
  obtain ⟨-, -, h0, h1, -⟩ := idx_facts t
  refine congrArg (V m c main_v0) ?_
  funext a
  apply Fin.ext
  match a with
  | ⟨0, _⟩ => show win0_1.index t 0 * 1 + 1 * 0 = 0; rw [h0]
  | ⟨1, _⟩ => show win0_1.index t 1 * 4096 + 1 * n.val = n.val; rw [h1]; omega

abbrev G (c : Dev nD) : FVec Ideal S512x4096 .f32 :=
  spec (m ((c : Thread nD τ).loc main_arg0)) (m ((c : Thread nD τ).loc main_arg1))

/-- Where point `t` writes entry `(r, n)` of its block in the result array. -/
theorem read2 (g : FVec Ideal S512x4096 .f32) (t : Fin cfg0.N) (r : Fin 512) (n : Fin 4096) (R : Fin 512)
    (hR : R.val = t.val * 512 + r.val) :
    ((cfg0.win 2).blk t).view.read (Elt Ideal) g (ix2 r n) = g (ix2 R n) := by
  rw [View.read_apply]
  obtain ⟨-, -, -, -, h0, h1⟩ := idx_facts t
  refine congrArg g ?_
  funext a
  apply Fin.ext
  match a with
  | ⟨0, _⟩ => show win0_2.index t 0 * 512 + 1 * r.val = R.val; rw [h0]; omega
  | ⟨1, _⟩ => show win0_2.index t 1 * 4096 + 1 * n.val = n.val; rw [h1]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  have ht := lt_N t
  funext j
  obtain ⟨r, n, rfl⟩ : ∃ (r : Fin 512) (n : Fin 4096), j = ix2 r n := ⟨j 0, j 1, eq_ix2 j⟩
  have hr : r.val < 512 := r.isLt
  let R : Fin 512 := ⟨t.val * 512 + r.val, by omega⟩
  refine Eq.trans (pay_apply (iblk m c 0 t) (iblk m c 1 t) r n) ((read2 (G m c) t r n R rfl).trans ?_).symm
  show nrm _ _ _ = nrm _ _ _
  rw [blk1 m c t n, show (fun k => iblk m c 0 t (ix2 r k)) = fun k => m ((c : Thread nD τ).loc main_arg0) (ix2 (src R) k) from
    funext fun k => blk0 m c t r k R rfl]

/-- An index of the result array is in point `t`'s block exactly when its row is in the block's range. -/
theorem mem_blk (t : Fin cfg0.N) (i : S512x4096.Idx) :
    i ∈ ((cfg0.win 2).blk t).view.set ↔ (t.val * 512 ≤ (i 0 : Nat) ∧ (i 0 : Nat) < t.val * 512 + 512) := by
  show i ∈ ((View.whole main_v1).slice (win0_2.rect t)).set ↔ _
  rw [View.set_slice_whole, Rect.mem_set_unit]
  obtain ⟨-, -, -, -, h0, h1⟩ := idx_facts t
  have e0 : win0_2.index t 0 * win0_2.size 0 = t.val * 512 := by rw [h0]; rfl
  have e1 : win0_2.index t 1 * win0_2.size 1 = 0 := by rw [h1]; rfl
  have s0 : win0_2.xsize (grid0.coords t) 0 = 512 := rfl
  have s1 : win0_2.xsize (grid0.coords t) 1 = 4096 := rfl
  have i1 : (i 1 : Nat) < 4096 := (i 1).isLt
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h
    | ⟨1, _⟩ => show win0_2.index t 1 * win0_2.size 1 ≤ (i 1 : Nat) ∧ (i 1 : Nat) < win0_2.index t 1 * win0_2.size 1 + win0_2.xsize (grid0.coords t) 1
                rw [e1, s1]; omega

/-- The blocks tile the result array. -/
theorem cover (i : S512x4096.Idx) :
    ∃ t : Fin cfg0.N, (cfg0.win 2).flush t = true ∧ i ∈ ((cfg0.win 2).blk t).view.set := by
  have h0 : (i 0 : Nat) < 512 := (i 0).isLt
  have hN : cfg0.N = 1 := N_0
  refine ⟨⟨(i 0 : Nat) / 512, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

end Cert.NormSIdeal.NormSValue

namespace Cert.NormSRefIdeal.RefValue

open Cert.NormSRefIdeal Cert.NormSRefIdeal.Gen Cert.NormSIdeal.NormSValue

/-- The reference's sum of squares of a row. -/
theorem sum_apply (x : FVec Ideal S16896x4096 .f32) (r : Fin 512) :
    Read.val_main_v2 (F := Ideal) x (ix1 r) = ∑ k : Fin 4096, x (ix2 (src r) k) * x (ix2 (src r) k) := by
  rw [Read.val_main_v2_apply]
  show Ideal.ofBits .f32 0x00000000#32 + _ = _
  rw [Ideal.ofBits_zero_f32, zero_add]
  refine Finset.sum_congr rfl fun k _ => ?_
  rw [Read.val_main_v1_apply, Read.val_main_v0_apply]
  have h : Read.idx_main_v0 (Read.idx_main_v2 (ix1 r) k) = ix2 (src r) k := ix2_ext _ _ _ (rfl) rfl
  rw [h]
  rfl

/-- The reference's result is the same function of its arguments. -/
theorem val_eq (x : FVec Ideal S16896x4096 .f32) (w : FVec Ideal S4096 .f32) : Read.val_main_v13 (F := Ideal) x w = spec x w := by
  funext i
  obtain ⟨r, n, rfl⟩ : ∃ (r : Fin 512) (n : Fin 4096), i = ix2 r n := ⟨i 0, i 1, eq_ix2 i⟩
  have h0 : Read.val_main_v0 (F := Ideal) x (ix2 r n) = x (ix2 (src r) n) := by
    rw [Read.val_main_v0_apply]
    exact congrArg x (ix2_ext _ _ _ (rfl) rfl)
  have h9 : Read.val_main_v9 (F := Ideal) x (ix2 r n) = Ideal.rsqrt (Ideal.div (∑ k : Fin 4096, x (ix2 (src r) k) * x (ix2 (src r) k))
      (Ideal.ofBits .f32 0x45800000#32) + Ideal.ofBits .f32 0x358637BD#32) := by
    rw [Read.val_main_v9_apply, Read.val_main_v8_apply, Read.val_main_v7_apply, Read.val_main_v6_apply, Read.val_main_v5_apply,
      Read.val_main_v4_apply, Read.val_main_v3_apply, Read.val_main_cst_0_apply, Read.val_main_cst_1_apply,
      show Read.idx_main_v3 (Read.idx_main_v9 (ix2 r n)) = ix1 r from funext fun a => Fin.ext (match a with | ⟨0, _⟩ => rfl), sum_apply x r]
    rfl
  have h12 : Read.val_main_v12 (F := Ideal) w (ix2 r n) = w (ix1 n) := by
    rw [Read.val_main_v12_apply, Read.val_main_v11_apply]
    exact congrArg w (funext fun a => Fin.ext (match a with | ⟨0, _⟩ => rfl))
  rw [Read.val_main_v13_apply, Read.val_main_v10_apply, h0, h9, h12]
  rfl

end Cert.NormSRefIdeal.RefValue

namespace Cert.Proof.NormS

theorem frame : Cert.quiescent_NormS := fun m ρ _ => Cert.NormS.Gen.frame m ρ
theorem frame_ideal : Cert.quiescent_NormSIdeal := fun m ρ _ => Cert.NormSIdeal.Gen.frame m ρ
theorem frame_ref : Cert.quiescent_NormSRefIdeal := fun m ρ _ =>
  (θ_run Cert.NormSRefIdeal.defs _ _).mono (fun r h => ⟨fun c => (h c).2,
      Idealize.ShloMosaic.sem_eq_zero_of_no_sems (by decide) r.2⟩)
    (Cert.NormSRefIdeal.Value.run (F := Ideal) m ρ)

theorem algebraic : Cert.algebraic_NormSIdeal_NormSRefIdeal := by
  intro m ρ m' ρ' _ hagree
  refine ⟨fun c => Cert.NormSIdeal.NormSValue.G m c, ?_, ?_⟩
  · exact (θ_run Cert.NormSIdeal.defs _ _).mono
      (fun _ h c => ⟨(h c).1.trans (Cert.NormSIdeal.NormSValue.final m c), (h c).2⟩)
      (Cert.NormSIdeal.Value.run_blocks (F := Ideal) m ρ)
  · refine (θ_run Cert.NormSRefIdeal.defs _ _).mono (fun _ h c => ⟨?_, (h c).2⟩)
      (Cert.NormSRefIdeal.Value.run (F := Ideal) m' ρ')
    refine (h c).1.trans ((Cert.NormSRefIdeal.Read.val_main_v13_eq ..).trans ((Cert.NormSRefIdeal.RefValue.val_eq ..).trans ?_))
    unfold Cert.NormSIdeal.NormSValue.G
    rw [(hagree c).1, (hagree c).2]

end Cert.Proof.NormS

end
-- ==== Proof.NormIn.lean ====
/- The norm before the input projection: every row of the prompt and then of the sample over the root of its mean square, times the
   weights, written into one array. -/
module

public import proofs.«01_k».proof.Defs
public import proofs.«01_k».proof.Proof.Common
public import Idealize.ShloMosaic.Lib.VecWindow
public import proofs.«01_k».proof.Proof.Gen.NormIn.Frame
public import proofs.«01_k».proof.Proof.Gen.NormInIdeal.Value
public import proofs.«01_k».proof.Proof.Gen.NormInRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.NormInIdeal.NormInValue

open Cert.NormInIdeal Cert.NormInIdeal.Gen

/-- One entry of a normed row: the entry over the root of the row's mean square plus a small number, times its weight. -/
def nrm (row : Fin 4096 → EReal) (w : EReal) (n : Fin 4096) : EReal :=
  row n * Ideal.rsqrt (Ideal.div (∑ k : Fin 4096, row k * row k) (Ideal.ofBits .f32 0x45800000#32) + Ideal.ofBits .f32 0x358637BD#32) * w

/-- Entry `k` of row `r` of the prompt's rows followed by the sample's. -/
def src (x : FVec Ideal S8x2048x4096 .f32) (y : FVec Ideal S8x64x4096 .f32) (r : Fin 16896) (k : Fin 4096) : EReal :=
  if h : r.val < 16384 then shapeCast S16384x4096 x shapeCasts_S8x2048x4096_S16384x4096 (ix2 (⟨r.val, h⟩ : Fin 16384) k)
  else shapeCast S512x4096 y shapeCasts_S8x64x4096_S512x4096 (ix2 (⟨r.val - 16384, by have := r.isLt; omega⟩ : Fin 512) k)

/-- What the result array is shown to hold. -/
def spec (x : FVec Ideal S8x2048x4096 .f32) (y : FVec Ideal S8x64x4096 .f32) (w : FVec Ideal S1x4096 .f32) : FVec Ideal S16896x4096 .bf16 := fun i =>
  nrm (fun k => src x y (i 0) k) (w (ix2 (0 : Fin 1) (i 1))) (i 1)

variable (m : (ℓ : Loc nD τ sig) → Buf (Elt Ideal) ℓ) (ρ : Dev nD → PrngReg)

/-- Rows of the prompt: the block left by the body is the norm of its first block. -/
theorem out_A (c : Dev nD) (i : grid0.Coords) (arg1 : Memref sig .tc .vmem S512x4096 .f32) (harg1 : arg1.IsWhole)
    (arg2 : Memref sig .tc .vmem S512x4096 .f32) (harg2 : arg2.IsWhole) (arg3 : Memref sig .tc .vmem S1x4096 .f32) (harg3 : arg3.IsWhole)
    (arg4 : Memref sig .tc .vmem S512x4096 .bf16) (harg4 : arg4.IsWhole) (hc0 : cond0_0 i) (hc1 : ¬cond0_1 i)
    (x0 : Vec Ideal S512x4096 .f32) (x1 : Vec Ideal S512x4096 .f32) (x2 : Vec Ideal S1x4096 .f32) :
    out0_A_3 c i arg1 harg1 arg2 harg2 arg3 harg3 arg4 harg4 hc0 hc1 x0 x1 x2 = k0_pay1 x0 x2 := by
  unfold out0_A_3
  dsimp only [kernelRun0_A]
  refine (View.read_writes_full (s := S512x4096) _ _ inb_S512x4096_S512x4096_0_0 _ _).trans ?_
  rw [View.readAt_eq_ld, View.readAt_eq_ld, Memref.IsWhole.read_unread, Memref.IsWhole.read_unread]
  exact congrArg₂ k0_pay1 (View.ld_unit_zero hz _ _) (View.ld_unit_zero hz _ _)

/-- Rows of the sample: the block left by the body is the norm of its second block. -/
theorem out_B (c : Dev nD) (i : grid0.Coords) (arg1 : Memref sig .tc .vmem S512x4096 .f32) (harg1 : arg1.IsWhole)
    (arg2 : Memref sig .tc .vmem S512x4096 .f32) (harg2 : arg2.IsWhole) (arg3 : Memref sig .tc .vmem S1x4096 .f32) (harg3 : arg3.IsWhole)
    (arg4 : Memref sig .tc .vmem S512x4096 .bf16) (harg4 : arg4.IsWhole) (hc0 : ¬cond0_0 i) (hc1 : cond0_1 i)
    (x0 : Vec Ideal S512x4096 .f32) (x1 : Vec Ideal S512x4096 .f32) (x2 : Vec Ideal S1x4096 .f32) :
    out0_B_3 c i arg1 harg1 arg2 harg2 arg3 harg3 arg4 harg4 hc0 hc1 x0 x1 x2 = k0_pay1 x1 x2 := by
  unfold out0_B_3
  dsimp only [kernelRun0_B]
  refine (View.read_writes_full (s := S512x4096) _ _ inb_S512x4096_S512x4096_0_0 _ _).trans ?_
  rw [View.readAt_eq_ld, View.readAt_eq_ld, Memref.IsWhole.read_unread, Memref.IsWhole.read_unread]
  exact congrArg₂ k0_pay1 (View.ld_unit_zero hz _ _) (View.ld_unit_zero hz _ _)

/-- The body's stored block at an index, of its loaded blocks. -/
theorem pay_apply (x : FVec Ideal S512x4096 .f32) (w : FVec Ideal S1x4096 .f32) (r : Fin 512) (n : Fin 4096) :
    k0_pay1 (F := Ideal) x w (ix2 r n) = nrm (fun k => x (ix2 r k)) (w (ix2 (0 : Fin 1) n)) n := by
  unfold k0_pay1
  dsimp only
  have e7 : shapeCast S512x4096 x shapeCasts_S512x4096_S512x4096 = x := funext fun y => shapeCast_apply _ _ y y rfl
  have e9 : shapeCast S1x4096 w shapeCasts_S1x4096_S1x4096 = w := funext fun y => shapeCast_apply _ _ y y rfl
  rw [e7, e9]
  have hs : multiReduction .add [1] S512 (mulf x x) 0x00000000#32 reduces_S512x4096_S512 (.inl rfl) rfl (ix1 r)
      = ∑ k : Fin 4096, x (ix2 r k) * x (ix2 r k) := by
    refine (Ideal.multiReduction_add_single (mulf x x) 0x00000000#32 reduces_S512x4096_S512 (.inl rfl) rfl (ix1 r)).trans ?_
    refine Finset.sum_congr rfl fun k _ => ?_
    have hk : (reduces_S512x4096_S512.lift (ix1 r) k) = (ix2 r k : S512x4096.Idx) :=
      funext fun a => Fin.ext (match a with | ⟨0, _⟩ => rfl | ⟨1, _⟩ => rfl)
    rw [hk]
    rfl
  have hc : shapeCast S512x1 (multiReduction .add [1] S512 (mulf x x) 0x00000000#32 reduces_S512x4096_S512 (.inl rfl) rfl) shapeCasts_S512_S512x1
      (ix2 r (0 : Fin 1)) = ∑ k : Fin 4096, x (ix2 r k) * x (ix2 r k) := by
    refine (shapeCast_apply _ _ _ (ix1 r) ?_).trans hs
    rewrite [Shape.rowMajor_val_one, Shape.rowMajor_val_two]
    show r.val = r.val * 1 + 0
    omega
  generalize (shapeCast S512x1 (multiReduction .add [1] S512 (mulf x x) 0x00000000#32 reduces_S512x4096_S512 (.inl rfl) rfl) shapeCasts_S512_S512x1
    : FVec Ideal S512x1 .f32) = q at hc ⊢
  have b1 : ∀ u : FVec Ideal S512x1 .f32, broadcastTo S512x4096 u broadcasts_S512x1_S512x4096 (ix2 r n) = u (ix2 r (0 : Fin 1)) := fun u =>
    broadcastTo_apply _ _ _ _ (fun a => match a with | ⟨0, _⟩ => rfl | ⟨1, _⟩ => rfl)
  have b2 : broadcastTo S512x4096 w broadcasts_S1x4096_S512x4096 (ix2 r n) = w (ix2 (0 : Fin 1) n) :=
    broadcastTo_apply _ _ _ _ (fun a => match a with | ⟨0, _⟩ => rfl | ⟨1, _⟩ => rfl)
  show (x (ix2 r n) * broadcastTo S512x4096 (rsqrt (addf (divf q (broadcast S512x1 (Scalar.ofBits .f32 0x45800000#32)))
      (broadcast S512x1 (Scalar.ofBits .f32 0x358637BD#32)))) broadcasts_S512x1_S512x4096 (ix2 r n)
    * broadcastTo S512x4096 w broadcasts_S1x4096_S512x4096 (ix2 r n) : EReal) = _
  rw [b1, b2]
  show (x (ix2 r n) * Ideal.rsqrt (Ideal.div (q (ix2 r (0 : Fin 1))) (Ideal.ofBits .f32 0x45800000#32) + Ideal.ofBits .f32 0x358637BD#32)
    * w (ix2 (0 : Fin 1) n) : EReal) = _
  rw [hc]
  rfl

/-- The prompt's rows as the region finds them. -/
theorem V_x (c : Dev nD) : V m c main_v0
    = (shapeCast S16384x4096 (m ((c : Thread nD τ).loc main_arg0)) shapeCasts_S8x2048x4096_S16384x4096 : FVec Ideal S16384x4096 .f32) := by
  unfold V
  simp only [hostOps0]
  after_results
  rfl

/-- The sample's rows as the region finds them. -/
theorem V_y (c : Dev nD) : V m c main_v1
    = (shapeCast S512x4096 (m ((c : Thread nD τ).loc main_arg1)) shapeCasts_S8x64x4096_S512x4096 : FVec Ideal S512x4096 .f32) := by
  unfold V
  simp only [hostOps0]
  after_results
  rfl

/-- The weights as the region finds them, at an index. -/
theorem V_w (c : Dev nD) (n : Fin 4096) :
    V m c main_v3 (ix2 (0 : Fin 1) n) = m ((c : Thread nD τ).loc main_arg2) (ix2 (0 : Fin 1) n) := by
  have e : V m c main_v3 = (shapeCast S1x4096 (shapeCast S4096 (m ((c : Thread nD τ).loc main_arg2)) shapeCasts_S1x4096_S4096) shapeCasts_S4096_S1x4096 : FVec Ideal S1x4096 .f32) := by
    unfold V
    simp only [hostOps0]
    after_results
    rfl
  rw [e]
  refine (shapeCast_apply _ _ _ (ix1 n) ?_).trans (shapeCast_apply _ _ _ (ix2 (0 : Fin 1) n) ?_)
  · rewrite [Shape.rowMajor_val_one, Shape.rowMajor_val_two]
    show n.val = 0 * 4096 + n.val
    omega
  · rewrite [Shape.rowMajor_val_one, Shape.rowMajor_val_two]
    show 0 * 4096 + n.val = n.val
    omega

theorem idx_facts : ∀ t : Fin grid0.N,
    (t.val < 32 → win0_0.index t 0 = t.val) ∧ win0_0.index t 1 = 0 ∧ (t.val % 33 = 32 → win0_1.index t 0 = 0) ∧ win0_1.index t 1 = 0
    ∧ win0_2.index t 0 = 0 ∧ win0_2.index t 1 = 0 ∧ win0_3.index t 0 = t.val ∧ win0_3.index t 1 = 0 := by decide +kernel

theorem lt_N (t : Fin cfg0.N) : t.val < 33 := by
  have hN : cfg0.N = 33 := N_0
  exact hN ▸ t.isLt

/-- The prompt's row block at a point of the prompt, at an index. -/
theorem blk0 (c : Dev nD) (t : Fin cfg0.N) (ht : t.val < 32) (r : Fin 512) (k : Fin 4096) (R : Fin 16896) (h : R.val = t.val * 512 + r.val) :
    iblk m c 0 t (ix2 r k) = src (m ((c : Thread nD τ).loc main_arg0)) (m ((c : Thread nD τ).loc main_arg1)) R k := by
  have hr := r.isLt
  have hR : R.val < 16384 := by omega
  unfold iblk src
  rw [View.read_apply, dif_pos hR, ← V_x m c]
  obtain ⟨h0, h1, -⟩ := idx_facts t
  refine congrArg (V m c main_v0) ?_
  funext a
  apply Fin.ext
  match a with
  | ⟨0, _⟩ => show win0_0.index t 0 * 512 + 1 * r.val = R.val; rw [h0 ht]; omega
  | ⟨1, _⟩ => show win0_0.index t 1 * 4096 + 1 * k.val = k.val; rw [h1]; omega

/-- The sample's row block at the last point, at an index. -/
theorem blk1 (c : Dev nD) (t : Fin cfg0.N) (ht : t.val % 33 = 32) (r : Fin 512) (k : Fin 4096) (R : Fin 16896) (h : R.val = t.val * 512 + r.val) :
    iblk m c 1 t (ix2 r k) = src (m ((c : Thread nD τ).loc main_arg0)) (m ((c : Thread nD τ).loc main_arg1)) R k := by
  have hr := r.isLt
  have htN := lt_N t
  have hR : ¬ R.val < 16384 := by omega
  unfold iblk src
  rw [View.read_apply, dif_neg hR, ← V_y m c]
  obtain ⟨-, -, h0, h1, -⟩ := idx_facts t
  refine congrArg (V m c main_v1) ?_
  funext a
  apply Fin.ext
  match a with
  | ⟨0, _⟩ => show win0_1.index t 0 * 512 + 1 * r.val = R.val - 16384; rw [h0 ht]; omega
  | ⟨1, _⟩ => show win0_1.index t 1 * 4096 + 1 * k.val = k.val; rw [h1]; omega

/-- The weights at every point. -/
theorem blk2 (c : Dev nD) (t : Fin cfg0.N) (n : Fin 4096) :
    iblk m c 2 t (ix2 (0 : Fin 1) n) = m ((c : Thread nD τ).loc main_arg2) (ix2 (0 : Fin 1) n) := by
  unfold iblk
  rw [View.read_apply, ← V_w m c]
  obtain ⟨-, -, -, -, h0, h1, -⟩ := idx_facts t
  refine congrArg (V m c main_v3) ?_
  funext a
  apply Fin.ext
  match a with
  | ⟨0, _⟩ => show win0_2.index t 0 * 1 + 1 * 0 = 0; rw [h0]
  | ⟨1, _⟩ => show win0_2.index t 1 * 4096 + 1 * n.val = n.val; rw [h1]; omega

abbrev G (c : Dev nD) : FVec Ideal S16896x4096 .bf16 :=
  spec (m ((c : Thread nD τ).loc main_arg0)) (m ((c : Thread nD τ).loc main_arg1)) (m ((c : Thread nD τ).loc main_arg2))

/-- Where point `t` writes entry `(r, n)` of its block in the result array. -/
theorem read3 (g : FVec Ideal S16896x4096 .bf16) (t : Fin cfg0.N) (r : Fin 512) (n : Fin 4096) (R : Fin 16896)
    (hR : R.val = t.val * 512 + r.val) :
    ((cfg0.win 3).blk t).view.read (Elt Ideal) g (ix2 r n) = g (ix2 R n) := by
  rw [View.read_apply]
  obtain ⟨-, -, -, -, -, -, h0, h1⟩ := idx_facts t
  refine congrArg g ?_
  funext a
  apply Fin.ext
  match a with
  | ⟨0, _⟩ => show win0_3.index t 0 * 512 + 1 * r.val = R.val; rw [h0]; omega
  | ⟨1, _⟩ => show win0_3.index t 1 * 4096 + 1 * n.val = n.val; rw [h1]; omega

/-- What point `t` writes back is block `t` of `G`. -/
theorem flushed_eq (c : Dev nD) (t : Fin cfg0.N) :
    (dats m 0 c).flushed 3 t = ((cfg0.win 3).blk t).view.read (Elt Ideal) (G m c) := by
  have ht := lt_N t
  by_cases h : t.val < 32
  · rw [Value.flushed3_A m c t h (by omega), out_A]
    funext j
    obtain ⟨r, n, rfl⟩ : ∃ (r : Fin 512) (n : Fin 4096), j = ix2 r n := ⟨j 0, j 1, eq_ix2 j⟩
    have hr : r.val < 512 := r.isLt
    let R : Fin 16896 := ⟨t.val * 512 + r.val, by omega⟩
    refine Eq.trans (pay_apply (iblk m c 0 t) (iblk m c 2 t) r n) ((read3 (G m c) t r n R rfl).trans ?_).symm
    show nrm _ _ _ = nrm _ _ _
    rw [blk2 m c t n, show (fun k => iblk m c 0 t (ix2 r k)) = fun k => src (m ((c : Thread nD τ).loc main_arg0)) (m ((c : Thread nD τ).loc main_arg1)) R k from
      funext fun k => blk0 m c t h r k R rfl]
  · have h' : t.val % 33 = 32 := by omega
    rw [Value.flushed3_B m c t h h', out_B]
    funext j
    obtain ⟨r, n, rfl⟩ : ∃ (r : Fin 512) (n : Fin 4096), j = ix2 r n := ⟨j 0, j 1, eq_ix2 j⟩
    have hr : r.val < 512 := r.isLt
    let R : Fin 16896 := ⟨t.val * 512 + r.val, by omega⟩
    refine Eq.trans (pay_apply (iblk m c 1 t) (iblk m c 2 t) r n) ((read3 (G m c) t r n R rfl).trans ?_).symm
    show nrm _ _ _ = nrm _ _ _
    rw [blk2 m c t n, show (fun k => iblk m c 1 t (ix2 r k)) = fun k => src (m ((c : Thread nD τ).loc main_arg0)) (m ((c : Thread nD τ).loc main_arg1)) R k from
      funext fun k => blk1 m c t h' r k R rfl]

/-- An index of the result array is in point `t`'s block exactly when its row is in the block's range. -/
theorem mem_blk (t : Fin cfg0.N) (i : S16896x4096.Idx) :
    i ∈ ((cfg0.win 3).blk t).view.set ↔ (t.val * 512 ≤ (i 0 : Nat) ∧ (i 0 : Nat) < t.val * 512 + 512) := by
  show i ∈ ((View.whole main_v4).slice (win0_3.rect t)).set ↔ _
  rw [View.set_slice_whole, Rect.mem_set_unit]
  obtain ⟨-, -, -, -, -, -, h0, h1⟩ := idx_facts t
  have e0 : win0_3.index t 0 * win0_3.size 0 = t.val * 512 := by rw [h0]; rfl
  have e1 : win0_3.index t 1 * win0_3.size 1 = 0 := by rw [h1]; rfl
  have s0 : win0_3.xsize (grid0.coords t) 0 = 512 := rfl
  have s1 : win0_3.xsize (grid0.coords t) 1 = 4096 := rfl
  have i1 : (i 1 : Nat) < 4096 := (i 1).isLt
  refine ⟨fun h => ?_, fun h a => ?_⟩
  · have : win0_3.index t 0 * win0_3.size 0 ≤ (i 0 : Nat) ∧ (i 0 : Nat) < win0_3.index t 0 * win0_3.size 0 + win0_3.xsize (grid0.coords t) 0 := h 0
    rw [e0, s0] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, s0]; exact h
    | ⟨1, _⟩ => show win0_3.index t 1 * win0_3.size 1 ≤ (i 1 : Nat) ∧ (i 1 : Nat) < win0_3.index t 1 * win0_3.size 1 + win0_3.xsize (grid0.coords t) 1
                rw [e1, s1]; omega

/-- The blocks tile the result array. -/
theorem cover (i : S16896x4096.Idx) :
    ∃ t : Fin cfg0.N, (cfg0.win 3).flush t = true ∧ i ∈ ((cfg0.win 3).blk t).view.set := by
  have h0 : (i 0 : Nat) < 16896 := (i 0).isLt
  have hN : cfg0.N = 33 := N_0
  refine ⟨⟨(i 0 : Nat) / 512, by omega⟩, flush0_3 _, ?_⟩
  rw [mem_blk]
  dsimp only
  omega

/-- So the result array ends holding `G`. -/
theorem final (c : Dev nD) : (dats m 0 c).arrAt 3 cfg0.N = G m c :=
  (dats m 0 c).arrAt_eq_of_cover 3 (G m c) (fun t _ => flushed_eq m c t) cover

end Cert.NormInIdeal.NormInValue

namespace Cert.NormInRefIdeal.RefValue

open Cert.NormInRefIdeal Cert.NormInRefIdeal.Gen Cert.NormInIdeal.NormInValue

/-- The reference's joined rows. -/
theorem rows_apply (x : FVec Ideal S8x2048x4096 .f32) (y : FVec Ideal S8x64x4096 .f32) (r : Fin 16896) (k : Fin 4096) :
    Read.val_main_v2 (F := Ideal) x y (ix2 r k) = src x y r k := by
  unfold Read.val_main_v2 src
  by_cases h : r.val < 16384
  · rw [dif_pos h]
    refine concatenate_pair_apply_left (s₁ := S16384x4096) (s₂ := S512x4096) (t := S16896x4096) 0 _ _ _ (ix2 r k) rfl (ix2 (⟨r.val, h⟩ : Fin 16384) k) ?_
    intro b
    match b with
    | ⟨0, _⟩ => rfl
    | ⟨1, _⟩ => rfl
  · rw [dif_neg h]
    refine concatenate_pair_apply_right (s₁ := S16384x4096) (s₂ := S512x4096) (t := S16896x4096) 0 _ _ _ (ix2 r k) rfl rfl (ix2 (⟨r.val - 16384, by have := r.isLt; omega⟩ : Fin 512) k) ?_ ?_
    · intro b hb
      match b with
      | ⟨0, _⟩ => exact absurd rfl hb
      | ⟨1, _⟩ => rfl
    · show r.val - 16384 + 16384 = r.val
      omega

/-- The reference's sum of squares of a row. -/
theorem sum_apply (x : FVec Ideal S8x2048x4096 .f32) (y : FVec Ideal S8x64x4096 .f32) (r : Fin 16896) :
    Read.val_main_v5 (F := Ideal) x y (ix1 r) = ∑ k : Fin 4096, src x y r k * src x y r k := by
  rw [Read.val_main_v5_apply]
  show Ideal.ofBits .f32 0x00000000#32 + _ = _
  rw [Ideal.ofBits_zero_f32, zero_add]
  refine Finset.sum_congr rfl fun k _ => ?_
  rw [Read.val_main_v4_apply]
  have h : Read.idx_main_v5 (ix1 r) k = ix2 r k := ix2_ext _ _ _ rfl rfl
  rw [h, rows_apply]
  rfl

/-- The reference's result is the same function of its arguments. -/
theorem val_eq (x : FVec Ideal S8x2048x4096 .f32) (y : FVec Ideal S8x64x4096 .f32) (w : FVec Ideal S1x4096 .f32) :
    Read.val_main_v17 (F := Ideal) x y w = spec x y w := by
  funext i
  obtain ⟨r, n, rfl⟩ : ∃ (r : Fin 16896) (n : Fin 4096), i = ix2 r n := ⟨i 0, i 1, eq_ix2 i⟩
  have h12 : Read.val_main_v12 (F := Ideal) x y (ix2 r n) = Ideal.rsqrt (Ideal.div (∑ k : Fin 4096, src x y r k * src x y r k)
      (Ideal.ofBits .f32 0x45800000#32) + Ideal.ofBits .f32 0x358637BD#32) := by
    rw [Read.val_main_v12_apply, Read.val_main_v11_apply, Read.val_main_v10_apply, Read.val_main_v9_apply, Read.val_main_v8_apply,
      Read.val_main_v7_apply, Read.val_main_v6_apply, Read.val_main_cst_0_apply, Read.val_main_cst_1_apply,
      show Read.idx_main_v6 (Read.idx_main_v12 (ix2 r n)) = ix1 r from funext fun a => Fin.ext (match a with | ⟨0, _⟩ => rfl), sum_apply x y r]
    rfl
  have h15 : Read.val_main_v15 (F := Ideal) w (ix2 r n) = w (ix2 (0 : Fin 1) n) := by
    rw [Read.val_main_v15_apply, Read.val_main_v14_apply, Read.val_main_v3_apply]
    exact congrArg w (ix2_ext _ _ _ rfl (Nat.mod_eq_of_lt n.isLt))
  rw [Read.val_main_v17_apply, Read.val_main_v16_apply, Read.val_main_v13_apply, h12, h15, rows_apply]
  rfl

end Cert.NormInRefIdeal.RefValue

namespace Cert.Proof.NormIn

theorem frame : Cert.quiescent_NormIn := fun m ρ _ => Cert.NormIn.Gen.frame m ρ
theorem frame_ideal : Cert.quiescent_NormInIdeal := fun m ρ _ => Cert.NormInIdeal.Gen.frame m ρ
theorem frame_ref : Cert.quiescent_NormInRefIdeal := fun m ρ _ =>
  (θ_run Cert.NormInRefIdeal.defs _ _).mono (fun r h => ⟨fun c => (h c).2,
      Idealize.ShloMosaic.sem_eq_zero_of_no_sems (by decide) r.2⟩)
    (Cert.NormInRefIdeal.Value.run (F := Ideal) m ρ)

theorem algebraic : Cert.algebraic_NormInIdeal_NormInRefIdeal := by
  intro m ρ m' ρ' _ hagree
  refine ⟨fun c => Cert.NormInIdeal.NormInValue.G m c, ?_, ?_⟩
  · exact (θ_run Cert.NormInIdeal.defs _ _).mono
      (fun _ h c => ⟨(h c).1.trans (Cert.NormInIdeal.NormInValue.final m c), (h c).2⟩)
      (Cert.NormInIdeal.Value.run_blocks (F := Ideal) m ρ)
  · refine (θ_run Cert.NormInRefIdeal.defs _ _).mono (fun _ h c => ⟨?_, (h c).2⟩)
      (Cert.NormInRefIdeal.Value.run (F := Ideal) m' ρ')
    refine (h c).1.trans ((Cert.NormInRefIdeal.Read.val_main_v17_eq ..).trans ((Cert.NormInRefIdeal.RefValue.val_eq ..).trans ?_))
    unfold Cert.NormInIdeal.NormInValue.G
    rw [(hagree c).1, (hagree c).2.1, (hagree c).2.2]

end Cert.Proof.NormIn

end
-- ==== Proof.NormMid.lean ====
/- The norm before the feed-forward: every row over the root of its mean square, times the weights. -/
module

public import proofs.«01_k».proof.Defs
public import proofs.«01_k».proof.Proof.Common
public import proofs.«01_k».proof.Proof.Gen.NormMid.Frame
public import proofs.«01_k».proof.Proof.Gen.NormMidIdeal.Value
public import proofs.«01_k».proof.Proof.Gen.NormMidRefIdeal.Read

@[expose] public section

set_option maxRecDepth 16384

noncomputable section

open Idealize.ShloMosaic Idealize.ShloMosaic.TcCoe Idealize.SL.Sem Idealize.ShloMosaic.ValueIdx
open Idealize.ShloMosaic.Pipeline (Dat)
open Cert.Proof.Common

namespace Cert.NormMidIdeal.NormMidValue

open Cert.NormMidIdeal Cert.NormMidIdeal.Gen

/-- One entry of a normed row: the entry over the root of the row's mean square plus a small number, times its weight. -/
def nrm (row : Fin 4096 → EReal) (w : EReal) (n : Fin 4096) : EReal :=
  row n * Ideal.rsqrt (Ideal.div (∑ k : Fin 4096, row k * row k) (Ideal.ofBits .f32 0x45800000#32) + Ideal.ofBits .f32 0x358637BD#32) * w

/-- What the result array is shown to hold. -/
def spec (x : FVec Ideal S16896x4096 .f32) (w : FVec Ideal S1x4096 .f32) : FVec Ideal S16896x4096 .bf16 := fun i =>
  nrm (fun k => x (ix2 (i 0) k)) (w (ix2 (0 : Fin 1) (i 1))) (i 1)

variable (m : (ℓ : Loc nD τ sig) → Buf (Elt Ideal) ℓ) (ρ : Dev nD → PrngReg)

/-- The body's stored block at an index, of its loaded blocks. -/
theorem pay_apply (x : FVec Ideal S512x4096 .f32) (w : FVec Ideal S1x4096 .f32) (r : Fin 512) (n : Fin 4096) :
    out0_2 (F := Ideal) x w (ix2 r n) = nrm (fun k => x (ix2 r k)) (w (ix2 (0 : Fin 1) n)) n := by
  unfold out0_2
  rw [View.ld_unit_zero hz, View.ld_unit_zero hz, Value.canon2_eq]
  have hs : multiReduction .add [1] S512 (mulf x x) 0x00000000#32 reduces_S512x4096_S512 (.inl rfl) rfl (Value.ix2_1 (ix2 r n))
      = ∑ k : Fin 4096, x (ix2 r k) * x (ix2 r k) := by
    refine (Ideal.multiReduction_add_single (mulf x x) 0x00000000#32 reduces_S512x4096_S512 (.inl rfl) rfl (Value.ix2_1 (ix2 r n))).trans ?_
    refine Finset.sum_congr rfl fun k _ => ?_
    have hk : (reduces_S512x4096_S512.lift (Value.ix2_1 (ix2 r n)) k) = (ix2 r k : S512x4096.Idx) :=
      funext fun a => Fin.ext (match a with | ⟨0, _⟩ => rfl | ⟨1, _⟩ => rfl)
    rw [hk]
    rfl
  have h0 : (Value.ix2_0 (ix2 r n)) = (ix2 r n : S512x4096.Idx) := funext fun a => Fin.ext (match a with | ⟨0, _⟩ => rfl | ⟨1, _⟩ => rfl)
  have h2 : (Value.ix2_2 (ix2 r n)) = (ix2 (0 : Fin 1) n : S1x4096.Idx) := funext fun a => Fin.ext (match a with | ⟨0, _⟩ => rfl | ⟨1, _⟩ => rfl)
  show (x (Value.ix2_0 (ix2 r n)) * Ideal.rsqrt (Ideal.div
      (multiReduction .add [1] S512 (mulf x x) 0x00000000#32 reduces_S512x4096_S512 (.inl rfl) rfl (Value.ix2_1 (ix2 r n))) (Ideal.ofBits .f32 0x45800000#32)
        + Ideal.ofBits .f32 0x358637BD#32) * w (Value.ix2_2 (ix2 r n)) : EReal) = _
  rw [hs, h0, h2]
  rfl

/-- The weights as the region finds them, at an index. -/
theorem V_w (c : Dev nD) (n : Fin 4096) :
    V m c main_v1 (ix2 (0 : Fin 1) n) = m ((c : Thread nD τ).loc main_arg1) (ix2 (0 : Fin 1) n) := by
  have e : V m c main_v1 = (shapeCast S1x4096 (shapeCast S4096 (m ((c : Thread nD τ).loc main_arg1)) shapeCasts_S1x4096_S4096) shapeCasts_S4096_S1x4096 : FVec Ideal S1x4096 .f32) := by
    unfold V
    simp only [hostOps0]
    after_results
    rfl
  rw [e]
  refine (shapeCast_apply _ _ _ (ix1 n) ?_).trans (shapeCast_apply _ _ _ (ix2 (0 : Fin 1) n) ?_)
  · rewrite [Shape.rowMajor_val_one, Shape.rowMajor_val_two]
    show n.val = 0 * 4096 + n.val
    omega
  · rewrite [Shape.rowMajor_val_one, Shape.rowMajor_val_two]
    show 0 * 4096 + n.val = n.val
    omega

theorem idx_facts : ∀ t : Fin grid0.N,
    win0_0.index t 0 = t.val ∧ win0_0.index t 1 = 0 ∧ win0_1.index t 0 = 0 ∧ win0_1.index t 1 = 0
    ∧ win0_2.index t 0 = t.val ∧ win0_2.index t 1 = 0 := by decide +kernel

theorem lt_N (t : Fin cfg0.N) : t.val < 33 := by
  have hN : cfg0.N = 33 := N_0
  exact hN ▸ t.isLt

/-- The row block at point `t`, at an index. -/
theorem blk0 (c : Dev nD) (t : Fin cfg0.N) (r : Fin 512) (k : Fin 4096) (R : Fin 16896) (h : R.val = t.val * 512 + r.val) :
    iblk m c 0 t (ix2 r k) = m ((c : Thread nD τ).loc main_arg0) (ix2 R k) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 512 + 1 * r.val = R.val; rw [h0]; omega
  | ⟨1, _⟩ => show win0_0.index t 1 * 4096 + 1 * k.val = k.val; rw [h1]; omega

/-- The weights at every point. -/
theorem blk1 (c : Dev nD) (t : Fin cfg0.N) (n : Fin 4096) :
    iblk m c 1 t (ix2 (0 : Fin 1) n) = m ((c : Thread nD τ).loc main_arg1) (ix2 (0 : Fin 1) n) := by
  unfold iblk
  rw [View.read_apply, ← V_w m c]
  obtain ⟨-, -, h0, h1, -⟩ := idx_facts t
  refine congrArg (V m c main_v1) ?_
  funext a
  apply Fin.ext
  match a with
  | ⟨0, _⟩ => show win0_1.index t 0 * 1 + 1 * 0 = 0; rw [h0]
  | ⟨1, _⟩ => show win0_1.index t 1 * 4096 + 1 * n.val = n.val; rw [h1]; omega

abbrev G (c : Dev nD) : FVec Ideal S16896x4096 .bf16 :=
  spec (m ((c : Thread nD τ).loc main_arg0)) (m ((c : Thread nD τ).loc main_arg1))

/-- Where point `t` writes entry `(r, n)` of its block in the result array. -/
theorem read2 (g : FVec Ideal S16896x4096 .bf16) (t : Fin cfg0.N) (r : Fin 512) (n : Fin 4096) (R : Fin 16896)
    (hR : R.val = t.val * 512 + r.val) :
    ((cfg0.win 2).blk t).view.read (Elt Ideal) g (ix2 r n) = g (ix2 R n) := by
  rw [View.read_apply]
  obtain ⟨-, -, -, -, h0, h1⟩ := idx_facts t
  refine congrArg g ?_
  funext a
  apply Fin.ext
  match a with
  | ⟨0, _⟩ => show win0_2.index t 0 * 512 + 1 * r.val = R.val; rw [h0]; omega
  | ⟨1, _⟩ => show win0_2.index t 1 * 4096 + 1 * n.val = n.val; rw [h1]; omega

/-- What point `t` writes back is block `t` of `G`. -/
theorem flushed_eq (c : Dev nD) (t : Fin cfg0.N) :
    (dats m 0 c).flushed 2 t = ((cfg0.win 2).blk t).view.read (Elt Ideal) (G m c) := by
  rw [Value.flushed2]
  have ht := lt_N t
  funext j
  obtain ⟨r, n, rfl⟩ : ∃ (r : Fin 512) (n : Fin 4096), j = ix2 r n := ⟨j 0, j 1, eq_ix2 j⟩
  have hr : r.val < 512 := r.isLt
  let R : Fin 16896 := ⟨t.val * 512 + r.val, by omega⟩
  refine Eq.trans (pay_apply (iblk m c 0 t) (iblk m c 1 t) r n) ((read2 (G m c) t r n R rfl).trans ?_).symm
  show nrm _ _ _ = nrm _ _ _
  rw [blk1 m c t n, show (fun k => iblk m c 0 t (ix2 r k)) = fun k => m ((c : Thread nD τ).loc main_arg0) (ix2 R k) from
    funext fun k => blk0 m c t r k R rfl]

/-- An index of the result array is in point `t`'s block exactly when its row is in the block's range. -/
theorem mem_blk (t : Fin cfg0.N) (i : S16896x4096.Idx) :
    i ∈ ((cfg0.win 2).blk t).view.set ↔ (t.val * 512 ≤ (i 0 : Nat) ∧ (i 0 : Nat) < t.val * 512 + 512) := by
  show i ∈ ((View.whole main_v2).slice (win0_2.rect t)).set ↔ _
  rw [View.set_slice_whole, Rect.mem_set_unit]
  obtain ⟨-, -, -, -, h0, h1⟩ := idx_facts t
  have e0 : win0_2.index t 0 * win0_2.size 0 = t.val * 512 := by rw [h0]; rfl
  have e1 : win0_2.index t 1 * win0_2.size 1 = 0 := by rw [h1]; rfl
  have s0 : win0_2.xsize (grid0.coords t) 0 = 512 := rfl
  have s1 : win0_2.xsize (grid0.coords t) 1 = 4096 := rfl
  have i1 : (i 1 : Nat) < 4096 := (i 1).isLt
  refine ⟨fun h => ?_, fun h a => ?_⟩
  · have : win0_2.index t 0 * win0_2.size 0 ≤ (i 0 : Nat) ∧ (i 0 : Nat) < win0_2.index t 0 * win0_2.size 0 + win0_2.xsize (grid0.coords t) 0 := h 0
    rw [e0, s0] at this; exact this
  · match a with
    | ⟨0, _⟩ => show win0_2.index t 0 * win0_2.size 0 ≤ (i 0 : Nat) ∧ (i 0 : Nat) < win0_2.index t 0 * win0_2.size 0 + win0_2.xsize (grid0.coords t) 0
                rw [e0, s0]; exact h
    | ⟨1, _⟩ => show win0_2.index t 1 * win0_2.size 1 ≤ (i 1 : Nat) ∧ (i 1 : Nat) < win0_2.index t 1 * win0_2.size 1 + win0_2.xsize (grid0.coords t) 1
                rw [e1, s1]; omega

/-- The blocks tile the result array. -/
theorem cover (i : S16896x4096.Idx) :
    ∃ t : Fin cfg0.N, (cfg0.win 2).flush t = true ∧ i ∈ ((cfg0.win 2).blk t).view.set := by
  have h0 : (i 0 : Nat) < 16896 := (i 0).isLt
  have hN : cfg0.N = 33 := N_0
  refine ⟨⟨(i 0 : Nat) / 512, by omega⟩, flush0_2 _, ?_⟩
  rw [mem_blk]
  dsimp only
  omega

/-- So the result array ends holding `G`. -/
theorem final (c : Dev nD) : (dats m 0 c).arrAt 2 cfg0.N = G m c :=
  (dats m 0 c).arrAt_eq_of_cover 2 (G m c) (fun t _ => flushed_eq m c t) cover

end Cert.NormMidIdeal.NormMidValue

namespace Cert.NormMidRefIdeal.RefValue

open Cert.NormMidRefIdeal Cert.NormMidRefIdeal.Gen Cert.NormMidIdeal.NormMidValue

/-- The reference's sum of squares of a row. -/
theorem sum_apply (x : FVec Ideal S16896x4096 .f32) (r : Fin 16896) :
    Read.val_main_v2 (F := Ideal) x (ix1 r) = ∑ k : Fin 4096, x (ix2 r k) * x (ix2 r k) := by
  rw [Read.val_main_v2_apply]
  show Ideal.ofBits .f32 0x00000000#32 + _ = _
  rw [Ideal.ofBits_zero_f32, zero_add]
  refine Finset.sum_congr rfl fun k _ => ?_
  rw [Read.val_main_v1_apply]
  have h : Read.idx_main_v2 (ix1 r) k = ix2 r k := ix2_ext _ _ _ rfl rfl
  rw [h]
  rfl

/-- The reference's result is the same function of its arguments. -/
theorem val_eq (x : FVec Ideal S16896x4096 .f32) (w : FVec Ideal S1x4096 .f32) : Read.val_main_v14 (F := Ideal) x w = spec x w := by
  funext i
  obtain ⟨r, n, rfl⟩ : ∃ (r : Fin 16896) (n : Fin 4096), i = ix2 r n := ⟨i 0, i 1, eq_ix2 i⟩
  have h9 : Read.val_main_v9 (F := Ideal) x (ix2 r n) = Ideal.rsqrt (Ideal.div (∑ k : Fin 4096, x (ix2 r k) * x (ix2 r k))
      (Ideal.ofBits .f32 0x45800000#32) + Ideal.ofBits .f32 0x358637BD#32) := by
    rw [Read.val_main_v9_apply, Read.val_main_v8_apply, Read.val_main_v7_apply, Read.val_main_v6_apply, Read.val_main_v5_apply,
      Read.val_main_v4_apply, Read.val_main_v3_apply, Read.val_main_cst_0_apply, Read.val_main_cst_1_apply,
      show Read.idx_main_v3 (Read.idx_main_v9 (ix2 r n)) = ix1 r from funext fun a => Fin.ext (match a with | ⟨0, _⟩ => rfl), sum_apply x r]
    rfl
  have h12 : Read.val_main_v12 (F := Ideal) w (ix2 r n) = w (ix2 (0 : Fin 1) n) := by
    rw [Read.val_main_v12_apply, Read.val_main_v11_apply, Read.val_main_v0_apply]
    exact congrArg w (ix2_ext _ _ _ rfl (Nat.mod_eq_of_lt n.isLt))
  rw [Read.val_main_v14_apply, Read.val_main_v13_apply, Read.val_main_v10_apply, h9, h12]
  rfl

end Cert.NormMidRefIdeal.RefValue

namespace Cert.Proof.NormMid

theorem frame : Cert.quiescent_NormMid := fun m ρ _ => Cert.NormMid.Gen.frame m ρ
theorem frame_ideal : Cert.quiescent_NormMidIdeal := fun m ρ _ => Cert.NormMidIdeal.Gen.frame m ρ
theorem frame_ref : Cert.quiescent_NormMidRefIdeal := fun m ρ _ =>
  (θ_run Cert.NormMidRefIdeal.defs _ _).mono (fun r h => ⟨fun c => (h c).2,
      Idealize.ShloMosaic.sem_eq_zero_of_no_sems (by decide) r.2⟩)
    (Cert.NormMidRefIdeal.Value.run (F := Ideal) m ρ)

theorem algebraic : Cert.algebraic_NormMidIdeal_NormMidRefIdeal := by
  intro m ρ m' ρ' _ hagree
  refine ⟨fun c => Cert.NormMidIdeal.NormMidValue.G m c, ?_, ?_⟩
  · exact (θ_run Cert.NormMidIdeal.defs _ _).mono
      (fun _ h c => ⟨(h c).1.trans (Cert.NormMidIdeal.NormMidValue.final m c), (h c).2⟩)
      (Cert.NormMidIdeal.Value.run_blocks (F := Ideal) m ρ)
  · refine (θ_run Cert.NormMidRefIdeal.defs _ _).mono (fun _ h c => ⟨?_, (h c).2⟩)
      (Cert.NormMidRefIdeal.Value.run (F := Ideal) m' ρ')
    refine (h c).1.trans ((Cert.NormMidRefIdeal.Read.val_main_v14_eq ..).trans ((Cert.NormMidRefIdeal.RefValue.val_eq ..).trans ?_))
    unfold Cert.NormMidIdeal.NormMidValue.G
    rw [(hagree c).1, (hagree c).2]

end Cert.Proof.NormMid

end
-- ==== Proof.FfnDownRun.lean ====
/- The run of the down projection's call: the first half of the contraction is kept in scratch memory, a slice for each column block,
   and the second half is added to it. What the scratch holds at each grid point, the body's obligation there, and the whole call's run. -/
module

public import proofs.«01_k».proof.Proof.Gen.FfnDownIdeal.Frame
public import proofs.«01_k».proof.Proof.Gen.FfnDownIdeal.Skeleton
public import Idealize.ShloMosaic.Lib.Claim
public import Idealize.ShloMosaic.Lib.VecWindow
public import Idealize.ShloMosaic.Lib.Pipeline.Value

@[expose] public section

set_option maxRecDepth 16384

noncomputable section

namespace Cert.FfnDownIdeal.DownRun

open Cert.FfnDownIdeal Cert.FfnDownIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The grid's points -/

/-- The first half of the contraction: the first eight of every sixteen points. -/
theorem cond1_iff : ∀ t : Fin cfg0.N, k0_cond1 (grid0.coords t) = 1#1 ↔ t.val % 16 < 8 :=
  (by decide +kernel : ∀ t : Fin grid0.N, k0_cond1 (grid0.coords t) = 1#1 ↔ t.val % 16 < 8)
/-- With two halves there is none in the middle. -/
theorem cond2_not : ∀ t : Fin cfg0.N, ¬ k0_cond2 (grid0.coords t) = 1#1 :=
  (by decide +kernel : ∀ t : Fin grid0.N, ¬ k0_cond2 (grid0.coords t) = 1#1)
/-- The second half: the other eight. -/
theorem cond3_iff : ∀ t : Fin cfg0.N, k0_cond3 (grid0.coords t) = 1#1 ↔ 8 ≤ t.val % 16 :=
  (by decide +kernel : ∀ t : Fin grid0.N, k0_cond3 (grid0.coords t) = 1#1 ↔ 8 ≤ t.val % 16)
/-- The slice a point of the first half writes. -/
theorem off1_eq : ∀ t : Fin cfg0.N, k0_off1 (grid0.coords t) = ![t.val % 8, 0, 0] :=
  (by decide +kernel : ∀ t : Fin grid0.N, k0_off1 (grid0.coords t) = ![t.val % 8, 0, 0])
/-- The slice a point of the second half reads. -/
theorem off3_eq : ∀ t : Fin cfg0.N, k0_off3 (grid0.coords t) = ![t.val % 8, 0, 0] :=
  (by decide +kernel : ∀ t : Fin grid0.N, k0_off3 (grid0.coords t) = ![t.val % 8, 0, 0])
/-- The result's block is written back at the points of the second half only. -/
theorem flush3_iff : ∀ t : Fin cfg0.N, (cfg0.win 3).flush t = true ↔ 8 ≤ t.val % 16 :=
  (by decide +kernel : ∀ t : Fin grid0.N, win0_3.flush t = true ↔ 8 ≤ t.val % 16)

/-! ## The body, half by half -/

set_option maxHeartbeats 1000000 in
/-- In the first half the body writes its product into its slice of the scratch and leaves the rest. -/
theorem run_first (c : Dev nD) (i : grid0.Coords) (arg3 : Memref sig .tc .vmem S768x5504 .bf16) (harg3 : arg3.IsWhole) (arg4 : Memref sig .tc .vmem S5504x512 .bf16) (harg4 : arg4.IsWhole)
    (arg5 : Memref sig .tc .vmem S768x512 .f32) (harg5 : arg5.IsWhole) (arg6 : Memref sig .tc .vmem S768x512 .f32) (harg6 : arg6.IsWhole) (arg7 : Memref sig .tc .vmem S8x768x512 .f32) (harg7 : arg7.IsWhole)
    (h1 : k0_cond1 i = 1#1) (h2 : ¬ k0_cond2 i = 1#1) (h3 : ¬ k0_cond3 i = 1#1)
    (x0 : Vec F S768x5504 .bf16) (x1 : Vec F S5504x512 .bf16) (d : Vec F S8x768x512 .f32) (E : Set ℕ) (K : PUnit → sProp 𝕄) :
    iprop(owns (c : Thread nD τ) arg3 fullShare x0 ∗ owns (c : Thread nD τ) arg4 fullShare x1 ∗ owns (c : Thread nD τ) arg7 fullShare d
        ∗ (iprop(owns (c : Thread nD τ) arg3 fullShare x0 ∗ owns (c : Thread nD τ) arg4 fullShare x1
            ∗ owns (c : Thread nD τ) arg7 fullShare (VecWindow.put d (k0_off1 i) S1x768x512.size (k0_pay2 x0 x1))) -∗ K ⟨⟩))
      ⊢ wp frame (wpE (defs₀ (F := F)) Variants.none c none) E (cc0_ffn_down i arg3 harg3 arg4 harg4 arg5 harg5 arg6 harg6 arg7 harg7) K := by
  simp only [cc0_ffn_down_eq_skeleton]; unfold cc0_ffn_down_skel
  unfold owns
  iintro ⟨⟨%f0, %hf0, H0⟩, ⟨%f1, %hf1, H1⟩, ⟨%f2, %hf2, H2⟩, Hk⟩
  obtain rfl := harg3.eq_unread hf0; obtain rfl := harg4.eq_unread hf1; obtain rfl := harg7.eq_unread hf2
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  iexists _; isplitr
  swap; · iexact H2
  ipureintro
  rw [View.read_writes_cons_put arg7.view _ _ _ _ rfl, View.writes_nil, harg7.read_unread]
  exact congrArg (VecWindow.put d (k0_off1 i) S1x768x512.size)
    (congrArg₂ k0_pay2 ((View.readAt_full arg3.view _ _).trans hf0) ((View.readAt_full arg4.view _ _).trans hf1))

set_option maxHeartbeats 1000000 in
/-- In the second half it adds its product to its slice of the scratch and that to the residual. -/
theorem run_second (c : Dev nD) (i : grid0.Coords) (arg3 : Memref sig .tc .vmem S768x5504 .bf16) (harg3 : arg3.IsWhole) (arg4 : Memref sig .tc .vmem S5504x512 .bf16) (harg4 : arg4.IsWhole)
    (arg5 : Memref sig .tc .vmem S768x512 .f32) (harg5 : arg5.IsWhole) (arg6 : Memref sig .tc .vmem S768x512 .f32) (harg6 : arg6.IsWhole) (arg7 : Memref sig .tc .vmem S8x768x512 .f32) (harg7 : arg7.IsWhole)
    (h1 : ¬ k0_cond1 i = 1#1) (h2 : ¬ k0_cond2 i = 1#1) (h3 : k0_cond3 i = 1#1)
    (x0 : Vec F S768x5504 .bf16) (x1 : Vec F S5504x512 .bf16) (x2 : Vec F S768x512 .f32) (d : Vec F S8x768x512 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ z, owns (c : Thread nD τ) arg6 fullShare z) ∗ owns (c : Thread nD τ) arg7 fullShare d
        ∗ (iprop(owns (c : Thread nD τ) arg3 fullShare x0 ∗ owns (c : Thread nD τ) arg4 fullShare x1 ∗ owns (c : Thread nD τ) arg5 fullShare x2
            ∗ owns (c : Thread nD τ) arg6 fullShare (k0_pay4 x0 x1 x2 (VecWindow.window d (k0_off3 i) S1x768x512.size (k0_off3_inb i h3)))
            ∗ owns (c : Thread nD τ) arg7 fullShare d) -∗ K ⟨⟩))
      ⊢ wp frame (wpE (defs₀ (F := F)) Variants.none c none) E (cc0_ffn_down i arg3 harg3 arg4 harg4 arg5 harg5 arg6 harg6 arg7 harg7) K := by
  simp only [cc0_ffn_down_eq_skeleton]; unfold cc0_ffn_down_skel
  unfold owns
  iintro ⟨⟨%f0, %hf0, H0⟩, ⟨%f1, %hf1, H1⟩, ⟨%f2, %hf2, H2⟩, ⟨%z, %f3, -, H3⟩, ⟨%f4, %hf4, H4⟩, Hk⟩
  obtain rfl := harg3.eq_unread hf0; obtain rfl := harg4.eq_unread hf1; obtain rfl := harg5.eq_unread hf2; obtain rfl := harg7.eq_unread hf4
  sl_exec (disch := first | sl_exact h1 | sl_exact h2 | sl_exact h3)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    rw [View.read_writes_full]
    have e0 := (View.readAt_full arg3.view (harg3.unread x0) inb_S768x5504_S768x5504_0_0).trans hf0
    have e1 := (View.readAt_full arg4.view (harg4.unread x1) inb_S5504x512_S5504x512_0_0).trans hf1
    have e2 := (View.readAt_full arg5.view (harg5.unread x2) inb_S768x512_S768x512_0_0).trans hf2
    have e3 : View.readAt (Elt F) arg7.view (Rect.unit (s := S8x768x512) (k0_off3 i) S1x768x512.size (k0_off3_inb i h3)).toLoadRect (harg7.unread d)
        = VecWindow.window d (k0_off3 i) S1x768x512.size (k0_off3_inb i h3) := by
      rw [View.readAt_unit arg7.view _ _ rfl (k0_off3_inb i h3), hf4]
    exact (congrArg₂ (fun a b => k0_pay4 a b _ _) e0 e1).trans (congrArg₂ (fun a b => k0_pay4 x0 x1 a b) e2 e3)
  iexists _; isplitr; · ipureintro; exact harg7.read_unread _
  iexact H4

/-! ## What the scratch holds -/

/-- A column block's slice of the scratch lies in it. -/
theorem slice_inb (j : ℕ) : ∀ a, (![j % 8, 0, 0] : Fin 3 → ℕ) a + S1x768x512.size a ≤ S8x768x512.size a := fun a => by
  have := Nat.mod_lt j (show 0 < 8 by decide)
  fin_cases a
  · show j % 8 + 1 ≤ 8; omega
  · show 0 + 768 ≤ 768; omega
  · show 0 + 512 ≤ 512; omega

/-- Before point `n` the slices written by the first-half points among the last eight hold those points' products. -/
def Kept (c : Dev nD) (n : ℕ) (d : Vec F S8x768x512 .f32) : Prop :=
  ∀ s : Fin cfg0.N, s.val % 16 < 8 → s.val < n → n ≤ s.val + 8 →
    VecWindow.window d ![s.val % 8, 0, 0] S1x768x512.size (slice_inb s.val) = k0_pay2 (iblk m c 0 s) (iblk m c 1 s)

/-- At the start it asks nothing. -/
theorem kept_zero (c : Dev nD) (d : Vec F S8x768x512 .f32) : Kept m c 0 d := fun s _ h _ => absurd h (Nat.not_lt_zero _)

/-- A point of the first half writes its own slice and keeps the others. -/
theorem kept_first (c : Dev nD) (t : Fin cfg0.N) (ht : t.val % 16 < 8) (d : Vec F S8x768x512 .f32) (hd : Kept m c t.val d) :
    Kept m c (t.val + 1) (VecWindow.put d (k0_off1 (grid0.coords t)) S1x768x512.size (k0_pay2 (iblk m c 0 t) (iblk m c 1 t))) := by
  intro s hs hlt hle
  rw [off1_eq t]
  by_cases e : s = t
  · subst e; exact VecWindow.window_put_same _ _ _ _ _
  · have hne : s.val ≠ t.val := fun h => e (Fin.ext h)
    rw [VecWindow.window_put_of_disjoint d ![t.val % 8, 0, 0] S1x768x512.size ![s.val % 8, 0, 0] S1x768x512.size (slice_inb s.val) _ 0
      (by show s.val % 8 + 1 ≤ t.val % 8 ∨ t.val % 8 + 1 ≤ s.val % 8; omega)]
    exact hd s hs (by omega) (by omega)

/-- A point of the second half changes none of them. -/
theorem kept_second (c : Dev nD) (t : Fin cfg0.N) (ht : 8 ≤ t.val % 16) (d : Vec F S8x768x512 .f32) (hd : Kept m c t.val d) :
    Kept m c (t.val + 1) d := fun s hs hlt hle =>
  hd s hs (by have : s.val ≠ t.val := fun h => by omega
              omega) (by omega)

/-- The point eight before, where the first half of a second-half point's product was taken. -/
def prev (t : Fin cfg0.N) : Fin cfg0.N := ⟨t.val - 8, by have := t.isLt; omega⟩

/-- The slice a second-half point reads is the product of the point eight before. -/
theorem kept_read (c : Dev nD) (t : Fin cfg0.N) (ht : 8 ≤ t.val % 16) (d : Vec F S8x768x512 .f32) (hd : Kept m c t.val d)
    (h : ∀ a, k0_off3 (grid0.coords t) a + S1x768x512.size a ≤ S8x768x512.size a) :
    VecWindow.window d (k0_off3 (grid0.coords t)) S1x768x512.size h = k0_pay2 (iblk m c 0 (prev t)) (iblk m c 1 (prev t)) := by
  have hp : (prev t).val = t.val - 8 := rfl
  refine Eq.trans ?_ (hd (prev t) (by omega) (by omega) (by omega))
  have e : k0_off3 (grid0.coords t) = ![(prev t).val % 8, 0, 0] := by
    rw [off3_eq t, show t.val % 8 = (prev t).val % 8 by omega]
  funext y
  unfold VecWindow.window
  congr 1
  exact funext fun a => Fin.ext (by
    show k0_off3 (grid0.coords t) a + 1 * (y a).val = (![(prev t).val % 8, 0, 0] : Fin 3 → ℕ) a + 1 * (y a).val
    exact congrArg (fun o : Fin 3 → ℕ => o a + 1 * (y a).val) e)

/-- The result's block at a point of the second half. -/
def out (c : Dev nD) (t : Fin cfg0.N) : Vec F S768x512 .f32 :=
  k0_pay4 (iblk m c 0 t) (iblk m c 1 t) (iblk m c 2 t) (k0_pay2 (iblk m c 0 (prev t)) (iblk m c 1 (prev t)))

/-! ## What the pipeline keeps -/

/-- The scratch memory. -/
abbrev scr : Memref sig .tc .vmem S8x768x512 .f32 := Memref.whole cc0_scratch0

/-- Each window's staging memory at a point. -/
abbrev ms0 (t : Fin cfg0.N) : Memref sig .tc .vmem S768x5504 .bf16 := win0_0.stage (cfg0.slots t 0)
abbrev ms1 (t : Fin cfg0.N) : Memref sig .tc .vmem S5504x512 .bf16 := win0_1.stage (cfg0.slots t 1)
abbrev ms2 (t : Fin cfg0.N) : Memref sig .tc .vmem S768x512 .f32 := win0_2.stage (cfg0.slots t 2)
abbrev ms3 (t : Fin cfg0.N) : Memref sig .tc .vmem S768x512 .f32 := win0_3.stage (cfg0.slots t 3)

/-- What holds along the grid on core `c`: arrays start as the host code left them, an input's buffer keeps its block, the result's
    takes the body's, and the scratch holds the first halves still to be used. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out m c t
    | ⟨_ + 4, h⟩ => absurd h (Nat.not_lt.2 (Nat.le_add_left _ _))
  Φ t := iprop((∃ d, ⌜Kept m c t.val d⌝ ∗ owns (c : Thread nD τ) scr fullShare d) ∗ (∃ r, prngReg c r))
  q w := fullShare
  owed _ := 0

/-- The arrays at the start are those the host code left. -/
theorem A_eq (c : Dev nD) (w : Fin cfg0.W) : (dats m 0 c).A w = V m c (Pipeline.arrRef spec0 w) := by
  dsimp only [dats]

/-- The buffers after the body, window by window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out m c t := by dsimp only [dats]

/-- Before the body an input's buffer holds its block, whether this point fetched it or an earlier one did. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-- Between points the scratch is owned and the generator's register with it. -/
theorem inv_eq (c : Dev nD) (t : Fin (cfg0.N + 1)) :
    (dats m 0 c).Φ t = iprop((∃ d, ⌜Kept m c t.val d⌝ ∗ owns (c : Thread nD τ) scr fullShare d) ∗ (∃ r, prngReg c r)) := by
  dsimp only [dats]

/-- The same with nothing said of the scratch's contents. -/
theorem loose_eq (c : Dev nD) :
    (Pipeline.ΦA spec0 c : sProp 𝕄) = iprop((∃ d, owns (c : Thread nD τ) scr fullShare d) ∗ (∃ r, prngReg c r)) := by
  unfold Pipeline.ΦA; rw [scopedRest0_eq]; simp only [scr, owns_whole]; try rfl

/-! ## The body at any point -/

/-- What the body finds at point `t` -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 1600000 in
/-- From what it finds the body gets to what it leaves. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl, inv_eq, inv_eq,
    show (t.castSucc : Fin (cfg0.N + 1)).val = t.val from rfl, show (t.succ : Fin (cfg0.N + 1)).val = t.val + 1 from Fin.val_succ t]
  rw [show (dats m 0 c).leavesExact 0 t = owns (c : Thread nD τ) (ms0 t) fullShare ((dats m 0 c).after 0 t) from by
      unfold Dat.leavesExact; rw [show cfg0.idle 0 (grid0.coords t) = false from rfl], after0]
  rw [show (dats m 0 c).leavesExact 1 t = owns (c : Thread nD τ) (ms1 t) fullShare ((dats m 0 c).after 1 t) from by
      unfold Dat.leavesExact; rw [show cfg0.idle 1 (grid0.coords t) = false from rfl], after1]
  rw [show (dats m 0 c).leavesExact 2 t = owns (c : Thread nD τ) (ms2 t) fullShare ((dats m 0 c).after 2 t) from by
      unfold Dat.leavesExact; rw [show cfg0.idle 2 (grid0.coords t) = false from rfl], after2]
  by_cases h : t.val % 16 < 8
  · have h3 : ¬ k0_cond3 (grid0.coords t) = 1#1 := fun e => by have := (cond3_iff t).mp e; omega
    have hi : cfg0.idle 3 (grid0.coords t) = true := by
      show (!(k0_cond3 (grid0.coords t) == 1#1)) = true
      simpa using h3
    have hf : (cfg0.win 3).flush t = false := Bool.eq_false_iff.mpr fun e => by have := (flush3_iff t).mp e; omega
    rw [Dat.leavesExact_idle (dats m 0 c) 3 t hi hf]
    iintro ⟨⟨⟨%d, %hd, HS⟩, Hg⟩, Ho, ⟨%d0, H0⟩, ⟨%d1, H1⟩, ⟨%d2, H2⟩, H3⟩
    iapply (run_first c (grid0.coords t) _ _ _ _ _ _ _ _ _ _ ((cond1_iff t).mpr h) (cond2_not t) h3 (iblk m c 0 t) (iblk m c 1 t) d Set.univ _)
    isplitl [H0]; · iexact H0
    isplitl [H1]; · iexact H1
    isplitl [HS]; · iexact HS
    iintro ⟨H0, H1, HS⟩
    isplitl [HS Hg]
    · isplitl [HS]
      · iexists _; isplitr
        swap; · iexact HS
        ipureintro; exact kept_first m c t h d hd
      iexact Hg
    isplitl [Ho]; · iexact Ho
    isplitl [H0]; · iexact H0
    isplitl [H1]; · iexact H1
    isplitl [H2]; · iexact H2
    iexact H3
  · have h' : 8 ≤ t.val % 16 := by omega
    have h3 : k0_cond3 (grid0.coords t) = 1#1 := (cond3_iff t).mpr h'
    have hi : cfg0.idle 3 (grid0.coords t) = false := by
      show (!(k0_cond3 (grid0.coords t) == 1#1)) = false
      simpa using h3
    rw [show (dats m 0 c).leavesExact 3 t = owns (c : Thread nD τ) (ms3 t) fullShare ((dats m 0 c).after 3 t) from by
      unfold Dat.leavesExact; rw [hi], after3]
    unfold out
    iintro ⟨⟨⟨%d, %hd, HS⟩, Hg⟩, Ho, ⟨%d0, H0⟩, ⟨%d1, H1⟩, ⟨%d2, H2⟩, ⟨%d3, H3⟩⟩
    rw [← kept_read m c t h' d hd (k0_off3_inb (grid0.coords t) h3)]
    iapply (run_second c (grid0.coords t) _ _ _ _ _ _ _ _ _ _ (fun e => h ((cond1_iff t).mp e)) (cond2_not t) h3 (iblk m c 0 t) (iblk m c 1 t) (iblk m c 2 t) d Set.univ _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HS Hg]
    · isplitl [HS]
      · iexists _; isplitr
        swap; · iexact HS
        ipureintro; exact kept_second m c t h' d hd
      iexact Hg
    isplitl [Ho]; · iexact Ho
    isplitl [H0]; · iexact H0
    isplitl [H1]; · iexact H1
    isplitl [H2]; · iexact H2
    iexact H3

/-- The body that point `t` calls. -/
theorem defs₀_row (t : Fin cfg0.N) :
    defs₀ (F := F) .tc cfg0.body (cfg0.bodyArgs t (cfg0.slots t)) = bodyAt0 t := by
  unfold defs₀; rw [Defs.onTc_tc]

set_option maxHeartbeats 1600000 in
/-- So the pipeline's demand on its body is met at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point nothing need be known of the scratch. -/
theorem inv_start (c : Dev nD) : (Pipeline.ΦA spec0 c : sProp 𝕄) ⊢ (dats m 0 c).Φ 0 := by
  rw [loose_eq, inv_eq]
  iintro ⟨⟨%d, H⟩, Hg⟩
  isplitl [H]
  · iexists d; isplitr
    swap; · iexact H
    ipureintro; exact kept_zero m c d
  iexact Hg

/-- After the last point nothing need be remembered of it. -/
theorem inv_end (c : Dev nD) : (dats m 0 c).Φ (Fin.last cfg0.N) ⊢ (Pipeline.ΦA spec0 c : sProp 𝕄) := by
  rw [loose_eq, inv_eq]
  iintro ⟨⟨%d, -, H⟩, Hg⟩
  isplitl [H]
  · iexists d; iexact H
  iexact Hg

set_option backward.isDefEq.respectTransparency.types false in
/-- The whole call: it ends without fault, its arrays as the pipeline computes them, every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c w => by fin_cases w <;> rfl)
    (howed := fun _ _ => rfl) (V := V m) (hmain := hmain m Variants.none) (hA := A_eq m) (hin := inv_start m) (hout := inv_end m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end as they began. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame over any float values: arguments kept and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.FfnDownIdeal.DownRun

end
-- ==== Proof.FfnDown.lean ====
/- The down projection with its residual: every entry of the kernel's result is the residual's entry plus the product of a row of the
   activations and a column of the weights, the sum over the first 5504 columns and then over the other 5504. -/
module

public import proofs.«01_k».proof.Defs
public import proofs.«01_k».proof.Proof.Common
public import proofs.«01_k».proof.Proof.FfnDownRun
public import proofs.«01_k».proof.Proof.Gen.FfnDown
public import proofs.«01_k».proof.Proof.Gen.FfnDownRefIdeal.Read
public import Idealize.ShloMosaic.Lib.Quiescent

@[expose] public section

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)
open Cert.Proof.Common

namespace Cert.FfnDownIdeal.FfnDownValue

open Cert.FfnDownIdeal Cert.FfnDownIdeal.Gen Cert.FfnDownIdeal.DownRun

/-- What the result array is shown to hold. -/
def spec (u : FVec Ideal S16896x11008 .bf16) (w : FVec Ideal S1x11008x4096 .f32) (p : FVec Ideal S16896x4096 .f32) :
    FVec Ideal S16896x4096 .f32 := fun i =>
  p i + ∑ k : Fin 11008, u (ix2 (i 0) k) * w (ix3 (0 : Fin 1) k (i 1))

theorem spec_apply (u : FVec Ideal S16896x11008 .bf16) (w : FVec Ideal S1x11008x4096 .f32) (p : FVec Ideal S16896x4096 .f32)
    (r : Fin 16896) (n : Fin 4096) :
    spec u w p (ix2 r n) = p (ix2 r n) + ∑ k : Fin 11008, u (ix2 r k) * w (ix3 (0 : Fin 1) k n) := rfl

/-- The column of the first half. -/
def lo (k : Fin 5504) : Fin 11008 := ⟨k.val, by have := k.isLt; omega⟩
/-- The column of the second half. -/
def hi (k : Fin 5504) : Fin 11008 := ⟨5504 + k.val, by have := k.isLt; omega⟩

/-- A sum over the columns, half by half. -/
theorem sum_halves (f : Fin 11008 → EReal) : ∑ k : Fin 11008, f k = ∑ k : Fin 5504, f (lo k) + ∑ k : Fin 5504, f (hi k) :=
  Fin.sum_univ_add (a := 5504) (b := 5504) f

variable (m : (ℓ : Loc nD τ sig) → Buf (Elt Ideal) ℓ) (ρ : Dev nD → PrngReg)

/-- A half's product at an index, of its loaded blocks. -/
theorem part_apply (x : FVec Ideal S768x5504 .bf16) (a : FVec Ideal S5504x512 .bf16) (r : Fin 768) (c : Fin 512) :
    k0_pay1 (F := Ideal) x a (ix2 r c) = ∑ k : Fin 5504, x (ix2 r k) * a (ix2 k c) := by
  unfold k0_pay1
  simp only [shapeCast_self]
  exact matmul_zero x a r c

/-- The body's stored block at an index: the residual's, the first half's and the second half's. -/
theorem pay_apply (x y : FVec Ideal S768x5504 .bf16) (a b : FVec Ideal S5504x512 .bf16) (p : FVec Ideal S768x512 .f32) (r : Fin 768) (c : Fin 512) :
    k0_pay4 (F := Ideal) y b p (k0_pay2 (F := Ideal) x a) (ix2 r c)
      = p (ix2 r c) + (∑ k : Fin 5504, x (ix2 r k) * a (ix2 k c) + ∑ k : Fin 5504, y (ix2 r k) * b (ix2 k c)) := by
  unfold k0_pay4 k0_pay2
  refine congrArg (fun v : EReal => p (ix2 r c) + v) (congrArg₂ (fun u v : EReal => u + v) ?_ (part_apply y b r c))
  refine (shapeCast_apply _ _ _ (ix3 (0 : Fin 1) r c) ?_).trans ((shapeCast_apply _ _ _ (ix2 r c) ?_).trans (part_apply x a r c))
  · rewrite [Shape.rowMajor_val_three, Shape.rowMajor_val_two]
    show (0 * 768 + r.val) * 512 + c.val = r.val * 512 + c.val
    omega
  · rewrite [Shape.rowMajor_val_three, Shape.rowMajor_val_two]
    show r.val * 512 + c.val = (0 * 768 + r.val) * 512 + c.val
    omega

/-- The weights as the region finds them, at an index. -/
theorem V_w (c : Dev nD) (k : Fin 11008) (n : Fin 4096) :
    V m c main_v3 (ix2 k n) = m ((c : Thread nD τ).loc main_arg1) (ix3 (0 : Fin 1) k n) := by
  have e : V m c main_v3 = concatenate S11008x4096 0 [⟨S11008x4096, truncf .bf16 (shapeCast S11008x4096 (m ((c : Thread nD τ).loc main_arg1)) shapeCasts_S1x11008x4096_S11008x4096 : FVec Ideal S11008x4096 .f32) bitsLt_bf16_f32⟩,
      ⟨S0x4096, broadcastInDim S0x4096 ![] bcast_S_S0x4096 (constant S_ .bf16 0x0000#16)⟩] concatenates_S11008x4096_S0x4096_S11008x4096_d0 := by
    unfold V
    simp only [hostOps0]
    after_results
    rfl
  rw [e]
  refine (concatenate_pair_apply_left (t := S11008x4096) (s₁ := S11008x4096) (s₂ := S0x4096) 0 _ _ _ (ix2 k n) rfl (ix2 k n) ?_).trans ?_
  · intro b
    match b with
    | ⟨0, _⟩ => rfl
    | ⟨1, _⟩ => rfl
  rw [truncf_apply]
  refine shapeCast_apply _ _ _ (ix3 (0 : Fin 1) k n) ?_
  rewrite [Shape.rowMajor_val_three, Shape.rowMajor_val_two]
  show (0 * 11008 + k.val) * 4096 + n.val = k.val * 4096 + n.val
  omega

theorem idx_facts : ∀ t : Fin grid0.N,
    win0_0.index t 0 = t.val / 16 ∧ win0_0.index t 1 = t.val / 8 % 2 ∧ win0_1.index t 0 = t.val / 8 % 2 ∧ win0_1.index t 1 = t.val % 8
    ∧ (8 ≤ t.val % 16 → win0_2.index t 0 = t.val / 16 ∧ win0_2.index t 1 = t.val % 8 ∧ win0_3.index t 0 = t.val / 16 ∧ win0_3.index t 1 = t.val % 8) := by
  decide +kernel

theorem lt_N (t : Fin cfg0.N) : t.val < 352 := by
  have hN : cfg0.N = 352 := N_0
  exact hN ▸ t.isLt

/-- The block of the activations at point `t`, at an index. -/
theorem blk0 (c : Dev nD) (t : Fin cfg0.N) (r : Fin 768) (k : Fin 5504) (R : Fin 16896) (K : Fin 11008)
    (hR : R.val = t.val / 16 * 768 + r.val) (hK : K.val = t.val / 8 % 2 * 5504 + k.val) :
    iblk m c 0 t (ix2 r k) = m ((c : Thread nD τ).loc main_arg0) (ix2 R K) := by
  unfold iblk
  rw [View.read_apply]
  show V m c main_arg0 _ = _
  rw [V_main_arg0]
  obtain ⟨h0, h1, -⟩ := idx_facts t
  congr 1
  funext a
  apply Fin.ext
  match a with
  | ⟨0, _⟩ => show win0_0.index t 0 * 768 + 1 * r.val = R.val; rw [h0]; omega
  | ⟨1, _⟩ => show win0_0.index t 1 * 5504 + 1 * k.val = K.val; rw [h1]; omega

/-- The block of the weights at point `t`, at an index. -/
theorem blk1 (c : Dev nD) (t : Fin cfg0.N) (k : Fin 5504) (n : Fin 512) (K : Fin 11008) (N : Fin 4096)
    (hK : K.val = t.val / 8 % 2 * 5504 + k.val) (hN : N.val = t.val % 8 * 512 + n.val) :
    iblk m c 1 t (ix2 k n) = m ((c : Thread nD τ).loc main_arg1) (ix3 (0 : Fin 1) K N) := by
  unfold iblk
  rw [View.read_apply, ← V_w m c]
  obtain ⟨-, -, h0, h1, -⟩ := idx_facts t
  refine congrArg (V m c main_v3) ?_
  funext a
  apply Fin.ext
  match a with
  | ⟨0, _⟩ => show win0_1.index t 0 * 5504 + 1 * k.val = K.val; rw [h0]; omega
  | ⟨1, _⟩ => show win0_1.index t 1 * 512 + 1 * n.val = N.val; rw [h1]; omega

/-- The residual's block at a point of the second half, at an index. -/
theorem blk2 (c : Dev nD) (t : Fin cfg0.N) (ht : 8 ≤ t.val % 16) (r : Fin 768) (n : Fin 512) (R : Fin 16896) (N : Fin 4096)
    (hR : R.val = t.val / 16 * 768 + r.val) (hN : N.val = t.val % 8 * 512 + n.val) :
    iblk m c 2 t (ix2 r n) = m ((c : Thread nD τ).loc main_arg2) (ix2 R N) := by
  unfold iblk
  rw [View.read_apply]
  show V m c main_arg2 _ = _
  rw [V_main_arg2]
  obtain ⟨-, -, -, -, h⟩ := idx_facts t
  obtain ⟨h0, h1, -⟩ := h ht
  congr 1
  funext a
  apply Fin.ext
  match a with
  | ⟨0, _⟩ => show win0_2.index t 0 * 768 + 1 * r.val = R.val; rw [h0]; omega
  | ⟨1, _⟩ => show win0_2.index t 1 * 512 + 1 * n.val = N.val; rw [h1]; omega

abbrev G (c : Dev nD) : FVec Ideal S16896x4096 .f32 :=
  spec (m ((c : Thread nD τ).loc main_arg0)) (m ((c : Thread nD τ).loc main_arg1)) (m ((c : Thread nD τ).loc main_arg2))

/-- Where a point of the second half writes entry `(r, n)` of its block in the result array. -/
theorem read3 (g : FVec Ideal S16896x4096 .f32) (t : Fin cfg0.N) (ht : 8 ≤ t.val % 16) (r : Fin 768) (n : Fin 512) (R : Fin 16896) (N : Fin 4096)
    (hR : R.val = t.val / 16 * 768 + r.val) (hN : N.val = t.val % 8 * 512 + n.val) :
    ((cfg0.win 3).blk t).view.read (Elt Ideal) g (ix2 r n) = g (ix2 R N) := by
  rw [View.read_apply]
  obtain ⟨-, -, -, -, h⟩ := idx_facts t
  obtain ⟨-, -, h0, h1⟩ := h ht
  refine congrArg g ?_
  funext a
  apply Fin.ext
  match a with
  | ⟨0, _⟩ => show win0_3.index t 0 * 768 + 1 * r.val = R.val; rw [h0]; omega
  | ⟨1, _⟩ => show win0_3.index t 1 * 512 + 1 * n.val = N.val; rw [h1]; omega

/-- What a point of the second half writes back is its block of `G`. -/
theorem flushed_eq (c : Dev nD) (t : Fin cfg0.N) (hf : (cfg0.win 3).flush t = true) :
    (dats m 0 c).flushed 3 t = ((cfg0.win 3).blk t).view.read (Elt Ideal) (G m c) := by
  have ht : 8 ≤ t.val % 16 := (flush3_iff t).mp hf
  have hN := lt_N t
  have hp : (prev t).val = t.val - 8 := rfl
  show (cfg0.win 3).cut (grid0.coords t) ((dats m 0 c).after 3 t) = _
  rw [after3]
  unfold out
  funext j
  obtain ⟨r, n, rfl⟩ : ∃ (r : Fin 768) (n : Fin 512), j = ix2 r n := ⟨j 0, j 1, eq_ix2 j⟩
  have hr : r.val < 768 := r.isLt
  have hn : n.val < 512 := n.isLt
  let R : Fin 16896 := ⟨t.val / 16 * 768 + r.val, by omega⟩
  let N : Fin 4096 := ⟨t.val % 8 * 512 + n.val, by omega⟩
  refine Eq.trans (pay_apply (iblk m c 0 (prev t)) (iblk m c 0 t) (iblk m c 1 (prev t)) (iblk m c 1 t) (iblk m c 2 t) r n)
    ((read3 (G m c) t ht r n R N rfl rfl).trans ?_).symm
  refine (spec_apply _ _ _ R N).trans ?_
  rw [sum_halves]
  refine (congrArg₂ (fun u v : EReal => u + v) (blk2 m c t ht r n R N rfl rfl) (congrArg₂ (fun u v : EReal => u + v) ?_ ?_)).symm
  · exact Finset.sum_congr rfl fun k _ => by
      rw [blk0 m c (prev t) r k R (lo k) (by show t.val / 16 * 768 + r.val = _; omega) (by show k.val = _; omega),
        blk1 m c (prev t) k n (lo k) N (by show k.val = _; omega) (by show t.val % 8 * 512 + n.val = _; omega)]
  · exact Finset.sum_congr rfl fun k _ => by
      rw [blk0 m c t r k R (hi k) rfl (by show 5504 + k.val = _; omega), blk1 m c t k n (hi k) N (by show 5504 + k.val = _; omega) rfl]

/-- An index of the result array is in a second-half point's block exactly when both coordinates are in its ranges. -/
theorem mem_blk (t : Fin cfg0.N) (ht : 8 ≤ t.val % 16) (i : S16896x4096.Idx) :
    i ∈ ((cfg0.win 3).blk t).view.set ↔
      (t.val / 16 * 768 ≤ (i 0 : Nat) ∧ (i 0 : Nat) < t.val / 16 * 768 + 768)
      ∧ (t.val % 8 * 512 ≤ (i 1 : Nat) ∧ (i 1 : Nat) < t.val % 8 * 512 + 512) := by
  show i ∈ ((View.whole main_v4).slice (win0_3.rect t)).set ↔ _
  rw [View.set_slice_whole, Rect.mem_set_unit]
  obtain ⟨-, -, -, -, h⟩ := idx_facts t
  obtain ⟨-, -, h0, h1⟩ := h ht
  have e0 : win0_3.index t 0 * win0_3.size 0 = t.val / 16 * 768 := by rw [h0]; rfl
  have e1 : win0_3.index t 1 * win0_3.size 1 = t.val % 8 * 512 := by rw [h1]; rfl
  have s0 : win0_3.xsize (grid0.coords t) 0 = 768 := rfl
  have s1 : win0_3.xsize (grid0.coords t) 1 = 512 := rfl
  refine ⟨fun h => ⟨?_, ?_⟩, fun h a => ?_⟩
  · have : win0_3.index t 0 * win0_3.size 0 ≤ (i 0 : Nat) ∧ (i 0 : Nat) < win0_3.index t 0 * win0_3.size 0 + win0_3.xsize (grid0.coords t) 0 := h 0
    rw [e0, s0] at this; exact this
  · have : win0_3.index t 1 * win0_3.size 1 ≤ (i 1 : Nat) ∧ (i 1 : Nat) < win0_3.index t 1 * win0_3.size 1 + win0_3.xsize (grid0.coords t) 1 := h 1
    rw [e1, s1] at this; exact this
  · match a with
    | ⟨0, _⟩ => show win0_3.index t 0 * win0_3.size 0 ≤ (i 0 : Nat) ∧ (i 0 : Nat) < win0_3.index t 0 * win0_3.size 0 + win0_3.xsize (grid0.coords t) 0
                rw [e0, s0]; exact h.1
    | ⟨1, _⟩ => show win0_3.index t 1 * win0_3.size 1 ≤ (i 1 : Nat) ∧ (i 1 : Nat) < win0_3.index t 1 * win0_3.size 1 + win0_3.xsize (grid0.coords t) 1
                rw [e1, s1]; exact h.2

/-- The blocks written back tile the result array. -/
theorem cover (i : S16896x4096.Idx) :
    ∃ t : Fin cfg0.N, (cfg0.win 3).flush t = true ∧ i ∈ ((cfg0.win 3).blk t).view.set := by
  have h0 : (i 0 : Nat) < 16896 := (i 0).isLt
  have h1 : (i 1 : Nat) < 4096 := (i 1).isLt
  have hN : cfg0.N = 352 := N_0
  have ht : 8 ≤ ((i 0 : Nat) / 768 * 16 + 8 + (i 1 : Nat) / 512) % 16 := by omega
  refine ⟨⟨(i 0 : Nat) / 768 * 16 + 8 + (i 1 : Nat) / 512, by omega⟩, (flush3_iff _).mpr ht, ?_⟩
  rw [mem_blk _ ht]
  dsimp only
  omega

/-- So the result array ends holding `G`. -/
theorem final (c : Dev nD) : (dats m 0 c).arrAt 3 cfg0.N = G m c :=
  (dats m 0 c).arrAt_eq_of_cover 3 (G m c) (fun t hf => flushed_eq m c t hf) cover

/-- The call's run with its result array and its arguments. -/
theorem run : θ_run defs (onTc (τ := τ) (main (F := Ideal))) ⟨m, fun _ => 0, ρ⟩ fun r => ∀ c : Dev nD,
      r.2.mem ((c : Thread nD τ).loc main_v4) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 3).trans (final m c), h.2 c⟩) (θ_run_and (run_main m ρ) (unchanged m ρ))

end Cert.FfnDownIdeal.FfnDownValue

namespace Cert.FfnDownRefIdeal.RefValue

open Cert.FfnDownRefIdeal Cert.FfnDownRefIdeal.Gen Cert.FfnDownIdeal.FfnDownValue

/-- The reference's product at an index. -/
theorem dot_apply (u : FVec Ideal S16896x11008 .bf16) (w : FVec Ideal S1x11008x4096 .f32) (r : Fin 16896) (n : Fin 4096) :
    Read.val_main_v2 (F := Ideal) u w (ix2 r n) = ∑ k : Fin 11008, u (ix2 r k) * w (ix3 (0 : Fin 1) k n) := by
  have hw (k : Fin 11008) : Read.val_main_v1 (F := Ideal) w (ix2 k n) = w (ix3 (0 : Fin 1) k n) := by
    rw [Read.val_main_v1_apply]
    refine congrArg w (funext fun a => Fin.ext ?_)
    have hk : k.val < 11008 := k.isLt
    have hn : n.val < 4096 := n.isLt
    match a with
    | ⟨0, _⟩ => rfl
    | ⟨1, _⟩ => show (k.val * 4096 + n.val) / 4096 % 11008 = k.val; omega
    | ⟨2, _⟩ => show (k.val * 4096 + n.val) % 4096 = n.val; omega
  rw [Read.val_main_v2_apply]
  refine Finset.sum_congr rfl fun k _ => ?_
  show Read.val_main_v0 (F := Ideal) u (Read.lidx_main_v2 (ix2 r n) k) * Read.val_main_v1 (F := Ideal) w (Read.ridx_main_v2 (ix2 r n) k) = _
  rw [show Read.ridx_main_v2 (ix2 r n) k = ix2 k n from funext fun a => by match a with | ⟨0, _⟩ => rfl | ⟨1, _⟩ => rfl, hw,
    show Read.lidx_main_v2 (ix2 r n) k = ix2 r k from funext fun a => by match a with | ⟨0, _⟩ => rfl | ⟨1, _⟩ => rfl]
  rfl

/-- The reference's result is the same function of its arguments. -/
theorem val_eq (u : FVec Ideal S16896x11008 .bf16) (w : FVec Ideal S1x11008x4096 .f32) (p : FVec Ideal S16896x4096 .f32) :
    Read.val_main_v3 (F := Ideal) u w p = spec u w p := by
  funext i
  obtain ⟨r, n, rfl⟩ : ∃ (r : Fin 16896) (n : Fin 4096), i = ix2 r n := ⟨i 0, i 1, eq_ix2 i⟩
  exact congrArg (fun v : EReal => p (ix2 r n) + v) (dot_apply u w r n)

end Cert.FfnDownRefIdeal.RefValue

namespace Cert.Proof.FfnDown

/-- The idealized kernel's frame. -/
theorem frame_ideal : Cert.quiescent_FfnDownIdeal := fun m ρ _ => Cert.FfnDownIdeal.DownRun.frame (F := Ideal) m ρ

/-- The kernel's own frame: the same run over words. -/
theorem frame : Cert.quiescent_FfnDown := by
  have h := fun (m : (ℓ : Loc Cert.FfnDownIdeal.nD Cert.FfnDownIdeal.τ Cert.FfnDownIdeal.sig) → Buf (Elt Bits) ℓ) (g : Dev Cert.FfnDownIdeal.nD → PrngReg)
    (_ : True) => Cert.FfnDownIdeal.DownRun.frame (F := Bits) m g
  exact Eq.mp (by sl_kernel_rfl) h

theorem frame_ref : Cert.quiescent_FfnDownRefIdeal := fun m ρ _ =>
  (θ_run Cert.FfnDownRefIdeal.defs _ _).mono (fun r h => ⟨fun c => (h c).2,
      Idealize.ShloMosaic.sem_eq_zero_of_no_sems (by decide) r.2⟩)
    (Cert.FfnDownRefIdeal.Value.run (F := Ideal) m ρ)

theorem algebraic : Cert.algebraic_FfnDownIdeal_FfnDownRefIdeal := by
  intro m ρ m' ρ' _ hagree
  refine ⟨fun c => Cert.FfnDownIdeal.FfnDownValue.G m c, Cert.FfnDownIdeal.FfnDownValue.run m ρ, ?_⟩
  refine (θ_run Cert.FfnDownRefIdeal.defs _ _).mono (fun _ h c => ⟨?_, (h c).2⟩)
    (Cert.FfnDownRefIdeal.Value.run (F := Ideal) m' ρ')
  refine (h c).1.trans ((Cert.FfnDownRefIdeal.Read.val_main_v3_eq ..).trans ((Cert.FfnDownRefIdeal.RefValue.val_eq ..).trans ?_))
  unfold Cert.FfnDownIdeal.FfnDownValue.G
  rw [(hagree c).1, (hagree c).2.1, (hagree c).2.2]

end Cert.Proof.FfnDown

end
-- ==== Proof.Dsa.lean ====
/- The sparse attention's frame for the prompt's last group of query blocks: from any staged inputs the kernel runs to its end and leaves
   them as they were, whichever way its tie-break goes; so the whole call ends with its argument arrays as they began and every counter
   at zero. Nothing is said of the result. -/
module

public import proofs.«01_k».proof.Defs
public import proofs.«01_k».proof.Proof.Gen.Dsa.Frame
public import proofs.«01_k».proof.Proof.Gen.Dsa.Skeleton
public import proofs.«01_k».proof.Proof.Gen.Dsa.Loops
public import Idealize.ShloMosaic.Lib.Claim

@[expose] public section

set_option maxRecDepth 65536

noncomputable section

namespace Cert.Dsa.DsaRun

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

/-- What the kernel holds while it runs: the six staged inputs at given contents, the result's buffer and the five scratch
    buffers at any. -/
def held (c : Dev nD) (arg2 : Memref sig .tc .vmem S16x256x128 .bf16) (arg3 : Memref sig .tc .vmem S4x2048x128 .bf16) (arg4 : Memref sig .tc .vmem S4x2048x128 .bf16) (arg5 : Memref sig .tc .vmem S16x256x64 .bf16) (arg6 : Memref sig .tc .vmem S256x128 .f32) (arg7 : Memref sig .tc .vmem S2048x128 .f32) (arg9 : Memref sig .tc .vmem S16x256x128 .bf16) (arg10 : Memref sig .tc .vmem S2048x64 .bf16) (arg11 : Memref sig .tc .vmem S16x256x128 .f32) (arg12 : Memref sig .tc .vmem S256x2048 .f32) (arg13 : Memref sig .tc .vmem S256x2048 .i32) (arg14 : Memref sig .tc .vmem S256x2048 .f32)
    (x2 : Vec F S16x256x128 .bf16) (x3 : Vec F S4x2048x128 .bf16) (x4 : Vec F S4x2048x128 .bf16) (x5 : Vec F S16x256x64 .bf16) (x6 : Vec F S256x128 .f32) (x7 : Vec F S2048x128 .f32) : sProp 𝕄 :=
  iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d))

set_option maxHeartbeats 4000000 in
/-- One run of the kernel. It reads its inputs and leaves them, and it leaves the result and the scratch at some contents. -/
theorem kernelRun (c : Dev nD) (i : grid0.Coords) (arg2 : Memref sig .tc .vmem S16x256x128 .bf16) (harg2 : arg2.IsWhole) (arg3 : Memref sig .tc .vmem S4x2048x128 .bf16) (harg3 : arg3.IsWhole) (arg4 : Memref sig .tc .vmem S4x2048x128 .bf16) (harg4 : arg4.IsWhole) (arg5 : Memref sig .tc .vmem S16x256x64 .bf16) (harg5 : arg5.IsWhole) (arg6 : Memref sig .tc .vmem S256x128 .f32) (harg6 : arg6.IsWhole) (arg7 : Memref sig .tc .vmem S2048x128 .f32) (harg7 : arg7.IsWhole) (arg8 : Memref sig .tc .hbm S16x16896x128 .bf16) (harg8 : arg8.IsWhole) (arg9 : Memref sig .tc .vmem S16x256x128 .bf16) (harg9 : arg9.IsWhole) (arg10 : Memref sig .tc .vmem S2048x64 .bf16) (harg10 : arg10.IsWhole) (arg11 : Memref sig .tc .vmem S16x256x128 .f32) (harg11 : arg11.IsWhole) (arg12 : Memref sig .tc .vmem S256x2048 .f32) (harg12 : arg12.IsWhole) (arg13 : Memref sig .tc .vmem S256x2048 .i32) (harg13 : arg13.IsWhole) (arg14 : Memref sig .tc .vmem S256x2048 .f32) (harg14 : arg14.IsWhole)
    (x2 : Vec F S16x256x128 .bf16) (x3 : Vec F S4x2048x128 .bf16) (x4 : Vec F S4x2048x128 .bf16) (x5 : Vec F S16x256x64 .bf16) (x6 : Vec F S256x128 .f32) (x7 : Vec F S2048x128 .f32) (K : PUnit → sProp 𝕄) :
    iprop(held c arg2 arg3 arg4 arg5 arg6 arg7 arg9 arg10 arg11 arg12 arg13 arg14 x2 x3 x4 x5 x6 x7 ∗ (held c arg2 arg3 arg4 arg5 arg6 arg7 arg9 arg10 arg11 arg12 arg13 arg14 x2 x3 x4 x5 x6 x7 -∗ K ⟨⟩))
      ⊢ wp frame (wpE (defs₀ (F := F)) Variants.none c none) Set.univ
          (cc0_dsa_attention i arg2 harg2 arg3 harg3 arg4 harg4 arg5 harg5 arg6 harg6 arg7 harg7 arg8 harg8 arg9 harg9 arg10 harg10 arg11 harg11 arg12 harg12 arg13 harg13 arg14 harg14) K := by
  simp only [cc0_dsa_attention_eq_skeleton]; unfold cc0_dsa_attention_skel
  unfold held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%d9, %f9, -, H9⟩, ⟨%d10, %f10, -, H10⟩, ⟨%d11, %f11, -, H11⟩, ⟨%d12, %f12, -, H12⟩, ⟨%d13, %f13, -, H13⟩, ⟨%d14, %f14, -, H14⟩⟩, Hk⟩
  sl_exec
  by_cases hb : kernelRun.sl.v174 c i arg2 harg2 arg3 harg3 arg4 harg4 arg5 harg5 arg6 harg6 arg7 harg7 arg8 harg8 arg9 harg9 arg10 harg10 arg11 harg11 arg12 harg12 arg13 harg13 arg14 harg14 f5 f6 f7 f10 = 1#1
  · sl_exec
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl
  · sl_exec
    sl_step
    iapply Hk
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro; exact hf5
    isplitl [H6]
    · iexists _; isplitr; swap; · iexact H6
      ipureintro; exact hf6
    isplitl [H7]
    · iexists _; isplitr; swap; · iexact H7
      ipureintro; exact hf7
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    iexists _, _; isplitr; swap; · iexact H14
    ipureintro; rfl

/-! ## What the pipeline keeps -/

variable (m : (ℓ : Loc nD τ sig) → Buf (Elt F) ℓ) (ρ : Dev nD → PrngReg)

/-- Of the seven windows only the result's is forgotten. -/
def forgets0 : Fin 7 → Bool := fun w => decide (w = 6)

/-- What holds along the grid on core `c`: arrays start as the host code left them, an input's buffer keeps its block, the result's is
    not described, scratch memory may hold anything between points, and no transfer is left owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => X0_5 m c t
    | ⟨6, _⟩ => Pipeline.Dat.unnamed (cfg := cfg0) 6 t
    | ⟨_ + 7, h⟩ => absurd h (Nat.not_lt.2 (Nat.le_add_left _ _))
  Φ _ := Pipeline.ΦA spec0 c
  q w := Pipeline.shareOf spec0 w
  owed _ := 0

/-- The arrays at the start are those the host code left. -/
theorem A_eq (c : Dev nD) (w : Fin cfg0.W) : (dats m 0 c).A w = V m c (Pipeline.arrRef spec0 w) := by
  dsimp only [dats]

/-- The inputs' buffers after the body, window by window. -/
theorem after0_0 (c : Dev nD) (t : Fin cfg0.N) : (dats m 0 c).after 0 t = iblk m c 0 t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]

/-- And before it: the same contents. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d

/-- The invariant with each scratch buffer owned at some contents. -/
theorem inv_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-! ## The body at any point -/

/-- What the body finds at point `t` -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare d))

/-- and what it leaves. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ (∃ d, owns (c : Thread nD τ) (win0_6.stage (cfg0.slots t 6)) fullShare d))

set_option maxHeartbeats 2400000 in
/-- From what it finds the body gets to what it leaves, by the kernel's one run. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, after0_0, after0_1, after0_2, after0_3, after0_4, after0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, inv_eq]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, H6⟩
  iapply (kernelRun c (grid0.coords t) _ _ _ _ _ _ _ _ _ _ _ _ _ _ _ _ _ _ _ _ _ _ _ _ _ _ (iblk m c 0 t) (X0_1 m c t) (X0_2 m c t) (iblk m c 3 t) (iblk m c 4 t) (X0_5 m c t) _)
  unfold held
  isplitl [H0 H1 H2 H3 H4 H5 H6 HS0 HS1 HS2 HS3 HS4]
  · iframe
  iintro ⟨H0, H1, H2, H3, H4, H5, H6, HS0, HS1, HS2, HS3, HS4⟩
  isplitl [HS0 HS1 HS2 HS3 HS4 Hg]
  · iframe
  iframe

/-- The body that point `t` calls. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- So the pipeline's demand on its body is met at every point. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

set_option backward.isDefEq.respectTransparency.types false in
/-- The whole call: it ends without fault, its input arrays as the region found them, every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The argument arrays end as they began and every counter ends at zero, over any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      (h.1.arr_in c 0 rfl).trans ((A_eq m c 0).trans (V_main_arg0 m c)),
      (h.1.arr_in c 3 rfl).trans ((A_eq m c 3).trans (V_main_arg1 m c)),
      (h.1.arr_in c 1 rfl).trans ((A_eq m c 1).trans (V_main_arg2 m c)),
      (h.1.arr_in c 2 rfl).trans ((A_eq m c 2).trans (V_main_arg3 m c)),
      (h.1.arr_in c 5 rfl).trans ((A_eq m c 5).trans (V_main_arg4 m c)),
      ((h.1 c).2 main_arg5 (Pipeline.mem_restRefs_of main_arg5 (by decide) (by decide))).trans (V_main_arg5 m c)⟩, h.2⟩) (run_main m ρ)

end Cert.Dsa.DsaRun

namespace Cert.Proof.Dsa

/-- The kernel's frame, over words. -/
theorem frame : Cert.quiescent_Dsa := fun m ρ _ => Cert.Dsa.DsaRun.frame (F := Idealize.ShloMosaic.Bits) m ρ

end Cert.Proof.Dsa

end
-- ==== Proof.lean ====
/- The certificate: every program's frame, the equality of texts for every kernel but the sparse attention, and, for every call but the
   recurrence and the sparse attention, that kernel and reference compute one function over the extended reals. -/
module

public import proofs.«01_k».proof.Defs
public import proofs.«01_k».proof.Proof.WkvFrames
public import proofs.«01_k».proof.Proof.FfnUp
public import proofs.«01_k».proof.Proof.ProjRkv
public import proofs.«01_k».proof.Proof.ProjKv
public import proofs.«01_k».proof.Proof.ProjGates
public import proofs.«01_k».proof.Proof.ProjQ
public import proofs.«01_k».proof.Proof.ProjQi
public import proofs.«01_k».proof.Proof.Merge
public import proofs.«01_k».proof.Proof.OutProj
public import proofs.«01_k».proof.Proof.NormP
public import proofs.«01_k».proof.Proof.NormS
public import proofs.«01_k».proof.Proof.NormIn
public import proofs.«01_k».proof.Proof.NormMid
public import proofs.«01_k».proof.Proof.FfnDown
public import proofs.«01_k».proof.Proof.Dsa
public import proofs.«01_k».proof.Proof.Gen.KernelIdeal.Frame.RunA
public import proofs.«01_k».proof.Proof.Gen.ReferenceIdeal.Run
public import proofs.«01_k».proof.Proof.Gen.FfnUp.Frame
public import proofs.«01_k».proof.Proof.Gen.FfnUpIdeal.Value
public import proofs.«01_k».proof.Proof.Gen.FfnUpRefIdeal.Read
public import proofs.«01_k».proof.Proof.Gen.ProjRkv.Frame
public import proofs.«01_k».proof.Proof.Gen.ProjRkvIdeal.Value
public import proofs.«01_k».proof.Proof.Gen.ProjRkvRefIdeal.Read
public import proofs.«01_k».proof.Proof.Gen.ProjKv.Frame
public import proofs.«01_k».proof.Proof.Gen.ProjKvIdeal.Value
public import proofs.«01_k».proof.Proof.Gen.ProjKvRefIdeal.Read
public import proofs.«01_k».proof.Proof.Gen.ProjGates.Frame
public import proofs.«01_k».proof.Proof.Gen.ProjGatesIdeal.Value
public import proofs.«01_k».proof.Proof.Gen.ProjGatesRefIdeal.Read
public import proofs.«01_k».proof.Proof.Gen.ProjQ.Frame
public import proofs.«01_k».proof.Proof.Gen.ProjQIdeal.Value
public import proofs.«01_k».proof.Proof.Gen.ProjQRefIdeal.Read
public import proofs.«01_k».proof.Proof.Gen.ProjQi.Frame
public import proofs.«01_k».proof.Proof.Gen.ProjQiIdeal.Value
public import proofs.«01_k».proof.Proof.Gen.ProjQiRefIdeal.Read
public import proofs.«01_k».proof.Proof.Gen.Merge.Frame
public import proofs.«01_k».proof.Proof.Gen.MergeIdeal.Value
public import proofs.«01_k».proof.Proof.Gen.MergeRefIdeal.Read
public import proofs.«01_k».proof.Proof.Gen.OutProj.Frame
public import proofs.«01_k».proof.Proof.Gen.OutProjIdeal.Value
public import proofs.«01_k».proof.Proof.Gen.OutProjRefIdeal.Read
public import proofs.«01_k».proof.Proof.Gen.NormP.Frame
public import proofs.«01_k».proof.Proof.Gen.NormPIdeal.Value
public import proofs.«01_k».proof.Proof.Gen.NormPRefIdeal.Read
public import proofs.«01_k».proof.Proof.Gen.NormS.Frame
public import proofs.«01_k».proof.Proof.Gen.NormSIdeal.Value
public import proofs.«01_k».proof.Proof.Gen.NormSRefIdeal.Read
public import proofs.«01_k».proof.Proof.Gen.NormIn.Frame
public import proofs.«01_k».proof.Proof.Gen.NormInIdeal.Value
public import proofs.«01_k».proof.Proof.Gen.NormInRefIdeal.Read
public import proofs.«01_k».proof.Proof.Gen.NormMid.Frame
public import proofs.«01_k».proof.Proof.Gen.NormMidIdeal.Value
public import proofs.«01_k».proof.Proof.Gen.NormMidRefIdeal.Read
public import proofs.«01_k».proof.Proof.Gen.FfnDown.Frame
public import proofs.«01_k».proof.Proof.Gen.FfnDownIdeal.Frame
public import proofs.«01_k».proof.Proof.Gen.FfnDownIdeal.Skeleton
public import proofs.«01_k».proof.Proof.Gen.FfnDownRefIdeal.Read
public import proofs.«01_k».proof.Proof.Gen.Dsa.Frame
public import proofs.«01_k».proof.Proof.Gen.Dsa.Skeleton
public import proofs.«01_k».proof.Proof.Gen.Dsa.Loops

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.FfnUp.Gen.facts, Cert.FfnUpIdeal.Gen.facts, Cert.FfnUpRefIdeal.Gen.facts, Cert.ProjRkv.Gen.facts, Cert.ProjRkvIdeal.Gen.facts, Cert.ProjRkvRefIdeal.Gen.facts, Cert.ProjKv.Gen.facts, Cert.ProjKvIdeal.Gen.facts, Cert.ProjKvRefIdeal.Gen.facts, Cert.ProjGates.Gen.facts, Cert.ProjGatesIdeal.Gen.facts, Cert.ProjGatesRefIdeal.Gen.facts, Cert.ProjQ.Gen.facts, Cert.ProjQIdeal.Gen.facts, Cert.ProjQRefIdeal.Gen.facts, Cert.ProjQi.Gen.facts, Cert.ProjQiIdeal.Gen.facts, Cert.ProjQiRefIdeal.Gen.facts, Cert.Merge.Gen.facts, Cert.MergeIdeal.Gen.facts, Cert.MergeRefIdeal.Gen.facts, Cert.OutProj.Gen.facts, Cert.OutProjIdeal.Gen.facts, Cert.OutProjRefIdeal.Gen.facts, Cert.NormP.Gen.facts, Cert.NormPIdeal.Gen.facts, Cert.NormPRefIdeal.Gen.facts, Cert.NormS.Gen.facts, Cert.NormSIdeal.Gen.facts, Cert.NormSRefIdeal.Gen.facts, Cert.NormIn.Gen.facts, Cert.NormInIdeal.Gen.facts, Cert.NormInRefIdeal.Gen.facts, Cert.NormMid.Gen.facts, Cert.NormMidIdeal.Gen.facts, Cert.NormMidRefIdeal.Gen.facts, Cert.FfnDown.Gen.facts, Cert.FfnDownIdeal.Gen.facts, Cert.FfnDownRefIdeal.Gen.facts, Cert.Dsa.Gen.facts,
    Wkv.frame, Wkv.frame_ideal, Wkv.frame_ref, FfnUp.frame, FfnUp.frame_ideal, FfnUp.frame_ref, ProjRkv.frame, ProjRkv.frame_ideal, ProjRkv.frame_ref, ProjKv.frame, ProjKv.frame_ideal, ProjKv.frame_ref, ProjGates.frame, ProjGates.frame_ideal, ProjGates.frame_ref, ProjQ.frame, ProjQ.frame_ideal, ProjQ.frame_ref, ProjQi.frame, ProjQi.frame_ideal, ProjQi.frame_ref, Merge.frame, Merge.frame_ideal, Merge.frame_ref, OutProj.frame, OutProj.frame_ideal, OutProj.frame_ref, NormP.frame, NormP.frame_ideal, NormP.frame_ref, NormS.frame, NormS.frame_ideal, NormS.frame_ref, NormIn.frame, NormIn.frame_ideal, NormIn.frame_ref, NormMid.frame, NormMid.frame_ideal, NormMid.frame_ref, FfnDown.frame, FfnDown.frame_ideal, FfnDown.frame_ref, Dsa.frame, trivial, trivial, FfnUp.algebraic, trivial, ProjRkv.algebraic, trivial, ProjKv.algebraic, trivial, ProjGates.algebraic, trivial, ProjQ.algebraic, trivial, ProjQi.algebraic, trivial, Merge.algebraic, trivial, OutProj.algebraic, trivial, NormP.algebraic, trivial, NormS.algebraic, trivial, NormIn.algebraic, trivial, NormMid.algebraic, trivial, FfnDown.algebraic⟩

end Cert.Proof

end
